-- ==== Defs.lean ====
def Pre_Kernel [hPre_separated : Cert.Pre_separated.Facts] (m : (ℓ : Loc Cert.Kernel.nD Cert.Kernel.τ Cert.Kernel.sig) → Buf (Elt Bits) ℓ) : Prop :=
  ∀ c : Dev Cert.Kernel.nD,
    (Cert.Pre_separated.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Fps (m : (ℓ : Loc Cert.Fps.nD Cert.Fps.τ Cert.Fps.sig) → Buf (Elt Bits) ℓ) : Prop :=
  True

def Pre_FpsIdeal (m : (ℓ : Loc Cert.FpsIdeal.nD Cert.FpsIdeal.τ Cert.FpsIdeal.sig) → Buf (Elt Ideal) ℓ) : Prop :=
  True

def Pre_FpsReferenceIdeal (m : (ℓ : Loc Cert.FpsReferenceIdeal.nD Cert.FpsReferenceIdeal.τ Cert.FpsReferenceIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_finite [hPre_finite : Cert.Pre_finite.Facts] (m : (ℓ : Loc Cert.MlpIdeal.nD Cert.MlpIdeal.τ Cert.MlpIdeal.sig) → Buf (Elt Ideal) ℓ) : Prop :=
  ∀ c : Dev Cert.MlpIdeal.nD,
    (Cert.Pre_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11)) (m ((c.tc : Thread Cert.MlpIdeal.nD Cert.MlpIdeal.τ).loc Cert.MlpIdeal.main_arg12))) = (fun _ => 1#1)

def Pre_MlpReferenceIdeal (m : (ℓ : Loc Cert.MlpReferenceIdeal.nD Cert.MlpReferenceIdeal.τ Cert.MlpReferenceIdeal.sig) → Buf (Elt Ideal) ℓ) : Prop :=
  True

def Pre_MlpReferenceIdeal_finite [hPre_finite : Cert.Pre_finite.Facts] (m : (ℓ : Loc Cert.MlpReferenceIdeal.nD Cert.MlpReferenceIdeal.τ Cert.MlpReferenceIdeal.sig) → Buf (Elt Ideal) ℓ) : Prop :=
  ∀ c : Dev Cert.MlpReferenceIdeal.nD,
    (Cert.Pre_finite.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3)) (m ((c.tc : Thread Cert.MlpReferenceIdeal.nD Cert.MlpReferenceIdeal.τ).loc Cert.MlpReferenceIdeal.main_arg4)) (m ((c.tc : Thread Cert.MlpReferenceIdeal.nD Cert.MlpReferenceIdeal.τ).loc Cert.MlpReferenceIdeal.main_arg5)) (m ((c.tc : Thread Cert.MlpReferenceIdeal.nD Cert.MlpReferenceIdeal.τ).loc Cert.MlpReferenceIdeal.main_arg6)) (m ((c.tc : Thread Cert.MlpReferenceIdeal.nD Cert.MlpReferenceIdeal.τ).loc Cert.MlpReferenceIdeal.main_arg7)) (m ((c.tc : Thread Cert.MlpReferenceIdeal.nD Cert.MlpReferenceIdeal.τ).loc Cert.MlpReferenceIdeal.main_arg8)) (m ((c.tc : Thread Cert.MlpReferenceIdeal.nD Cert.MlpReferenceIdeal.τ).loc Cert.MlpReferenceIdeal.main_arg9)) (m ((c.tc : Thread Cert.MlpReferenceIdeal.nD Cert.MlpReferenceIdeal.τ).loc Cert.MlpReferenceIdeal.main_arg10)) (m ((c.tc : Thread Cert.MlpReferenceIdeal.nD Cert.MlpReferenceIdeal.τ).loc Cert.MlpReferenceIdeal.main_arg11)) (m ((c.tc : Thread Cert.MlpReferenceIdeal.nD Cert.MlpReferenceIdeal.τ).loc Cert.MlpReferenceIdeal.main_arg12))) = (fun _ => 1#1)

def Pre_Dist (m : (ℓ : Loc Cert.Dist.nD Cert.Dist.τ Cert.Dist.sig) → Buf (Elt Bits) ℓ) : Prop :=
  True

def Pre_DistIdeal (m : (ℓ : Loc Cert.DistIdeal.nD Cert.DistIdeal.τ Cert.DistIdeal.sig) → Buf (Elt Ideal) ℓ) : Prop :=
  True

def Pre_DistIdeal_finite_points [hPre_finite_points : Cert.Pre_finite_points.Facts] (m : (ℓ : Loc Cert.DistIdeal.nD Cert.DistIdeal.τ Cert.DistIdeal.sig) → Buf (Elt Ideal) ℓ) : Prop :=
  ∀ c : Dev Cert.DistIdeal.nD,
    (Cert.Pre_finite_points.fn (F := Ideal) (m ((c.tc : Thread Cert.DistIdeal.nD Cert.DistIdeal.τ).loc Cert.DistIdeal.main_arg0)) (m ((c.tc : Thread Cert.DistIdeal.nD Cert.DistIdeal.τ).loc Cert.DistIdeal.main_arg1))) = (fun _ => 1#1)

def Pre_DistReferenceIdeal (m : (ℓ : Loc Cert.DistReferenceIdeal.nD Cert.DistReferenceIdeal.τ Cert.DistReferenceIdeal.sig) → Buf (Elt Ideal) ℓ) : Prop :=
  True

def quiescent_Kernel [hKernel : Cert.Kernel.Facts] [hPre_separated : Cert.Pre_separated.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Fps [hFps : Cert.Fps.Facts] : Prop :=
  ∀ (m : (ℓ : Loc Cert.Fps.nD Cert.Fps.τ Cert.Fps.sig) → Buf (Elt Bits) ℓ) (g : Dev Cert.Fps.nD → PrngReg), Pre_Fps m →
    θ_run (Cert.Fps.defs (F := Bits)) (onTc (τ := Cert.Fps.τ) (Cert.Fps.main (F := Bits))) ⟨m, fun _ => 0, g⟩ (fun r => (∀ c : Dev Cert.Fps.nD,
      r.2.mem ((c.tc : Thread Cert.Fps.nD Cert.Fps.τ).loc Cert.Fps.main_arg0) = m ((c.tc : Thread Cert.Fps.nD Cert.Fps.τ).loc Cert.Fps.main_arg0))
      ∧ r.2.sem = fun _ => 0)

def quiescent_FpsIdeal [hFpsIdeal : Cert.FpsIdeal.Facts] : Prop :=
  ∀ (m : (ℓ : Loc Cert.FpsIdeal.nD Cert.FpsIdeal.τ Cert.FpsIdeal.sig) → Buf (Elt Ideal) ℓ) (g : Dev Cert.FpsIdeal.nD → PrngReg), Pre_FpsIdeal m →
    θ_run (Cert.FpsIdeal.defs (F := Ideal)) (onTc (τ := Cert.FpsIdeal.τ) (Cert.FpsIdeal.main (F := Ideal))) ⟨m, fun _ => 0, g⟩ (fun r => (∀ c : Dev Cert.FpsIdeal.nD,
      r.2.mem ((c.tc : Thread Cert.FpsIdeal.nD Cert.FpsIdeal.τ).loc Cert.FpsIdeal.main_arg0) = m ((c.tc : Thread Cert.FpsIdeal.nD Cert.FpsIdeal.τ).loc Cert.FpsIdeal.main_arg0))
      ∧ r.2.sem = fun _ => 0)

def quiescent_FpsReferenceIdeal [hFpsReferenceIdeal : Cert.FpsReferenceIdeal.Facts] : Prop :=
  ∀ (m : (ℓ : Loc Cert.FpsReferenceIdeal.nD Cert.FpsReferenceIdeal.τ Cert.FpsReferenceIdeal.sig) → Buf (Elt Ideal) ℓ) (g : Dev Cert.FpsReferenceIdeal.nD → PrngReg), Pre_FpsReferenceIdeal m →
    θ_run (Cert.FpsReferenceIdeal.defs (F := Ideal)) (onTc (τ := Cert.FpsReferenceIdeal.τ) (Cert.FpsReferenceIdeal.main (F := Ideal))) ⟨m, fun _ => 0, g⟩ (fun r => (∀ c : Dev Cert.FpsReferenceIdeal.nD,
      r.2.mem ((c.tc : Thread Cert.FpsReferenceIdeal.nD Cert.FpsReferenceIdeal.τ).loc Cert.FpsReferenceIdeal.main_arg0) = m ((c.tc : Thread Cert.FpsReferenceIdeal.nD Cert.FpsReferenceIdeal.τ).loc Cert.FpsReferenceIdeal.main_arg0))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9)
      ∧ r.2.mem ((c.tc : Thread Cert.Mlp.nD Cert.Mlp.τ).loc Cert.Mlp.main_arg10) = m ((c.tc : Thread Cert.Mlp.nD Cert.Mlp.τ).loc Cert.Mlp.main_arg10)
      ∧ r.2.mem ((c.tc : Thread Cert.Mlp.nD Cert.Mlp.τ).loc Cert.Mlp.main_arg11) = m ((c.tc : Thread Cert.Mlp.nD Cert.Mlp.τ).loc Cert.Mlp.main_arg11)
      ∧ r.2.mem ((c.tc : Thread Cert.Mlp.nD Cert.Mlp.τ).loc Cert.Mlp.main_arg12) = m ((c.tc : Thread Cert.Mlp.nD Cert.Mlp.τ).loc Cert.Mlp.main_arg12))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
      ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
      ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12))
      ∧ r.2.sem = fun _ => 0)

def quiescent_MlpIdeal_pre_finite [hMlpIdeal : Cert.MlpIdeal.Facts] [hPre_finite : Cert.Pre_finite.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_finite m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
      ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
      ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6)
      ∧ r.2.mem ((c.tc : Thread Cert.MlpReferenceIdeal.nD Cert.MlpReferenceIdeal.τ).loc Cert.MlpReferenceIdeal.main_arg7) = m ((c.tc : Thread Cert.MlpReferenceIdeal.nD Cert.MlpReferenceIdeal.τ).loc Cert.MlpReferenceIdeal.main_arg7)
      ∧ r.2.mem ((c.tc : Thread Cert.MlpReferenceIdeal.nD Cert.MlpReferenceIdeal.τ).loc Cert.MlpReferenceIdeal.main_arg8) = m ((c.tc : Thread Cert.MlpReferenceIdeal.nD Cert.MlpReferenceIdeal.τ).loc Cert.MlpReferenceIdeal.main_arg8)
      ∧ r.2.mem ((c.tc : Thread Cert.MlpReferenceIdeal.nD Cert.MlpReferenceIdeal.τ).loc Cert.MlpReferenceIdeal.main_arg9) = m ((c.tc : Thread Cert.MlpReferenceIdeal.nD Cert.MlpReferenceIdeal.τ).loc Cert.MlpReferenceIdeal.main_arg9)
      ∧ r.2.mem ((c.tc : Thread Cert.MlpReferenceIdeal.nD Cert.MlpReferenceIdeal.τ).loc Cert.MlpReferenceIdeal.main_arg10) = m ((c.tc : Thread Cert.MlpReferenceIdeal.nD Cert.MlpReferenceIdeal.τ).loc Cert.MlpReferenceIdeal.main_arg10)
      ∧ r.2.mem ((c.tc : Thread Cert.MlpReferenceIdeal.nD Cert.MlpReferenceIdeal.τ).loc Cert.MlpReferenceIdeal.main_arg11) = m ((c.tc : Thread Cert.MlpReferenceIdeal.nD Cert.MlpReferenceIdeal.τ).loc Cert.MlpReferenceIdeal.main_arg11)
      ∧ r.2.mem ((c.tc : Thread Cert.MlpReferenceIdeal.nD Cert.MlpReferenceIdeal.τ).loc Cert.MlpReferenceIdeal.main_arg12) = m ((c.tc : Thread Cert.MlpReferenceIdeal.nD Cert.MlpReferenceIdeal.τ).loc Cert.MlpReferenceIdeal.main_arg12))
      ∧ r.2.sem = fun _ => 0)

def quiescent_MlpReferenceIdeal_pre_finite [hMlpReferenceIdeal : Cert.MlpReferenceIdeal.Facts] [hPre_finite : Cert.Pre_finite.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal_finite m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6)
      ∧ r.2.mem ((c.tc : Thread Cert.MlpReferenceIdeal.nD Cert.MlpReferenceIdeal.τ).loc Cert.MlpReferenceIdeal.main_arg7) = m ((c.tc : Thread Cert.MlpReferenceIdeal.nD Cert.MlpReferenceIdeal.τ).loc Cert.MlpReferenceIdeal.main_arg7)
      ∧ r.2.mem ((c.tc : Thread Cert.MlpReferenceIdeal.nD Cert.MlpReferenceIdeal.τ).loc Cert.MlpReferenceIdeal.main_arg8) = m ((c.tc : Thread Cert.MlpReferenceIdeal.nD Cert.MlpReferenceIdeal.τ).loc Cert.MlpReferenceIdeal.main_arg8)
      ∧ r.2.mem ((c.tc : Thread Cert.MlpReferenceIdeal.nD Cert.MlpReferenceIdeal.τ).loc Cert.MlpReferenceIdeal.main_arg9) = m ((c.tc : Thread Cert.MlpReferenceIdeal.nD Cert.MlpReferenceIdeal.τ).loc Cert.MlpReferenceIdeal.main_arg9)
      ∧ r.2.mem ((c.tc : Thread Cert.MlpReferenceIdeal.nD Cert.MlpReferenceIdeal.τ).loc Cert.MlpReferenceIdeal.main_arg10) = m ((c.tc : Thread Cert.MlpReferenceIdeal.nD Cert.MlpReferenceIdeal.τ).loc Cert.MlpReferenceIdeal.main_arg10)
      ∧ r.2.mem ((c.tc : Thread Cert.MlpReferenceIdeal.nD Cert.MlpReferenceIdeal.τ).loc Cert.MlpReferenceIdeal.main_arg11) = m ((c.tc : Thread Cert.MlpReferenceIdeal.nD Cert.MlpReferenceIdeal.τ).loc Cert.MlpReferenceIdeal.main_arg11)
      ∧ r.2.mem ((c.tc : Thread Cert.MlpReferenceIdeal.nD Cert.MlpReferenceIdeal.τ).loc Cert.MlpReferenceIdeal.main_arg12) = m ((c.tc : Thread Cert.MlpReferenceIdeal.nD Cert.MlpReferenceIdeal.τ).loc Cert.MlpReferenceIdeal.main_arg12))
      ∧ r.2.sem = fun _ => 0)

def quiescent_Dist [hDist : Cert.Dist.Facts] : Prop :=
  ∀ (m : (ℓ : Loc Cert.Dist.nD Cert.Dist.τ Cert.Dist.sig) → Buf (Elt Bits) ℓ) (g : Dev Cert.Dist.nD → PrngReg), Pre_Dist m →
    θ_run (Cert.Dist.defs (F := Bits)) (onTc (τ := Cert.Dist.τ) (Cert.Dist.main (F := Bits))) ⟨m, fun _ => 0, g⟩ (fun r => (∀ c : Dev Cert.Dist.nD,
      r.2.mem ((c.tc : Thread Cert.Dist.nD Cert.Dist.τ).loc Cert.Dist.main_arg0) = m ((c.tc : Thread Cert.Dist.nD Cert.Dist.τ).loc Cert.Dist.main_arg0)
      ∧ r.2.mem ((c.tc : Thread Cert.Dist.nD Cert.Dist.τ).loc Cert.Dist.main_arg1) = m ((c.tc : Thread Cert.Dist.nD Cert.Dist.τ).loc Cert.Dist.main_arg1))
      ∧ r.2.sem = fun _ => 0)

def quiescent_DistIdeal [hDistIdeal : Cert.DistIdeal.Facts] : Prop :=
  ∀ (m : (ℓ : Loc Cert.DistIdeal.nD Cert.DistIdeal.τ Cert.DistIdeal.sig) → Buf (Elt Ideal) ℓ) (g : Dev Cert.DistIdeal.nD → PrngReg), Pre_DistIdeal m →
    θ_run (Cert.DistIdeal.defs (F := Ideal)) (onTc (τ := Cert.DistIdeal.τ) (Cert.DistIdeal.main (F := Ideal))) ⟨m, fun _ => 0, g⟩ (fun r => (∀ c : Dev Cert.DistIdeal.nD,
      r.2.mem ((c.tc : Thread Cert.DistIdeal.nD Cert.DistIdeal.τ).loc Cert.DistIdeal.main_arg0) = m ((c.tc : Thread Cert.DistIdeal.nD Cert.DistIdeal.τ).loc Cert.DistIdeal.main_arg0)
      ∧ r.2.mem ((c.tc : Thread Cert.DistIdeal.nD Cert.DistIdeal.τ).loc Cert.DistIdeal.main_arg1) = m ((c.tc : Thread Cert.DistIdeal.nD Cert.DistIdeal.τ).loc Cert.DistIdeal.main_arg1))
      ∧ r.2.sem = fun _ => 0)

def quiescent_DistIdeal_pre_finite_points [hDistIdeal : Cert.DistIdeal.Facts] [hPre_finite_points : Cert.Pre_finite_points.Facts] : Prop :=
  ∀ (m : (ℓ : Loc Cert.DistIdeal.nD Cert.DistIdeal.τ Cert.DistIdeal.sig) → Buf (Elt Ideal) ℓ) (g : Dev Cert.DistIdeal.nD → PrngReg), Pre_DistIdeal_finite_points m →
    θ_run (Cert.DistIdeal.defs (F := Ideal)) (onTc (τ := Cert.DistIdeal.τ) (Cert.DistIdeal.main (F := Ideal))) ⟨m, fun _ => 0, g⟩ (fun r => (∀ c : Dev Cert.DistIdeal.nD,
      r.2.mem ((c.tc : Thread Cert.DistIdeal.nD Cert.DistIdeal.τ).loc Cert.DistIdeal.main_arg0) = m ((c.tc : Thread Cert.DistIdeal.nD Cert.DistIdeal.τ).loc Cert.DistIdeal.main_arg0)
      ∧ r.2.mem ((c.tc : Thread Cert.DistIdeal.nD Cert.DistIdeal.τ).loc Cert.DistIdeal.main_arg1) = m ((c.tc : Thread Cert.DistIdeal.nD Cert.DistIdeal.τ).loc Cert.DistIdeal.main_arg1))
      ∧ r.2.sem = fun _ => 0)

def quiescent_DistReferenceIdeal [hDistReferenceIdeal : Cert.DistReferenceIdeal.Facts] : Prop :=
  ∀ (m : (ℓ : Loc Cert.DistReferenceIdeal.nD Cert.DistReferenceIdeal.τ Cert.DistReferenceIdeal.sig) → Buf (Elt Ideal) ℓ) (g : Dev Cert.DistReferenceIdeal.nD → PrngReg), Pre_DistReferenceIdeal m →
    θ_run (Cert.DistReferenceIdeal.defs (F := Ideal)) (onTc (τ := Cert.DistReferenceIdeal.τ) (Cert.DistReferenceIdeal.main (F := Ideal))) ⟨m, fun _ => 0, g⟩ (fun r => (∀ c : Dev Cert.DistReferenceIdeal.nD,
      r.2.mem ((c.tc : Thread Cert.DistReferenceIdeal.nD Cert.DistReferenceIdeal.τ).loc Cert.DistReferenceIdeal.main_arg0) = m ((c.tc : Thread Cert.DistReferenceIdeal.nD Cert.DistReferenceIdeal.τ).loc Cert.DistReferenceIdeal.main_arg0)
      ∧ r.2.mem ((c.tc : Thread Cert.DistReferenceIdeal.nD Cert.DistReferenceIdeal.τ).loc Cert.DistReferenceIdeal.main_arg1) = m ((c.tc : Thread Cert.DistReferenceIdeal.nD Cert.DistReferenceIdeal.τ).loc Cert.DistReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Fps_FpsIdeal : Prop :=
  True

def algebraic_FpsIdeal_FpsReferenceIdeal [hFpsIdeal : Cert.FpsIdeal.Facts] [hFpsReferenceIdeal : Cert.FpsReferenceIdeal.Facts] : Prop :=
  ∀ (m : (ℓ : Loc Cert.FpsIdeal.nD Cert.FpsIdeal.τ Cert.FpsIdeal.sig) → Buf (Elt Ideal) ℓ) (g : Dev Cert.FpsIdeal.nD → PrngReg)
    (m' : (ℓ : Loc Cert.FpsReferenceIdeal.nD Cert.FpsReferenceIdeal.τ Cert.FpsReferenceIdeal.sig) → Buf (Elt Ideal) ℓ) (g' : Dev Cert.FpsReferenceIdeal.nD → PrngReg), Pre_FpsIdeal m →
    (∀ c : Dev Cert.FpsIdeal.nD,
      m' ((c.tc : Thread Cert.FpsReferenceIdeal.nD Cert.FpsReferenceIdeal.τ).loc Cert.FpsReferenceIdeal.main_arg0) = m ((c.tc : Thread Cert.FpsIdeal.nD Cert.FpsIdeal.τ).loc Cert.FpsIdeal.main_arg0)) →
    ∃ (v0 : (c : Dev Cert.FpsIdeal.nD) → Buf (Elt Ideal) ((c.tc : Thread Cert.FpsIdeal.nD Cert.FpsIdeal.τ).loc Cert.FpsIdeal.main_v2_0)) (v1 : (c : Dev Cert.FpsIdeal.nD) → Buf (Elt Ideal) ((c.tc : Thread Cert.FpsIdeal.nD Cert.FpsIdeal.τ).loc Cert.FpsIdeal.main_v2_1)) (v2 : (c : Dev Cert.FpsIdeal.nD) → Buf (Elt Ideal) ((c.tc : Thread Cert.FpsIdeal.nD Cert.FpsIdeal.τ).loc Cert.FpsIdeal.main_v2_2)),
      θ_run (Cert.FpsIdeal.defs (F := Ideal)) (onTc (τ := Cert.FpsIdeal.τ) (Cert.FpsIdeal.main (F := Ideal))) ⟨m, fun _ => 0, g⟩ (fun r => ∀ c : Dev Cert.FpsIdeal.nD,
          r.2.mem ((c.tc : Thread Cert.FpsIdeal.nD Cert.FpsIdeal.τ).loc Cert.FpsIdeal.main_v2_0) = v0 c
          ∧ r.2.mem ((c.tc : Thread Cert.FpsIdeal.nD Cert.FpsIdeal.τ).loc Cert.FpsIdeal.main_v2_1) = v1 c
          ∧ r.2.mem ((c.tc : Thread Cert.FpsIdeal.nD Cert.FpsIdeal.τ).loc Cert.FpsIdeal.main_v2_2) = v2 c
          ∧ r.2.mem ((c.tc : Thread Cert.FpsIdeal.nD Cert.FpsIdeal.τ).loc Cert.FpsIdeal.main_arg0) = m ((c.tc : Thread Cert.FpsIdeal.nD Cert.FpsIdeal.τ).loc Cert.FpsIdeal.main_arg0))
      ∧ θ_run (Cert.FpsReferenceIdeal.defs (F := Ideal)) (onTc (τ := Cert.FpsReferenceIdeal.τ) (Cert.FpsReferenceIdeal.main (F := Ideal))) ⟨m', fun _ => 0, g'⟩ (fun r => ∀ c : Dev Cert.FpsReferenceIdeal.nD,
          r.2.mem ((c.tc : Thread Cert.FpsReferenceIdeal.nD Cert.FpsReferenceIdeal.τ).loc Cert.FpsReferenceIdeal.main_v6) = v0 c
          ∧ r.2.mem ((c.tc : Thread Cert.FpsReferenceIdeal.nD Cert.FpsReferenceIdeal.τ).loc Cert.FpsReferenceIdeal.main_v8) = v1 c
          ∧ r.2.mem ((c.tc : Thread Cert.FpsReferenceIdeal.nD Cert.FpsReferenceIdeal.τ).loc Cert.FpsReferenceIdeal.main_v10) = v2 c
          ∧ r.2.mem ((c.tc : Thread Cert.FpsReferenceIdeal.nD Cert.FpsReferenceIdeal.τ).loc Cert.FpsReferenceIdeal.main_arg0) = m' ((c.tc : Thread Cert.FpsReferenceIdeal.nD Cert.FpsReferenceIdeal.τ).loc Cert.FpsReferenceIdeal.main_arg0))

def preserves_Mlp_MlpIdeal : Prop :=
  True

def algebraic_MlpIdeal_MlpReferenceIdeal_pre_finite [hMlpIdeal : Cert.MlpIdeal.Facts] [hMlpReferenceIdeal : Cert.MlpReferenceIdeal.Facts] [hPre_finite : Cert.Pre_finite.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal_finite m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)
      ∧ m' ((c.tc : Thread Cert.MlpReferenceIdeal.nD Cert.MlpReferenceIdeal.τ).loc Cert.MlpReferenceIdeal.main_arg5) = m ((c.tc : Thread Cert.MlpIdeal.nD Cert.MlpIdeal.τ).loc Cert.MlpIdeal.main_arg5)
      ∧ m' ((c.tc : Thread Cert.MlpReferenceIdeal.nD Cert.MlpReferenceIdeal.τ).loc Cert.MlpReferenceIdeal.main_arg6) = m ((c.tc : Thread Cert.MlpIdeal.nD Cert.MlpIdeal.τ).loc Cert.MlpIdeal.main_arg6)
      ∧ m' ((c.tc : Thread Cert.MlpReferenceIdeal.nD Cert.MlpReferenceIdeal.τ).loc Cert.MlpReferenceIdeal.main_arg7) = m ((c.tc : Thread Cert.MlpIdeal.nD Cert.MlpIdeal.τ).loc Cert.MlpIdeal.main_arg7)
      ∧ m' ((c.tc : Thread Cert.MlpReferenceIdeal.nD Cert.MlpReferenceIdeal.τ).loc Cert.MlpReferenceIdeal.main_arg8) = m ((c.tc : Thread Cert.MlpIdeal.nD Cert.MlpIdeal.τ).loc Cert.MlpIdeal.main_arg8)
      ∧ m' ((c.tc : Thread Cert.MlpReferenceIdeal.nD Cert.MlpReferenceIdeal.τ).loc Cert.MlpReferenceIdeal.main_arg9) = m ((c.tc : Thread Cert.MlpIdeal.nD Cert.MlpIdeal.τ).loc Cert.MlpIdeal.main_arg9)
      ∧ m' ((c.tc : Thread Cert.MlpReferenceIdeal.nD Cert.MlpReferenceIdeal.τ).loc Cert.MlpReferenceIdeal.main_arg10) = m ((c.tc : Thread Cert.MlpIdeal.nD Cert.MlpIdeal.τ).loc Cert.MlpIdeal.main_arg10)
      ∧ m' ((c.tc : Thread Cert.MlpReferenceIdeal.nD Cert.MlpReferenceIdeal.τ).loc Cert.MlpReferenceIdeal.main_arg11) = m ((c.tc : Thread Cert.MlpIdeal.nD Cert.MlpIdeal.τ).loc Cert.MlpIdeal.main_arg11)
      ∧ m' ((c.tc : Thread Cert.MlpReferenceIdeal.nD Cert.MlpReferenceIdeal.τ).loc Cert.MlpReferenceIdeal.main_arg12) = m ((c.tc : Thread Cert.MlpIdeal.nD Cert.MlpIdeal.τ).loc Cert.MlpIdeal.main_arg12)) →
    ∃ (v0 : (c : Dev Cert.MlpIdeal.nD) → Buf (Elt Ideal) ((c.tc : Thread Cert.MlpIdeal.nD Cert.MlpIdeal.τ).loc Cert.MlpIdeal.main_v9)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v9) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
          ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
          ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
          ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v73) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5)
          ∧ r.2.mem ((c.tc : Thread Cert.MlpReferenceIdeal.nD Cert.MlpReferenceIdeal.τ).loc Cert.MlpReferenceIdeal.main_arg6) = m' ((c.tc : Thread Cert.MlpReferenceIdeal.nD Cert.MlpReferenceIdeal.τ).loc Cert.MlpReferenceIdeal.main_arg6)
          ∧ r.2.mem ((c.tc : Thread Cert.MlpReferenceIdeal.nD Cert.MlpReferenceIdeal.τ).loc Cert.MlpReferenceIdeal.main_arg7) = m' ((c.tc : Thread Cert.MlpReferenceIdeal.nD Cert.MlpReferenceIdeal.τ).loc Cert.MlpReferenceIdeal.main_arg7)
          ∧ r.2.mem ((c.tc : Thread Cert.MlpReferenceIdeal.nD Cert.MlpReferenceIdeal.τ).loc Cert.MlpReferenceIdeal.main_arg8) = m' ((c.tc : Thread Cert.MlpReferenceIdeal.nD Cert.MlpReferenceIdeal.τ).loc Cert.MlpReferenceIdeal.main_arg8)
          ∧ r.2.mem ((c.tc : Thread Cert.MlpReferenceIdeal.nD Cert.MlpReferenceIdeal.τ).loc Cert.MlpReferenceIdeal.main_arg9) = m' ((c.tc : Thread Cert.MlpReferenceIdeal.nD Cert.MlpReferenceIdeal.τ).loc Cert.MlpReferenceIdeal.main_arg9)
          ∧ r.2.mem ((c.tc : Thread Cert.MlpReferenceIdeal.nD Cert.MlpReferenceIdeal.τ).loc Cert.MlpReferenceIdeal.main_arg10) = m' ((c.tc : Thread Cert.MlpReferenceIdeal.nD Cert.MlpReferenceIdeal.τ).loc Cert.MlpReferenceIdeal.main_arg10)
          ∧ r.2.mem ((c.tc : Thread Cert.MlpReferenceIdeal.nD Cert.MlpReferenceIdeal.τ).loc Cert.MlpReferenceIdeal.main_arg11) = m' ((c.tc : Thread Cert.MlpReferenceIdeal.nD Cert.MlpReferenceIdeal.τ).loc Cert.MlpReferenceIdeal.main_arg11)
          ∧ r.2.mem ((c.tc : Thread Cert.MlpReferenceIdeal.nD Cert.MlpReferenceIdeal.τ).loc Cert.MlpReferenceIdeal.main_arg12) = m' ((c.tc : Thread Cert.MlpReferenceIdeal.nD Cert.MlpReferenceIdeal.τ).loc Cert.MlpReferenceIdeal.main_arg12))

def preserves_Dist_DistIdeal : Prop :=
  True

def algebraic_DistIdeal_DistReferenceIdeal_on_distances_only [hDistIdeal : Cert.DistIdeal.Facts] [hDistReferenceIdeal : Cert.DistReferenceIdeal.Facts] [hOn_distances_only : Cert.On_distances_only.Facts] : Prop :=
  ∀ (m : (ℓ : Loc Cert.DistIdeal.nD Cert.DistIdeal.τ Cert.DistIdeal.sig) → Buf (Elt Ideal) ℓ) (g : Dev Cert.DistIdeal.nD → PrngReg)
    (m' : (ℓ : Loc Cert.DistReferenceIdeal.nD Cert.DistReferenceIdeal.τ Cert.DistReferenceIdeal.sig) → Buf (Elt Ideal) ℓ) (g' : Dev Cert.DistReferenceIdeal.nD → PrngReg), Pre_DistIdeal m →
    (∀ c : Dev Cert.DistIdeal.nD,
      m' ((c.tc : Thread Cert.DistReferenceIdeal.nD Cert.DistReferenceIdeal.τ).loc Cert.DistReferenceIdeal.main_arg0) = m ((c.tc : Thread Cert.DistIdeal.nD Cert.DistIdeal.τ).loc Cert.DistIdeal.main_arg0)
      ∧ m' ((c.tc : Thread Cert.DistReferenceIdeal.nD Cert.DistReferenceIdeal.τ).loc Cert.DistReferenceIdeal.main_arg1) = m ((c.tc : Thread Cert.DistIdeal.nD Cert.DistIdeal.τ).loc Cert.DistIdeal.main_arg1)) →
    ∃ (v0 : (c : Dev Cert.DistIdeal.nD) → Buf (Elt Ideal) ((c.tc : Thread Cert.DistIdeal.nD Cert.DistIdeal.τ).loc Cert.DistIdeal.main_v1_0)) (v1 : (c : Dev Cert.DistIdeal.nD) → Buf (Elt Ideal) ((c.tc : Thread Cert.DistIdeal.nD Cert.DistIdeal.τ).loc Cert.DistIdeal.main_v1_1)),
      θ_run (Cert.DistIdeal.defs (F := Ideal)) (onTc (τ := Cert.DistIdeal.τ) (Cert.DistIdeal.main (F := Ideal))) ⟨m, fun _ => 0, g⟩ (fun r => ∀ c : Dev Cert.DistIdeal.nD,
          (∀ i : (⟨4, ![8, 512, 64, 128]⟩ : Shape).Idx, (Cert.On_distances_only.fn (F := Ideal) (m ((c.tc : Thread Cert.DistIdeal.nD Cert.DistIdeal.τ).loc Cert.DistIdeal.main_arg0)) (m ((c.tc : Thread Cert.DistIdeal.nD Cert.DistIdeal.τ).loc Cert.DistIdeal.main_arg1))).1 i = 1#1 → r.2.mem ((c.tc : Thread Cert.DistIdeal.nD Cert.DistIdeal.τ).loc Cert.DistIdeal.main_v1_0) i = v0 c i)
          ∧ (∀ i : (⟨3, ![8, 512, 1]⟩ : Shape).Idx, (Cert.On_distances_only.fn (F := Ideal) (m ((c.tc : Thread Cert.DistIdeal.nD Cert.DistIdeal.τ).loc Cert.DistIdeal.main_arg0)) (m ((c.tc : Thread Cert.DistIdeal.nD Cert.DistIdeal.τ).loc Cert.DistIdeal.main_arg1))).2 i = 1#1 → r.2.mem ((c.tc : Thread Cert.DistIdeal.nD Cert.DistIdeal.τ).loc Cert.DistIdeal.main_v1_1) i = v1 c i)
          ∧ r.2.mem ((c.tc : Thread Cert.DistIdeal.nD Cert.DistIdeal.τ).loc Cert.DistIdeal.main_arg0) = m ((c.tc : Thread Cert.DistIdeal.nD Cert.DistIdeal.τ).loc Cert.DistIdeal.main_arg0)
          ∧ r.2.mem ((c.tc : Thread Cert.DistIdeal.nD Cert.DistIdeal.τ).loc Cert.DistIdeal.main_arg1) = m ((c.tc : Thread Cert.DistIdeal.nD Cert.DistIdeal.τ).loc Cert.DistIdeal.main_arg1))
      ∧ θ_run (Cert.DistReferenceIdeal.defs (F := Ideal)) (onTc (τ := Cert.DistReferenceIdeal.τ) (Cert.DistReferenceIdeal.main (F := Ideal))) ⟨m', fun _ => 0, g'⟩ (fun r => ∀ c : Dev Cert.DistReferenceIdeal.nD,
          (∀ i : (⟨4, ![8, 512, 64, 128]⟩ : Shape).Idx, (Cert.On_distances_only.fn (F := Ideal) (m ((c.tc : Thread Cert.DistIdeal.nD Cert.DistIdeal.τ).loc Cert.DistIdeal.main_arg0)) (m ((c.tc : Thread Cert.DistIdeal.nD Cert.DistIdeal.τ).loc Cert.DistIdeal.main_arg1))).1 i = 1#1 → r.2.mem ((c.tc : Thread Cert.DistReferenceIdeal.nD Cert.DistReferenceIdeal.τ).loc Cert.DistReferenceIdeal.main_v14) i = v0 c i)
          ∧ (∀ i : (⟨3, ![8, 512, 1]⟩ : Shape).Idx, (Cert.On_distances_only.fn (F := Ideal) (m ((c.tc : Thread Cert.DistIdeal.nD Cert.DistIdeal.τ).loc Cert.DistIdeal.main_arg0)) (m ((c.tc : Thread Cert.DistIdeal.nD Cert.DistIdeal.τ).loc Cert.DistIdeal.main_arg1))).2 i = 1#1 → r.2.mem ((c.tc : Thread Cert.DistReferenceIdeal.nD Cert.DistReferenceIdeal.τ).loc Cert.DistReferenceIdeal.main_v16) i = v1 c i)
          ∧ r.2.mem ((c.tc : Thread Cert.DistReferenceIdeal.nD Cert.DistReferenceIdeal.τ).loc Cert.DistReferenceIdeal.main_arg0) = m' ((c.tc : Thread Cert.DistReferenceIdeal.nD Cert.DistReferenceIdeal.τ).loc Cert.DistReferenceIdeal.main_arg0)
          ∧ r.2.mem ((c.tc : Thread Cert.DistReferenceIdeal.nD Cert.DistReferenceIdeal.τ).loc Cert.DistReferenceIdeal.main_arg1) = m' ((c.tc : Thread Cert.DistReferenceIdeal.nD Cert.DistReferenceIdeal.τ).loc Cert.DistReferenceIdeal.main_arg1))

def holds_DistIdeal_enough [hDistIdeal : Cert.DistIdeal.Facts] [hPost_enough : Cert.Post_enough.Facts] : Prop :=
  ∀ (m : (ℓ : Loc Cert.DistIdeal.nD Cert.DistIdeal.τ Cert.DistIdeal.sig) → Buf (Elt Ideal) ℓ) (g : Dev Cert.DistIdeal.nD → PrngReg), Pre_DistIdeal m →
    θ_run (Cert.DistIdeal.defs (F := Ideal)) (onTc (τ := Cert.DistIdeal.τ) (Cert.DistIdeal.main (F := Ideal))) ⟨m, fun _ => 0, g⟩ (fun r => ∀ c : Dev Cert.DistIdeal.nD,
      r.2.mem ((c.tc : Thread Cert.DistIdeal.nD Cert.DistIdeal.τ).loc Cert.DistIdeal.main_arg0) = m ((c.tc : Thread Cert.DistIdeal.nD Cert.DistIdeal.τ).loc Cert.DistIdeal.main_arg0)
      ∧ r.2.mem ((c.tc : Thread Cert.DistIdeal.nD Cert.DistIdeal.τ).loc Cert.DistIdeal.main_arg1) = m ((c.tc : Thread Cert.DistIdeal.nD Cert.DistIdeal.τ).loc Cert.DistIdeal.main_arg1)
      ∧ (Cert.Post_enough.fn (F := Ideal) (m ((c.tc : Thread Cert.DistIdeal.nD Cert.DistIdeal.τ).loc Cert.DistIdeal.main_arg0)) (m ((c.tc : Thread Cert.DistIdeal.nD Cert.DistIdeal.τ).loc Cert.DistIdeal.main_arg1)) (r.2.mem ((c.tc : Thread Cert.DistIdeal.nD Cert.DistIdeal.τ).loc Cert.DistIdeal.main_v1_0)) (r.2.mem ((c.tc : Thread Cert.DistIdeal.nD Cert.DistIdeal.τ).loc Cert.DistIdeal.main_v1_1))) = (fun _ => 1#1))

def holds_DistIdeal_close_pre_finite_points [hDistIdeal : Cert.DistIdeal.Facts] [hPre_finite_points : Cert.Pre_finite_points.Facts] [hPost_close : Cert.Post_close.Facts] : Prop :=
  ∀ (m : (ℓ : Loc Cert.DistIdeal.nD Cert.DistIdeal.τ Cert.DistIdeal.sig) → Buf (Elt Ideal) ℓ) (g : Dev Cert.DistIdeal.nD → PrngReg), Pre_DistIdeal_finite_points m →
    θ_run (Cert.DistIdeal.defs (F := Ideal)) (onTc (τ := Cert.DistIdeal.τ) (Cert.DistIdeal.main (F := Ideal))) ⟨m, fun _ => 0, g⟩ (fun r => ∀ c : Dev Cert.DistIdeal.nD,
      r.2.mem ((c.tc : Thread Cert.DistIdeal.nD Cert.DistIdeal.τ).loc Cert.DistIdeal.main_arg0) = m ((c.tc : Thread Cert.DistIdeal.nD Cert.DistIdeal.τ).loc Cert.DistIdeal.main_arg0)
      ∧ r.2.mem ((c.tc : Thread Cert.DistIdeal.nD Cert.DistIdeal.τ).loc Cert.DistIdeal.main_arg1) = m ((c.tc : Thread Cert.DistIdeal.nD Cert.DistIdeal.τ).loc Cert.DistIdeal.main_arg1)
      ∧ (Cert.Post_close.fn (F := Ideal) (m ((c.tc : Thread Cert.DistIdeal.nD Cert.DistIdeal.τ).loc Cert.DistIdeal.main_arg0)) (m ((c.tc : Thread Cert.DistIdeal.nD Cert.DistIdeal.τ).loc Cert.DistIdeal.main_arg1)) (r.2.mem ((c.tc : Thread Cert.DistIdeal.nD Cert.DistIdeal.τ).loc Cert.DistIdeal.main_v1_0)) (r.2.mem ((c.tc : Thread Cert.DistIdeal.nD Cert.DistIdeal.τ).loc Cert.DistIdeal.main_v1_1))) = (fun _ => 1#1))

def Claim : Prop :=
  ∃ (hKernel : Cert.Kernel.Facts) (hKernelIdeal : Cert.KernelIdeal.Facts) (hReferenceIdeal : Cert.ReferenceIdeal.Facts) (hFps : Cert.Fps.Facts) (hFpsIdeal : Cert.FpsIdeal.Facts) (hFpsReferenceIdeal : Cert.FpsReferenceIdeal.Facts) (hMlp : Cert.Mlp.Facts) (hMlpIdeal : Cert.MlpIdeal.Facts) (hMlpReferenceIdeal : Cert.MlpReferenceIdeal.Facts) (hDist : Cert.Dist.Facts) (hDistIdeal : Cert.DistIdeal.Facts) (hDistReferenceIdeal : Cert.DistReferenceIdeal.Facts) (hPre_separated : Cert.Pre_separated.Facts) (hPre_finite : Cert.Pre_finite.Facts) (hPre_finite_points : Cert.Pre_finite_points.Facts) (hPost_enough : Cert.Post_enough.Facts) (hPost_close : Cert.Post_close.Facts) (hOn_distances_only : Cert.On_distances_only.Facts),
    quiescent_Kernel (hKernel := hKernel) (hPre_separated := hPre_separated)
    ∧ quiescent_KernelIdeal (hKernelIdeal := hKernelIdeal) (hPre_separated := hPre_separated)
    ∧ quiescent_ReferenceIdeal (hReferenceIdeal := hReferenceIdeal) (hPre_separated := hPre_separated)
    ∧ quiescent_Fps (hFps := hFps)
    ∧ quiescent_FpsIdeal (hFpsIdeal := hFpsIdeal)
    ∧ quiescent_FpsReferenceIdeal (hFpsReferenceIdeal := hFpsReferenceIdeal)
    ∧ quiescent_Mlp (hMlp := hMlp)
    ∧ quiescent_MlpIdeal (hMlpIdeal := hMlpIdeal)
    ∧ quiescent_MlpIdeal_pre_finite (hMlpIdeal := hMlpIdeal) (hPre_finite := hPre_finite)
    ∧ quiescent_MlpReferenceIdeal (hMlpReferenceIdeal := hMlpReferenceIdeal)
    ∧ quiescent_MlpReferenceIdeal_pre_finite (hMlpReferenceIdeal := hMlpReferenceIdeal) (hPre_finite := hPre_finite)
    ∧ quiescent_Dist (hDist := hDist)
    ∧ quiescent_DistIdeal (hDistIdeal := hDistIdeal)
    ∧ quiescent_DistIdeal_pre_finite_points (hDistIdeal := hDistIdeal) (hPre_finite_points := hPre_finite_points)
    ∧ quiescent_DistReferenceIdeal (hDistReferenceIdeal := hDistReferenceIdeal)
    ∧ preserves_Kernel_KernelIdeal
    ∧ algebraic_KernelIdeal_ReferenceIdeal (hKernelIdeal := hKernelIdeal) (hReferenceIdeal := hReferenceIdeal) (hPre_separated := hPre_separated)
    ∧ preserves_Fps_FpsIdeal
    ∧ algebraic_FpsIdeal_FpsReferenceIdeal (hFpsIdeal := hFpsIdeal) (hFpsReferenceIdeal := hFpsReferenceIdeal)
    ∧ preserves_Mlp_MlpIdeal
    ∧ algebraic_MlpIdeal_MlpReferenceIdeal_pre_finite (hMlpIdeal := hMlpIdeal) (hMlpReferenceIdeal := hMlpReferenceIdeal) (hPre_finite := hPre_finite)
    ∧ preserves_Dist_DistIdeal
    ∧ algebraic_DistIdeal_DistReferenceIdeal_on_distances_only (hDistIdeal := hDistIdeal) (hDistReferenceIdeal := hDistReferenceIdeal) (hOn_distances_only := hOn_distances_only)
    ∧ holds_DistIdeal_enough (hDistIdeal := hDistIdeal) (hPost_enough := hPost_enough)
    ∧ holds_DistIdeal_close_pre_finite_points (hDistIdeal := hDistIdeal) (hPre_finite_points := hPre_finite_points) (hPost_close := hPost_close)
-- ==== On_distances_only.lean ====
abbrev S8x8192x3 : Shape := ⟨3, ![8, 8192, 3]⟩
abbrev S8x512x3 : Shape := ⟨3, ![8, 512, 3]⟩
abbrev S_ : Shape := ⟨0, ![]⟩
abbrev S8x512x64x128 : Shape := ⟨4, ![8, 512, 64, 128]⟩
abbrev S8x512x1 : Shape := ⟨3, ![8, 512, 1]⟩

class Facts : Prop where
  bcast_S_S8x512x64x128 : S_.BroadcastsInDim S8x512x64x128 (![] : Fin 0 → Fin S8x512x64x128.rank)
  bcast_S_S8x512x1 : S_.BroadcastsInDim S8x512x1 (![] : Fin 0 → Fin S8x512x1.rank)

variable [Facts]

def fn {F : FTy → Type} [FloatOps F] (main_arg0 : FVec F S8x8192x3 .f32) (main_arg1 : FVec F S8x512x3 .f32) : IVec S8x512x64x128 1 × IVec S8x512x1 1 :=
  let main_c : IVec S_ 1 := constantI S_ 1 1#1
  let main_v0 : IVec S8x512x64x128 1 := broadcastInDim S8x512x64x128 ![] bcast_S_S8x512x64x128 main_c
  let main_c_0 : IVec S_ 1 := constantI S_ 1 0#1
  let main_v1 : IVec S8x512x1 1 := broadcastInDim S8x512x1 ![] bcast_S_S8x512x1 main_c_0
  (main_v0, main_v1)
-- ==== Post_close.lean ====
abbrev S8x8192x3 : Shape := ⟨3, ![8, 8192, 3]⟩
abbrev S8x512x3 : Shape := ⟨3, ![8, 512, 3]⟩
abbrev S8x512x64x128 : Shape := ⟨4, ![8, 512, 64, 128]⟩
abbrev S8x512x1 : Shape := ⟨3, ![8, 512, 1]⟩
abbrev S8x512x8192 : Shape := ⟨3, ![8, 512, 8192]⟩
abbrev S_ : Shape := ⟨0, ![]⟩
abbrev S8x512 : Shape := ⟨2, ![8, 512]⟩

class Facts : Prop where
  shapeCasts_S8x512x64x128_S8x512x8192 : S8x512x64x128.ShapeCasts S8x512x8192
  reducesTo_S8x512x8192_S8x512_d2 : S8x512x8192.ReducesTo [2] S8x512
  h_S_ : 0 < S_.numel
  bcast_S_S8x512 : S_.BroadcastsInDim S8x512 (![] : Fin 0 → Fin S8x512.rank)
  bcast_S8x512x1_S8x512x8192_0_1_2 : S8x512x1.BroadcastsInDim S8x512x8192 (![0, 1, 2] : Fin 3 → Fin S8x512x8192.rank)
  bcast_S8x512_S8x512x1_0_1 : S8x512.BroadcastsInDim S8x512x1 (![0, 1] : Fin 2 → Fin S8x512x1.rank)

variable [Facts]

def fn_part1 {F : FTy → Type} [FloatOps F] (main_v11 : FVec F S8x512 .f32) (main_v17 : FVec F S8x512 .f32) : IVec S8x512 1 :=
  let main_cst_5 : FVec F S_ .f32 := constant S_ .f32 0x42000000#32
  let main_v18 : FVec F S8x512 .f32 := broadcastInDim S8x512 ![] bcast_S_S8x512 main_cst_5
  let main_v19 : IVec S8x512 1 := cmpf .oeq main_v11 main_v18
  let main_cst_6 : FVec F S_ .f32 := constant S_ .f32 0x42000000#32
  let main_v20 : FVec F S8x512 .f32 := broadcastInDim S8x512 ![] bcast_S_S8x512 main_cst_6
  let main_v21 : IVec S8x512 1 := cmpf .olt main_v17 main_v20
  let main_v22 : IVec S8x512 1 := ori main_v19 main_v21
  main_v22

def fn {F : FTy → Type} [FloatOps F] (main_arg0 : FVec F S8x8192x3 .f32) (main_arg1 : FVec F S8x512x3 .f32) (main_arg2 : FVec F S8x512x64x128 .f32) (main_arg3 : FVec F S8x512x1 .f32) : IVec S8x512 1 :=
  let main_v0 : FVec F S8x512x8192 .f32 := shapeCast S8x512x8192 main_arg2 shapeCasts_S8x512x64x128_S8x512x8192
  let main_cst : FVec F S_ .f32 := constant S_ .f32 0xFF800000#32
  let main_v1 : FVec F S8x512 .f32 := (fun x v => Host.reduce FloatOps.maximumf x v reducesTo_S8x512x8192_S8x512_d2 h_S_) main_v0 main_cst
  let main_cst_0 : FVec F S_ .f32 := constant S_ .f32 0x7F800000#32
  let main_v2 : FVec F S8x512 .f32 := (fun x v => Host.reduce FloatOps.minimumf x v reducesTo_S8x512x8192_S8x512_d2 h_S_) main_v0 main_cst_0
  let main_v3 : FVec F S8x512 .f32 := subf main_v1 main_v2
  let main_cst_1 : FVec F S_ .f32 := constant S_ .f32 0x3F800000#32
  let main_v4 : FVec F S8x512 .f32 := broadcastInDim S8x512 ![] bcast_S_S8x512 main_cst_1
  let main_v5 : FVec F S8x512 .f32 := addf main_v3 main_v4
  let main_cst_2 : FVec F S_ .f32 := constant S_ .f32 0x32800000#32
  let main_v6 : FVec F S8x512 .f32 := broadcastInDim S8x512 ![] bcast_S_S8x512 main_cst_2
  let main_v7 : FVec F S8x512 .f32 := mulf main_v5 main_v6
  let main_v8 : FVec F S8x512x8192 .f32 := broadcastInDim S8x512x8192 ![0, 1, 2] bcast_S8x512x1_S8x512x8192_0_1_2 main_arg3
  let main_v9 : IVec S8x512x8192 1 := cmpf .ole main_v0 main_v8
  let main_v10 : FVec F S8x512x8192 .f32 := uitofp .f32 main_v9
  let main_cst_3 : FVec F S_ .f32 := constant S_ .f32 0x00000000#32
  let main_v11 : FVec F S8x512 .f32 := (fun x v => Host.reduceAdd x v reducesTo_S8x512x8192_S8x512_d2 h_S_) main_v10 main_cst_3
  let main_v12 : FVec F S8x512x1 .f32 := broadcastInDim S8x512x1 ![0, 1] bcast_S8x512_S8x512x1_0_1 main_v7
  let main_v13 : FVec F S8x512x1 .f32 := subf main_arg3 main_v12
  let main_v14 : FVec F S8x512x8192 .f32 := broadcastInDim S8x512x8192 ![0, 1, 2] bcast_S8x512x1_S8x512x8192_0_1_2 main_v13
  let main_v15 : IVec S8x512x8192 1 := cmpf .ole main_v0 main_v14
  let main_v16 : FVec F S8x512x8192 .f32 := uitofp .f32 main_v15
  let main_cst_4 : FVec F S_ .f32 := constant S_ .f32 0x00000000#32
  let main_v17 : FVec F S8x512 .f32 := (fun x v => Host.reduceAdd x v reducesTo_S8x512x8192_S8x512_d2 h_S_) main_v16 main_cst_4
  fn_part1 (F := F) main_v11 main_v17
-- ==== Post_enough.lean ====
abbrev S8x8192x3 : Shape := ⟨3, ![8, 8192, 3]⟩
abbrev S8x512x3 : Shape := ⟨3, ![8, 512, 3]⟩
abbrev S8x512x64x128 : Shape := ⟨4, ![8, 512, 64, 128]⟩
abbrev S8x512x1 : Shape := ⟨3, ![8, 512, 1]⟩
abbrev S8x512x8192 : Shape := ⟨3, ![8, 512, 8192]⟩
abbrev S_ : Shape := ⟨0, ![]⟩
abbrev S8x512 : Shape := ⟨2, ![8, 512]⟩

class Facts : Prop where
  shapeCasts_S8x512x64x128_S8x512x8192 : S8x512x64x128.ShapeCasts S8x512x8192
  bcast_S8x512x1_S8x512x8192_0_1_2 : S8x512x1.BroadcastsInDim S8x512x8192 (![0, 1, 2] : Fin 3 → Fin S8x512x8192.rank)
  reducesTo_S8x512x8192_S8x512_d2 : S8x512x8192.ReducesTo [2] S8x512
  h_S_ : 0 < S_.numel
  bcast_S_S8x512 : S_.BroadcastsInDim S8x512 (![] : Fin 0 → Fin S8x512.rank)

variable [Facts]

def fn {F : FTy → Type} [FloatOps F] (main_arg0 : FVec F S8x8192x3 .f32) (main_arg1 : FVec F S8x512x3 .f32) (main_arg2 : FVec F S8x512x64x128 .f32) (main_arg3 : FVec F S8x512x1 .f32) : IVec S8x512 1 :=
  let main_v0 : FVec F S8x512x8192 .f32 := shapeCast S8x512x8192 main_arg2 shapeCasts_S8x512x64x128_S8x512x8192
  let main_v1 : FVec F S8x512x8192 .f32 := broadcastInDim S8x512x8192 ![0, 1, 2] bcast_S8x512x1_S8x512x8192_0_1_2 main_arg3
  let main_v2 : IVec S8x512x8192 1 := cmpf .ole main_v0 main_v1
  let main_v3 : FVec F S8x512x8192 .f32 := uitofp .f32 main_v2
  let main_cst : FVec F S_ .f32 := constant S_ .f32 0x00000000#32
  let main_v4 : FVec F S8x512 .f32 := (fun x v => Host.reduceAdd x v reducesTo_S8x512x8192_S8x512_d2 h_S_) main_v3 main_cst
  let main_cst_0 : FVec F S_ .f32 := constant S_ .f32 0x42000000#32
  let main_v5 : FVec F S8x512 .f32 := broadcastInDim S8x512 ![] bcast_S_S8x512 main_cst_0
  let main_v6 : IVec S8x512 1 := cmpf .oge main_v4 main_v5
  main_v6
-- ==== Pre_finite.lean ====
abbrev S3x131072 : Shape := ⟨2, ![3, 131072]⟩
abbrev S64x3 : Shape := ⟨2, ![64, 3]⟩
abbrev S64 : Shape := ⟨1, ![64]⟩
abbrev S128x64 : Shape := ⟨2, ![128, 64]⟩
abbrev S128 : Shape := ⟨1, ![128]⟩
abbrev S384x128 : Shape := ⟨2, ![384, 128]⟩
abbrev S384 : Shape := ⟨1, ![384]⟩
abbrev S_ : Shape := ⟨0, ![]⟩

class Facts : Prop where
  bcast_S_S3x131072 : S_.BroadcastsInDim S3x131072 (![] : Fin 0 → Fin S3x131072.rank)
  reducesTo_S3x131072_S_d0_1 : S3x131072.ReducesTo [0, 1] S_
  h_S_ : 0 < S_.numel
  bcast_S_S64x3 : S_.BroadcastsInDim S64x3 (![] : Fin 0 → Fin S64x3.rank)
  reducesTo_S64x3_S_d0_1 : S64x3.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part3 {F : FTy → Type} [FloatOps F] (main_arg11 : FVec F S384 .f32) (main_arg12 : FVec F S384 .f32) (main_v48 : IVec S_ 1) (main_v49 : FVec F S384 .f32) (main_v50 : FVec F S384 .f32) : IVec S_ 1 :=
  let main_v51 : IVec S384 1 := cmpf .olt main_v49 main_v50
  let main_c_19 : IVec S_ 1 := constantI S_ 1 1#1
  let main_v52 : IVec S_ 1 := (fun x v => Host.reduce IntOp.andi x v reducesTo_S384_S_d0 h_S_) main_v51 main_c_19
  let main_v53 : IVec S_ 1 := andi main_v48 main_v52
  let main_v54 : FVec F S384 .f32 := Host.absf main_arg11
  let main_cst_20 : FVec F S_ .f32 := constant S_ .f32 0x7F800000#32
  let main_v55 : FVec F S384 .f32 := broadcastInDim S384 ![] bcast_S_S384 main_cst_20
  let main_v56 : IVec S384 1 := cmpf .olt main_v54 main_v55
  let main_c_21 : IVec S_ 1 := constantI S_ 1 1#1
  let main_v57 : IVec S_ 1 := (fun x v => Host.reduce IntOp.andi x v reducesTo_S384_S_d0 h_S_) main_v56 main_c_21
  let main_v58 : IVec S_ 1 := andi main_v53 main_v57
  let main_v59 : FVec F S384 .f32 := Host.absf main_arg12
  let main_cst_22 : FVec F S_ .f32 := constant S_ .f32 0x7F800000#32
  let main_v60 : FVec F S384 .f32 := broadcastInDim S384 ![] bcast_S_S384 main_cst_22
  let main_v61 : IVec S384 1 := cmpf .olt main_v59 main_v60
  let main_c_23 : IVec S_ 1 := constantI S_ 1 1#1
  let main_v62 : IVec S_ 1 := (fun x v => Host.reduce IntOp.andi x v reducesTo_S384_S_d0 h_S_) main_v61 main_c_23
  let main_v63 : IVec S_ 1 := andi main_v58 main_v62
  main_v63

def fn_part2 {F : FTy → Type} [FloatOps F] (main_arg7 : FVec F S128 .f32) (main_arg8 : FVec F S128 .f32) (main_arg9 : FVec F S384x128 .f32) (main_arg10 : FVec F S384 .f32) (main_arg11 : FVec F S384 .f32) (main_arg12 : FVec F S384 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S384x128 .f32 := Host.absf main_arg9
  let main_cst_16 : FVec F S_ .f32 := constant S_ .f32 0x7F800000#32
  let main_v45 : FVec F S384x128 .f32 := broadcastInDim S384x128 ![] bcast_S_S384x128 main_cst_16
  let main_v46 : IVec S384x128 1 := cmpf .olt main_v44 main_v45
  let main_c_17 : IVec S_ 1 := constantI S_ 1 1#1
  let main_v47 : IVec S_ 1 := (fun x v => Host.reduce IntOp.andi x v reducesTo_S384x128_S_d0_1 h_S_) main_v46 main_c_17
  let main_v48 : IVec S_ 1 := andi main_v43 main_v47
  let main_v49 : FVec F S384 .f32 := Host.absf main_arg10
  let main_cst_18 : FVec F S_ .f32 := constant S_ .f32 0x7F800000#32
  let main_v50 : FVec F S384 .f32 := broadcastInDim S384 ![] bcast_S_S384 main_cst_18
  fn_part3 (F := F) main_arg11 main_arg12 main_v48 main_v49 main_v50

def fn_part1 {F : FTy → Type} [FloatOps F] (main_arg4 : FVec F S64 .f32) (main_arg5 : FVec F S128x64 .f32) (main_arg6 : FVec F S128 .f32) (main_arg7 : FVec F S128 .f32) (main_arg8 : FVec F S128 .f32) (main_arg9 : FVec F S384x128 .f32) (main_arg10 : FVec F S384 .f32) (main_arg11 : FVec F S384 .f32) (main_arg12 : FVec F S384 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S3x131072 .f32) (main_arg1 : FVec F S64x3 .f32) (main_arg2 : FVec F S64 .f32) (main_arg3 : FVec F S64 .f32) (main_arg4 : FVec F S64 .f32) (main_arg5 : FVec F S128x64 .f32) (main_arg6 : FVec F S128 .f32) (main_arg7 : FVec F S128 .f32) (main_arg8 : FVec F S128 .f32) (main_arg9 : FVec F S384x128 .f32) (main_arg10 : FVec F S384 .f32) (main_arg11 : FVec F S384 .f32) (main_arg12 : FVec F S384 .f32) : IVec S_ 1 :=
  let main_v0 : FVec F S3x131072 .f32 := Host.absf main_arg0
  let main_cst : FVec F S_ .f32 := constant S_ .f32 0x7F800000#32
  let main_v1 : FVec F S3x131072 .f32 := broadcastInDim S3x131072 ![] bcast_S_S3x131072 main_cst
  let main_v2 : IVec S3x131072 1 := cmpf .olt main_v0 main_v1
  let main_c : IVec S_ 1 := constantI S_ 1 1#1
  let main_v3 : IVec S_ 1 := (fun x v => Host.reduce IntOp.andi x v reducesTo_S3x131072_S_d0_1 h_S_) main_v2 main_c
  let main_v4 : FVec F S64x3 .f32 := Host.absf main_arg1
  let main_cst_0 : FVec F S_ .f32 := constant S_ .f32 0x7F800000#32
  let main_v5 : FVec F S64x3 .f32 := broadcastInDim S64x3 ![] bcast_S_S64x3 main_cst_0
  let main_v6 : IVec S64x3 1 := cmpf .olt main_v4 main_v5
  let main_c_1 : IVec S_ 1 := constantI S_ 1 1#1
  let main_v7 : IVec S_ 1 := (fun x v => Host.reduce IntOp.andi x v reducesTo_S64x3_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_v13 main_v16
-- ==== Pre_finite_points.lean ====
abbrev S8x8192x3 : Shape := ⟨3, ![8, 8192, 3]⟩
abbrev S8x512x3 : Shape := ⟨3, ![8, 512, 3]⟩
abbrev S_ : Shape := ⟨0, ![]⟩

class Facts : Prop where
  bcast_S_S8x8192x3 : S_.BroadcastsInDim S8x8192x3 (![] : Fin 0 → Fin S8x8192x3.rank)
  reducesTo_S8x8192x3_S_d0_1_2 : S8x8192x3.ReducesTo [0, 1, 2] S_
  h_S_ : 0 < S_.numel
  bcast_S_S8x512x3 : S_.BroadcastsInDim S8x512x3 (![] : Fin 0 → Fin S8x512x3.rank)
  reducesTo_S8x512x3_S_d0_1_2 : S8x512x3.ReducesTo [0, 1, 2] S_

variable [Facts]

def fn {F : FTy → Type} [FloatOps F] (main_arg0 : FVec F S8x8192x3 .f32) (main_arg1 : FVec F S8x512x3 .f32) : IVec S_ 1 :=
  let main_v0 : FVec F S8x8192x3 .f32 := Host.absf main_arg0
  let main_cst : FVec F S_ .f32 := constant S_ .f32 0x7F800000#32
  let main_v1 : FVec F S8x8192x3 .f32 := broadcastInDim S8x8192x3 ![] bcast_S_S8x8192x3 main_cst
  let main_v2 : IVec S8x8192x3 1 := cmpf .olt main_v0 main_v1
  let main_c : IVec S_ 1 := constantI S_ 1 1#1
  let main_v3 : IVec S_ 1 := (fun x v => Host.reduce IntOp.andi x v reducesTo_S8x8192x3_S_d0_1_2 h_S_) main_v2 main_c
  let main_v4 : FVec F S8x512x3 .f32 := Host.absf main_arg1
  let main_cst_0 : FVec F S_ .f32 := constant S_ .f32 0x7F800000#32
  let main_v5 : FVec F S8x512x3 .f32 := broadcastInDim S8x512x3 ![] bcast_S_S8x512x3 main_cst_0
  let main_v6 : IVec S8x512x3 1 := cmpf .olt main_v4 main_v5
  let main_c_1 : IVec S_ 1 := constantI S_ 1 1#1
  let main_v7 : IVec S_ 1 := (fun x v => Host.reduce IntOp.andi x v reducesTo_S8x512x3_S_d0_1_2 h_S_) main_v6 main_c_1
  let main_v8 : IVec S_ 1 := andi main_v3 main_v7
  main_v8
-- ==== Pre_separated.lean ====
abbrev S8x8192x3 : Shape := ⟨3, ![8, 8192, 3]⟩
abbrev S8x512x3 : Shape := ⟨3, ![8, 512, 3]⟩
abbrev S8x512x64x128 : Shape := ⟨4, ![8, 512, 64, 128]⟩
abbrev S8x512x1 : Shape := ⟨3, ![8, 512, 1]⟩
abbrev S8x512x8192 : Shape := ⟨3, ![8, 512, 8192]⟩
abbrev S_ : Shape := ⟨0, ![]⟩
abbrev S8x512 : Shape := ⟨2, ![8, 512]⟩

class Facts : Prop where
  shapeCasts_S8x512x64x128_S8x512x8192 : S8x512x64x128.ShapeCasts S8x512x8192
  bcast_S8x512x1_S8x512x8192_0_1_2 : S8x512x1.BroadcastsInDim S8x512x8192 (![0, 1, 2] : Fin 3 → Fin S8x512x8192.rank)
  natLt_1_32 : 1 < 32
  reducesTo_S8x512x8192_S8x512_d2 : S8x512x8192.ReducesTo [2] S8x512
  h_S_ : 0 < S_.numel
  bcast_S_S8x512 : S_.BroadcastsInDim S8x512 (![] : Fin 0 → Fin S8x512.rank)
  reducesTo_S8x512_S_d0_1 : S8x512.ReducesTo [0, 1] S_

variable [Facts]

def fn {F : FTy → Type} [FloatOps F] (main_arg0 : FVec F S8x8192x3 .f32) (main_arg1 : FVec F S8x512x3 .f32) (main_arg2 : FVec F S8x512x64x128 .f32) (main_arg3 : FVec F S8x512x1 .f32) : IVec S_ 1 :=
  let main_v0 : FVec F S8x512x8192 .f32 := shapeCast S8x512x8192 main_arg2 shapeCasts_S8x512x64x128_S8x512x8192
  let main_v1 : FVec F S8x512x8192 .f32 := broadcastInDim S8x512x8192 ![0, 1, 2] bcast_S8x512x1_S8x512x8192_0_1_2 main_arg3
  let main_v2 : IVec S8x512x8192 1 := cmpf .ole main_v0 main_v1
  let main_v3 : IVec S8x512x8192 32 := (extui 32 · natLt_1_32) main_v2
  let main_c : IVec S_ 32 := constantI S_ 32 0#32
  let main_v4 : IVec S8x512 32 := (fun x v => Host.reduce IntOp.addi x v reducesTo_S8x512x8192_S8x512_d2 h_S_) main_v3 main_c
  let main_c_0 : IVec S_ 32 := constantI S_ 32 32#32
  let main_v5 : IVec S8x512 32 := broadcastInDim S8x512 ![] bcast_S_S8x512 main_c_0
  let main_v6 : IVec S8x512 1 := cmpi .eq main_v4 main_v5
  let main_c_1 : IVec S_ 1 := constantI S_ 1 1#1
  let main_v7 : IVec S_ 1 := (fun x v => Host.reduce IntOp.andi x v reducesTo_S8x512_S_d0_1 h_S_) main_v6 main_c_1
  main_v7
-- ==== Kernel.lean ====
abbrev S8x8192x3 : Shape := ⟨3, ![8, 8192, 3]⟩
abbrev S8x512x3 : Shape := ⟨3, ![8, 512, 3]⟩
abbrev S8x512x64x128 : Shape := ⟨4, ![8, 512, 64, 128]⟩
abbrev S8x512x1 : Shape := ⟨3, ![8, 512, 1]⟩
abbrev S8x3x8192 : Shape := ⟨3, ![8, 3, 8192]⟩
abbrev S4096x8192 : Shape := ⟨2, ![4096, 8192]⟩
abbrev S4096 : Shape := ⟨1, ![4096]⟩
abbrev S4096x3 : Shape := ⟨2, ![4096, 3]⟩
abbrev S3x4096 : Shape := ⟨2, ![3, 4096]⟩
abbrev S12288 : Shape := ⟨1, ![12288]⟩
abbrev S33554432 : Shape := ⟨1, ![33554432]⟩
abbrev S196608 : Shape := ⟨1, ![196608]⟩
abbrev S393216 : Shape := ⟨1, ![393216]⟩
abbrev S8192 : Shape := ⟨1, ![8192]⟩
abbrev S128 : Shape := ⟨1, ![128]⟩
abbrev S_ : Shape := ⟨0, ![]⟩
abbrev S16 : Shape := ⟨1, ![16]⟩

abbrev nBuf : Table → Nat
  | .hbm => 13
  | .local .scVector .vmem => 13
  | _ => 0

abbrev bufTy : (tb : Table) → Fin (nBuf tb) → BufTy
  | .hbm, ⟨0, _⟩ => ⟨S8x8192x3, .f32⟩
  | .hbm, ⟨1, _⟩ => ⟨S8x512x3, .f32⟩
  | .hbm, ⟨2, _⟩ => ⟨S8x512x64x128, .f32⟩
  | .hbm, ⟨3, _⟩ => ⟨S8x512x1, .f32⟩
  | .hbm, ⟨4, _⟩ => ⟨S8x3x8192, .f32⟩
  | .hbm, ⟨5, _⟩ => ⟨S4096x8192, .f32⟩
  | .hbm, ⟨6, _⟩ => ⟨S4096, .f32⟩
  | .hbm, ⟨7, _⟩ => ⟨S4096x3, .f32⟩
  | .hbm, ⟨8, _⟩ => ⟨S3x4096, .f32⟩
  | .hbm, ⟨9, _⟩ => ⟨S12288, .f32⟩
  | .hbm, ⟨10, _⟩ => ⟨S33554432, .f32⟩
  | .hbm, ⟨11, _⟩ => ⟨S196608, .f32⟩
  | .hbm, ⟨12, _⟩ => ⟨S393216, .f32⟩
  | .local .scVector .vmem, ⟨0, _⟩ => ⟨S8192, .f32⟩
  | .local .scVector .vmem, ⟨1, _⟩ => ⟨S8192, .f32⟩
  | .local .scVector .vmem, ⟨2, _⟩ => ⟨S128, .f32⟩
  | .local .scVector .vmem, ⟨3, _⟩ => ⟨S128, .f32⟩
  | .local .scVector .vmem, ⟨4, _⟩ => ⟨S128, .f32⟩
  | .local .scVector .vmem, ⟨5, _⟩ => ⟨S128, .f32⟩
  | .local .scVector .vmem, ⟨6, _⟩ => ⟨S8192, .f32⟩
  | .local .scVector .vmem, ⟨7, _⟩ => ⟨S8192, .f32⟩
  | .local .scVector .vmem, ⟨8, _⟩ => ⟨S8192, .f32⟩
  | .local .scVector .vmem, ⟨9, _⟩ => ⟨S4096, .f32⟩
  | .local .scVector .vmem, ⟨10, _⟩ => ⟨S4096, .f32⟩
  | .local .scVector .vmem, ⟨11, _⟩ => ⟨S4096, .f32⟩
  | .local .scVector .vmem, ⟨12, _⟩ => ⟨S8192, .i32⟩
  | _, _ => ⟨S8x8192x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v6_scv : Ref sig .scVector := ⟨.hbm, 10, rfl⟩
abbrev main_v2_scv : Ref sig .scVector := ⟨.hbm, 6, rfl⟩
abbrev main_v5_scv : Ref sig .scVector := ⟨.hbm, 9, rfl⟩
abbrev main_v7_scv : Ref sig .scVector := ⟨.hbm, 11, rfl⟩
abbrev main_v8_scv : Ref sig .scVector := ⟨.hbm, 12, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_off3 (i : grid0.Coords) (c4096_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v20 : BitVec 32 := Scalar.addi c4096_i32 v2
  ![v20.toNat]
def k0_off4 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v1 c4_i32
  let c0_i32_3 : BitVec 32 := 0#32
  let v16 : BitVec 1 := Scalar.cmpi .ne v15 c0_i32_3
  let v17 : BitVec 1 := Scalar.andi v14 v16
  let v3 : BitVec 32 := Scalar.divsi v1 c4_i32
  let c1_i32 : BitVec 32 := 1#32
  let v18 : BitVec 32 := Scalar.subi v3 c1_i32
  let v19 : BitVec 32 := Scalar.select v17 v18 v3
  let c3_i32 : BitVec 32 := 3#32
  let v22 : BitVec 32 := Scalar.muli v19 c3_i32
  let c8192_i32_4 : BitVec 32 := 8192#32
  let v23 : BitVec 32 := Scalar.muli v22 c8192_i32_4
  ![v23.toNat]
def k0_off5 (i : grid0.Coords) (c8192_i32_5 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v1 c4_i32
  let c0_i32_3 : BitVec 32 := 0#32
  let v16 : BitVec 1 := Scalar.cmpi .ne v15 c0_i32_3
  let v17 : BitVec 1 := Scalar.andi v14 v16
  let v3 : BitVec 32 := Scalar.divsi v1 c4_i32
  let c1_i32 : BitVec 32 := 1#32
  let v18 : BitVec 32 := Scalar.subi v3 c1_i32
  let v19 : BitVec 32 := Scalar.select v17 v18 v3
  let c3_i32 : BitVec 32 := 3#32
  let v22 : BitVec 32 := Scalar.muli v19 c3_i32
  let c8192_i32_4 : BitVec 32 := 8192#32
  let v23 : BitVec 32 := Scalar.muli v22 c8192_i32_4
  let v24 : BitVec 32 := Scalar.addi v23 c8192_i32_5
  ![v24.toNat]
def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_6 : BitVec 32 := 0#32
  let v27 : BitVec 32 := Scalar.addi v2 c0_i32_6
  let c8192_i32_7 : BitVec 32 := 8192#32
  let v28 : BitVec 32 := Scalar.muli v27 c8192_i32_7
  v28
def k0_off6 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_6 : BitVec 32 := 0#32
  let v27 : BitVec 32 := Scalar.addi v2 c0_i32_6
  let c8192_i32_7 : BitVec 32 := 8192#32
  let v28 : BitVec 32 := Scalar.muli v27 c8192_i32_7
  let v29 : BitVec 32 := v28
  ![v29.toNat]
@[reducible] def k0_t1_loop : Scf.Loop 32 :=
  let c0_i32_9 : BitVec 32 := 0#32
  let c64_i32 : BitVec 32 := 64#32
  let v32 : BitVec 32 := Scalar.addi c0_i32_9 c64_i32
  let c1_i32_10 : BitVec 32 := 1#32
  ⟨c0_i32_9, v32, c1_i32_10⟩
def k0_mult2 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_13 : BitVec 32 := 2#32
  let c0_i32_9 : BitVec 32 := 0#32
  let c1_i32_10 : BitVec 32 := 1#32
  let arg22 : BitVec 32 := Scf.iv c0_i32_9 c1_i32_10 k0_t1
  let v37 : BitVec 32 := Scalar.muli c2_i32_13 arg22
  let c1_i32_14 : BitVec 32 := 1#32
  let v38 : BitVec 32 := Scalar.addi v37 c1_i32_14
  let v39 : BitVec 32 := Scalar.addi v2 v38
  let c8192_i32_15 : BitVec 32 := 8192#32
  let v40 : BitVec 32 := Scalar.muli v39 c8192_i32_15
  v40
def k0_off7 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_13 : BitVec 32 := 2#32
  let c0_i32_9 : BitVec 32 := 0#32
  let c1_i32_10 : BitVec 32 := 1#32
  let arg22 : BitVec 32 := Scf.iv c0_i32_9 c1_i32_10 k0_t1
  let v37 : BitVec 32 := Scalar.muli c2_i32_13 arg22
  let c1_i32_14 : BitVec 32 := 1#32
  let v38 : BitVec 32 := Scalar.addi v37 c1_i32_14
  let v39 : BitVec 32 := Scalar.addi v2 v38
  let c8192_i32_15 : BitVec 32 := 8192#32
  let v40 : BitVec 32 := Scalar.muli v39 c8192_i32_15
  let v41 : BitVec 32 := v40
  ![v41.toNat]
def k0_mult3 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_16 : BitVec 32 := 0#32
  let v44 : BitVec 32 := Scalar.addi v2 c0_i32_16
  let c8192_i32_17 : BitVec 32 := 8192#32
  let v45 : BitVec 32 := Scalar.muli v44 c8192_i32_17
  v45
def k0_off8 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_16 : BitVec 32 := 0#32
  let v44 : BitVec 32 := Scalar.addi v2 c0_i32_16
  let c8192_i32_17 : BitVec 32 := 8192#32
  let v45 : BitVec 32 := Scalar.muli v44 c8192_i32_17
  let v46 : BitVec 32 := v45
  ![v46.toNat]
@[reducible] def k0_t2_loop : Scf.Loop 32 :=
  let c0_i32_19 : BitVec 32 := 0#32
  let c64_i32_20 : BitVec 32 := 64#32
  let v51 : BitVec 32 := Scalar.addi c0_i32_19 c64_i32_20
  let c1_i32_21 : BitVec 32 := 1#32
  ⟨c0_i32_19, v51, c1_i32_21⟩
def k0_mult4 (k0_t2 : Fin k0_t2_loop.trips) : BitVec 32 :=
  let c0_i32_19 : BitVec 32 := 0#32
  let c1_i32_21 : BitVec 32 := 1#32
  let arg24 : BitVec 32 := Scf.iv c0_i32_19 c1_i32_21 k0_t2
  let c128_i32_43 : BitVec 32 := 128#32
  let v135 : BitVec 32 := Scalar.muli arg24 c128_i32_43
  let c0_i32_44 : BitVec 32 := 0#32
  let v136 : BitVec 32 := Scalar.addi v135 c0_i32_44
  v136
def k0_off9 (k0_t2 : Fin k0_t2_loop.trips) (c0_i32_44 : BitVec 32) : Fin 1 → Nat :=
  let c0_i32_19 : BitVec 32 := 0#32
  let c1_i32_21 : BitVec 32 := 1#32
  let arg24 : BitVec 32 := Scf.iv c0_i32_19 c1_i32_21 k0_t2
  let c128_i32_43 : BitVec 32 := 128#32
  let v135 : BitVec 32 := Scalar.muli arg24 c128_i32_43
  let v136 : BitVec 32 := Scalar.addi v135 c0_i32_44
  let v137 : BitVec 32 := v136
  let v138 : Index := Scalar.indexCast v137
  ![v138.toNat]
def k0_mult5 (k0_t2 : Fin k0_t2_loop.trips) : BitVec 32 :=
  let c0_i32_19 : BitVec 32 := 0#32
  let c1_i32_21 : BitVec 32 := 1#32
  let arg24 : BitVec 32 := Scf.iv c0_i32_19 c1_i32_21 k0_t2
  let c128_i32_43 : BitVec 32 := 128#32
  let v135 : BitVec 32 := Scalar.muli arg24 c128_i32_43
  let c16_i32_45 : BitVec 32 := 16#32
  let v140 : BitVec 32 := Scalar.addi v135 c16_i32_45
  v140
def k0_mult6 (k0_t2 : Fin k0_t2_loop.trips) : BitVec 32 :=
  let c0_i32_19 : BitVec 32 := 0#32
  let c1_i32_21 : BitVec 32 := 1#32
  let arg24 : BitVec 32 := Scf.iv c0_i32_19 c1_i32_21 k0_t2
  let c128_i32_43 : BitVec 32 := 128#32
  let v135 : BitVec 32 := Scalar.muli arg24 c128_i32_43
  let c32_i32_46 : BitVec 32 := 32#32
  let v144 : BitVec 32 := Scalar.addi v135 c32_i32_46
  v144
def k0_mult7 (k0_t2 : Fin k0_t2_loop.trips) : BitVec 32 :=
  let c0_i32_19 : BitVec 32 := 0#32
  let c1_i32_21 : BitVec 32 := 1#32
  let arg24 : BitVec 32 := Scf.iv c0_i32_19 c1_i32_21 k0_t2
  let c128_i32_43 : BitVec 32 := 128#32
  let v135 : BitVec 32 := Scalar.muli arg24 c128_i32_43
  let c48_i32 : BitVec 32 := 48#32
  let v148 : BitVec 32 := Scalar.addi v135 c48_i32
  v148
def k0_mult8 (k0_t2 : Fin k0_t2_loop.trips) : BitVec 32 :=
  let c0_i32_19 : BitVec 32 := 0#32
  let c1_i32_21 : BitVec 32 := 1#32
  let arg24 : BitVec 32 := Scf.iv c0_i32_19 c1_i32_21 k0_t2
  let c128_i32_43 : BitVec 32 := 128#32
  let v135 : BitVec 32 := Scalar.muli arg24 c128_i32_43
  let c64_i32_47 : BitVec 32 := 64#32
  let v152 : BitVec 32 := Scalar.addi v135 c64_i32_47
  v152
def k0_mult9 (k0_t2 : Fin k0_t2_loop.trips) : BitVec 32 :=
  let c0_i32_19 : BitVec 32 := 0#32
  let c1_i32_21 : BitVec 32 := 1#32
  let arg24 : BitVec 32 := Scf.iv c0_i32_19 c1_i32_21 k0_t2
  let c128_i32_43 : BitVec 32 := 128#32
  let v135 : BitVec 32 := Scalar.muli arg24 c128_i32_43
  let c80_i32 : BitVec 32 := 80#32
  let v156 : BitVec 32 := Scalar.addi v135 c80_i32
  v156
def k0_mult10 (k0_t2 : Fin k0_t2_loop.trips) : BitVec 32 :=
  let c0_i32_19 : BitVec 32 := 0#32
  let c1_i32_21 : BitVec 32 := 1#32
  let arg24 : BitVec 32 := Scf.iv c0_i32_19 c1_i32_21 k0_t2
  let c128_i32_43 : BitVec 32 := 128#32
  let v135 : BitVec 32 := Scalar.muli arg24 c128_i32_43
  let c96_i32 : BitVec 32 := 96#32
  let v160 : BitVec 32 := Scalar.addi v135 c96_i32
  v160
def k0_mult11 (k0_t2 : Fin k0_t2_loop.trips) : BitVec 32 :=
  let c0_i32_19 : BitVec 32 := 0#32
  let c1_i32_21 : BitVec 32 := 1#32
  let arg24 : BitVec 32 := Scf.iv c0_i32_19 c1_i32_21 k0_t2
  let c128_i32_43 : BitVec 32 := 128#32
  let v135 : BitVec 32 := Scalar.muli arg24 c128_i32_43
  let c112_i32 : BitVec 32 := 112#32
  let v164 : BitVec 32 := Scalar.addi v135 c112_i32
  v164

def k0_chk2 (v213 : IVec S16 32) : Prop :=
  (∀ a x, ((![v213] : Fin 1 → IVec S16 32) a x).toNat < S8192.size a)
theorem k0_idx2_inb : ∀ (v213 : IVec S16 32) (k0_hw2 : k0_chk2 v213), ∀ a x, ((![v213] : Fin 1 → IVec S16 32) a x).toNat < S8192.size a := fun v213 k0_hw2 => k0_hw2

def k0_chk3 (v223 : IVec S16 32) : Prop :=
  (∀ a x, ((![v223] : Fin 1 → IVec S16 32) a x).toNat < S8192.size a)
theorem k0_idx3_inb : ∀ (v223 : IVec S16 32) (k0_hw3 : k0_chk3 v223), ∀ a x, ((![v223] : Fin 1 → IVec S16 32) a x).toNat < S8192.size a := fun v223 k0_hw3 => k0_hw3

def k0_chk4 (v233 : IVec S16 32) : Prop :=
  (∀ a x, ((![v233] : Fin 1 → IVec S16 32) a x).toNat < S8192.size a)
theorem k0_idx4_inb : ∀ (v233 : IVec S16 32) (k0_hw4 : k0_chk4 v233), ∀ a x, ((![v233] : Fin 1 → IVec S16 32) a x).toNat < S8192.size a := fun v233 k0_hw4 => k0_hw4

def k0_chk5 (v243 : IVec S16 32) : Prop :=
  (∀ a x, ((![v243] : Fin 1 → IVec S16 32) a x).toNat < S8192.size a)
theorem k0_idx5_inb : ∀ (v243 : IVec S16 32) (k0_hw5 : k0_chk5 v243), ∀ a x, ((![v243] : Fin 1 → IVec S16 32) a x).toNat < S8192.size a := fun v243 k0_hw5 => k0_hw5

def k0_chk6 (v253 : IVec S16 32) : Prop :=
  (∀ a x, ((![v253] : Fin 1 → IVec S16 32) a x).toNat < S8192.size a)
theorem k0_idx6_inb : ∀ (v253 : IVec S16 32) (k0_hw6 : k0_chk6 v253), ∀ a x, ((![v253] : Fin 1 → IVec S16 32) a x).toNat < S8192.size a := fun v253 k0_hw6 => k0_hw6

def k0_chk7 (v263 : IVec S16 32) : Prop :=
  (∀ a x, ((![v263] : Fin 1 → IVec S16 32) a x).toNat < S8192.size a)
theorem k0_idx7_inb : ∀ (v263 : IVec S16 32) (k0_hw7 : k0_chk7 v263), ∀ a x, ((![v263] : Fin 1 → IVec S16 32) a x).toNat < S8192.size a := fun v263 k0_hw7 => k0_hw7

def k0_chk8 (v273 : IVec S16 32) : Prop :=
  (∀ a x, ((![v273] : Fin 1 → IVec S16 32) a x).toNat < S8192.size a)
theorem k0_idx8_inb : ∀ (v273 : IVec S16 32) (k0_hw8 : k0_chk8 v273), ∀ a x, ((![v273] : Fin 1 → IVec S16 32) a x).toNat < S8192.size a := fun v273 k0_hw8 => k0_hw8

def k0_chk9 (v283 : IVec S16 32) : Prop :=
  (∀ a x, ((![v283] : Fin 1 → IVec S16 32) a x).toNat < S8192.size a)
theorem k0_idx9_inb : ∀ (v283 : IVec S16 32) (k0_hw9 : k0_chk9 v283), ∀ a x, ((![v283] : Fin 1 → IVec S16 32) a x).toNat < S8192.size a := fun v283 k0_hw9 => k0_hw9

def k0_chk1 (v49 : IVec S16 32) : Prop :=
  (∀ a x, ((![v49] : Fin 1 → IVec S16 32) a x).toNat < S128.size a) ∧
  (∀ a x, ((![v49] : Fin 1 → IVec S16 32) a x).toNat < S128.size a) ∧
  (∀ a x, ((![v49] : Fin 1 → IVec S16 32) a x).toNat < S128.size a) ∧
  (∀ a x, ((![v49] : Fin 1 → IVec S16 32) a x).toNat < S128.size a)
theorem k0_idx1_inb : ∀ (v49 : IVec S16 32) (k0_hw1 : k0_chk1 v49), ∀ a x, ((![v49] : Fin 1 → IVec S16 32) a x).toNat < S128.size a := fun v49 k0_hw1 => k0_hw1.1
theorem k0_idx10_inb : ∀ (v49 : IVec S16 32) (k0_hw1 : k0_chk1 v49), ∀ a x, ((![v49] : Fin 1 → IVec S16 32) a x).toNat < S128.size a := fun v49 k0_hw1 => k0_hw1.2.1
theorem k0_idx11_inb : ∀ (v49 : IVec S16 32) (k0_hw1 : k0_chk1 v49), ∀ a x, ((![v49] : Fin 1 → IVec S16 32) a x).toNat < S128.size a := fun v49 k0_hw1 => k0_hw1.2.2.1
theorem k0_idx12_inb : ∀ (v49 : IVec S16 32) (k0_hw1 : k0_chk1 v49), ∀ a x, ((![v49] : Fin 1 → IVec S16 32) a x).toNat < S128.size a := fun v49 k0_hw1 => k0_hw1.2.2.2
def k0_mult12 (k0_t1 : Fin k0_t1_loop.trips) : BitVec 32 :=
  let c2_i32_13 : BitVec 32 := 2#32
  let c0_i32_9 : BitVec 32 := 0#32
  let c1_i32_10 : BitVec 32 := 1#32
  let arg22 : BitVec 32 := Scf.iv c0_i32_9 c1_i32_10 k0_t1
  let v37 : BitVec 32 := Scalar.muli c2_i32_13 arg22
  let c32_i32 : BitVec 32 := 32#32
  let v58 : BitVec 32 := Scalar.muli v37 c32_i32
  v58
def k0_off10 (k0_t1 : Fin k0_t1_loop.trips) : Fin 1 → Nat :=
  let c2_i32_13 : BitVec 32 := 2#32
  let c0_i32_9 : BitVec 32 := 0#32
  let c1_i32_10 : BitVec 32 := 1#32
  let arg22 : BitVec 32 := Scf.iv c0_i32_9 c1_i32_10 k0_t1
  let v37 : BitVec 32 := Scalar.muli c2_i32_13 arg22
  let c32_i32 : BitVec 32 := 32#32
  let v58 : BitVec 32 := Scalar.muli v37 c32_i32
  let v59 : BitVec 32 := v58
  let v62 : Index := Scalar.indexCast v59
  ![v62.toNat]
def k0_off11 (k0_t1 : Fin k0_t1_loop.trips) : Fin 1 → Nat :=
  let c2_i32_13 : BitVec 32 := 2#32
  let c0_i32_9 : BitVec 32 := 0#32
  let c1_i32_10 : BitVec 32 := 1#32
  let arg22 : BitVec 32 := Scf.iv c0_i32_9 c1_i32_10 k0_t1
  let v37 : BitVec 32 := Scalar.muli c2_i32_13 arg22
  let c32_i32 : BitVec 32 := 32#32
  let v58 : BitVec 32 := Scalar.muli v37 c32_i32
  let v59 : BitVec 32 := v58
  let c16_i32 : BitVec 32 := 16#32
  let v66 : BitVec 32 := Scalar.addi v59 c16_i32
  let v67 : Index := Scalar.indexCast v66
  ![v67.toNat]
def k0_off12 (k0_t1 : Fin k0_t1_loop.trips) : Fin 1 → Nat :=
  let c2_i32_13 : BitVec 32 := 2#32
  let c0_i32_9 : BitVec 32 := 0#32
  let c1_i32_10 : BitVec 32 := 1#32
  let arg22 : BitVec 32 := Scf.iv c0_i32_9 c1_i32_10 k0_t1
  let v37 : BitVec 32 := Scalar.muli c2_i32_13 arg22
  let c32_i32 : BitVec 32 := 32#32
  let v58 : BitVec 32 := Scalar.muli v37 c32_i32
  let v59 : BitVec 32 := v58
  let v71 : Index := Scalar.indexCast v59
  ![v71.toNat]

def k0_chk10 (v53 : IVec S16 32) : Prop :=
  (∀ a x, ((![v53] : Fin 1 → IVec S16 32) a x).toNat < S8192.size a) ∧
  (∀ a x, ((![v53] : Fin 1 → IVec S16 32) a x).toNat < S8192.size a) ∧
  (∀ a x, ((![v53] : Fin 1 → IVec S16 32) a x).toNat < S8192.size a)
theorem k0_idx13_inb : ∀ (v53 : IVec S16 32) (k0_hw10 : k0_chk10 v53), ∀ a x, ((![v53] : Fin 1 → IVec S16 32) a x).toNat < S8192.size a := fun v53 k0_hw10 => k0_hw10.1
theorem k0_idx15_inb : ∀ (v53 : IVec S16 32) (k0_hw10 : k0_chk10 v53), ∀ a x, ((![v53] : Fin 1 → IVec S16 32) a x).toNat < S8192.size a := fun v53 k0_hw10 => k0_hw10.2.1
theorem k0_idx17_inb : ∀ (v53 : IVec S16 32) (k0_hw10 : k0_chk10 v53), ∀ a x, ((![v53] : Fin 1 → IVec S16 32) a x).toNat < S8192.size a := fun v53 k0_hw10 => k0_hw10.2.2

def k0_chk11 (v54 : IVec S16 32) : Prop :=
  (∀ a x, ((![v54] : Fin 1 → IVec S16 32) a x).toNat < S8192.size a) ∧
  (∀ a x, ((![v54] : Fin 1 → IVec S16 32) a x).toNat < S8192.size a) ∧
  (∀ a x, ((![v54] : Fin 1 → IVec S16 32) a x).toNat < S8192.size a)
theorem k0_idx14_inb : ∀ (v54 : IVec S16 32) (k0_hw11 : k0_chk11 v54), ∀ a x, ((![v54] : Fin 1 → IVec S16 32) a x).toNat < S8192.size a := fun v54 k0_hw11 => k0_hw11.1
theorem k0_idx16_inb : ∀ (v54 : IVec S16 32) (k0_hw11 : k0_chk11 v54), ∀ a x, ((![v54] : Fin 1 → IVec S16 32) a x).toNat < S8192.size a := fun v54 k0_hw11 => k0_hw11.2.1
theorem k0_idx18_inb : ∀ (v54 : IVec S16 32) (k0_hw11 : k0_chk11 v54), ∀ a x, ((![v54] : Fin 1 → IVec S16 32) a x).toNat < S8192.size a := fun v54 k0_hw11 => k0_hw11.2.2
def k0_cond1 (k0_t1 : Fin k0_t1_loop.trips) : BitVec 1 :=
  let c2_i32_13 : BitVec 32 := 2#32
  let c0_i32_9 : BitVec 32 := 0#32
  let c1_i32_10 : BitVec 32 := 1#32
  let arg22 : BitVec 32 := Scf.iv c0_i32_9 c1_i32_10 k0_t1
  let v37 : BitVec 32 := Scalar.muli c2_i32_13 arg22
  let c2_i32_25 : BitVec 32 := 2#32
  let v87 : BitVec 32 := Scalar.addi v37 c2_i32_25
  let c128_i32_26 : BitVec 32 := 128#32
  let v88 : BitVec 1 := Scalar.cmpi .slt v87 c128_i32_26
  let v89 : BitVec 32 := Scalar.extui v88
  let c0_i32_27 : BitVec 32 := 0#32
  let v90 : BitVec 1 := Scalar.cmpi .ne v89 c0_i32_27
  v90

def k0_mult13 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_13 : BitVec 32 := 2#32
  let c0_i32_9 : BitVec 32 := 0#32
  let c1_i32_10 : BitVec 32 := 1#32
  let arg22 : BitVec 32 := Scf.iv c0_i32_9 c1_i32_10 k0_t1
  let v37 : BitVec 32 := Scalar.muli c2_i32_13 arg22
  let c2_i32_43 : BitVec 32 := 2#32
  let v135 : BitVec 32 := Scalar.addi v37 c2_i32_43
  let v136 : BitVec 32 := Scalar.addi v2 v135
  let c8192_i32_44 : BitVec 32 := 8192#32
  let v137 : BitVec 32 := Scalar.muli v136 c8192_i32_44
  v137
def k0_off13 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_13 : BitVec 32 := 2#32
  let c0_i32_9 : BitVec 32 := 0#32
  let c1_i32_10 : BitVec 32 := 1#32
  let arg22 : BitVec 32 := Scf.iv c0_i32_9 c1_i32_10 k0_t1
  let v37 : BitVec 32 := Scalar.muli c2_i32_13 arg22
  let c2_i32_43 : BitVec 32 := 2#32
  let v135 : BitVec 32 := Scalar.addi v37 c2_i32_43
  let v136 : BitVec 32 := Scalar.addi v2 v135
  let c8192_i32_44 : BitVec 32 := 8192#32
  let v137 : BitVec 32 := Scalar.muli v136 c8192_i32_44
  let v138 : BitVec 32 := v137
  ![v138.toNat]
def k0_mult14 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_28 : BitVec 32 := 0#32
  let v91 : BitVec 32 := Scalar.addi v2 c0_i32_28
  let c8192_i32_29 : BitVec 32 := 8192#32
  let v92 : BitVec 32 := Scalar.muli v91 c8192_i32_29
  v92
def k0_off14 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_28 : BitVec 32 := 0#32
  let v91 : BitVec 32 := Scalar.addi v2 c0_i32_28
  let c8192_i32_29 : BitVec 32 := 8192#32
  let v92 : BitVec 32 := Scalar.muli v91 c8192_i32_29
  let v93 : BitVec 32 := v92
  ![v93.toNat]
@[reducible] def k0_t3_loop : Scf.Loop 32 :=
  let c0_i32_32 : BitVec 32 := 0#32
  let c64_i32_33 : BitVec 32 := 64#32
  let v99 : BitVec 32 := Scalar.addi c0_i32_32 c64_i32_33
  let c1_i32_34 : BitVec 32 := 1#32
  ⟨c0_i32_32, v99, c1_i32_34⟩
def k0_mult15 (k0_t3 : Fin k0_t3_loop.trips) : BitVec 32 :=
  let c0_i32_32 : BitVec 32 := 0#32
  let c1_i32_34 : BitVec 32 := 1#32
  let arg24 : BitVec 32 := Scf.iv c0_i32_32 c1_i32_34 k0_t3
  let c128_i32_43 : BitVec 32 := 128#32
  let v135 : BitVec 32 := Scalar.muli arg24 c128_i32_43
  let c0_i32_44 : BitVec 32 := 0#32
  let v136 : BitVec 32 := Scalar.addi v135 c0_i32_44
  v136
def k0_off15 (k0_t3 : Fin k0_t3_loop.trips) (c0_i32_44 : BitVec 32) : Fin 1 → Nat :=
  let c0_i32_32 : BitVec 32 := 0#32
  let c1_i32_34 : BitVec 32 := 1#32
  let arg24 : BitVec 32 := Scf.iv c0_i32_32 c1_i32_34 k0_t3
  let c128_i32_43 : BitVec 32 := 128#32
  let v135 : BitVec 32 := Scalar.muli arg24 c128_i32_43
  let v136 : BitVec 32 := Scalar.addi v135 c0_i32_44
  let v137 : BitVec 32 := v136
  let v138 : Index := Scalar.indexCast v137
  ![v138.toNat]
def k0_mult16 (k0_t3 : Fin k0_t3_loop.trips) : BitVec 32 :=
  let c0_i32_32 : BitVec 32 := 0#32
  let c1_i32_34 : BitVec 32 := 1#32
  let arg24 : BitVec 32 := Scf.iv c0_i32_32 c1_i32_34 k0_t3
  let c128_i32_43 : BitVec 32 := 128#32
  let v135 : BitVec 32 := Scalar.muli arg24 c128_i32_43
  let c16_i32_45 : BitVec 32 := 16#32
  let v140 : BitVec 32 := Scalar.addi v135 c16_i32_45
  v140
def k0_mult17 (k0_t3 : Fin k0_t3_loop.trips) : BitVec 32 :=
  let c0_i32_32 : BitVec 32 := 0#32
  let c1_i32_34 : BitVec 32 := 1#32
  let arg24 : BitVec 32 := Scf.iv c0_i32_32 c1_i32_34 k0_t3
  let c128_i32_43 : BitVec 32 := 128#32
  let v135 : BitVec 32 := Scalar.muli arg24 c128_i32_43
  let c32_i32_46 : BitVec 32 := 32#32
  let v144 : BitVec 32 := Scalar.addi v135 c32_i32_46
  v144
def k0_mult18 (k0_t3 : Fin k0_t3_loop.trips) : BitVec 32 :=
  let c0_i32_32 : BitVec 32 := 0#32
  let c1_i32_34 : BitVec 32 := 1#32
  let arg24 : BitVec 32 := Scf.iv c0_i32_32 c1_i32_34 k0_t3
  let c128_i32_43 : BitVec 32 := 128#32
  let v135 : BitVec 32 := Scalar.muli arg24 c128_i32_43
  let c48_i32 : BitVec 32 := 48#32
  let v148 : BitVec 32 := Scalar.addi v135 c48_i32
  v148
def k0_mult19 (k0_t3 : Fin k0_t3_loop.trips) : BitVec 32 :=
  let c0_i32_32 : BitVec 32 := 0#32
  let c1_i32_34 : BitVec 32 := 1#32
  let arg24 : BitVec 32 := Scf.iv c0_i32_32 c1_i32_34 k0_t3
  let c128_i32_43 : BitVec 32 := 128#32
  let v135 : BitVec 32 := Scalar.muli arg24 c128_i32_43
  let c64_i32_47 : BitVec 32 := 64#32
  let v152 : BitVec 32 := Scalar.addi v135 c64_i32_47
  v152
def k0_mult20 (k0_t3 : Fin k0_t3_loop.trips) : BitVec 32 :=
  let c0_i32_32 : BitVec 32 := 0#32
  let c1_i32_34 : BitVec 32 := 1#32
  let arg24 : BitVec 32 := Scf.iv c0_i32_32 c1_i32_34 k0_t3
  let c128_i32_43 : BitVec 32 := 128#32
  let v135 : BitVec 32 := Scalar.muli arg24 c128_i32_43
  let c80_i32 : BitVec 32 := 80#32
  let v156 : BitVec 32 := Scalar.addi v135 c80_i32
  v156
def k0_mult21 (k0_t3 : Fin k0_t3_loop.trips) : BitVec 32 :=
  let c0_i32_32 : BitVec 32 := 0#32
  let c1_i32_34 : BitVec 32 := 1#32
  let arg24 : BitVec 32 := Scf.iv c0_i32_32 c1_i32_34 k0_t3
  let c128_i32_43 : BitVec 32 := 128#32
  let v135 : BitVec 32 := Scalar.muli arg24 c128_i32_43
  let c96_i32 : BitVec 32 := 96#32
  let v160 : BitVec 32 := Scalar.addi v135 c96_i32
  v160
def k0_mult22 (k0_t3 : Fin k0_t3_loop.trips) : BitVec 32 :=
  let c0_i32_32 : BitVec 32 := 0#32
  let c1_i32_34 : BitVec 32 := 1#32
  let arg24 : BitVec 32 := Scf.iv c0_i32_32 c1_i32_34 k0_t3
  let c128_i32_43 : BitVec 32 := 128#32
  let v135 : BitVec 32 := Scalar.muli arg24 c128_i32_43
  let c112_i32 : BitVec 32 := 112#32
  let v164 : BitVec 32 := Scalar.addi v135 c112_i32
  v164

def k0_chk13 (v213 : IVec S16 32) : Prop :=
  (∀ a x, ((![v213] : Fin 1 → IVec S16 32) a x).toNat < S8192.size a)
theorem k0_idx20_inb : ∀ (v213 : IVec S16 32) (k0_hw13 : k0_chk13 v213), ∀ a x, ((![v213] : Fin 1 → IVec S16 32) a x).toNat < S8192.size a := fun v213 k0_hw13 => k0_hw13

def k0_chk14 (v223 : IVec S16 32) : Prop :=
  (∀ a x, ((![v223] : Fin 1 → IVec S16 32) a x).toNat < S8192.size a)
theorem k0_idx21_inb : ∀ (v223 : IVec S16 32) (k0_hw14 : k0_chk14 v223), ∀ a x, ((![v223] : Fin 1 → IVec S16 32) a x).toNat < S8192.size a := fun v223 k0_hw14 => k0_hw14

def k0_chk15 (v233 : IVec S16 32) : Prop :=
  (∀ a x, ((![v233] : Fin 1 → IVec S16 32) a x).toNat < S8192.size a)
theorem k0_idx22_inb : ∀ (v233 : IVec S16 32) (k0_hw15 : k0_chk15 v233), ∀ a x, ((![v233] : Fin 1 → IVec S16 32) a x).toNat < S8192.size a := fun v233 k0_hw15 => k0_hw15

def k0_chk16 (v243 : IVec S16 32) : Prop :=
  (∀ a x, ((![v243] : Fin 1 → IVec S16 32) a x).toNat < S8192.size a)
theorem k0_idx23_inb : ∀ (v243 : IVec S16 32) (k0_hw16 : k0_chk16 v243), ∀ a x, ((![v243] : Fin 1 → IVec S16 32) a x).toNat < S8192.size a := fun v243 k0_hw16 => k0_hw16

def k0_chk17 (v253 : IVec S16 32) : Prop :=
  (∀ a x, ((![v253] : Fin 1 → IVec S16 32) a x).toNat < S8192.size a)
theorem k0_idx24_inb : ∀ (v253 : IVec S16 32) (k0_hw17 : k0_chk17 v253), ∀ a x, ((![v253] : Fin 1 → IVec S16 32) a x).toNat < S8192.size a := fun v253 k0_hw17 => k0_hw17

def k0_chk18 (v263 : IVec S16 32) : Prop :=
  (∀ a x, ((![v263] : Fin 1 → IVec S16 32) a x).toNat < S8192.size a)
theorem k0_idx25_inb : ∀ (v263 : IVec S16 32) (k0_hw18 : k0_chk18 v263), ∀ a x, ((![v263] : Fin 1 → IVec S16 32) a x).toNat < S8192.size a := fun v263 k0_hw18 => k0_hw18

def k0_chk19 (v273 : IVec S16 32) : Prop :=
  (∀ a x, ((![v273] : Fin 1 → IVec S16 32) a x).toNat < S8192.size a)
theorem k0_idx26_inb : ∀ (v273 : IVec S16 32) (k0_hw19 : k0_chk19 v273), ∀ a x, ((![v273] : Fin 1 → IVec S16 32) a x).toNat < S8192.size a := fun v273 k0_hw19 => k0_hw19

def k0_chk20 (v283 : IVec S16 32) : Prop :=
  (∀ a x, ((![v283] : Fin 1 → IVec S16 32) a x).toNat < S8192.size a)
theorem k0_idx27_inb : ∀ (v283 : IVec S16 32) (k0_hw20 : k0_chk20 v283), ∀ a x, ((![v283] : Fin 1 → IVec S16 32) a x).toNat < S8192.size a := fun v283 k0_hw20 => k0_hw20

def k0_chk12 (v97 : IVec S16 32) : Prop :=
  (∀ a x, ((![v97] : Fin 1 → IVec S16 32) a x).toNat < S128.size a) ∧
  (∀ a x, ((![v97] : Fin 1 → IVec S16 32) a x).toNat < S128.size a) ∧
  (∀ a x, ((![v97] : Fin 1 → IVec S16 32) a x).toNat < S128.size a) ∧
  (∀ a x, ((![v97] : Fin 1 → IVec S16 32) a x).toNat < S128.size a)
theorem k0_idx19_inb : ∀ (v97 : IVec S16 32) (k0_hw12 : k0_chk12 v97), ∀ a x, ((![v97] : Fin 1 → IVec S16 32) a x).toNat < S128.size a := fun v97 k0_hw12 => k0_hw12.1
theorem k0_idx28_inb : ∀ (v97 : IVec S16 32) (k0_hw12 : k0_chk12 v97), ∀ a x, ((![v97] : Fin 1 → IVec S16 32) a x).toNat < S128.size a := fun v97 k0_hw12 => k0_hw12.2.1
theorem k0_idx29_inb : ∀ (v97 : IVec S16 32) (k0_hw12 : k0_chk12 v97), ∀ a x, ((![v97] : Fin 1 → IVec S16 32) a x).toNat < S128.size a := fun v97 k0_hw12 => k0_hw12.2.2.1
theorem k0_idx30_inb : ∀ (v97 : IVec S16 32) (k0_hw12 : k0_chk12 v97), ∀ a x, ((![v97] : Fin 1 → IVec S16 32) a x).toNat < S128.size a := fun v97 k0_hw12 => k0_hw12.2.2.2
def k0_mult23 (k0_t1 : Fin k0_t1_loop.trips) : BitVec 32 :=
  let c2_i32_13 : BitVec 32 := 2#32
  let c0_i32_9 : BitVec 32 := 0#32
  let c1_i32_10 : BitVec 32 := 1#32
  let arg22 : BitVec 32 := Scf.iv c0_i32_9 c1_i32_10 k0_t1
  let v37 : BitVec 32 := Scalar.muli c2_i32_13 arg22
  let c1_i32_30 : BitVec 32 := 1#32
  let v96 : BitVec 32 := Scalar.addi v37 c1_i32_30
  let c32_i32_38 : BitVec 32 := 32#32
  let v106 : BitVec 32 := Scalar.muli v96 c32_i32_38
  v106
def k0_off16 (k0_t1 : Fin k0_t1_loop.trips) : Fin 1 → Nat :=
  let c2_i32_13 : BitVec 32 := 2#32
  let c0_i32_9 : BitVec 32 := 0#32
  let c1_i32_10 : BitVec 32 := 1#32
  let arg22 : BitVec 32 := Scf.iv c0_i32_9 c1_i32_10 k0_t1
  let v37 : BitVec 32 := Scalar.muli c2_i32_13 arg22
  let c1_i32_30 : BitVec 32 := 1#32
  let v96 : BitVec 32 := Scalar.addi v37 c1_i32_30
  let c32_i32_38 : BitVec 32 := 32#32
  let v106 : BitVec 32 := Scalar.muli v96 c32_i32_38
  let v107 : BitVec 32 := v106
  let v110 : Index := Scalar.indexCast v107
  ![v110.toNat]
def k0_off17 (k0_t1 : Fin k0_t1_loop.trips) : Fin 1 → Nat :=
  let c2_i32_13 : BitVec 32 := 2#32
  let c0_i32_9 : BitVec 32 := 0#32
  let c1_i32_10 : BitVec 32 := 1#32
  let arg22 : BitVec 32 := Scf.iv c0_i32_9 c1_i32_10 k0_t1
  let v37 : BitVec 32 := Scalar.muli c2_i32_13 arg22
  let c1_i32_30 : BitVec 32 := 1#32
  let v96 : BitVec 32 := Scalar.addi v37 c1_i32_30
  let c32_i32_38 : BitVec 32 := 32#32
  let v106 : BitVec 32 := Scalar.muli v96 c32_i32_38
  let v107 : BitVec 32 := v106
  let c16_i32_39 : BitVec 32 := 16#32
  let v114 : BitVec 32 := Scalar.addi v107 c16_i32_39
  let v115 : Index := Scalar.indexCast v114
  ![v115.toNat]
def k0_off18 (k0_t1 : Fin k0_t1_loop.trips) : Fin 1 → Nat :=
  let c2_i32_13 : BitVec 32 := 2#32
  let c0_i32_9 : BitVec 32 := 0#32
  let c1_i32_10 : BitVec 32 := 1#32
  let arg22 : BitVec 32 := Scf.iv c0_i32_9 c1_i32_10 k0_t1
  let v37 : BitVec 32 := Scalar.muli c2_i32_13 arg22
  let c1_i32_30 : BitVec 32 := 1#32
  let v96 : BitVec 32 := Scalar.addi v37 c1_i32_30
  let c32_i32_38 : BitVec 32 := 32#32
  let v106 : BitVec 32 := Scalar.muli v96 c32_i32_38
  let v107 : BitVec 32 := v106
  let v119 : Index := Scalar.indexCast v107
  ![v119.toNat]

def k0_chk21 (v101 : IVec S16 32) : Prop :=
  (∀ a x, ((![v101] : Fin 1 → IVec S16 32) a x).toNat < S8192.size a) ∧
  (∀ a x, ((![v101] : Fin 1 → IVec S16 32) a x).toNat < S8192.size a) ∧
  (∀ a x, ((![v101] : Fin 1 → IVec S16 32) a x).toNat < S8192.size a)
theorem k0_idx31_inb : ∀ (v101 : IVec S16 32) (k0_hw21 : k0_chk21 v101), ∀ a x, ((![v101] : Fin 1 → IVec S16 32) a x).toNat < S8192.size a := fun v101 k0_hw21 => k0_hw21.1
theorem k0_idx33_inb : ∀ (v101 : IVec S16 32) (k0_hw21 : k0_chk21 v101), ∀ a x, ((![v101] : Fin 1 → IVec S16 32) a x).toNat < S8192.size a := fun v101 k0_hw21 => k0_hw21.2.1
theorem k0_idx35_inb : ∀ (v101 : IVec S16 32) (k0_hw21 : k0_chk21 v101), ∀ a x, ((![v101] : Fin 1 → IVec S16 32) a x).toNat < S8192.size a := fun v101 k0_hw21 => k0_hw21.2.2

def k0_chk22 (v102 : IVec S16 32) : Prop :=
  (∀ a x, ((![v102] : Fin 1 → IVec S16 32) a x).toNat < S8192.size a) ∧
  (∀ a x, ((![v102] : Fin 1 → IVec S16 32) a x).toNat < S8192.size a) ∧
  (∀ a x, ((![v102] : Fin 1 → IVec S16 32) a x).toNat < S8192.size a)
theorem k0_idx32_inb : ∀ (v102 : IVec S16 32) (k0_hw22 : k0_chk22 v102), ∀ a x, ((![v102] : Fin 1 → IVec S16 32) a x).toNat < S8192.size a := fun v102 k0_hw22 => k0_hw22.1
theorem k0_idx34_inb : ∀ (v102 : IVec S16 32) (k0_hw22 : k0_chk22 v102), ∀ a x, ((![v102] : Fin 1 → IVec S16 32) a x).toNat < S8192.size a := fun v102 k0_hw22 => k0_hw22.2.1
theorem k0_idx36_inb : ∀ (v102 : IVec S16 32) (k0_hw22 : k0_chk22 v102), ∀ a x, ((![v102] : Fin 1 → IVec S16 32) a x).toNat < S8192.size a := fun v102 k0_hw22 => k0_hw22.2.2
def k0_off19 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32_12 : BitVec 32 := 4096#32
  let v34 : BitVec 32 := Scalar.muli v1 c4096_i32_12
  ![v34.toNat]
def k0_off20 (i : grid0.Coords) (c131072_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32_12 : BitVec 32 := 4096#32
  let v34 : BitVec 32 := Scalar.muli v1 c4096_i32_12
  let v35 : BitVec 32 := Scalar.addi c131072_i32 v34
  ![v35.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x8192x3 : Shape := ⟨3, ![8, 8192, 3]⟩
abbrev S8x512x3 : Shape := ⟨3, ![8, 512, 3]⟩
abbrev S8x512x64x128 : Shape := ⟨4, ![8, 512, 64, 128]⟩
abbrev S8x512x1 : Shape := ⟨3, ![8, 512, 1]⟩
abbrev S8x512x8192 : Shape := ⟨3, ![8, 512, 8192]⟩
abbrev S8x512x32 : Shape := ⟨3, ![8, 512, 32]⟩
abbrev S8x16384 : Shape := ⟨2, ![8, 16384]⟩
abbrev S8x16384x1 : Shape := ⟨3, ![8, 16384, 1]⟩
abbrev S_ : Shape := ⟨0, ![]⟩
abbrev S1 : Shape := ⟨1, ![1]⟩
abbrev S1x1x1 : Shape := ⟨3, ![1, 1, 1]⟩
abbrev S8x16384x3 : Shape := ⟨3, ![8, 16384, 3]⟩
abbrev S8x512x32x3 : Shape := ⟨4, ![8, 512, 32, 3]⟩
abbrev S8x512x1x3 : Shape := ⟨4, ![8, 512, 1, 3]⟩
abbrev S131072x3 : Shape := ⟨2, ![131072, 3]⟩
abbrev S3x131072 : Shape := ⟨2, ![3, 131072]⟩
abbrev S393216 : Shape := ⟨1, ![393216]⟩

abbrev nBuf : Space → Nat
  | .hbm => 40
  | .vmem => 0
  | .smem => 0
  | _ => 0

abbrev bufTy : (tb : Table) → Fin (tcTables nBuf tb) → BufTy
  | .hbm, ⟨0, _⟩ => ⟨S8x8192x3, .f32⟩
  | .hbm, ⟨1, _⟩ => ⟨S8x512x3, .f32⟩
  | .hbm, ⟨2, _⟩ => ⟨S8x512x64x128, .f32⟩
  | .hbm, ⟨3, _⟩ => ⟨S8x512x1, .f32⟩
  | .hbm, ⟨4, _⟩ => ⟨S8x512x8192, .f32⟩
  | .hbm, ⟨5, _⟩ => ⟨S8x512x8192, .f32⟩
  | .hbm, ⟨6, _⟩ => ⟨S8x512x32, .f32⟩
  | .hbm, ⟨7, _⟩ => ⟨S8x512x32, .i32⟩
  | .hbm, ⟨8, _⟩ => ⟨S8x512x32, .i32⟩
  | .hbm, ⟨9, _⟩ => ⟨S8x16384, .i32⟩
  | .hbm, ⟨10, _⟩ => ⟨S8x16384x1, .i32⟩
  | .hbm, ⟨11, _⟩ => ⟨S_, .i32⟩
  | .hbm, ⟨12, _⟩ => ⟨S8x16384x1, .i32⟩
  | .hbm, ⟨13, _⟩ => ⟨S8x16384x1, .i1⟩
  | .hbm, ⟨14, _⟩ => ⟨S_, .i32⟩
  | .hbm, ⟨15, _⟩ => ⟨S8x16384x1, .i32⟩
  | .hbm, ⟨16, _⟩ => ⟨S8x16384x1, .i32⟩
  | .hbm, ⟨17, _⟩ => ⟨S8x16384x1, .i32⟩
  | .hbm, ⟨18, _⟩ => ⟨S1, .i32⟩
  | .hbm, ⟨19, _⟩ => ⟨S_, .i32⟩
  | .hbm, ⟨20, _⟩ => ⟨S8x16384x1, .i32⟩
  | .hbm, ⟨21, _⟩ => ⟨S8x16384x1, .i1⟩
  | .hbm, ⟨22, _⟩ => ⟨S1x1x1, .i32⟩
  | .hbm, ⟨23, _⟩ => ⟨S8x16384x1, .i32⟩
  | .hbm, ⟨24, _⟩ => ⟨S8x16384x1, .i1⟩
  | .hbm, ⟨25, _⟩ => ⟨S8x16384x1, .i1⟩
  | .hbm, ⟨26, _⟩ => ⟨S_, .i1⟩
  | .hbm, ⟨27, _⟩ => ⟨S8x16384, .i1⟩
  | .hbm, ⟨28, _⟩ => ⟨S8x16384x3, .f32⟩
  | .hbm, ⟨29, _⟩ => ⟨S8x16384x3, .i1⟩
  | .hbm, ⟨30, _⟩ => ⟨S_, .f32⟩
  | .hbm, ⟨31, _⟩ => ⟨S8x16384x3, .f32⟩
  | .hbm, ⟨32, _⟩ => ⟨S8x16384x3, .f32⟩
  | .hbm, ⟨33, _⟩ => ⟨S8x512x32x3, .f32⟩
  | .hbm, ⟨34, _⟩ => ⟨S8x512x1x3, .f32⟩
  | .hbm, ⟨35, _⟩ => ⟨S8x512x32x3, .f32⟩
  | .hbm, ⟨36, _⟩ => ⟨S8x512x32x3, .f32⟩
  | .hbm, ⟨37, _⟩ => ⟨S131072x3, .f32⟩
  | .hbm, ⟨38, _⟩ => ⟨S3x131072, .f32⟩
  | .hbm, ⟨39, _⟩ => ⟨S393216, .f32⟩
  | _, _ => ⟨S8x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_values : Ref sig .tc := ⟨.hbm, 6, rfl⟩
abbrev main_indices : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call1_c : Ref sig .tc := ⟨.hbm, 11, rfl⟩
abbrev main_call1_v0 : Ref sig .tc := ⟨.hbm, 12, rfl⟩
abbrev main_call1_v1 : Ref sig .tc := ⟨.hbm, 13, rfl⟩
abbrev main_call1_c_0 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_call1_c_1 : Ref sig .tc := ⟨.hbm, 18, rfl⟩
abbrev main_call1_c_2 : Ref sig .tc := ⟨.hbm, 19, rfl⟩
abbrev main_call1_v5 : Ref sig .tc := ⟨.hbm, 20, rfl⟩
abbrev main_call1_v6 : Ref sig .tc := ⟨.hbm, 21, rfl⟩
abbrev main_call1_v7 : Ref sig .tc := ⟨.hbm, 22, rfl⟩
abbrev main_call1_v8 : Ref sig .tc := ⟨.hbm, 23, rfl⟩
abbrev main_call1_v9 : Ref sig .tc := ⟨.hbm, 24, rfl⟩
abbrev main_call1_v10 : Ref sig .tc := ⟨.hbm, 25, rfl⟩
abbrev main_call1_c_3 : Ref sig .tc := ⟨.hbm, 26, rfl⟩
abbrev main_call1_v11 : Ref sig .tc := ⟨.hbm, 27, rfl⟩
abbrev main_call1_v12 : Ref sig .tc := ⟨.hbm, 28, rfl⟩
abbrev main_call1_v13 : Ref sig .tc := ⟨.hbm, 29, rfl⟩
abbrev main_call1_cst : Ref sig .tc := ⟨.hbm, 30, rfl⟩
abbrev main_call1_v14 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩

abbrev nD : Nat := 1
abbrev τ : Topo := Topo.v7x

variable {F : FTy → Type} [FloatOps F]
-- ==== Fps.lean ====
abbrev S8x8192x3 : Shape := ⟨3, ![8, 8192, 3]⟩
abbrev S8 : Shape := ⟨1, ![8]⟩
abbrev S8x3x8192 : Shape := ⟨3, ![8, 3, 8192]⟩
abbrev S8x1 : Shape := ⟨2, ![8, 1]⟩
abbrev S8x512 : Shape := ⟨2, ![8, 512]⟩
abbrev S8x1x8192 : Shape := ⟨3, ![8, 1, 8192]⟩
abbrev S8x8192 : Shape := ⟨2, ![8, 8192]⟩

abbrev nBuf : Space → Nat
  | .hbm => 7
  | .vmem => 5
  | .smem => 0
  | _ => 0

abbrev bufTy : (tb : Table) → Fin (tcTables nBuf tb) → BufTy
  | .hbm, ⟨0, _⟩ => ⟨S8x8192x3, .f32⟩
  | .hbm, ⟨1, _⟩ => ⟨S8, .i32⟩
  | .hbm, ⟨2, _⟩ => ⟨S8x3x8192, .f32⟩
  | .hbm, ⟨3, _⟩ => ⟨S8x1, .i32⟩
  | .hbm, ⟨4, _⟩ => ⟨S8x512, .f32⟩
  | .hbm, ⟨5, _⟩ => ⟨S8x512, .f32⟩
  | .hbm, ⟨6, _⟩ => ⟨S8x512, .f32⟩
  | .local _ .vmem, ⟨0, _⟩ => ⟨S8x3x8192, .f32⟩
  | .local _ .vmem, ⟨1, _⟩ => ⟨S8x1, .i32⟩
  | .local _ .vmem, ⟨2, _⟩ => ⟨S8x512, .f32⟩
  | .local _ .vmem, ⟨3, _⟩ => ⟨S8x512, .f32⟩
  | .local _ .vmem, ⟨4, _⟩ => ⟨S8x512, .f32⟩
  | _, _ => ⟨S8x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c512_i32 : BitVec 32 := 512#32
  let v12 : BitVec 32 := Scalar.addi c0_i32 c512_i32
  let c1_i32 : BitVec 32 := 1#32
  ⟨c0_i32, v12, c1_i32⟩
abbrev stage0_0 : Fin 1 → Memref sig .tc .vmem S8x3x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== FpsReferenceIdeal.lean ====
abbrev S8x8192x3 : Shape := ⟨3, ![8, 8192, 3]⟩
abbrev S8 : Shape := ⟨1, ![8]⟩
abbrev S_ : Shape := ⟨0, ![]⟩
abbrev S8x8192 : Shape := ⟨2, ![8, 8192]⟩
abbrev S8x512 : Shape := ⟨2, ![8, 512]⟩
abbrev S1 : Shape := ⟨1, ![1]⟩
abbrev S8x1x1 : Shape := ⟨3, ![8, 1, 1]⟩
abbrev S1x1x1 : Shape := ⟨3, ![1, 1, 1]⟩
abbrev S8x1 : Shape := ⟨2, ![8, 1]⟩
abbrev S8x1x3 : Shape := ⟨3, ![8, 1, 3]⟩
abbrev S8x512x1 : Shape := ⟨3, ![8, 512, 1]⟩
abbrev S8x512x3 : Shape := ⟨3, ![8, 512, 3]⟩

abbrev nBuf : Space → Nat
  | .hbm => 90
  | .vmem => 0
  | .smem => 0
  | _ => 0

abbrev bufTy : (tb : Table) → Fin (tcTables nBuf tb) → BufTy
  | .hbm, ⟨0, _⟩ => ⟨S8x8192x3, .f32⟩
  | .hbm, ⟨1, _⟩ => ⟨S8, .i32⟩
  | .hbm, ⟨2, _⟩ => ⟨S_, .f32⟩
  | .hbm, ⟨3, _⟩ => ⟨S8x8192, .f32⟩
  | .hbm, ⟨4, _⟩ => ⟨S_, .i32⟩
  | .hbm, ⟨5, _⟩ => ⟨S8x512, .i32⟩
  | .hbm, ⟨6, _⟩ => ⟨S_, .i32⟩
  | .hbm, ⟨7, _⟩ => ⟨S_, .i32⟩
  | .hbm, ⟨8, _⟩ => ⟨S8x8192x3, .f32⟩
  | .hbm, ⟨9, _⟩ => ⟨S_, .i32⟩
  | .hbm, ⟨10, _⟩ => ⟨S_, .i32⟩
  | .hbm, ⟨11, _⟩ => ⟨S8x512, .i32⟩
  | .hbm, ⟨12, _⟩ => ⟨S8x8192, .f32⟩
  | .hbm, ⟨13, _⟩ => ⟨S8, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S1, .i32⟩
  | .hbm, ⟨25, _⟩ => ⟨S8x512, .i32⟩
  | .hbm, ⟨26, _⟩ => ⟨S8x1x1, .i32⟩
  | .hbm, ⟨27, _⟩ => ⟨S_, .i32⟩
  | .hbm, ⟨28, _⟩ => ⟨S8x1x1, .i32⟩
  | .hbm, ⟨29, _⟩ => ⟨S8x1x1, .i1⟩
  | .hbm, ⟨30, _⟩ => ⟨S_, .i32⟩
  | .hbm, ⟨31, _⟩ => ⟨S8x1x1, .i32⟩
  | .hbm, ⟨32, _⟩ => ⟨S8x1x1, .i32⟩
  | .hbm, ⟨33, _⟩ => ⟨S8x1x1, .i32⟩
  | .hbm, ⟨34, _⟩ => ⟨S1, .i32⟩
  | .hbm, ⟨35, _⟩ => ⟨S_, .i32⟩
  | .hbm, ⟨36, _⟩ => ⟨S8x1x1, .i32⟩
  | .hbm, ⟨37, _⟩ => ⟨S8x1x1, .i1⟩
  | .hbm, ⟨38, _⟩ => ⟨S1x1x1, .i32⟩
  | .hbm, ⟨39, _⟩ => ⟨S8x1x1, .i32⟩
  | .hbm, ⟨40, _⟩ => ⟨S8x1x1, .i1⟩
  | .hbm, ⟨41, _⟩ => ⟨S8x1x1, .i1⟩
  | .hbm, ⟨42, _⟩ => ⟨S_, .i1⟩
  | .hbm, ⟨43, _⟩ => ⟨S8x1, .i1⟩
  | .hbm, ⟨44, _⟩ => ⟨S8x1x3, .f32⟩
  | .hbm, ⟨45, _⟩ => ⟨S8x1x3, .i1⟩
  | .hbm, ⟨46, _⟩ => ⟨S_, .f32⟩
  | .hbm, ⟨47, _⟩ => ⟨S8x1x3, .f32⟩
  | .hbm, ⟨48, _⟩ => ⟨S8x1x3, .f32⟩
  | .hbm, ⟨49, _⟩ => ⟨S8x8192x3, .f32⟩
  | .hbm, ⟨50, _⟩ => ⟨S8x8192x3, .f32⟩
  | .hbm, ⟨51, _⟩ => ⟨S8x8192x3, .f32⟩
  | .hbm, ⟨52, _⟩ => ⟨S_, .f32⟩
  | .hbm, ⟨53, _⟩ => ⟨S8x8192, .f32⟩
  | .hbm, ⟨54, _⟩ => ⟨S8x8192, .i1⟩
  | .hbm, ⟨55, _⟩ => ⟨S8x8192, .f32⟩
  | .hbm, ⟨56, _⟩ => ⟨S8x1, .f32⟩
  | .hbm, ⟨57, _⟩ => ⟨S8x1, .i32⟩
  | .hbm, ⟨58, _⟩ => ⟨S8, .i32⟩
  | .hbm, ⟨59, _⟩ => ⟨S_, .i32⟩
  | .hbm, ⟨60, _⟩ => ⟨S_, .i32⟩
  | .hbm, ⟨61, _⟩ => ⟨S8x512x1, .i32⟩
  | .hbm, ⟨62, _⟩ => ⟨S_, .i32⟩
  | .hbm, ⟨63, _⟩ => ⟨S8x512x1, .i32⟩
  | .hbm, ⟨64, _⟩ => ⟨S8x512x1, .i1⟩
  | .hbm, ⟨65, _⟩ => ⟨S_, .i32⟩
  | .hbm, ⟨66, _⟩ => ⟨S8x512x1, .i32⟩
  | .hbm, ⟨67, _⟩ => ⟨S8x512x1, .i32⟩
  | .hbm, ⟨68, _⟩ => ⟨S8x512x1, .i32⟩
  | .hbm, ⟨69, _⟩ => ⟨S1, .i32⟩
  | .hbm, ⟨70, _⟩ => ⟨S_, .i32⟩
  | .hbm, ⟨71, _⟩ => ⟨S8x512x1, .i32⟩
  | .hbm, ⟨72, _⟩ => ⟨S8x512x1, .i1⟩
  | .hbm, ⟨73, _⟩ => ⟨S1x1x1, .i32⟩
  | .hbm, ⟨74, _⟩ => ⟨S8x512x1, .i32⟩
  | .hbm, ⟨75, _⟩ => ⟨S8x512x1, .i1⟩
  | .hbm, ⟨76, _⟩ => ⟨S8x512x1, .i1⟩
  | .hbm, ⟨77, _⟩ => ⟨S_, .i1⟩
  | .hbm, ⟨78, _⟩ => ⟨S8x512, .i1⟩
  | .hbm, ⟨79, _⟩ => ⟨S8x512x3, .f32⟩
  | .hbm, ⟨80, _⟩ => ⟨S8x512x3, .i1⟩
  | .hbm, ⟨81, _⟩ => ⟨S_, .f32⟩
  | .hbm, ⟨82, _⟩ => ⟨S8x512x3, .f32⟩
  | .hbm, ⟨83, _⟩ => ⟨S8x512x3, .f32⟩
  | .hbm, ⟨84, _⟩ => ⟨S8x512x1, .f32⟩
  | .hbm, ⟨85, _⟩ => ⟨S8x512, .f32⟩
  | .hbm, ⟨86, _⟩ => ⟨S8x512x1, .f32⟩
  | .hbm, ⟨87, _⟩ => ⟨S8x512, .f32⟩
  | .hbm, ⟨88, _⟩ => ⟨S8x512x1, .f32⟩
  | .hbm, ⟨89, _⟩ => ⟨S8x512, .f32⟩
  | _, _ => ⟨S8x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_cst : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_c_1 : Ref sig .tc := ⟨.hbm, 6, rfl⟩
abbrev main_c_2 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v2_5 : Ref sig .tc := ⟨.hbm, 13, rfl⟩
abbrev main_while0c_c_8 : Ref sig .tc := ⟨.hbm, 14, rfl⟩
abbrev main_while0c_v11 : Ref sig .tc := ⟨.hbm, 15, rfl⟩
abbrev main_while0b_c_8 : Ref sig .tc := ⟨.hbm, 16, rfl⟩
abbrev main_while0b_v11 : Ref sig .tc := ⟨.hbm, 17, rfl⟩
abbrev main_while0b_c_9 : Ref sig .tc := ⟨.hbm, 18, rfl⟩
abbrev main_while0b_v12 : Ref sig .tc := ⟨.hbm, 19, rfl⟩
abbrev main_while0b_c_10 : Ref sig .tc := ⟨.hbm, 20, rfl⟩
abbrev main_while0b_v13 : Ref sig .tc := ⟨.hbm, 21, rfl⟩
abbrev main_while0b_v14 : Ref sig .tc := ⟨.hbm, 22, rfl⟩
abbrev main_while0b_v15 : Ref sig .tc := ⟨.hbm, 23, rfl⟩
abbrev main_while0b_v16 : Ref sig .tc := ⟨.hbm, 24, rfl⟩
abbrev main_while0b_v17 : Ref sig .tc := ⟨.hbm, 25, rfl⟩
abbrev main_while0b_v18 : Ref sig .tc := ⟨.hbm, 26, rfl⟩
abbrev main_while0b_call0_c : Ref sig .tc := ⟨.hbm, 27, rfl⟩
abbrev main_while0b_call0_v0 : Ref sig .tc := ⟨.hbm, 28, rfl⟩
abbrev main_while0b_call0_v1 : Ref sig .tc := ⟨.hbm, 29, rfl⟩
abbrev main_while0b_call0_c_0 : Ref sig .tc := ⟨.hbm, 30, rfl⟩
abbrev main_while0b_call0_v2 : Ref sig .tc := ⟨.hbm, 31, rfl⟩
abbrev main_while0b_call0_v3 : Ref sig .tc := ⟨.hbm, 32, rfl⟩
abbrev main_while0b_call0_v4 : Ref sig .tc := ⟨.hbm, 33, rfl⟩
abbrev main_while0b_call0_c_1 : Ref sig .tc := ⟨.hbm, 34, rfl⟩
abbrev main_while0b_call0_c_2 : Ref sig .tc := ⟨.hbm, 35, rfl⟩
abbrev main_while0b_call0_v5 : Ref sig .tc := ⟨.hbm, 36, rfl⟩
abbrev main_while0b_call0_v6 : Ref sig .tc := ⟨.hbm, 37, rfl⟩
abbrev main_while0b_call0_v7 : Ref sig .tc := ⟨.hbm, 38, rfl⟩
abbrev main_while0b_call0_v8 : Ref sig .tc := ⟨.hbm, 39, rfl⟩
abbrev main_while0b_call0_v9 : Ref sig .tc := ⟨.hbm, 40, rfl⟩
abbrev main_while0b_call0_v10 : Ref sig .tc := ⟨.hbm, 41, rfl⟩
abbrev main_while0b_call0_c_3 : Ref sig .tc := ⟨.hbm, 42, rfl⟩
abbrev main_while0b_call0_v11 : Ref sig .tc := ⟨.hbm, 43, rfl⟩
abbrev main_while0b_call0_v12 : Ref sig .tc := ⟨.hbm, 44, rfl⟩
abbrev main_while0b_call0_v13 : Ref sig .tc := ⟨.hbm, 45, rfl⟩
abbrev main_while0b_call0_cst : Ref sig .tc := ⟨.hbm, 46, rfl⟩
abbrev main_while0b_call0_v14 : Ref sig .tc := ⟨.hbm, 47, rfl⟩
abbrev main_while0b_v19 : Ref sig .tc := ⟨.hbm, 48, rfl⟩
abbrev main_while0b_v20 : Ref sig .tc := ⟨.hbm, 49, rfl⟩
abbrev main_while0b_v21 : Ref sig .tc := ⟨.hbm, 50, rfl⟩
abbrev main_while0b_v22 : Ref sig .tc := ⟨.hbm, 51, rfl⟩
abbrev main_while0b_cst_11 : Ref sig .tc := ⟨.hbm, 52, rfl⟩
abbrev main_while0b_v23 : Ref sig .tc := ⟨.hbm, 53, rfl⟩
abbrev main_while0b_v24 : Ref sig .tc := ⟨.hbm, 54, rfl⟩
abbrev main_while0b_v25 : Ref sig .tc := ⟨.hbm, 55, rfl⟩
abbrev main_while0b_values : Ref sig .tc := ⟨.hbm, 56, rfl⟩
abbrev main_while0b_indices : Ref sig .tc := ⟨.hbm, 57, rfl⟩
abbrev main_while0b_v26 : Ref sig .tc := ⟨.hbm, 58, rfl⟩
abbrev main_while0b_c_12 : Ref sig .tc := ⟨.hbm, 59, rfl⟩
abbrev main_while0b_v27 : Ref sig .tc := ⟨.hbm, 60, rfl⟩
abbrev main_v3 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_c_1 : Ref sig .tc := ⟨.hbm, 69, rfl⟩
abbrev main_call2_c_2 : Ref sig .tc := ⟨.hbm, 70, rfl⟩
abbrev main_call2_v5 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_c_3 : Ref sig .tc := ⟨.hbm, 77, rfl⟩
abbrev main_call2_v11 : Ref sig .tc := ⟨.hbm, 78, rfl⟩
abbrev main_call2_v12 : Ref sig .tc := ⟨.hbm, 79, rfl⟩
abbrev main_call2_v13 : Ref sig .tc := ⟨.hbm, 80, rfl⟩
abbrev main_call2_cst : Ref sig .tc := ⟨.hbm, 81, rfl⟩
abbrev main_call2_v14 : Ref sig .tc := ⟨.hbm, 82, rfl⟩
abbrev main_v4 : Ref sig .tc := ⟨.hbm, 83, rfl⟩
abbrev main_v5 : Ref sig .tc := ⟨.hbm, 84, rfl⟩
abbrev main_v6 : Ref sig .tc := ⟨.hbm, 85, rfl⟩
abbrev main_v7 : Ref sig .tc := ⟨.hbm, 86, rfl⟩
abbrev main_v8 : Ref sig .tc := ⟨.hbm, 87, rfl⟩
abbrev main_v9 : Ref sig .tc := ⟨.hbm, 88, rfl⟩
abbrev main_v10 : Ref sig .tc := ⟨.hbm, 89, rfl⟩

abbrev nD : Nat := 1
abbrev τ : Topo := Topo.v7x

variable {F : FTy → Type} [FloatOps F]

abbrev main_while0_count : Scf.Loop 32 := ⟨0#32, 512#32, 1#32⟩
-- ==== Mlp.lean ====
abbrev S3x131072 : Shape := ⟨2, ![3, 131072]⟩
abbrev S64x3 : Shape := ⟨2, ![64, 3]⟩
abbrev S64 : Shape := ⟨1, ![64]⟩
abbrev S128x64 : Shape := ⟨2, ![128, 64]⟩
abbrev S128 : Shape := ⟨1, ![128]⟩
abbrev S384x128 : Shape := ⟨2, ![384, 128]⟩
abbrev S384 : Shape := ⟨1, ![384]⟩
abbrev S1x64 : Shape := ⟨2, ![1, 64]⟩
abbrev S1x128 : Shape := ⟨2, ![1, 128]⟩
abbrev S1x384 : Shape := ⟨2, ![1, 384]⟩
abbrev S4096x384 : Shape := ⟨2, ![4096, 384]⟩
abbrev S3x2048 : Shape := ⟨2, ![3, 2048]⟩
abbrev S64x384 : Shape := ⟨2, ![64, 384]⟩
abbrev S2048x64 : Shape := ⟨2, ![2048, 64]⟩
abbrev S2048x128 : Shape := ⟨2, ![2048, 128]⟩
abbrev S2048x384 : Shape := ⟨2, ![2048, 384]⟩
abbrev S64x32x384 : Shape := ⟨3, ![64, 32, 384]⟩

abbrev nBuf : Space → Nat
  | .hbm => 23
  | .vmem => 24
  | .smem => 0
  | _ => 0

abbrev bufTy : (tb : Table) → Fin (tcTables nBuf tb) → BufTy
  | .hbm, ⟨0, _⟩ => ⟨S3x131072, .f32⟩
  | .hbm, ⟨1, _⟩ => ⟨S64x3, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128x64, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S384x128, .f32⟩
  | .hbm, ⟨10, _⟩ => ⟨S384, .f32⟩
  | .hbm, ⟨11, _⟩ => ⟨S384, .f32⟩
  | .hbm, ⟨12, _⟩ => ⟨S384, .f32⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S1x384, .f32⟩
  | .hbm, ⟨20, _⟩ => ⟨S1x384, .f32⟩
  | .hbm, ⟨21, _⟩ => ⟨S1x384, .f32⟩
  | .hbm, ⟨22, _⟩ => ⟨S4096x384, .f32⟩
  | .local _ .vmem, ⟨0, _⟩ => ⟨S3x2048, .f32⟩
  | .local _ .vmem, ⟨1, _⟩ => ⟨S3x2048, .f32⟩
  | .local _ .vmem, ⟨2, _⟩ => ⟨S64x3, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S128x64, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S384x128, .f32⟩
  | .local _ .vmem, ⟨11, _⟩ => ⟨S1x384, .f32⟩
  | .local _ .vmem, ⟨12, _⟩ => ⟨S1x384, .f32⟩
  | .local _ .vmem, ⟨13, _⟩ => ⟨S1x384, .f32⟩
  | .local _ .vmem, ⟨14, _⟩ => ⟨S64x384, .f32⟩
  | .local _ .vmem, ⟨15, _⟩ => ⟨S64x384, .f32⟩
  | .local _ .vmem, ⟨16, _⟩ => ⟨S1x64, .f32⟩
  | .local _ .vmem, ⟨17, _⟩ => ⟨S1x64, .f32⟩
  | .local _ .vmem, ⟨18, _⟩ => ⟨S1x128, .f32⟩
  | .local _ .vmem, ⟨19, _⟩ => ⟨S1x128, .f32⟩
  | .local _ .vmem, ⟨20, _⟩ => ⟨S1x384, .f32⟩
  | .local _ .vmem, ⟨21, _⟩ => ⟨S1x384, .f32⟩
  | .local _ .vmem, ⟨22, _⟩ => ⟨S4096x384, .f32⟩
  | .local _ .vmem, ⟨23, _⟩ => ⟨S4096x384, .f32⟩
  | _, _ => ⟨S3x131072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨2, ![4, 64], ![false, false]⟩

def k0_cond4 (i : grid0.Coords) : BitVec 1 :=
  let arg0 : BitVec 32 := BitVec.ofNat 32 (i 0).val
  let c2_i32 : BitVec 32 := 2#32
  let v11 : BitVec 1 := Scalar.cmpi .eq arg0 c2_i32
  let v12 : BitVec 32 := Scalar.extui v11
  let c0_i32_8 : BitVec 32 := 0#32
  let v13 : BitVec 1 := Scalar.cmpi .ne v12 c0_i32_8
  v13

def k0_mult1 (i : grid0.Coords) : BitVec 32 :=
  let arg1 : BitVec 32 := BitVec.ofNat 32 (i 1).val
  let c64_i32 : BitVec 32 := 64#32
  let v102 : BitVec 32 := Scalar.muli arg1 c64_i32
  v102
def k0_off1 (i : grid0.Coords) : Fin 2 → Nat :=
  let arg1 : BitVec 32 := BitVec.ofNat 32 (i 1).val
  let c64_i32 : BitVec 32 := 64#32
  let v102 : BitVec 32 := Scalar.muli arg1 c64_i32
  let v103 : BitVec 32 := v102
  let v105 : Index := Scalar.indexCast v103
  let c0_57 : Index := 0#32
  ![v105.toNat, 0]
def k0_cond5 (i : grid0.Coords) : BitVec 1 :=
  let arg0 : BitVec 32 := BitVec.ofNat 32 (i 0).val
  let c3_i32 : BitVec 32 := 3#32
  let v14 : BitVec 1 := Scalar.cmpi .eq arg0 c3_i32
  let v15 : BitVec 32 := Scalar.extui v14
  let c0_i32_11 : BitVec 32 := 0#32
  let v16 : BitVec 1 := Scalar.cmpi .ne v15 c0_i32_11
  v16

def k0_mult2 (i : grid0.Coords) : BitVec 32 :=
  let arg1 : BitVec 32 := BitVec.ofNat 32 (i 1).val
  let c64_i32 : BitVec 32 := 64#32
  let v28 : BitVec 32 := Scalar.muli arg1 c64_i32
  v28
def k0_off2 (i : grid0.Coords) : Fin 2 → Nat :=
  let arg1 : BitVec 32 := BitVec.ofNat 32 (i 1).val
  let c64_i32 : BitVec 32 := 64#32
  let v28 : BitVec 32 := Scalar.muli arg1 c64_i32
  let v29 : BitVec 32 := v28
  let v30 : Index := Scalar.indexCast v29
  let c0_15 : Index := 0#32
  ![v30.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S64x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S384x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S64x384 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]
-- ==== MlpReferenceIdeal.lean ====
abbrev S3x131072 : Shape := ⟨2, ![3, 131072]⟩
abbrev S64x3 : Shape := ⟨2, ![64, 3]⟩
abbrev S64 : Shape := ⟨1, ![64]⟩
abbrev S128x64 : Shape := ⟨2, ![128, 64]⟩
abbrev S128 : Shape := ⟨1, ![128]⟩
abbrev S384x128 : Shape := ⟨2, ![384, 128]⟩
abbrev S384 : Shape := ⟨1, ![384]⟩
abbrev S3x4096x32 : Shape := ⟨3, ![3, 4096, 32]⟩
abbrev S4096x3x32 : Shape := ⟨3, ![4096, 3, 32]⟩
abbrev S4096x32x64 : Shape := ⟨3, ![4096, 32, 64]⟩
abbrev S4096x64x32 : Shape := ⟨3, ![4096, 64, 32]⟩
abbrev S1x64x1 : Shape := ⟨3, ![1, 64, 1]⟩
abbrev S_ : Shape := ⟨0, ![]⟩
abbrev S4096x32x128 : Shape := ⟨3, ![4096, 32, 128]⟩
abbrev S4096x128x32 : Shape := ⟨3, ![4096, 128, 32]⟩
abbrev S1x128x1 : Shape := ⟨3, ![1, 128, 1]⟩
abbrev S4096x32x384 : Shape := ⟨3, ![4096, 32, 384]⟩
abbrev S4096x384x32 : Shape := ⟨3, ![4096, 384, 32]⟩
abbrev S1x384x1 : Shape := ⟨3, ![1, 384, 1]⟩
abbrev S4096x384 : Shape := ⟨2, ![4096, 384]⟩

abbrev nBuf : Space → Nat
  | .hbm => 170
  | .vmem => 0
  | .smem => 0
  | _ => 0

abbrev hbmTy0_0 (i : Nat) : BufTy := match i % 128 with
  | 0 => ⟨S3x131072, .f32⟩
  | 1 => ⟨S64x3, .f32⟩
  | 2 => ⟨S64, .f32⟩
  | 3 => ⟨S64, .f32⟩
  | 4 => ⟨S64, .f32⟩
  | 5 => ⟨S128x64, .f32⟩
  | 6 => ⟨S128, .f32⟩
  | 7 => ⟨S128, .f32⟩
  | 8 => ⟨S128, .f32⟩
  | 9 => ⟨S384x128, .f32⟩
  | 10 => ⟨S384, .f32⟩
  | 11 => ⟨S384, .f32⟩
  | 12 => ⟨S384, .f32⟩
  | 13 => ⟨S3x4096x32, .f32⟩
  | 14 => ⟨S4096x3x32, .f32⟩
  | 15 => ⟨S4096x32x64, .f32⟩
  | 16 => ⟨S4096x64x32, .f32⟩
  | 17 => ⟨S1x64x1, .f32⟩
  | 18 => ⟨S4096x64x32, .f32⟩
  | 19 => ⟨S4096x64x32, .f32⟩
  | 20 => ⟨S_, .f32⟩
  | 21 => ⟨S64, .f32⟩
  | 22 => ⟨S1x64x1, .f32⟩
  | 23 => ⟨S_, .f32⟩
  | 24 => ⟨S1x64x1, .f32⟩
  | 25 => ⟨S1x64x1, .f32⟩
  | 26 => ⟨S_, .i32⟩
  | 27 => ⟨S_, .f32⟩
  | 28 => ⟨S64, .f32⟩
  | 29 => ⟨S1x64x1, .f32⟩
  | 30 => ⟨S_, .f32⟩
  | 31 => ⟨S1x64x1, .f32⟩
  | 32 => ⟨S1x64x1, .f32⟩
  | 33 => ⟨S4096x64x32, .f32⟩
  | 34 => ⟨S4096x64x32, .f32⟩
  | 35 => ⟨S4096x64x32, .f32⟩
  | 36 => ⟨S_, .f32⟩
  | 37 => ⟨S_, .f32⟩
  | 38 => ⟨S_, .f32⟩
  | 39 => ⟨S_, .f32⟩
  | 40 => ⟨S64, .f32⟩
  | 41 => ⟨S1x64x1, .f32⟩
  | 42 => ⟨S1x64x1, .f32⟩
  | 43 => ⟨S1x64x1, .f32⟩
  | 44 => ⟨S_, .f32⟩
  | 45 => ⟨S_, .i1⟩
  | 46 => ⟨S_, .f32⟩
  | 47 => ⟨S_, .f32⟩
  | 48 => ⟨S1x64x1, .f32⟩
  | 49 => ⟨S1x64x1, .f32⟩
  | 50 => ⟨S1x64x1, .f32⟩
  | 51 => ⟨S4096x64x32, .f32⟩
  | 52 => ⟨S4096x64x32, .f32⟩
  | 53 => ⟨S4096x64x32, .f32⟩
  | 54 => ⟨S4096x64x32, .f32⟩
  | 55 => ⟨S_, .f32⟩
  | 56 => ⟨S1x64x1, .f32⟩
  | 57 => ⟨S1x64x1, .f32⟩
  | 58 => ⟨S1x64x1, .f32⟩
  | 59 => ⟨S4096x64x32, .f32⟩
  | 60 => ⟨S4096x64x32, .f32⟩
  | 61 => ⟨S1x64x1, .f32⟩
  | 62 => ⟨S4096x64x32, .f32⟩
  | 63 => ⟨S4096x64x32, .f32⟩
  | 64 => ⟨S_, .f32⟩
  | 65 => ⟨S4096x64x32, .f32⟩
  | 66 => ⟨S4096x64x32, .f32⟩
  | 67 => ⟨S4096x32x128, .f32⟩
  | 68 => ⟨S4096x128x32, .f32⟩
  | 69 => ⟨S1x128x1, .f32⟩
  | 70 => ⟨S4096x128x32, .f32⟩
  | 71 => ⟨S4096x128x32, .f32⟩
  | 72 => ⟨S_, .f32⟩
  | 73 => ⟨S128, .f32⟩
  | 74 => ⟨S1x128x1, .f32⟩
  | 75 => ⟨S_, .f32⟩
  | 76 => ⟨S1x128x1, .f32⟩
  | 77 => ⟨S1x128x1, .f32⟩
  | 78 => ⟨S_, .i32⟩
  | 79 => ⟨S_, .f32⟩
  | 80 => ⟨S128, .f32⟩
  | 81 => ⟨S1x128x1, .f32⟩
  | 82 => ⟨S_, .f32⟩
  | 83 => ⟨S1x128x1, .f32⟩
  | 84 => ⟨S1x128x1, .f32⟩
  | 85 => ⟨S4096x128x32, .f32⟩
  | 86 => ⟨S4096x128x32, .f32⟩
  | 87 => ⟨S4096x128x32, .f32⟩
  | 88 => ⟨S_, .f32⟩
  | 89 => ⟨S_, .f32⟩
  | 90 => ⟨S_, .f32⟩
  | 91 => ⟨S_, .f32⟩
  | 92 => ⟨S128, .f32⟩
  | 93 => ⟨S1x128x1, .f32⟩
  | 94 => ⟨S1x128x1, .f32⟩
  | 95 => ⟨S1x128x1, .f32⟩
  | 96 => ⟨S_, .f32⟩
  | 97 => ⟨S_, .i1⟩
  | 98 => ⟨S_, .f32⟩
  | 99 => ⟨S_, .f32⟩
  | 100 => ⟨S1x128x1, .f32⟩
  | 101 => ⟨S1x128x1, .f32⟩
  | 102 => ⟨S1x128x1, .f32⟩
  | 103 => ⟨S4096x128x32, .f32⟩
  | 104 => ⟨S4096x128x32, .f32⟩
  | 105 => ⟨S4096x128x32, .f32⟩
  | 106 => ⟨S4096x128x32, .f32⟩
  | 107 => ⟨S_, .f32⟩
  | 108 => ⟨S1x128x1, .f32⟩
  | 109 => ⟨S1x128x1, .f32⟩
  | 110 => ⟨S1x128x1, .f32⟩
  | 111 => ⟨S4096x128x32, .f32⟩
  | 112 => ⟨S4096x128x32, .f32⟩
  | 113 => ⟨S1x128x1, .f32⟩
  | 114 => ⟨S4096x128x32, .f32⟩
  | 115 => ⟨S4096x128x32, .f32⟩
  | 116 => ⟨S_, .f32⟩
  | 117 => ⟨S4096x128x32, .f32⟩
  | 118 => ⟨S4096x128x32, .f32⟩
  | 119 => ⟨S4096x32x384, .f32⟩
  | 120 => ⟨S4096x384x32, .f32⟩
  | 121 => ⟨S1x384x1, .f32⟩
  | 122 => ⟨S4096x384x32, .f32⟩
  | 123 => ⟨S4096x384x32, .f32⟩
  | 124 => ⟨S_, .f32⟩
  | 125 => ⟨S384, .f32⟩
  | 126 => ⟨S1x384x1, .f32⟩
  | 127 => ⟨S_, .f32⟩
  | _ => ⟨S3x131072, .f32⟩

abbrev hbmTy0_1 (i : Nat) : BufTy := match i % 128 with
  | 0 => ⟨S1x384x1, .f32⟩
  | 1 => ⟨S1x384x1, .f32⟩
  | 2 => ⟨S_, .i32⟩
  | 3 => ⟨S_, .f32⟩
  | 4 => ⟨S384, .f32⟩
  | 5 => ⟨S1x384x1, .f32⟩
  | 6 => ⟨S_, .f32⟩
  | 7 => ⟨S1x384x1, .f32⟩
  | 8 => ⟨S1x384x1, .f32⟩
  | 9 => ⟨S4096x384x32, .f32⟩
  | 10 => ⟨S4096x384x32, .f32⟩
  | 11 => ⟨S4096x384x32, .f32⟩
  | 12 => ⟨S_, .f32⟩
  | 13 => ⟨S_, .f32⟩
  | 14 => ⟨S_, .f32⟩
  | 15 => ⟨S_, .f32⟩
  | 16 => ⟨S384, .f32⟩
  | 17 => ⟨S1x384x1, .f32⟩
  | 18 => ⟨S1x384x1, .f32⟩
  | 19 => ⟨S1x384x1, .f32⟩
  | 20 => ⟨S_, .f32⟩
  | 21 => ⟨S_, .i1⟩
  | 22 => ⟨S_, .f32⟩
  | 23 => ⟨S_, .f32⟩
  | 24 => ⟨S1x384x1, .f32⟩
  | 25 => ⟨S1x384x1, .f32⟩
  | 26 => ⟨S1x384x1, .f32⟩
  | 27 => ⟨S4096x384x32, .f32⟩
  | 28 => ⟨S4096x384x32, .f32⟩
  | 29 => ⟨S4096x384x32, .f32⟩
  | 30 => ⟨S4096x384x32, .f32⟩
  | 31 => ⟨S_, .f32⟩
  | 32 => ⟨S1x384x1, .f32⟩
  | 33 => ⟨S1x384x1, .f32⟩
  | 34 => ⟨S1x384x1, .f32⟩
  | 35 => ⟨S4096x384x32, .f32⟩
  | 36 => ⟨S4096x384x32, .f32⟩
  | 37 => ⟨S1x384x1, .f32⟩
  | 38 => ⟨S4096x384x32, .f32⟩
  | 39 => ⟨S4096x384x32, .f32⟩
  | 40 => ⟨S_, .f32⟩
  | 41 => ⟨S4096x384, .f32⟩
  | _ => ⟨S3x131072, .f32⟩

abbrev hbmTy (i : Nat) : BufTy := match i / 128 with
  | 0 => hbmTy0_0 i
  | 1 => hbmTy0_1 i
  | _ => ⟨S3x131072, .f32⟩

abbrev bufTy : (tb : Table) → Fin (tcTables nBuf tb) → BufTy
  | .hbm, ⟨i, _⟩ => hbmTy i
  | _, _ => ⟨S3x131072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_cst_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_cst_1 : Ref sig .tc := ⟨.hbm, 37, rfl⟩
abbrev main_call0_v8 : Ref sig .tc := ⟨.hbm, 38, rfl⟩
abbrev main_call0_cst_2 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_v12 : Ref sig .tc := ⟨.hbm, 43, rfl⟩
abbrev main_call0_cst_3 : Ref sig .tc := ⟨.hbm, 44, rfl⟩
abbrev main_call0_v13 : Ref sig .tc := ⟨.hbm, 45, rfl⟩
abbrev main_call0_cst_4 : Ref sig .tc := ⟨.hbm, 46, rfl⟩
abbrev main_call0_call0_v0 : Ref sig .tc := ⟨.hbm, 47, rfl⟩
abbrev main_call0_call0_v1 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_cst_1 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_call1_cst : Ref sig .tc := ⟨.hbm, 64, rfl⟩
abbrev main_call1_v0 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_cst_2 : Ref sig .tc := ⟨.hbm, 72, rfl⟩
abbrev main_v31 : Ref sig .tc := ⟨.hbm, 73, rfl⟩
abbrev main_v32 : Ref sig .tc := ⟨.hbm, 74, rfl⟩
abbrev main_cst_3 : Ref sig .tc := ⟨.hbm, 75, rfl⟩
abbrev main_v33 : Ref sig .tc := ⟨.hbm, 76, rfl⟩
abbrev main_v34 : Ref sig .tc := ⟨.hbm, 77, rfl⟩
abbrev main_c_4 : Ref sig .tc := ⟨.hbm, 78, rfl⟩
abbrev main_call2_cst : Ref sig .tc := ⟨.hbm, 79, rfl⟩
abbrev main_call2_v0 : Ref sig .tc := ⟨.hbm, 80, rfl⟩
abbrev main_call2_v1 : Ref sig .tc := ⟨.hbm, 81, rfl⟩
abbrev main_call2_cst_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_call2_v6 : Ref sig .tc := ⟨.hbm, 87, rfl⟩
abbrev main_call2_v7 : Ref sig .tc := ⟨.hbm, 88, rfl⟩
abbrev main_call2_cst_1 : Ref sig .tc := ⟨.hbm, 89, rfl⟩
abbrev main_call2_v8 : Ref sig .tc := ⟨.hbm, 90, rfl⟩
abbrev main_call2_cst_2 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_call2_v12 : Ref sig .tc := ⟨.hbm, 95, rfl⟩
abbrev main_call2_cst_3 : Ref sig .tc := ⟨.hbm, 96, rfl⟩
abbrev main_call2_v13 : Ref sig .tc := ⟨.hbm, 97, rfl⟩
abbrev main_call2_cst_4 : Ref sig .tc := ⟨.hbm, 98, rfl⟩
abbrev main_call2_call0_v0 : Ref sig .tc := ⟨.hbm, 99, rfl⟩
abbrev main_call2_call0_v1 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_cst_5 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_call3_cst : Ref sig .tc := ⟨.hbm, 116, rfl⟩
abbrev main_call3_v0 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_cst_6 : Ref sig .tc := ⟨.hbm, 124, rfl⟩
abbrev main_v55 : Ref sig .tc := ⟨.hbm, 125, rfl⟩
abbrev main_v56 : Ref sig .tc := ⟨.hbm, 126, rfl⟩
abbrev main_cst_7 : Ref sig .tc := ⟨.hbm, 127, rfl⟩
abbrev main_v57 : Ref sig .tc := ⟨.hbm, 128, rfl⟩
abbrev main_v58 : Ref sig .tc := ⟨.hbm, 129, rfl⟩
abbrev main_c_8 : Ref sig .tc := ⟨.hbm, 130, rfl⟩
abbrev main_call4_cst : Ref sig .tc := ⟨.hbm, 131, rfl⟩
abbrev main_call4_v0 : Ref sig .tc := ⟨.hbm, 132, rfl⟩
abbrev main_call4_v1 : Ref sig .tc := ⟨.hbm, 133, rfl⟩
abbrev main_call4_cst_0 : Ref sig .tc := ⟨.hbm, 134, rfl⟩
abbrev main_call4_v2 : Ref sig .tc := ⟨.hbm, 135, rfl⟩
abbrev main_call4_v3 : Ref sig .tc := ⟨.hbm, 136, rfl⟩
abbrev main_call4_v4 : Ref sig .tc := ⟨.hbm, 137, rfl⟩
abbrev main_call4_v5 : Ref sig .tc := ⟨.hbm, 138, rfl⟩
abbrev main_call4_v6 : Ref sig .tc := ⟨.hbm, 139, rfl⟩
abbrev main_call4_v7 : Ref sig .tc := ⟨.hbm, 140, rfl⟩
abbrev main_call4_cst_1 : Ref sig .tc := ⟨.hbm, 141, rfl⟩
abbrev main_call4_v8 : Ref sig .tc := ⟨.hbm, 142, rfl⟩
abbrev main_call4_cst_2 : Ref sig .tc := ⟨.hbm, 143, rfl⟩
abbrev main_call4_v9 : Ref sig .tc := ⟨.hbm, 144, rfl⟩
abbrev main_call4_v10 : Ref sig .tc := ⟨.hbm, 145, rfl⟩
abbrev main_call4_v11 : Ref sig .tc := ⟨.hbm, 146, rfl⟩
abbrev main_call4_v12 : Ref sig .tc := ⟨.hbm, 147, rfl⟩
abbrev main_call4_cst_3 : Ref sig .tc := ⟨.hbm, 148, rfl⟩
abbrev main_call4_v13 : Ref sig .tc := ⟨.hbm, 149, rfl⟩
abbrev main_call4_cst_4 : Ref sig .tc := ⟨.hbm, 150, rfl⟩
abbrev main_call4_call0_v0 : Ref sig .tc := ⟨.hbm, 151, rfl⟩
abbrev main_call4_call0_v1 : Ref sig .tc := ⟨.hbm, 152, rfl⟩
abbrev main_v59 : Ref sig .tc := ⟨.hbm, 153, rfl⟩
abbrev main_v60 : Ref sig .tc := ⟨.hbm, 154, rfl⟩
abbrev main_v61 : Ref sig .tc := ⟨.hbm, 155, rfl⟩
abbrev main_v62 : Ref sig .tc := ⟨.hbm, 156, rfl⟩
abbrev main_v63 : Ref sig .tc := ⟨.hbm, 157, rfl⟩
abbrev main_v64 : Ref sig .tc := ⟨.hbm, 158, rfl⟩
abbrev main_cst_9 : Ref sig .tc := ⟨.hbm, 159, rfl⟩
abbrev main_v65 : Ref sig .tc := ⟨.hbm, 160, rfl⟩
abbrev main_v66 : Ref sig .tc := ⟨.hbm, 161, rfl⟩
abbrev main_v67 : Ref sig .tc := ⟨.hbm, 162, rfl⟩
abbrev main_v68 : Ref sig .tc := ⟨.hbm, 163, rfl⟩
abbrev main_v69 : Ref sig .tc := ⟨.hbm, 164, rfl⟩
abbrev main_v70 : Ref sig .tc := ⟨.hbm, 165, rfl⟩
abbrev main_v71 : Ref sig .tc := ⟨.hbm, 166, rfl⟩
abbrev main_v72 : Ref sig .tc := ⟨.hbm, 167, rfl⟩
abbrev main_cst_10 : Ref sig .tc := ⟨.hbm, 168, rfl⟩
abbrev main_v73 : Ref sig .tc := ⟨.hbm, 169, rfl⟩

abbrev nD : Nat := 1
abbrev τ : Topo := Topo.v7x

variable {F : FTy → Type} [FloatOps F]
-- ==== Dist.lean ====
abbrev S8x8192x3 : Shape := ⟨3, ![8, 8192, 3]⟩
abbrev S8x512x3 : Shape := ⟨3, ![8, 512, 3]⟩
abbrev S8x3x8192 : Shape := ⟨3, ![8, 3, 8192]⟩
abbrev S8x512x64x128 : Shape := ⟨4, ![8, 512, 64, 128]⟩
abbrev S8x512x1 : Shape := ⟨3, ![8, 512, 1]⟩
abbrev S1x256x3 : Shape := ⟨3, ![1, 256, 3]⟩
abbrev S1x3x8192 : Shape := ⟨3, ![1, 3, 8192]⟩
abbrev S1x256x64x128 : Shape := ⟨4, ![1, 256, 64, 128]⟩
abbrev S1x256x1 : Shape := ⟨3, ![1, 256, 1]⟩
abbrev S256x3 : Shape := ⟨2, ![256, 3]⟩
abbrev S3x8192 : Shape := ⟨2, ![3, 8192]⟩
abbrev S256x8192 : Shape := ⟨2, ![256, 8192]⟩
abbrev S8192 : Shape := ⟨1, ![8192]⟩
abbrev S1x8192 : Shape := ⟨2, ![1, 8192]⟩
abbrev S256 : Shape := ⟨1, ![256]⟩
abbrev S256x1 : Shape := ⟨2, ![256, 1]⟩
abbrev S256x64x128 : Shape := ⟨3, ![256, 64, 128]⟩
abbrev S256x32x256 : Shape := ⟨3, ![256, 32, 256]⟩
abbrev S256x32 : Shape := ⟨2, ![256, 32]⟩

abbrev nBuf : Space → Nat
  | .hbm => 5
  | .vmem => 8
  | .smem => 0
  | _ => 0

abbrev bufTy : (tb : Table) → Fin (tcTables nBuf tb) → BufTy
  | .hbm, ⟨0, _⟩ => ⟨S8x8192x3, .f32⟩
  | .hbm, ⟨1, _⟩ => ⟨S8x512x3, .f32⟩
  | .hbm, ⟨2, _⟩ => ⟨S8x3x8192, .f32⟩
  | .hbm, ⟨3, _⟩ => ⟨S8x512x64x128, .f32⟩
  | .hbm, ⟨4, _⟩ => ⟨S8x512x1, .f32⟩
  | .local _ .vmem, ⟨0, _⟩ => ⟨S1x256x3, .f32⟩
  | .local _ .vmem, ⟨1, _⟩ => ⟨S1x256x3, .f32⟩
  | .local _ .vmem, ⟨2, _⟩ => ⟨S1x3x8192, .f32⟩
  | .local _ .vmem, ⟨3, _⟩ => ⟨S1x3x8192, .f32⟩
  | .local _ .vmem, ⟨4, _⟩ => ⟨S1x256x64x128, .f32⟩
  | .local _ .vmem, ⟨5, _⟩ => ⟨S1x256x64x128, .f32⟩
  | .local _ .vmem, ⟨6, _⟩ => ⟨S1x256x1, .f32⟩
  | .local _ .vmem, ⟨7, _⟩ => ⟨S1x256x1, .f32⟩
  | _, _ => ⟨S8x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32 : BitVec 32 := 0#32
  let c26_i32 : BitVec 32 := 26#32
  let v30 : BitVec 32 := Scalar.addi c0_i32 c26_i32
  let c1_i32 : BitVec 32 := 1#32
  ⟨c0_i32, v30, c1_i32⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DistReferenceIdeal.lean ====
abbrev S8x8192x3 : Shape := ⟨3, ![8, 8192, 3]⟩
abbrev S8x512x3 : Shape := ⟨3, ![8, 512, 3]⟩
abbrev S_ : Shape := ⟨0, ![]⟩
abbrev S8x512 : Shape := ⟨2, ![8, 512]⟩
abbrev S8x512x1 : Shape := ⟨3, ![8, 512, 1]⟩
abbrev S8x8192 : Shape := ⟨2, ![8, 8192]⟩
abbrev S8x1x8192 : Shape := ⟨3, ![8, 1, 8192]⟩
abbrev S8x512x8192 : Shape := ⟨3, ![8, 512, 8192]⟩
abbrev S8x512x32 : Shape := ⟨3, ![8, 512, 32]⟩
abbrev S8x512x64x128 : Shape := ⟨4, ![8, 512, 64, 128]⟩

abbrev nBuf : Space → Nat
  | .hbm => 24
  | .vmem => 0
  | .smem => 0
  | _ => 0

abbrev bufTy : (tb : Table) → Fin (tcTables nBuf tb) → BufTy
  | .hbm, ⟨0, _⟩ => ⟨S8x8192x3, .f32⟩
  | .hbm, ⟨1, _⟩ => ⟨S8x512x3, .f32⟩
  | .hbm, ⟨2, _⟩ => ⟨S8x512x3, .f32⟩
  | .hbm, ⟨3, _⟩ => ⟨S_, .f32⟩
  | .hbm, ⟨4, _⟩ => ⟨S8x512, .f32⟩
  | .hbm, ⟨5, _⟩ => ⟨S8x512x1, .f32⟩
  | .hbm, ⟨6, _⟩ => ⟨S8x8192x3, .f32⟩
  | .hbm, ⟨7, _⟩ => ⟨S_, .f32⟩
  | .hbm, ⟨8, _⟩ => ⟨S8x8192, .f32⟩
  | .hbm, ⟨9, _⟩ => ⟨S8x1x8192, .f32⟩
  | .hbm, ⟨10, _⟩ => ⟨S8x512x8192, .f32⟩
  | .hbm, ⟨11, _⟩ => ⟨S8x512x8192, .f32⟩
  | .hbm, ⟨12, _⟩ => ⟨S8x512x8192, .f32⟩
  | .hbm, ⟨13, _⟩ => ⟨S8x512x8192, .f32⟩
  | .hbm, ⟨14, _⟩ => ⟨S_, .f32⟩
  | .hbm, ⟨15, _⟩ => ⟨S8x512x8192, .f32⟩
  | .hbm, ⟨16, _⟩ => ⟨S8x512x8192, .f32⟩
  | .hbm, ⟨17, _⟩ => ⟨S8x512x8192, .f32⟩
  | .hbm, ⟨18, _⟩ => ⟨S8x512x8192, .f32⟩
  | .hbm, ⟨19, _⟩ => ⟨S8x512x32, .f32⟩
  | .hbm, ⟨20, _⟩ => ⟨S8x512x32, .i32⟩
  | .hbm, ⟨21, _⟩ => ⟨S8x512x64x128, .f32⟩
  | .hbm, ⟨22, _⟩ => ⟨S8x512x1, .f32⟩
  | .hbm, ⟨23, _⟩ => ⟨S8x512x1, .f32⟩
  | _, _ => ⟨S8x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_values : Ref sig .tc := ⟨.hbm, 19, rfl⟩
abbrev main_indices : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Proof.Select.lean ====
/-
  The compaction by running counts, as mathematics: a predicate `p` on the naturals stands for "the distance of point
  `i` is at most the row's threshold". The kernel walks the 8192 points sixteen at a time; at a chunk starting at `n` the
  lanes whose mask is set are written at the running count of `p` before them. `Sel p n s` says that the words of `s`
  at the counts are the indices counted, for all points below `n`; one chunk takes `Sel p n` to `Sel p (n + 16)`
  (`Sel.chunk`), its positions all lie below `n + 16` (`pos_lt`), and the running word takes the chunk's total
  (`word_total`).
-/
module

public import Idealize.ShloMosaic.Lib.SparseCore.Ops
public import Mathlib.Data.Nat.Count

@[expose] public section

noncomputable section

namespace Cert.Proof.Select

open Idealize.ShloMosaic

/-- A vector register's shape and the index list's. -/
abbrev L16 : Shape := ⟨1, ![16]⟩
abbrev L8192 : Shape := ⟨1, ![8192]⟩

/-- Lane `l` of a register. -/
abbrev lane (l : Fin 16) : L16.Idx := Shape.ofLane (d := ![16]) l

theorem lane_val (x : L16.Idx) : ∃ l : Fin 16, x = lane l := by
  refine ⟨x 0, ?_⟩
  funext a; obtain rfl := Fin.eq_zero a; rfl

variable (p : ℕ → Prop) [DecidablePred p]

/-- A fold over the lanes in order, by induction on the lanes done. -/
theorem foldl_finRange {β : Type} {n : ℕ} (f : β → Fin n → β) (b : β) (P : ℕ → β → Prop) (h0 : P 0 b)
    (hs : ∀ (k : Fin n) (g : β), P k.val g → P (k.val + 1) (f g k)) : P n ((List.finRange n).foldl f b) := by
  induction n with
  | zero => simpa using h0
  | succ n ih =>
    rw [List.finRange_succ_last, List.foldl_append, List.foldl_map]
    simp only [List.foldl_cons, List.foldl_nil]
    exact hs (Fin.last n) _ (ih (fun b k => f b k.castSucc) fun k g hg => hs k.castSucc g hg)

/-- The lanes past the first up to `j + 1` are those up to `j` and then lane `j + 1`. -/
theorem lanes_succ : ∀ j : Fin 15,
    ((List.finRange 16).filter fun k => decide (0 < k.val ∧ k.val ≤ j.val + 1))
      = ((List.finRange 16).filter fun k => decide (0 < k.val ∧ k.val ≤ j.val)) ++ [j.succ] := by decide

theorem lanes_zero : ((List.finRange 16).filter fun k => decide (0 < k.val ∧ k.val ≤ 0)) = [] := by decide

/-- The mask of the chunk at `n`: lane `l` is set exactly when `p` holds of `n + l`. -/
def Masks (n : ℕ) (m : IVec L16 1) : Prop := ∀ l : Fin 16, (m (lane l) = 1#1 ↔ p (n + l.val))

theorem one_or_zero (b : BitVec 1) : b = 1#1 ∨ b = 0#1 := by
  revert b; decide

variable {p}

/-- A widened mask lane counts its point. -/
theorem mask_extui {n : ℕ} {m : IVec L16 1} (hm : Masks p n m) (h : 1 < 32) (l : Fin 16) :
    BitVec.ofNat 32 (Nat.count p (n + l.val)) + (extui 32 m h) (lane l) = BitVec.ofNat 32 (Nat.count p (n + l.val + 1)) := by
  rw [Nat.count_succ]
  show _ + (m (lane l)).setWidth 32 = _
  rcases one_or_zero (m (lane l)) with h1 | h0
  · rw [if_pos ((hm l).1 h1), h1, BitVec.ofNat_add]; rfl
  · have hn : ¬ p (n + l.val) := fun hp => by rw [(hm l).2 hp] at h0; exact absurd h0 (by decide)
    rw [if_neg hn, h0]; simp

/-- The running sum over the mask, from the count before the chunk: the count through the lane. -/
theorem mask_scan {n : ℕ} {m : IVec L16 1} (hm : Masks p n m) (h : 1 < 32) (l : Fin 16) :
    BitVec.ofNat 32 (Nat.count p n) + scan (d := ![16]) .sum (extui 32 m h) (lane l)
      = BitVec.ofNat 32 (Nat.count p (n + l.val + 1)) := by
  obtain ⟨l, hl⟩ := l
  induction l with
  | zero => exact mask_extui hm h ⟨0, hl⟩
  | succ j ih =>
    have e := ih (by omega)
    have hj := lanes_succ ⟨j, by omega⟩
    have hstep : scan (d := ![16]) .sum (extui 32 m h) (lane ⟨j + 1, hl⟩)
        = scan (d := ![16]) .sum (extui 32 m h) (lane ⟨j, by omega⟩) + (extui 32 m h) (lane ⟨j + 1, hl⟩) := by
      exact (congrArg (List.foldl (fun r (k : Fin 16) => ScanKind.step .sum r (extui 32 m h (lane k))) (extui 32 m h (lane ⟨0, by omega⟩))) hj).trans
        (List.foldl_append ..)
    rw [hstep, ← BitVec.add_assoc, e]
    exact mask_extui hm h ⟨j + 1, hl⟩

/-- The positions a chunk writes at, as the kernel computes them: the running word and the sum before the lane. -/
def posOf (w : BitVec 32) (m : IVec L16 1) (h : 1 < 32) : IVec L16 32 :=
  addi (broadcast L16 w) (subi (scan (d := ![16]) .sum (extui 32 m h)) (extui 32 m h))

/-- A lane's position is the count before its point. -/
theorem mask_pos {n : ℕ} {m : IVec L16 1} (hm : Masks p n m) (h : 1 < 32) (l : Fin 16) :
    posOf (BitVec.ofNat 32 (Nat.count p n)) m h (lane l) = BitVec.ofNat 32 (Nat.count p (n + l.val)) := by
  have e1 := mask_scan hm h l
  have e2 := mask_extui hm h l
  show BitVec.ofNat 32 (Nat.count p n) + (scan (d := ![16]) .sum (extui 32 m h) (lane l) - extui 32 m h (lane l)) = _
  rw [← e2] at e1
  generalize scan (d := ![16]) .sum (extui 32 m h) (lane l) = S at *
  generalize extui 32 m h (lane l) = E at *
  bv_omega

/-- A lane's position as a natural number. -/
theorem mask_pos_toNat {n : ℕ} {m : IVec L16 1} (hm : Masks p n m) (h : 1 < 32) (hn : n + 16 ≤ 8192) (l : Fin 16) :
    (posOf (BitVec.ofNat 32 (Nat.count p n)) m h (lane l)).toNat = Nat.count p (n + l.val) := by
  rw [mask_pos hm h l, BitVec.toNat_ofNat, Nat.mod_eq_of_lt]
  have := Nat.count_le (p := p) (n := n + l.val)
  omega

/-- Every position is in the list. -/
theorem mask_pos_lt {n : ℕ} {m : IVec L16 1} (hm : Masks p n m) (h : 1 < 32) (hn : n + 16 ≤ 8192) (x : L16.Idx) :
    (posOf (BitVec.ofNat 32 (Nat.count p n)) m h x).toNat < 8192 := by
  obtain ⟨l, rfl⟩ := lane_val x
  rw [mask_pos_toNat hm h hn]
  have := Nat.count_le (p := p) (n := n + l.val)
  omega

variable (p) in
/-- The indices below `n` at which `p` holds stand in the list at their counts. -/
def Sel (n : ℕ) (s : IVec L8192 32) : Prop :=
  ∀ i < n, p i → ∀ j : L8192.Idx, (j 0).val = Nat.count p i → s j = BitVec.ofNat 32 i

theorem Sel.zero (s : IVec L8192 32) : Sel p 0 s := fun _ h => absurd h (Nat.not_lt_zero _)

/-- One chunk: the masked scatter of the lanes' indices at the lanes' positions. -/
theorem Sel.chunk {F : FTy → Type} [FloatOps F] {n : ℕ} {m : IVec L16 1} {s : IVec L8192 32} (hS : Sel p n s) (hm : Masks p n m) (h : 1 < 32) (hn : n + 16 ≤ 8192)
    {v : IVec L16 32} (hv : ∀ l : Fin 16, v (lane l) = BitVec.ofNat 32 (n + l.val))
    (hi : ∀ a x, ((![posOf (BitVec.ofNat 32 (Nat.count p n)) m h] : Fin 1 → IVec L16 32) a x).toNat < L8192.size a) :
    Sel p (n + 16) (storeIdx (F := F) (e := .i32) (d := ![16]) s ![posOf (BitVec.ofNat 32 (Nat.count p n)) m h] v m false hi) := by
  refine foldl_finRange (n := 16) _ s (fun k g => Sel p (n + k) g) hS ?_
  intro k g hg i hik hpi j hj
  have hpos : ((idxAt (s := L8192) ![posOf (BitVec.ofNat 32 (Nat.count p n)) m h] hi (lane k)) 0).val = Nat.count p (n + k.val) := mask_pos_toNat hm h hn k
  by_cases hk : m (lane k) = 1#1
  · have hp := (hm k).1 hk
    show (if m (lane k) = 1#1 then _ else g) j = _
    rw [if_pos hk]
    show (if (∀ a, (j a).val = _) then v (lane k) else g j) = _
    by_cases hik' : i = n + k.val
    · rw [if_pos, hv, hik']
      intro a; obtain rfl := Fin.eq_zero a
      rw [hpos, hj, hik']
    · rw [if_neg]
      · exact hg i (by omega) hpi j hj
      · intro hall
        have h0 := hall 0
        rw [hpos, hj] at h0
        have := Nat.count_strict_mono hpi (show i < n + k.val by omega)
        omega
  · show (if m (lane k) = 1#1 then _ else g) j = _
    rw [if_neg hk]
    have : i ≠ n + k.val := fun e => hk ((hm k).2 (e ▸ hpi))
    exact hg i (by omega) hpi j hj

/-- The running word takes the chunk's total, lane 15 of the running sum. -/
theorem mask_total {n : ℕ} {m : IVec L16 1} (hm : Masks p n m) (h : 1 < 32) (hp : ∀ a, (![15] : Fin 1 → ℕ) a < L16.size a) :
    Scalar.addi (BitVec.ofNat 32 (Nat.count p n)) (extractAt ![15] (scan (d := ![16]) .sum (extui 32 m h)) hp)
      = BitVec.ofNat 32 (Nat.count p (n + 16)) := by
  have e := mask_scan hm h ⟨15, by omega⟩
  have hl : (fun a => ⟨(![15] : Fin 1 → ℕ) a, hp a⟩ : L16.Idx) = lane ⟨15, by omega⟩ := by
    funext a; obtain rfl := Fin.eq_zero a; rfl
  show _ + scan (d := ![16]) .sum (extui 32 m h) (fun a => ⟨(![15] : Fin 1 → ℕ) a, hp a⟩ : L16.Idx) = _
  rw [hl]
  exact e

variable (p) in
/-- The `j`-th index (from 0, ascending) at which `p` holds, and 0 if there are no more than `j`. -/
def pick (j : ℕ) : ℕ :=
  open Classical in if h : ∃ i, p i ∧ Nat.count p i = j then Nat.find h else 0

/-- With more than `j` indices below `N` there is a `j`-th: it is below `N`, `p` holds of it and `j` come before it. -/
theorem pick_spec {N j : ℕ} (hj : j < Nat.count p N) : pick p j < N ∧ p (pick p j) ∧ Nat.count p (pick p j) = j := by
  have hex : ∃ i, i < N ∧ p i ∧ Nat.count p i = j := by
    induction N with
    | zero => simp at hj
    | succ N ih =>
      by_cases hlt : j < Nat.count p N
      · obtain ⟨i, h1, h2⟩ := ih hlt
        exact ⟨i, by omega, h2⟩
      · rw [Nat.count_succ] at hj
        by_cases hp : p N
        · rw [if_pos hp] at hj
          exact ⟨N, by omega, hp, by omega⟩
        · rw [if_neg hp] at hj; omega
  obtain ⟨i, hi, hpi, hci⟩ := hex
  have hE : ∃ i, p i ∧ Nat.count p i = j := ⟨i, hpi, hci⟩
  have hd : p (pick p j) ∧ Nat.count p (pick p j) = j := by
    classical
    unfold pick; rw [dif_pos hE]; convert Nat.find_spec hE
  have he : pick p j = i := Nat.count_injective hd.1 hpi (hd.2.trans hci.symm)
  exact ⟨he ▸ hi, hd⟩

/-- An index at which `p` holds is the pick of its count. -/
theorem pick_count {i : ℕ} (hi : p i) : pick p (Nat.count p i) = i := by
  have h := pick_spec (p := p) (N := i + 1) (j := Nat.count p i) (by rw [Nat.count_succ, if_pos hi]; omega)
  exact Nat.count_injective h.2.1 hi h.2.2

/-- With more than `j` points below the threshold, the list's word `j` is the `j`-th of them. -/
theorem Sel.word {s : IVec L8192 32} {N : ℕ} (hS : Sel p N s) {j : ℕ} (hj : j < Nat.count p N) (x : L8192.Idx) (hx : (x 0).val = j) :
    s x = BitVec.ofNat 32 (pick p j) :=
  have h := pick_spec hj
  hS _ h.1 h.2.1 x (by rw [hx, h.2.2])

end Cert.Proof.Select
-- ==== Proof.Setup.lean ====
/-
  The names this certificate works with: the program as the SparseCore launch theorem sees it, the resource algebra, a
  tile's thread, and the tile's buffers.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Transfers
public import Idealize.ShloMosaic.Lib.Tactic
public import proofs.«01_k».proof.Proof.Gen.KernelIdeal
public import proofs.«01_k».proof.Proof.Gen.KernelIdeal.Skeleton
public import proofs.«01_k».proof.Proof.Select

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra: the handshakes' rounds, and the counters of the copies -/

abbrev UH : Type := URounds (GSem nD τ sig) ℕ
abbrev UU : Type := UH × Counters

abbrev EH : Emb UH (MT nD τ sig (HIx 1) (Elt F) ℕ UU ℕ) := embL

/-! ## A tile -/

/-- A tile's coordinates in the grid of the call. -/
def coordsV (c : Fin 2) (s : Fin 16) : grid0.Coords := fun
  | 0 => c
  | 1 => s
  | ⟨_ + 2, h⟩ => absurd h (Nat.not_lt.2 (Nat.le_add_left _ _))

/-- The SparseCore and the tile at given coordinates. -/
abbrev cV (L : grid0.Coords) : Fin τ.nSC := (L 0).castLE hcore0
abbrev jV (L : grid0.Coords) : Fin τ.nSub := (L 1).castLE hsub0

/-- The operands in the device's memory. -/
abbrev d2M : Memref sig .scVector .hbm S33554432 .f32 := Memref.whole main_v6_scv
abbrev thrM : Memref sig .scVector .hbm S4096 .f32 := Memref.whole main_v2_scv
abbrev cenM : Memref sig .scVector .hbm S12288 .f32 := Memref.whole main_v5_scv
abbrev ptsM : Memref sig .scVector .hbm S196608 .f32 := Memref.whole main_v7_scv
abbrev outM : Memref sig .scVector .hbm S393216 .f32 := Memref.whole main_v8_scv

/-- The tile's two rows of distances, its thresholds, its centroids' and its points' coordinates, its three blocks of
    results and its list of indices. -/
abbrev rowA : Memref sig .scVector .vmem S8192 .f32 := Memref.whole cc0_scratch0
abbrev rowB : Memref sig .scVector .vmem S8192 .f32 := Memref.whole cc0_scratch1
abbrev thrV : Memref sig .scVector .vmem S128 .f32 := Memref.whole cc0_scratch2
abbrev cxV : Memref sig .scVector .vmem S128 .f32 := Memref.whole cc0_scratch3
abbrev cyV : Memref sig .scVector .vmem S128 .f32 := Memref.whole cc0_scratch4
abbrev czV : Memref sig .scVector .vmem S128 .f32 := Memref.whole cc0_scratch5
abbrev pxV : Memref sig .scVector .vmem S8192 .f32 := Memref.whole cc0_scratch6
abbrev pyV : Memref sig .scVector .vmem S8192 .f32 := Memref.whole cc0_scratch7
abbrev pzV : Memref sig .scVector .vmem S8192 .f32 := Memref.whole cc0_scratch8
abbrev bxV : Memref sig .scVector .vmem S4096 .f32 := Memref.whole cc0_scratch9
abbrev byV : Memref sig .scVector .vmem S4096 .f32 := Memref.whole cc0_scratch10
abbrev bzV : Memref sig .scVector .vmem S4096 .f32 := Memref.whole cc0_scratch11
abbrev selV : Memref sig .scVector .vmem S8192 .i32 := Memref.whole cc0_scratch12

/-- The tile's thread. -/
abbrev VT (d : Dev nD) (L : grid0.Coords) : Thread nD τ := V d (cV L) (jV L)

end Cert.Proof
-- ==== Proof.Inner.lean ====
/-
  One row of the compaction: the kernel's inner loop over a row of 8192 distances, 64 trips of eight chunks of sixteen.
  `rowTrip` is one trip over whichever of the two row buffers holds the row; the two printed loops' bodies are it
  (`t2_eq`, `t3_eq`). `row_loop`: from any list of indices, the loop ends with the running count of the distances at most
  the row's threshold, the indices of them standing in the list at their counts.
-/
module

public import proofs.«01_k».proof.Proof.Setup

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof.Select

variable {F : FTy → Type} [FloatOps F]

local notation "𝕄" => MT nD τ sig (HIx 1) (Elt F) ℕ UU ℕ

/-- A program of the tile at `i`. -/
abbrev TileProg (F : FTy → Type) (i : grid0.Coords) (α : Type) : Type 1 :=
  Prog (TpuEff nD τ sig (Elt F) Λ₀ (.scVector ((i 0).castLE hcore0) ((i 1).castLE hsub0))) α

/-- One chunk: the check of its positions, the masked scatter, and the running word past it. -/
def chunkStep (i : grid0.Coords) (w : BitVec 32) (m : IVec S16 1) (v : IVec S16 32) : TileProg F i (BitVec 32) := do
  let h ← Prog.lift (TpuEff.assume (k0_chk2 (posOf w m natLt_1_32)) (k0_chk2.dec _))
  SparseCore.vectorStoreIdx selV ![posOf w m natLt_1_32] v m false (k0_idx2_inb _ h.down) (View.stores_vmem_bits_univ h_S8192 rfl)
  pure (Scalar.addi w (extractAt ![15] (scan (d := ![16]) .sum (extui 32 m natLt_1_32)) inpos_S16_p15))

/-- The index words of a chunk: the lane numbers and the chunk's offset. -/
def lanesAt (v26 : IVec S16 32) (v135 j : BitVec 32) : IVec S16 32 := addi v26 (broadcast S16 (Scalar.addi v135 j))

/-- One trip over a row buffer: eight chunks read, then scattered. -/
def rowTrip (i : grid0.Coords) (row : Memref sig .scVector .vmem S8192 .f32) (v26 : IVec S16 32) (thr : Vec F S16 .f32)
    (t : Fin k0_t2_loop.trips) (w : BitVec 32) : TileProg F i (BitVec 32) := do
  let v135 : BitVec 32 := Scalar.muli (Scf.iv 0#32 1#32 t) 128#32
  let x0 ← Prog.lift (.load row (Rect.unit (s := S8192) (k0_off9 t 0#32) S16.size (k0_off9_inb t 0)).toLoadRect (View.loadsAt_vmem h_S16))
  let x1 ← Prog.lift (.load row (Rect.unit (s := S8192) (k0_off9 t 16#32) S16.size (k0_off9_inb t 1)).toLoadRect (View.loadsAt_vmem h_S16))
  let x2 ← Prog.lift (.load row (Rect.unit (s := S8192) (k0_off9 t 32#32) S16.size (k0_off9_inb t 2)).toLoadRect (View.loadsAt_vmem h_S16))
  let x3 ← Prog.lift (.load row (Rect.unit (s := S8192) (k0_off9 t 48#32) S16.size (k0_off9_inb t 3)).toLoadRect (View.loadsAt_vmem h_S16))
  let x4 ← Prog.lift (.load row (Rect.unit (s := S8192) (k0_off9 t 64#32) S16.size (k0_off9_inb t 4)).toLoadRect (View.loadsAt_vmem h_S16))
  let x5 ← Prog.lift (.load row (Rect.unit (s := S8192) (k0_off9 t 80#32) S16.size (k0_off9_inb t 5)).toLoadRect (View.loadsAt_vmem h_S16))
  let x6 ← Prog.lift (.load row (Rect.unit (s := S8192) (k0_off9 t 96#32) S16.size (k0_off9_inb t 6)).toLoadRect (View.loadsAt_vmem h_S16))
  let x7 ← Prog.lift (.load row (Rect.unit (s := S8192) (k0_off9 t 112#32) S16.size (k0_off9_inb t 7)).toLoadRect (View.loadsAt_vmem h_S16))
  let w ← chunkStep i w (cmpf .ole x0 thr) (lanesAt v26 v135 0#32)
  let w ← chunkStep i w (cmpf .ole x1 thr) (lanesAt v26 v135 16#32)
  let w ← chunkStep i w (cmpf .ole x2 thr) (lanesAt v26 v135 32#32)
  let w ← chunkStep i w (cmpf .ole x3 thr) (lanesAt v26 v135 48#32)
  let w ← chunkStep i w (cmpf .ole x4 thr) (lanesAt v26 v135 64#32)
  let w ← chunkStep i w (cmpf .ole x5 thr) (lanesAt v26 v135 80#32)
  let w ← chunkStep i w (cmpf .ole x6 thr) (lanesAt v26 v135 96#32)
  chunkStep i w (cmpf .ole x7 thr) (lanesAt v26 v135 112#32)

/-- The printed bodies applied to the tile's own buffers and semaphores. -/
abbrev t2Body (i : grid0.Coords) (v2 : BitVec 32) (v26 : IVec S16 32) (c0 c1 : BitVec 32) (t1 : Fin k0_t1_loop.trips) (v50 : Vec F S16 .f32) :=
  k0_t2_body (F := F) i d2M (Memref.isWhole_whole _) thrM (Memref.isWhole_whole _) cenM (Memref.isWhole_whole _) ptsM (Memref.isWhole_whole _) outM (Memref.isWhole_whole _)
    rowA (Memref.isWhole_whole _) rowB (Memref.isWhole_whole _) thrV (Memref.isWhole_whole _) cxV (Memref.isWhole_whole _) cyV (Memref.isWhole_whole _) czV (Memref.isWhole_whole _)
    pxV (Memref.isWhole_whole _) pyV (Memref.isWhole_whole _) pzV (Memref.isWhole_whole _) bxV (Memref.isWhole_whole _) byV (Memref.isWhole_whole _) bzV (Memref.isWhole_whole _)
    selV (Memref.isWhole_whole _) cc0_scratch13 cc0_scratch14 cc0_scoped0 cc0_scoped1 cc0_scoped2 cc0_scoped3 cc0_scoped4 cc0_scoped5 cc0_scoped6 cc0_scoped7 cc0_scoped8 cc0_scoped9
    v2 v26 c0 c1 t1 v50

abbrev t3Body (i : grid0.Coords) (v2 : BitVec 32) (v26 : IVec S16 32) (t1 : Fin k0_t1_loop.trips) (v37 : BitVec 32) (v53 : Vec F S16 .i32) (h53 : k0_chk10 v53)
    (v54 : Vec F S16 .i32) (h54 : k0_chk11 v54) (v56 v57 : Vec F S16 .f32) (v59 : BitVec 32) (v73 v98 : Vec F S16 .f32) :=
  k0_t3_body (F := F) i d2M (Memref.isWhole_whole _) thrM (Memref.isWhole_whole _) cenM (Memref.isWhole_whole _) ptsM (Memref.isWhole_whole _) outM (Memref.isWhole_whole _)
    rowA (Memref.isWhole_whole _) rowB (Memref.isWhole_whole _) thrV (Memref.isWhole_whole _) cxV (Memref.isWhole_whole _) cyV (Memref.isWhole_whole _) czV (Memref.isWhole_whole _)
    pxV (Memref.isWhole_whole _) pyV (Memref.isWhole_whole _) pzV (Memref.isWhole_whole _) bxV (Memref.isWhole_whole _) byV (Memref.isWhole_whole _) bzV (Memref.isWhole_whole _)
    selV (Memref.isWhole_whole _) cc0_scratch13 cc0_scratch14 cc0_scoped0 cc0_scoped1 cc0_scoped2 cc0_scoped3 cc0_scoped4 cc0_scoped5 cc0_scoped6 cc0_scoped7 cc0_scoped8 cc0_scoped9
    v2 v26 t1 v37 v53 h53 v54 h54 v56 v57 v59 v73 v98

set_option maxRecDepth 65536 in
theorem t2_eq (i : grid0.Coords) (v2 v26) (t1) (v50 : Vec F S16 .f32) : t2Body i v2 v26 0#32 1#32 t1 v50 = rowTrip i rowA v26 v50 := by
  funext t w
  unfold t2Body k0_t2_body
  rw [k0_part1_eq_skeleton, k0_part2_eq_skeleton, k0_part3_eq_skeleton]
  rfl

set_option maxRecDepth 65536 in
theorem t3_eq (i : grid0.Coords) (v2 v26) (t1) (v37 v53 h53 v54 h54 v56 v57 v59 v73) (v98 : Vec F S16 .f32) :
    t3Body i v2 v26 t1 v37 v53 h53 v54 h54 v56 v57 v59 v73 v98 = rowTrip i rowB v26 v98 := by
  funext t w
  unfold t3Body k0_t3_body
  rw [k0_part4_eq_skeleton, k0_part5_eq_skeleton, k0_part6_eq_skeleton]
  rfl

/-! ## The masks of a row -/

/-- Position `n` of a row. -/
abbrev pt (n : Fin 8192) : S8192.Idx := Shape.ofLane (d := ![8192]) n

/-- Distance `n` of the row is at most the threshold. -/
def Below (row : S8192.Idx → F .f32) (θ : F .f32) (n : ℕ) : Prop :=
  ∃ h : n < 8192, FloatOps.cmpf .ole (row (pt ⟨n, h⟩)) θ = 1#1

open Classical in
instance (row : S8192.Idx → F .f32) (θ : F .f32) : DecidablePred (Below row θ) := fun _ => Classical.propDecidable _

/-- The chunk at `n` of a row, compared. -/
theorem masks_row {M : Memref sig .scVector .vmem S8192 .f32} {f : M.view.ty.Contents (Elt F)} {row : S8192.Idx → F .f32}
    (hrow : M.view.read (Elt F) f = row) {θ : F .f32} {thr : Vec F S16 .f32} (hthr : ∀ x, thr x = θ) {off : Fin 1 → ℕ} {n : ℕ} (ho : off = ![n])
    (hin : ∀ a, off a + S16.size a ≤ S8192.size a) :
    Masks (Below row θ) n (cmpf .ole (M.view.readAt (Elt F) (Rect.unit (s := S8192) off S16.size hin).toLoadRect f) thr) := by
  subst ho
  intro l
  have hn : n + 16 ≤ 8192 := hin 0
  have e : (M.view.readAt (Elt F) (Rect.unit (s := S8192) ![n] S16.size hin).toLoadRect f) (lane l) = row (pt ⟨n + l.val, by omega⟩) := by
    subst hrow
    refine congrArg (M.view.read (Elt F) f) ?_
    funext a; obtain rfl := Fin.eq_zero a
    refine Fin.ext ?_
    show n + 1 * l.val = n + l.val
    omega
  show FloatOps.cmpf .ole _ (thr (lane l)) = 1#1 ↔ _
  rw [e, hthr]
  constructor
  · intro h; exact ⟨by omega, h⟩
  · rintro ⟨h1, h⟩; exact h

/-- The index words of the chunk at `128 t + j`. -/
theorem lanesAt_lane (t : ℕ) (j : ℕ) (l : Fin 16) :
    lanesAt (iota .scVector S16 32 [0]) (BitVec.ofNat 32 (128 * t)) (BitVec.ofNat 32 j) (lane l) = BitVec.ofNat 32 (128 * t + j + l.val) := by
  show BitVec.ofNat 32 (0 * 16 + l.val) + (BitVec.ofNat 32 (128 * t) + BitVec.ofNat 32 j) = _
  rw [← BitVec.ofNat_add, ← BitVec.ofNat_add]
  congr 1; omega

/-! ## A chunk, a trip, the loop -/

section
variable (d : Dev nD) (L : grid0.Coords)

omit [FloatOps F] in
theorem pts_sel_whole (f : Buf (Elt F) ((VT d L).loc cc0_scratch12)) :
    ((selV.access (.whole S8192)).loc (VT d L) ↦[(selV.access (.whole S8192)).set]{fullShare} f : sProp 𝕄) = (VT d L).loc cc0_scratch12 ↦{fullShare} f := by
  rw [show (selV.access (.whole S8192)).set = Finset.univ from Memref.set_access_whole (cc0_scratch12 : Ref sig .scVector)]

theorem chunk_wp {p : ℕ → Prop} [DecidablePred p] {n : ℕ} {s : Buf (Elt F) ((VT d L).loc cc0_scratch12)} (hS : Sel p n s)
    {m : IVec S16 1} (hm : Masks p n m) (hn : n + 16 ≤ 8192) {v : IVec S16 32} (hv : ∀ l : Fin 16, v (lane l) = BitVec.ofNat 32 (n + l.val)) :
    ((VT d L).loc cc0_scratch12 ↦{fullShare} s : sProp 𝕄)
      ⊢ wp frame (wpE (defs₀ (F := F)) 𝒱₀ (VT d L) none) Set.univ (chunkStep L (BitVec.ofNat 32 (Nat.count p n)) m v)
          fun w => iprop(⌜w = BitVec.ofNat 32 (Nat.count p (n + 16))⌝ ∗ ∃ s' : Buf (Elt F) ((VT d L).loc cc0_scratch12), ⌜Sel p (n + 16) s'⌝ ∗ (VT d L).loc cc0_scratch12 ↦{fullShare} s') := by
  have hchk : k0_chk2 (posOf (BitVec.ofNat 32 (Nat.count p n)) m natLt_1_32) := fun a x => by
    obtain rfl := Fin.eq_zero a
    exact mask_pos_lt hm natLt_1_32 hn x
  unfold chunkStep
  simp only [Prog.lift, Prog.bind_op, Prog.bind_ret, Prog.pure_eq_ret]
  iintro H
  rw [wp_assume_of _ _ _ _ hchk]
  ihave H := (Entails.of_eq (pts_sel_whole (F := F) d L _).symm) $$ H
  iapply (SparseCore.wp_vectorStoreIdx 𝒱₀ (VT d L) none Set.univ (base := selV)) $$ H
  iintro H
  ihave H := (Entails.of_eq (pts_sel_whole (F := F) d L _)) $$ H
  rw [wp_ret]; imodintro
  isplitr
  · ipureintro; exact mask_total hm natLt_1_32 _
  · iexists _
    isplitr
    rotate_left
    · iexact H
    ipureintro
    rw [show ∀ f w : Buf (Elt F) ((VT d L).loc cc0_scratch12), (selV.access (.whole S8192)).write (Elt F) f w Finset.univ = w from
      fun f w => Memref.write_access_whole_univ (Elt F) cc0_scratch12 f w]
    rw [show ∀ f : Buf (Elt F) ((VT d L).loc cc0_scratch12), (selV.access (.whole S8192)).read (Elt F) f = f from
      fun f => Memref.read_access_whole (Elt F) cc0_scratch12 f]
    exact Sel.chunk hS hm natLt_1_32 hn hv hchk

/-- The chunk at the head of a program. -/
theorem chunk_bind {p : ℕ → Prop} [DecidablePred p] (n : ℕ) {w : BitVec 32} (hw : w = BitVec.ofNat 32 (Nat.count p n))
    {s : Buf (Elt F) ((VT d L).loc cc0_scratch12)} (hS : Sel p n s)
    {m : IVec S16 1} (hm : Masks p n m) (hn : n + 16 ≤ 8192) {v : IVec S16 32} (hv : ∀ l : Fin 16, v (lane l) = BitVec.ofNat 32 (n + l.val))
    {β : Type} {k : BitVec 32 → TileProg F L β} {Q : β → sProp 𝕄} :
    ((VT d L).loc cc0_scratch12 ↦{fullShare} s : sProp 𝕄)
      ⊢ iprop((∀ w, ∀ s' : Buf (Elt F) ((VT d L).loc cc0_scratch12), ⌜w = BitVec.ofNat 32 (Nat.count p (n + 16))⌝ -∗ ⌜Sel p (n + 16) s'⌝ -∗ ((VT d L).loc cc0_scratch12 ↦{fullShare} s')
          -∗ wp frame (wpE (defs₀ (F := F)) 𝒱₀ (VT d L) none) Set.univ (k w) Q)
        -∗ wp frame (wpE (defs₀ (F := F)) 𝒱₀ (VT d L) none) Set.univ (chunkStep L w m v >>= k) Q) := by
  subst hw
  rw [wp_bind]
  iintro H Hk
  iapply (wp_wand_r Idealize.ShloMosaic.frame (wpE (defs₀ (F := F)) 𝒱₀ (VT d L) none) Set.univ)
  isplitl [H]
  · iapply (chunk_wp d L hS hm hn hv); iexact H
  iintro %w ⟨%hw, %s', %hs', H⟩
  iapply Hk
  · ipureintro; exact hw
  · ipureintro; exact hs'
  iexact H

theorem muli_iv (t : Fin k0_t2_loop.trips) : Scalar.muli (Scf.iv 0#32 1#32 t) 128#32 = BitVec.ofNat 32 (128 * t.val) := by
  simp only [Scalar.muli, Scf.iv, IntOp.muli]
  bv_omega

theorem off9_at (t : Fin k0_t2_loop.trips) (j : ℕ) (hj : j < 8) {n : ℕ} (hn : n = 128 * t.val + 16 * j) :
    k0_off9 t (BitVec.ofNat 32 (16 * j)) = ![n] := by
  subst hn; exact k0_off9_eq t ⟨j, hj⟩

theorem trip_wp {M : Memref sig .scVector .vmem S8192 .f32} {f : M.view.ty.Contents (Elt F)} {row : S8192.Idx → F .f32}
    (hrow : M.view.read (Elt F) f = row) {θ : F .f32} {thr : Vec F S16 .f32} (hthr : ∀ x, thr x = θ) (t : Fin k0_t2_loop.trips)
    {w : BitVec 32} (hw : w = BitVec.ofNat 32 (Nat.count (Below row θ) (128 * t.val)))
    {s : Buf (Elt F) ((VT d L).loc cc0_scratch12)} (hS : Sel (Below row θ) (128 * t.val) s) :
    iprop((M.view.loc (VT d L) ↦{fullShare} f) ∗ (VT d L).loc cc0_scratch12 ↦{fullShare} s : sProp 𝕄)
      ⊢ wp frame (wpE (defs₀ (F := F)) 𝒱₀ (VT d L) none) Set.univ (rowTrip L M (iota .scVector S16 32 [0]) thr t w)
          fun w => iprop(⌜w = BitVec.ofNat 32 (Nat.count (Below row θ) (128 * (t.val + 1)))⌝ ∗ (M.view.loc (VT d L) ↦{fullShare} f)
            ∗ ∃ s' : Buf (Elt F) ((VT d L).loc cc0_scratch12), ⌜Sel (Below row θ) (128 * (t.val + 1)) s'⌝ ∗ (VT d L).loc cc0_scratch12 ↦{fullShare} s') := by
  have ht : t.val < 64 := t.isLt
  unfold rowTrip
  rw [muli_iv]
  simp only [Prog.lift, Prog.bind_op, Prog.bind_ret]
  iintro ⟨Hrow, Hsel⟩
  iapply (wp_load 𝒱₀ (VT d L) none Set.univ (m := M) (S := Finset.univ) (Finset.subset_univ _)) $$ Hrow; iintro Hrow
  iapply (wp_load 𝒱₀ (VT d L) none Set.univ (m := M) (S := Finset.univ) (Finset.subset_univ _)) $$ Hrow; iintro Hrow
  iapply (wp_load 𝒱₀ (VT d L) none Set.univ (m := M) (S := Finset.univ) (Finset.subset_univ _)) $$ Hrow; iintro Hrow
  iapply (wp_load 𝒱₀ (VT d L) none Set.univ (m := M) (S := Finset.univ) (Finset.subset_univ _)) $$ Hrow; iintro Hrow
  iapply (wp_load 𝒱₀ (VT d L) none Set.univ (m := M) (S := Finset.univ) (Finset.subset_univ _)) $$ Hrow; iintro Hrow
  iapply (wp_load 𝒱₀ (VT d L) none Set.univ (m := M) (S := Finset.univ) (Finset.subset_univ _)) $$ Hrow; iintro Hrow
  iapply (wp_load 𝒱₀ (VT d L) none Set.univ (m := M) (S := Finset.univ) (Finset.subset_univ _)) $$ Hrow; iintro Hrow
  iapply (wp_load 𝒱₀ (VT d L) none Set.univ (m := M) (S := Finset.univ) (Finset.subset_univ _)) $$ Hrow; iintro Hrow
  iapply (chunk_bind d L (128 * t.val) hw hS (masks_row hrow hthr (off9_at t 0 (by omega) (by omega)) _) (by omega) (lanesAt_lane t.val 0)) $$ Hsel
  iintro %w1 %s1 %hw1 %hs1 Hsel
  iapply (chunk_bind d L (128 * t.val + 16) hw1 hs1 (masks_row hrow hthr (off9_at t 1 (by omega) (by omega)) _) (by omega) (lanesAt_lane t.val 16)) $$ Hsel
  iintro %w2 %s2 %hw2 %hs2 Hsel
  iapply (chunk_bind d L (128 * t.val + 16 + 16) hw2 hs2 (masks_row hrow hthr (off9_at t 2 (by omega) (by omega)) _) (by omega) (lanesAt_lane t.val 32)) $$ Hsel
  iintro %w3 %s3 %hw3 %hs3 Hsel
  iapply (chunk_bind d L (128 * t.val + 16 + 16 + 16) hw3 hs3 (masks_row hrow hthr (off9_at t 3 (by omega) (by omega)) _) (by omega) (lanesAt_lane t.val 48)) $$ Hsel
  iintro %w4 %s4 %hw4 %hs4 Hsel
  iapply (chunk_bind d L (128 * t.val + 16 + 16 + 16 + 16) hw4 hs4 (masks_row hrow hthr (off9_at t 4 (by omega) (by omega)) _) (by omega) (lanesAt_lane t.val 64)) $$ Hsel
  iintro %w5 %s5 %hw5 %hs5 Hsel
  iapply (chunk_bind d L (128 * t.val + 16 + 16 + 16 + 16 + 16) hw5 hs5 (masks_row hrow hthr (off9_at t 5 (by omega) (by omega)) _) (by omega) (lanesAt_lane t.val 80)) $$ Hsel
  iintro %w6 %s6 %hw6 %hs6 Hsel
  iapply (chunk_bind d L (128 * t.val + 16 + 16 + 16 + 16 + 16 + 16) hw6 hs6 (masks_row hrow hthr (off9_at t 6 (by omega) (by omega)) _) (by omega) (lanesAt_lane t.val 96)) $$ Hsel
  iintro %w7 %s7 %hw7 %hs7 Hsel
  subst hw7
  iapply (wp_wand_r Idealize.ShloMosaic.frame (wpE (defs₀ (F := F)) 𝒱₀ (VT d L) none) Set.univ)
  isplitl [Hsel]
  · iapply (chunk_wp d L hs7 (masks_row hrow hthr (off9_at t 7 (by omega) (by omega)) _) (by omega) (lanesAt_lane t.val 112)); iexact Hsel
  iintro %w ⟨%hw8, %s8, %hs8, Hsel⟩
  have e8 : 128 * t.val + 16 + 16 + 16 + 16 + 16 + 16 + 16 + 16 = 128 * (t.val + 1) := by omega
  rw [e8] at hw8 hs8
  isplitr; · ipureintro; exact hw8
  isplitl [Hrow]; · iexact Hrow
  iexists s8
  isplitr; · ipureintro; exact hs8
  iexact Hsel

/-- The invariant of the loop over a row. -/
abbrev rowInv (M : Memref sig .scVector .vmem S8192 .f32) (f : M.view.ty.Contents (Elt F)) (p : ℕ → Prop) [DecidablePred p] (k : ℕ) (w : BitVec 32) : sProp 𝕄 :=
  iprop(⌜w = BitVec.ofNat 32 (Nat.count p (128 * k))⌝ ∗ (M.view.loc (VT d L) ↦{fullShare} f)
    ∗ ∃ s' : Buf (Elt F) ((VT d L).loc cc0_scratch12), ⌜Sel p (128 * k) s'⌝ ∗ (VT d L).loc cc0_scratch12 ↦{fullShare} s')

/-- The loop at the head of a program. -/
theorem row_loop {M : Memref sig .scVector .vmem S8192 .f32} {f : M.view.ty.Contents (Elt F)} {row : S8192.Idx → F .f32}
    (hrow : M.view.read (Elt F) f = row) {θ : F .f32} {thr : Vec F S16 .f32} (hthr : ∀ x, thr x = θ)
    {s : Buf (Elt F) ((VT d L).loc cc0_scratch12)} {ok} {body : Fin k0_t2_loop.trips → BitVec 32 → TileProg F L (BitVec 32)}
    (hbody : body = rowTrip L M (iota .scVector S16 32 [0]) thr) {β : Type} {k : BitVec 32 → TileProg F L β} {Q : β → sProp 𝕄} :
    iprop((M.view.loc (VT d L) ↦{fullShare} f) ∗ (VT d L).loc cc0_scratch12 ↦{fullShare} s : sProp 𝕄)
      ⊢ iprop((∀ w, ∀ s' : Buf (Elt F) ((VT d L).loc cc0_scratch12), ⌜Sel (Below row θ) 8192 s'⌝ -∗ (M.view.loc (VT d L) ↦{fullShare} f)
          -∗ ((VT d L).loc cc0_scratch12 ↦{fullShare} s')
          -∗ wp frame (wpE (defs₀ (F := F)) 𝒱₀ (VT d L) none) Set.univ (k w) Q)
        -∗ wp frame (wpE (defs₀ (F := F)) 𝒱₀ (VT d L) none) Set.univ (Scf.Loop.for k0_t2_loop ok 0#32 body >>= k) Q) := by
  subst hbody
  iintro ⟨Hrow, Hsel⟩ Hk
  iapply (Scf.wp_for_bind Idealize.ShloMosaic.frame (wpE (defs₀ (F := F)) 𝒱₀ (VT d L) none) Set.univ _ _ _ _ _ _ (rowInv d L M f (Below row θ)) ?hb) $$ [Hrow Hsel]
  case hb =>
    intro t w
    iintro ⟨%hw, Hrow, %s', %hs', Hsel⟩
    iapply (trip_wp d L hrow hthr t hw hs')
    isplitl [Hrow] <;> iassumption
  · isplitr; · ipureintro; simp
    isplitl [Hrow]; · iexact Hrow
    iexists s
    isplitr; · ipureintro; exact Sel.zero s
    iexact Hsel
  iintro %w ⟨-, Hrow, %s', %hs', Hsel⟩
  iapply Hk $$ [] Hrow Hsel
  ipureintro; exact hs'

end

end Cert.Proof
-- ==== Proof.Row.lean ====
/-
  A pair of rows: the trip of the kernel's outer loop. `half` is what a trip does with one row: the threshold read, the
  loop over the row, the first 32 indices read back, and the points' coordinates gathered there, the centroid's
  subtracted, into the three blocks. `pairTrip` is the trip, both rows and the copies of the rows ahead (`t1_eq`).
-/
module

public import proofs.«01_k».proof.Proof.Inner

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof.Select

variable {F : FTy → Type} [FloatOps F]

local notation "𝕄" => MT nD τ sig (HIx 1) (Elt F) ℕ UU ℕ

/-- Sixteen lanes put into a block (the block's lanes are read first, and not used). -/
def put (i : grid0.Coords) (B : Memref sig .scVector .vmem S4096 .f32) (off : Fin 1 → ℕ) (hin : ∀ a, off a + S16.size a ≤ S4096.size a)
    (v : Vec F S16 .f32) : TileProg F i PUnit := do
  let _ ← Prog.lift (.load B (Rect.unit (s := S4096) off S16.size hin).toLoadRect (View.loadsAt_vmem h_S16))
  Prog.lift (.store B (Rect.unit (s := S4096) off S16.size hin) v Finset.univ (View.stores_vmem_bits_univ h_S16 rfl) (.inl rfl))

/-- One row of the pair. -/
def half (i : grid0.Coords) (M : Memref sig .scVector .vmem S8192 .f32) (r : BitVec 32) (ox oy o1 : Fin 1 → ℕ)
    (hx : ∀ a, ox a + S16.size a ≤ S4096.size a) (hy : ∀ a, oy a + S16.size a ≤ S4096.size a) (h1 : ∀ a, o1 a + S16.size a ≤ S4096.size a) :
    TileProg F i PUnit := do
  let h ← Prog.lift (TpuEff.assume (k0_chk1 (broadcast S16 r)) (k0_chk1.dec _))
  let th ← SparseCore.vectorLoadIdx thrV ![broadcast S16 r] (k0_idx1_inb _ h.down) (View.loads_vmem h_S128)
  let _ ← Scf.Loop.for k0_t2_loop k0_t2_ok 0#32 (rowTrip i M (iota .scVector S16 32 [0]) th)
  let a : Vec F S16 .i32 ← Prog.lift (.load selV (Rect.unit (s := S8192) ![0] S16.size inb_S8192_S16_0).toLoadRect (View.loadsAt_vmem h_S16))
  let ha ← Prog.lift (TpuEff.assume (k0_chk10 a) (k0_chk10.dec _))
  let b : Vec F S16 .i32 ← Prog.lift (.load selV (Rect.unit (s := S8192) ![16] S16.size inb_S8192_S16_16).toLoadRect (View.loadsAt_vmem h_S16))
  let hb ← Prog.lift (TpuEff.assume (k0_chk11 b) (k0_chk11.dec _))
  let cx ← SparseCore.vectorLoadIdx cxV ![broadcast S16 r] (k0_idx10_inb _ h.down) (View.loads_vmem h_S128)
  let cy ← SparseCore.vectorLoadIdx cyV ![broadcast S16 r] (k0_idx11_inb _ h.down) (View.loads_vmem h_S128)
  let cz ← SparseCore.vectorLoadIdx czV ![broadcast S16 r] (k0_idx12_inb _ h.down) (View.loads_vmem h_S128)
  let g ← SparseCore.vectorLoadIdx pxV ![a] (k0_idx13_inb _ ha.down) (View.loads_vmem h_S8192)
  put i bxV ox hx (subf g cx)
  let g ← SparseCore.vectorLoadIdx pxV ![b] (k0_idx14_inb _ hb.down) (View.loads_vmem h_S8192)
  put i bxV o1 h1 (subf g cx)
  let g ← SparseCore.vectorLoadIdx pyV ![a] (k0_idx15_inb _ ha.down) (View.loads_vmem h_S8192)
  put i byV oy hy (subf g cy)
  let g ← SparseCore.vectorLoadIdx pyV ![b] (k0_idx16_inb _ hb.down) (View.loads_vmem h_S8192)
  put i byV o1 h1 (subf g cy)
  let g ← SparseCore.vectorLoadIdx pzV ![a] (k0_idx17_inb _ ha.down) (View.loads_vmem h_S8192)
  put i bzV oy hy (subf g cz)
  let g ← SparseCore.vectorLoadIdx pzV ![b] (k0_idx18_inb _ hb.down) (View.loads_vmem h_S8192)
  put i bzV o1 h1 (subf g cz)

/-- One trip of the outer loop. -/
def pairTrip (i : grid0.Coords) (t : Fin k0_t1_loop.trips) : TileProg F i (BitVec 32) := do
  Prog.lift (.enqueueDma (d2M.slice (Rect.unit (s := S33554432) (k0_off7 i t) S8192.size (k0_off7_inb i t)) (fun _ => rfl)) (.here rowB) (.dma cc0_scratch14.sem)
    (View.wordExact_bits rfl) (Memref.isWhole_whole _).wordExact ⟨Or.inl rfl, trivial⟩)
  Prog.lift (.waitDma2 cc0_scratch13.sem (d2M.slice (Rect.unit (s := S33554432) (k0_off8 i) S8192.size (k0_off8_inb i)) (fun _ => rfl)) rowA
    (View.wordExact_bits rfl) (Memref.isWhole_whole _).wordExact)
  half i rowA (Scalar.muli 2#32 (Scf.iv 0#32 1#32 t)) (k0_off10 t) (k0_off12 t) (k0_off11 t) (k0_off10_inb t) (k0_off12_inb t) (k0_off11_inb t)
  if h : k0_cond1 t = 1#1 then
    Prog.lift (.enqueueDma (d2M.slice (Rect.unit (s := S33554432) (k0_off13 i t) S8192.size (k0_off13_inb i t h)) (fun _ => rfl)) (.here rowA) (.dma cc0_scratch13.sem)
      (View.wordExact_bits rfl) (Memref.isWhole_whole _).wordExact ⟨Or.inl rfl, trivial⟩)
  else pure ⟨⟩
  Prog.lift (.waitDma2 cc0_scratch14.sem (d2M.slice (Rect.unit (s := S33554432) (k0_off14 i) S8192.size (k0_off14_inb i)) (fun _ => rfl)) rowB
    (View.wordExact_bits rfl) (Memref.isWhole_whole _).wordExact)
  half i rowB (Scalar.addi (Scalar.muli 2#32 (Scf.iv 0#32 1#32 t)) 1#32) (k0_off16 t) (k0_off18 t) (k0_off17 t) (k0_off16_inb t) (k0_off18_inb t) (k0_off17_inb t)
  pure 0#32

/-- The printed body applied to the tile's own buffers and semaphores. -/
abbrev t1Body (i : grid0.Coords) (v1 v2 v19 c3 : BitVec 32) (v26 : IVec S16 32) :=
  k0_t1_body (F := F) i d2M (Memref.isWhole_whole _) thrM (Memref.isWhole_whole _) cenM (Memref.isWhole_whole _) ptsM (Memref.isWhole_whole _) outM (Memref.isWhole_whole _)
    rowA (Memref.isWhole_whole _) rowB (Memref.isWhole_whole _) thrV (Memref.isWhole_whole _) cxV (Memref.isWhole_whole _) cyV (Memref.isWhole_whole _) czV (Memref.isWhole_whole _)
    pxV (Memref.isWhole_whole _) pyV (Memref.isWhole_whole _) pzV (Memref.isWhole_whole _) bxV (Memref.isWhole_whole _) byV (Memref.isWhole_whole _) bzV (Memref.isWhole_whole _)
    selV (Memref.isWhole_whole _) cc0_scratch13 cc0_scratch14 cc0_scoped0 cc0_scoped1 cc0_scoped2 cc0_scoped3 cc0_scoped4 cc0_scoped5 cc0_scoped6 cc0_scoped7 cc0_scoped8 cc0_scoped9
    v1 v2 v19 c3 v26

omit [FloatOps F] in
theorem bind_step {i : grid0.Coords} {α β : Type} {p q : TileProg F i α} {f g : α → TileProg F i β} (h : p = q) (hf : ∀ x, f x = g x) :
    p >>= f = q >>= g := by subst h; exact congrArg _ (funext hf)

set_option maxRecDepth 65536 in
set_option maxHeartbeats 400000 in
theorem t1_eq (i : grid0.Coords) (v1 v2 v19 c3 : BitVec 32) (t : Fin k0_t1_loop.trips) (w : BitVec 32) :
    t1Body (F := F) i v1 v2 v19 c3 (iota .scVector S16 32 [0]) t w = pairTrip i t := by
  unfold t1Body k0_t1_body
  rw [k0_part7_eq_skeleton, k0_part8_eq_skeleton]
  unfold k0_part7_skel k0_part8_skel pairTrip half put
  dsimp only
  simp only [t2_eq, t3_eq, bind_assoc, pure_bind]
  by_cases h : k0_cond1 t = 1#1
  · simp only [dif_pos h, bind_assoc, pure_bind]
    repeat refine bind_step rfl fun _ => ?_
    rfl
  · simp only [dif_neg h, bind_assoc, pure_bind]
    repeat refine bind_step rfl fun _ => ?_
    rfl

end Cert.Proof
-- ==== Proof.Half.lean ====
/-
  What one row of the pair leaves: the three blocks filled 32 lanes further, at the coordinates of the points that the
  row selects, in their order, less the centroid's (`half_bind`). A block is known up to a position (`Filled`); each
  gather reads the lanes that its index words name.
-/
module

public import proofs.«01_k».proof.Proof.Row

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof.Select

variable {F : FTy → Type} [FloatOps F]

local notation "𝕄" => MT nD τ sig (HIx 1) (Elt F) ℕ UU ℕ

/-- Position `q` of a block, of a table of 128. -/
abbrev blk (q : Fin 4096) : S4096.Idx := Shape.ofLane (d := ![4096]) q
abbrev ent (r : Fin 128) : S128.Idx := Shape.ofLane (d := ![128]) r

/-- A block holds `G` up to position `n`. -/
def Filled (B : Memref sig .scVector .vmem S4096 .f32) (G : ℕ → F .f32) (n : ℕ) (f : B.view.ty.Contents (Elt F)) : Prop :=
  ∀ q : Fin 4096, q.val < n → B.view.read (Elt F) f (blk q) = G q.val

theorem Filled.put {B : Memref sig .scVector .vmem S4096 .f32} {G : ℕ → F .f32} {n : ℕ} {f : B.view.ty.Contents (Elt F)} (hF : Filled B G n f)
    {off : Fin 1 → ℕ} (ho : off = ![n]) (hin : ∀ a, off a + S16.size a ≤ S4096.size a) {v : Vec F S16 .f32}
    (hv : ∀ l : Fin 16, v (lane l) = G (n + l.val)) :
    Filled B G (n + 16) ((B.access (Rect.unit (s := S4096) off S16.size hin)).write (Elt F) f v Finset.univ) := by
  subst ho
  intro q hq
  have hemb : ∀ l : Fin 16, ((Rect.unit (s := S4096) ![n] S16.size hin).emb (lane l) 0).val = n + l.val := fun l => by
    show n + 1 * l.val = _; omega
  by_cases h : q.val < n
  · rw [← hF q h]
    refine View.read_slice_write_of_not_mem (v := B.view) (Rect.unit (s := S4096) ![n] S16.size hin) f v Finset.univ ?_
    intro hmem
    obtain ⟨x, -, hx⟩ := Finset.mem_map.1 hmem
    obtain ⟨l, rfl⟩ : ∃ l : Fin 16, x = lane l := ⟨x 0, by funext a; obtain rfl := Fin.eq_zero a; rfl⟩
    have := congrArg (fun y : S4096.Idx => (y 0).val) hx
    have e := hemb l
    have : ((Rect.unit (s := S4096) ![n] S16.size hin).emb (lane l) 0).val = q.val := this
    omega
  · have hl : q.val - n < 16 := by omega
    have e : blk q = (Rect.unit (s := S4096) ![n] S16.size hin).emb (lane ⟨q.val - n, hl⟩) := by
      funext a; obtain rfl := Fin.eq_zero a
      refine Fin.ext ?_
      show q.val = _
      rw [hemb]; show _ = n + (q.val - n); omega
    rw [e]
    refine (View.read_slice_write_emb (v := B.view) (Rect.unit (s := S4096) ![n] S16.size hin) f v (Finset.mem_univ _)).trans ?_
    rw [hv]; congr 1; show n + (q.val - n) = _; omega

section
variable (d : Dev nD) (L : grid0.Coords)

theorem put_bind {B : Memref sig .scVector .vmem S4096 .f32} {G : ℕ → F .f32} {n : ℕ} {f : B.view.ty.Contents (Elt F)} (hF : Filled B G n f)
    {off : Fin 1 → ℕ} (ho : off = ![n]) (hin : ∀ a, off a + S16.size a ≤ S4096.size a) {v : Vec F S16 .f32}
    (hv : ∀ l : Fin 16, v (lane l) = G (n + l.val)) {β : Type} {k : PUnit → TileProg F L β} {Q : β → sProp 𝕄} :
    (B.view.loc (VT d L) ↦{fullShare} f : sProp 𝕄)
      ⊢ iprop((∀ f' : B.view.ty.Contents (Elt F), ⌜Filled B G (n + 16) f'⌝ -∗ (B.view.loc (VT d L) ↦{fullShare} f')
          -∗ wp frame (wpE (defs₀ (F := F)) 𝒱₀ (VT d L) none) Set.univ (k ⟨⟩) Q)
        -∗ wp frame (wpE (defs₀ (F := F)) 𝒱₀ (VT d L) none) Set.univ (put L B off hin v >>= k) Q) := by
  unfold put
  simp only [Prog.lift, Prog.bind_op, Prog.bind_ret]
  iintro H Hk
  iapply (wp_load 𝒱₀ (VT d L) none Set.univ (m := B) (S := Finset.univ) (Finset.subset_univ _)) $$ H; iintro H
  iapply (wp_store 𝒱₀ (VT d L) none Set.univ (m := B) (r := Rect.unit (s := S4096) off S16.size hin) (Mk := Finset.univ) (S := Finset.univ) (Finset.subset_univ _)) $$ H
  iintro H
  iapply Hk $$ [] H
  ipureintro; exact hF.put ho hin hv

/-- A gather out of a whole buffer. -/
theorem gather_bind {s : Shape} {e : EltTy} {M : Memref sig .scVector .vmem s e} {f : M.view.ty.Contents (Elt F)} {g : s.Idx → Elt F e}
    (hg : M.view.read (Elt F) f = g) {idxs : Fin s.rank → IVec S16 32} {h : ∀ a x, (idxs a x).toNat < s.size a} {hl : M.view.Loads}
    {β : Type} {k : Vec F S16 e → TileProg F L β} {Q : β → sProp 𝕄} :
    (M.view.loc (VT d L) ↦{fullShare} f : sProp 𝕄)
      ⊢ iprop(((M.view.loc (VT d L) ↦{fullShare} f)
          -∗ wp frame (wpE (defs₀ (F := F)) 𝒱₀ (VT d L) none) Set.univ (k (loadIdx g idxs h)) Q)
        -∗ wp frame (wpE (defs₀ (F := F)) 𝒱₀ (VT d L) none) Set.univ (SparseCore.vectorLoadIdx M idxs h hl >>= k) Q) := by
  have e : (M.access (.whole s)).read (Elt F) f = g := by
    subst hg; funext x
    exact congrArg (M.view.read (Elt F) f) (Rect.emb_whole_apply s x)
  rw [← e]
  exact SparseCore.wp_vectorLoadIdx 𝒱₀ (VT d L) none Set.univ (base := M) (S := Finset.univ) (q := fullShare) (Finset.subset_univ _)

omit [FloatOps F] in
theorem loadIdx_row {g : S8192.Idx → F .f32} {v : IVec S16 32} (h : ∀ a x, ((![v] : Fin 1 → IVec S16 32) a x).toNat < S8192.size a) (l : Fin 16)
    {n : ℕ} (hn : n < 8192) (hv : v (lane l) = BitVec.ofNat 32 n) : (loadIdx (F := F) (e := .f32) g (![v] : Fin 1 → IVec S16 32) h) (lane l) = g (pt ⟨n, hn⟩) := by
  refine congrArg g ?_
  funext a; obtain rfl := Fin.eq_zero a
  refine Fin.ext ?_
  show (v (lane l)).toNat = n
  rw [hv, BitVec.toNat_ofNat]; omega

omit [FloatOps F] in
theorem loadIdx_ent {g : S128.Idx → F .f32} {r : BitVec 32} (h : ∀ a x, ((![broadcast S16 r] : Fin 1 → IVec S16 32) a x).toNat < S128.size a) (x : S16.Idx)
    {n : Fin 128} (hr : r = BitVec.ofNat 32 n.val) : (loadIdx (F := F) (e := .f32) g (![broadcast S16 r] : Fin 1 → IVec S16 32) h) x = g (ent n) := by
  refine congrArg g ?_
  funext a; obtain rfl := Fin.eq_zero a
  refine Fin.ext ?_
  show r.toNat = n.val
  rw [hr, BitVec.toNat_ofNat]; omega

/-- The tile's tables: thresholds, and the coordinates of its centroids and of its points. -/
structure Tables (F : FTy → Type) where
  T : S128.Idx → F .f32
  C : Fin 3 → S128.Idx → F .f32
  P : Fin 3 → S8192.Idx → F .f32

/-- Row `r` of the tile, `row` its distances: coordinate `c` of its `j`-th point. -/
def Tables.val (X : Tables F) (row : S8192.Idx → F .f32) (r : Fin 128) (c : Fin 3) (j : ℕ) : F .f32 :=
  FloatOps.subf (X.P c (pt (Fin.ofNat 8192 (pick (Below row (X.T (ent r))) j)))) (X.C c (ent r))

/-- The tables in the tile's memory. -/
def tablesAt (X : Tables F) : sProp 𝕄 :=
  iprop(((VT d L).loc cc0_scratch2 ↦{fullShare} X.T) ∗ ((VT d L).loc cc0_scratch3 ↦{fullShare} X.C 0) ∗ ((VT d L).loc cc0_scratch4 ↦{fullShare} X.C 1)
    ∗ ((VT d L).loc cc0_scratch5 ↦{fullShare} X.C 2) ∗ ((VT d L).loc cc0_scratch6 ↦{fullShare} X.P 0) ∗ ((VT d L).loc cc0_scratch7 ↦{fullShare} X.P 1)
    ∗ ((VT d L).loc cc0_scratch8 ↦{fullShare} X.P 2))

/-- The three blocks, filled up to `n`. -/
def blocksAt (G : Fin 3 → ℕ → F .f32) (n : ℕ) : sProp 𝕄 :=
  iprop((∃ f : Buf (Elt F) ((VT d L).loc cc0_scratch9), ⌜Filled bxV (G 0) n f⌝ ∗ (VT d L).loc cc0_scratch9 ↦{fullShare} f)
    ∗ (∃ f : Buf (Elt F) ((VT d L).loc cc0_scratch10), ⌜Filled byV (G 1) n f⌝ ∗ (VT d L).loc cc0_scratch10 ↦{fullShare} f)
    ∗ (∃ f : Buf (Elt F) ((VT d L).loc cc0_scratch11), ⌜Filled bzV (G 2) n f⌝ ∗ (VT d L).loc cc0_scratch11 ↦{fullShare} f))

/-- The list of indices holds anything. -/
def selAt : sProp 𝕄 := iprop(∃ s : Buf (Elt F) ((VT d L).loc cc0_scratch12), (VT d L).loc cc0_scratch12 ↦{fullShare} s)

/-- The words read back from the list of indices at `n`. -/
theorem sel_words {p : ℕ → Prop} [DecidablePred p] {s : Buf (Elt F) ((VT d L).loc cc0_scratch12)} (hS : Sel p 8192 s) (hc : Nat.count p 8192 = 32) {n : ℕ}
    (hin : ∀ a, (![n] : Fin 1 → ℕ) a + S16.size a ≤ S8192.size a) (h32 : n + 16 ≤ 32) (l : Fin 16) :
    ((selV.view.readAt (Elt F) (Rect.unit (s := S8192) ![n] S16.size hin).toLoadRect s : IVec S16 32) (lane l)) = BitVec.ofNat 32 (pick p (n + l.val)) := by
  refine hS.word (by omega) _ ?_
  show n + 1 * l.val = n + l.val
  omega

omit [FloatOps F] in
theorem words_lt {v : IVec S16 32} {n : Fin 16 → ℕ} (hn : ∀ l, n l < 8192) (hv : ∀ l : Fin 16, v (lane l) = BitVec.ofNat 32 (n l)) : k0_chk10 v := by
  have : ∀ a x, ((![v] : Fin 1 → IVec S16 32) a x).toNat < S8192.size a := fun a x => by
    obtain rfl := Fin.eq_zero a
    obtain ⟨l, rfl⟩ : ∃ l : Fin 16, x = lane l := ⟨x 0, by funext a; obtain rfl := Fin.eq_zero a; rfl⟩
    show (v (lane l)).toNat < 8192
    have := hn l
    rw [hv, BitVec.toNat_ofNat]; omega
  exact ⟨this, this, this⟩

theorem half_bind (X : Tables F) (G : Fin 3 → ℕ → F .f32) {M : Memref sig .scVector .vmem S8192 .f32} {f : M.view.ty.Contents (Elt F)} {row : S8192.Idx → F .f32}
    (hrow : M.view.read (Elt F) f = row) (r : Fin 128) (hcnt : Nat.count (Below row (X.T (ent r))) 8192 = 32)
    (hG : ∀ c j, j < 32 → G c (32 * r.val + j) = X.val row r c j) {rw : BitVec 32} (hrw : rw = BitVec.ofNat 32 r.val)
    {ox oy o1 : Fin 1 → ℕ} (ex : ox = ![32 * r.val]) (ey : oy = ![32 * r.val]) (e1 : o1 = ![32 * r.val + 16])
    (hx : ∀ a, ox a + S16.size a ≤ S4096.size a) (hy : ∀ a, oy a + S16.size a ≤ S4096.size a) (h1 : ∀ a, o1 a + S16.size a ≤ S4096.size a)
    {β : Type} {k : PUnit → TileProg F L β} {Q : β → sProp 𝕄} :
    iprop((M.view.loc (VT d L) ↦{fullShare} f) ∗ tablesAt d L X ∗ blocksAt d L G (32 * r.val) ∗ selAt d L : sProp 𝕄)
      ⊢ iprop(((M.view.loc (VT d L) ↦{fullShare} f) -∗ tablesAt d L X -∗ blocksAt d L G (32 * r.val + 32) -∗ selAt d L
          -∗ wp frame (wpE (defs₀ (F := F)) 𝒱₀ (VT d L) none) Set.univ (k ⟨⟩) Q)
        -∗ wp frame (wpE (defs₀ (F := F)) 𝒱₀ (VT d L) none) Set.univ (half L M rw ox oy o1 hx hy h1 >>= k) Q) := by
  have hchk : k0_chk1 (broadcast S16 rw) := by
    have : ∀ a x, ((![broadcast S16 rw] : Fin 1 → IVec S16 32) a x).toNat < S128.size a := fun a x => by
      obtain rfl := Fin.eq_zero a
      show rw.toNat < 128
      have := r.isLt
      rw [hrw, BitVec.toNat_ofNat]; omega
    exact ⟨this, this, this, this⟩
  have hpick : ∀ j, j < 32 → pick (Below row (X.T (ent r))) j < 8192 := fun j hj => (pick_spec (hcnt.symm ▸ hj)).1
  have hval : ∀ c j, (hj : j < 32) → FloatOps.subf (X.P c (pt ⟨_, hpick j hj⟩)) (X.C c (ent r)) = G c (32 * r.val + j) := fun c j hj => by
    rw [hG c j hj]; unfold Tables.val
    rw [show Fin.ofNat 8192 (pick (Below row (X.T (ent r))) j) = ⟨_, hpick j hj⟩ from Fin.ext (Nat.mod_eq_of_lt (hpick j hj))]
  unfold half tablesAt blocksAt selAt
  simp only [Prog.lift, Prog.bind_op, Prog.bind_ret, bind_assoc]
  iintro ⟨Hrow, ⟨HT, HC0, HC1, HC2, HP0, HP1, HP2⟩, ⟨⟨%b0, %hb0, HB0⟩, ⟨%b1, %hb1, HB1⟩, ⟨%b2, %hb2, HB2⟩⟩, %s, Hsel⟩ Hk
  rw [wp_assume_of _ _ _ _ hchk]
  iapply (gather_bind d L (M := thrV) (f := X.T) (g := X.T) rfl) $$ HT; iintro HT
  iapply (row_loop d L hrow (θ := X.T (ent r)) (fun x => loadIdx_ent _ x hrw) rfl) $$ [Hrow Hsel]
  · isplitl [Hrow] <;> iassumption
  iintro %w %s' %hs' Hrow Hsel
  iapply (wp_load 𝒱₀ (VT d L) none Set.univ (m := selV) (S := Finset.univ) (Finset.subset_univ _)) $$ Hsel; iintro Hsel
  have ha := fun l : Fin 16 => sel_words d L hs' hcnt inb_S8192_S16_0 (by omega) l
  have hb := fun l : Fin 16 => sel_words d L hs' hcnt inb_S8192_S16_16 (by omega) l
  generalize (selV.view.readAt (Elt F) (Rect.unit (s := S8192) ![0] S16.size inb_S8192_S16_0).toLoadRect s' : IVec S16 32) = a at ha ⊢
  have hchka : k0_chk10 a := words_lt (fun l => hpick (0 + l.val) (by omega)) ha
  rw [wp_assume_of _ _ _ _ hchka]
  iapply (wp_load 𝒱₀ (VT d L) none Set.univ (m := selV) (S := Finset.univ) (Finset.subset_univ _)) $$ Hsel; iintro Hsel
  generalize (selV.view.readAt (Elt F) (Rect.unit (s := S8192) ![16] S16.size inb_S8192_S16_16).toLoadRect s' : IVec S16 32) = b at hb ⊢
  have lanes_a : ∀ c (l : Fin 16), (subf (loadIdx (F := F) (e := .f32) (X.P c) (![a] : Fin 1 → IVec S16 32) hchka.1)
      (loadIdx (F := F) (e := .f32) (X.C c) (![broadcast S16 rw] : Fin 1 → IVec S16 32) hchk.1) : Vec F S16 .f32) (lane l) = G c (32 * r.val + l.val) := fun c l => by
    refine Eq.trans (congrArg₂ FloatOps.subf (loadIdx_row hchka.1 l (hpick (0 + l.val) (by omega)) (ha l)) (loadIdx_ent hchk.1 (lane l) hrw)) ?_
    exact (hval c (0 + l.val) (by omega)).trans (congrArg (G c) (by omega))
  have lanes_b : ∀ hchkb, ∀ c (l : Fin 16), (subf (loadIdx (F := F) (e := .f32) (X.P c) (![b] : Fin 1 → IVec S16 32) hchkb)
      (loadIdx (F := F) (e := .f32) (X.C c) (![broadcast S16 rw] : Fin 1 → IVec S16 32) hchk.1) : Vec F S16 .f32) (lane l) = G c (32 * r.val + 16 + l.val) := fun hchkb c l => by
    refine Eq.trans (congrArg₂ FloatOps.subf (loadIdx_row hchkb l (hpick (16 + l.val) (by omega)) (hb l)) (loadIdx_ent hchk.1 (lane l) hrw)) ?_
    exact (hval c (16 + l.val) (by omega)).trans (congrArg (G c) (by omega))
  have hchkb : k0_chk11 b := words_lt (fun l => hpick (16 + l.val) (by omega)) hb
  rw [wp_assume_of _ _ _ _ hchkb]
  iapply (gather_bind d L (M := cxV) (f := X.C 0) (g := X.C 0) rfl) $$ HC0; iintro HC0
  iapply (gather_bind d L (M := cyV) (f := X.C 1) (g := X.C 1) rfl) $$ HC1; iintro HC1
  iapply (gather_bind d L (M := czV) (f := X.C 2) (g := X.C 2) rfl) $$ HC2; iintro HC2
  iapply (gather_bind d L (M := pxV) (f := X.P 0) (g := X.P 0) rfl) $$ HP0; iintro HP0
  iapply (put_bind d L hb0 ex hx (lanes_a 0)) $$ HB0; iintro %f0 %hf0 HB0
  iapply (gather_bind d L (M := pxV) (f := X.P 0) (g := X.P 0) rfl) $$ HP0; iintro HP0
  iapply (put_bind d L hf0 e1 h1 (lanes_b hchkb.1 0)) $$ HB0; iintro %f0' %hf0' HB0
  iapply (gather_bind d L (M := pyV) (f := X.P 1) (g := X.P 1) rfl) $$ HP1; iintro HP1
  iapply (put_bind d L hb1 ey hy (lanes_a 1)) $$ HB1; iintro %f1 %hf1 HB1
  iapply (gather_bind d L (M := pyV) (f := X.P 1) (g := X.P 1) rfl) $$ HP1; iintro HP1
  iapply (put_bind d L hf1 e1 h1 (lanes_b hchkb.1 1)) $$ HB1; iintro %f1' %hf1' HB1
  iapply (gather_bind d L (M := pzV) (f := X.P 2) (g := X.P 2) rfl) $$ HP2; iintro HP2
  iapply (put_bind d L hb2 ey hy (lanes_a 2)) $$ HB2; iintro %f2 %hf2 HB2
  iapply (gather_bind d L (M := pzV) (f := X.P 2) (g := X.P 2) rfl) $$ HP2; iintro HP2
  iapply (put_bind d L hf2 e1 h1 (lanes_b hchkb.1 2)) $$ HB2; iintro %f2' %hf2' HB2
  iapply Hk $$ Hrow [HT HC0 HC1 HC2 HP0 HP1 HP2] [HB0 HB1 HB2] [Hsel]
  · isplitl [HT]; · iexact HT
    isplitl [HC0]; · iexact HC0
    isplitl [HC1]; · iexact HC1
    isplitl [HC2]; · iexact HC2
    isplitl [HP0]; · iexact HP0
    isplitl [HP1]; · iexact HP1
    iexact HP2
  · isplitl [HB0]
    · iexists f0'; isplitr; · ipureintro; exact hf0'
      iexact HB0
    isplitl [HB1]
    · iexists f1'; isplitr; · ipureintro; exact hf1'
      iexact HB1
    · iexists f2'; isplitr; · ipureintro; exact hf2'
      iexact HB2
  · iexists s'; iexact Hsel

end

end Cert.Proof
-- ==== Proof.Copies.lean ====
/-
  The tile's copies. A copy issued and not yet waited for is `Fl`, which hands over at its wait the destination written
  and the source's share back; `issue` and `await` are its two ends for a copy out of a part of an array of which a share
  is held whole, and `copyIn`, `copyOut` the pairs of them the kernel makes.
-/
module

public import proofs.«01_k».proof.Proof.Inner

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

section
variable (d : Dev nD) (L : grid0.Coords)

/-- A copy in flight on the tile's semaphore `sem`, of `N` units, handing over `D`. -/
abbrev Fl (sem : DmaSem sig) (N : ℕ) (D : sProp 𝕄) : sProp 𝕄 := Flight countersEmb (VT d L) (.dma sem) (default : HIx 1) N D

/-- The tile's record of what it owes, whatever it has waited for. -/
abbrev owing (O : CellTallies nD τ sig (HIx 1)) : sProp 𝕄 := iprop(∃ W, owes (VT d L) O W)

omit [FloatOps F] in
/-- What is held beside a flight may ride with it. -/
theorem Fl.frame {sem : DmaSem sig} {N : ℕ} {D R : sProp 𝕄} : iprop(Fl d L sem N D ∗ R) ⊢ Fl d L sem N iprop(D ∗ R) := by
  unfold Fl Flight
  iintro ⟨⟨⟨%R₀, HR₀, %hcap, %hpeek⟩, Hcred⟩, HR⟩
  isplitr [Hcred]
  · iexists iprop(R₀ ∗ R)
    isplitl [HR₀ HR]
    · isplitl [HR₀] <;> iassumption
    isplitr
    · ipureintro
      intro K
      iintro ⟨⟨HR₀, HR⟩, HK⟩
      iapply (hcap K)
      isplitl [HR₀]; · iexact HR₀
      iintro ⟨Hv, HD⟩
      iapply HK
      isplitl [Hv]; · iexact Hv
      isplitl [HD] <;> iassumption
    · ipureintro
      intro K
      iintro ⟨⟨HR₀, HR⟩, HK⟩
      iapply (hpeek K)
      isplitl [HR₀]; · iexact HR₀
      iintro HR₀
      iapply HK
      isplitl [HR₀] <;> iassumption
  · iexact Hcred

/-- A copy out of a part of an array, issued. -/
theorem issue {sp sp' : Space} {s : Shape} {src : Memref sig .scVector sp s .f32} {dst : Memref sig .scVector sp' s .f32} {sem : DmaSem sig}
    {hsrc : src.view.WordExact} {hdst : dst.view.WordExact} {hsem : DmaTarget.Typed (nD := nD) (τ := τ) (p := .scVector (cV L) (jV L)) sp (.dma sem) (.here dst)}
    {q : PosShare TreeShare} {fs : Buf (Elt F) (src.view.loc (VT d L))} {Sd : Finset (Idx (dst.view.loc (VT d L)))} {fd : Buf (Elt F) (dst.view.loc (VT d L))}
    (h0 : 0 < s.numel) (hSd : dst.view.set ⊆ Sd) {f' : Buf (Elt F) (dst.view.loc (VT d L))} (hf' : dst.view.write (Elt F) fd (src.view.read (Elt F) fs) Finset.univ = f')
    {β : Type} {k : PUnit → TileProg F L β} {Q : β → sProp 𝕄} :
    iprop((src.view.loc (VT d L) ↦{q} fs) ∗ (dst.view.loc (VT d L) ↦[Sd]{fullShare} fd) ∗ semVal (VT d L, SemLoc.dma sem) 0 : sProp 𝕄)
      ⊢ iprop((Fl d L sem dst.view.dmaCredit iprop((dst.view.loc (VT d L) ↦[Sd]{fullShare} f') ∗ (src.view.loc (VT d L) ↦{q} fs))
            -∗ wp frame (wpE (defs₀ (F := F)) 𝒱₀ (VT d L) none) Set.univ (k ⟨⟩) Q)
          -∗ wp frame (wpE (defs₀ (F := F)) 𝒱₀ (VT d L) none) Set.univ (Prog.lift (.enqueueDma src (.here dst) (.dma sem) hsrc hdst hsem) >>= k) Q) := by
  subst hf'
  simp only [Prog.lift, Prog.bind_op, Prog.bind_ret]
  iintro ⟨Hs, Hd, Hv⟩ Hk
  ihave ⟨Hs, Hrest⟩ := (pointsTo_split_subset (Finset.subset_univ src.view.set)).1 $$ Hs
  iapply (Transfers.wp_dmaLocal countersEmb 𝒱₀ (VT d L) none (default : HIx 1) dst.view.dmaCredit rfl (dst.view.dmaCredit_pos h0) hSd) $$ [Hs Hd Hv]
  · isplitl [Hs]; · iexact Hs
    isplitl [Hd] <;> iassumption
  iintro Hfl
  iapply Hk
  ihave Hfl := (Fl.frame d L (R := src.view.loc (VT d L) ↦[Finset.univ \ src.view.set]{q} fs)) $$ [Hfl Hrest]
  · isplitl [Hfl] <;> iassumption
  iapply (Transfers.Flight_mono countersEmb (VT d L) ?_) $$ Hfl
  iintro ⟨⟨Hd, Hs⟩, Hrest⟩
  isplitl [Hd]; · iexact Hd
  iapply (pointsTo_split_subset (Finset.subset_univ src.view.set)).2
  isplitl [Hs] <;> iassumption

/-- The wait for it. -/
theorem await {sp sp' : Space} {s s' : Shape} {srcw : Memref sig .scVector sp' s' .f32} {dstw : Memref sig .scVector sp s .f32} {sem : DmaSem sig}
    {hsrc : srcw.view.WordExact} {hdst : dstw.view.WordExact} {D : sProp 𝕄} {O : CellTallies nD τ sig (HIx 1)}
    {β : Type} {k : PUnit → TileProg F L β} {Q : β → sProp 𝕄} :
    iprop(Fl d L sem dstw.view.dmaCredit D ∗ owing d L O ∗ MayWaits (VT d L) (default : HIx 1) O)
      ⊢ iprop((iprop(D ∗ semVal (VT d L, SemLoc.dma sem) 0 ∗ owing d L O) -∗ wp frame (wpE (defs₀ (F := F)) 𝒱₀ (VT d L) none) Set.univ (k ⟨⟩) Q)
          -∗ wp frame (wpE (defs₀ (F := F)) 𝒱₀ (VT d L) none) Set.univ (Prog.lift (.waitDma2 sem srcw dstw hsrc hdst) >>= k) Q) := by
  simp only [Prog.lift, Prog.bind_op, Prog.bind_ret]
  iintro ⟨Hfl, ⟨%W, HO⟩, Hm⟩ Hk
  ihave Hm := (Transfers.MayWaits.elim (SemLoc.dma sem)) $$ Hm
  iapply (Transfers.wp_waitLocalO countersEmb 𝒱₀ (VT d L) none (default : HIx 1) (rfl : dstw.view.dmaCredit = _)) $$ [Hfl HO Hm]
  · isplitl [Hfl]; · iexact Hfl
    isplitl [HO] <;> iassumption
  iintro ⟨HD, Hv, HO⟩
  iapply Hk
  isplitl [HD]; · iexact HD
  isplitl [Hv]; · iexact Hv
  iexists _; iexact HO

/-- A copy and its wait. -/
theorem copy {sp sp' : Space} {s : Shape} {src : Memref sig .scVector sp s .f32} {dst : Memref sig .scVector sp' s .f32} {sem : DmaSem sig}
    {hsrc : src.view.WordExact} {hdst : dst.view.WordExact} {hsem : DmaTarget.Typed (nD := nD) (τ := τ) (p := .scVector (cV L) (jV L)) sp (.dma sem) (.here dst)}
    {hsrcw : src.view.WordExact} {hdstw : dst.view.WordExact}
    {q : PosShare TreeShare} {fs : Buf (Elt F) (src.view.loc (VT d L))} {Sd : Finset (Idx (dst.view.loc (VT d L)))} {fd : Buf (Elt F) (dst.view.loc (VT d L))}
    (h0 : 0 < s.numel) (hSd : dst.view.set ⊆ Sd) {f' : Buf (Elt F) (dst.view.loc (VT d L))} (hf' : dst.view.write (Elt F) fd (src.view.read (Elt F) fs) Finset.univ = f')
    {O : CellTallies nD τ sig (HIx 1)} {β : Type} {k : PUnit → TileProg F L β} {Q : β → sProp 𝕄} :
    iprop((src.view.loc (VT d L) ↦{q} fs) ∗ (dst.view.loc (VT d L) ↦[Sd]{fullShare} fd) ∗ semVal (VT d L, SemLoc.dma sem) 0 ∗ owing d L O
        ∗ MayWaits (VT d L) (default : HIx 1) O : sProp 𝕄)
      ⊢ iprop((iprop((src.view.loc (VT d L) ↦{q} fs) ∗ (dst.view.loc (VT d L) ↦[Sd]{fullShare} f') ∗ semVal (VT d L, SemLoc.dma sem) 0 ∗ owing d L O)
            -∗ wp frame (wpE (defs₀ (F := F)) 𝒱₀ (VT d L) none) Set.univ (k ⟨⟩) Q)
          -∗ wp frame (wpE (defs₀ (F := F)) 𝒱₀ (VT d L) none) Set.univ
              (Prog.lift (.enqueueDma src (.here dst) (.dma sem) hsrc hdst hsem) >>= fun _ => Prog.lift (.waitDma2 sem src dst hsrcw hdstw) >>= k) Q) := by
  iintro ⟨Hs, Hd, Hv, HO, Hm⟩ Hk
  iapply (issue d L h0 hSd hf') $$ [Hs Hd Hv]
  · isplitl [Hs]; · iexact Hs
    isplitl [Hd] <;> iassumption
  iintro Hfl
  iapply (await d L) $$ [Hfl HO Hm]
  · isplitl [Hfl]; · iexact Hfl
    isplitl [HO] <;> iassumption
  iintro ⟨⟨Hd, Hs⟩, Hv, HO⟩
  iapply Hk
  isplitl [Hs]; · iexact Hs
  isplitl [Hd]; · iexact Hd
  isplitl [Hv] <;> iassumption

end

end Cert.Proof
-- ==== Proof.Pair.lean ====
/-
  The kernel's outer loop: 64 pairs of rows, the copy of the next row in flight while a row is worked on. `tileVal` is the
  value that the tile `w` puts at a position of a block; `pair_loop`: the loop fills the three blocks with it.
-/
module

public import proofs.«01_k».proof.Proof.Half
public import proofs.«01_k».proof.Proof.Copies

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Cert.Proof.Select

variable {F : FTy → Type} [FloatOps F]

local notation "𝕄" => MT nD τ sig (HIx 1) (Elt F) ℕ UU ℕ

/-! ## The operands' parts -/

/-- The four operands of the call: distances, thresholds, centroids, points, each flat. -/
structure Operands (F : FTy → Type) where
  X2 : S33554432.Idx → F .f32
  XT : S4096.Idx → F .f32
  XC : S12288.Idx → F .f32
  XP : S196608.Idx → F .f32

/-- Element `n` of a flat array. -/
abbrev at1 {N : ℕ} [NeZero N] (n : ℕ) : (⟨1, ![N]⟩ : Shape).Idx := Shape.ofLane (d := ![N]) (Fin.ofNat N n)

/-- Row `R` of the distances. -/
def Operands.row (X : Operands F) (R : ℕ) : S8192.Idx → F .f32 := fun x => X.X2 (at1 (8192 * R + (x 0).val))

/-- The tables of tile `w`. -/
def Operands.tables (X : Operands F) (w : ℕ) : Tables F where
  T := fun x => X.XT (at1 (128 * w + (x 0).val))
  C := fun c x => X.XC (at1 (4096 * c.val + 128 * w + (x 0).val))
  P := fun c x => X.XP (at1 (24576 * (w / 4) + 8192 * c.val + (x 0).val))

/-- Tile `w`'s block of coordinate `c`. -/
def Operands.tileVal (X : Operands F) (w : ℕ) (c : Fin 3) (q : ℕ) : F .f32 :=
  (X.tables w).val (X.row (128 * w + q / 32)) (Fin.ofNat 128 (q / 32)) c (q % 32)

/-- Every row has exactly 32 distances at most its threshold. -/
def Operands.Counted (X : Operands F) : Prop :=
  ∀ R, R < 4096 → Nat.count (Below (X.row R) (X.XT (at1 R))) 8192 = 32

omit [FloatOps F] in
/-- A part of a flat array, read. -/
theorem read_part {sp : Space} {N k : ℕ} [NeZero N] (M : Memref sig .scVector sp (⟨1, ![N]⟩ : Shape) .f32) (f : M.view.ty.Contents (Elt F))
    {off : Fin 1 → ℕ} {o : ℕ} (ho : off = ![o]) (hin : ∀ a, off a + (⟨1, ![k]⟩ : Shape).size a ≤ (⟨1, ![N]⟩ : Shape).size a) (h) :
    (M.slice (Rect.unit (s := (⟨1, ![N]⟩ : Shape)) off (⟨1, ![k]⟩ : Shape).size hin) h).view.read (Elt F) f
      = fun x : (⟨1, ![k]⟩ : Shape).Idx => M.view.read (Elt F) f (at1 (o + (x 0).val)) := by
  subst ho
  funext x
  refine congrArg (M.view.read (Elt F) f) ?_
  funext a; obtain rfl := Fin.eq_zero a
  refine Fin.ext ?_
  have h1 : (x 0).val < k := (x 0).isLt
  have h2 : o + k ≤ N := hin 0
  show o + 1 * (x 0).val = (o + (x 0).val) % N
  rw [Nat.mod_eq_of_lt (by omega)]; omega

theorem muli_two (t : Fin k0_t1_loop.trips) : Scalar.muli 2#32 (Scf.iv 0#32 1#32 t) = BitVec.ofNat 32 (2 * t.val) := by
  simp only [Scalar.muli, Scf.iv, IntOp.muli]
  bv_omega

theorem cond1_iff : ∀ t : Fin k0_t1_loop.trips, k0_cond1 t = 1#1 ↔ t.val + 1 < 64 := by decide +kernel

theorem vec_eq {a b : ℕ} (h : a = b) : (![a] : Fin 1 → ℕ) = ![b] := h ▸ rfl

section
variable (d : Dev nD) (L : grid0.Coords)

/-- The tile's number. -/
abbrev wid : ℕ := 2 * (L 1).val + (L 0).val

theorem wid_lt : wid L < 32 := by
  have h0 : (L 0).val < 2 := (L 0).isLt
  have h1 : (L 1).val < 16 := (L 1).isLt
  unfold wid; omega

theorem tables_T (X : Operands F) (r : Fin 128) : (X.tables (wid L)).T (ent r) = X.XT (at1 (128 * wid L + r.val)) := rfl

theorem row_of_off (X : Operands F) {off : Fin 1 → ℕ} {R : ℕ} (ho : off = ![8192 * R]) (hin) (h) :
    (d2M.slice (Rect.unit (s := S33554432) off S8192.size hin) h).view.read (Elt F) X.X2 = X.row R := by
  exact read_part (N := 33554432) (k := 8192) d2M X.X2 ho hin h

theorem tileVal_row (X : Operands F) (w : ℕ) (r : Fin 128) (c : Fin 3) (j : ℕ) (hj : j < 32) :
    X.tileVal w c (32 * r.val + j) = (X.tables w).val (X.row (128 * w + r.val)) r c j := by
  unfold Operands.tileVal
  have e1 : (32 * r.val + j) / 32 = r.val := by omega
  have e2 : (32 * r.val + j) % 32 = j := by omega
  have e3 : Fin.ofNat 128 r.val = r := Fin.ext (Nat.mod_eq_of_lt r.isLt)
  rw [e1, e2, e3]

/-- The share of the distances that each of the two row buffers' copies reads. -/
abbrev d2At (X : Operands F) (q : PosShare TreeShare) : sProp 𝕄 := (d2M.view.loc (VT d L) ↦{q} X.X2)

/-- The copy of row `R` into the first row buffer, in flight. -/
abbrev aheadA (X : Operands F) (q : PosShare TreeShare) (R : ℕ) : sProp 𝕄 :=
  Fl d L cc0_scratch13.sem rowA.view.dmaCredit iprop((rowA.view.loc (VT d L) ↦[Finset.univ]{fullShare} X.row R) ∗ d2At d L X q)

/-- The first row buffer after the last row. -/
abbrev restA (X : Operands F) (q : PosShare TreeShare) : sProp 𝕄 :=
  iprop((∃ f, rowA.view.loc (VT d L) ↦{fullShare} f) ∗ d2At d L X q ∗ semVal (VT d L, SemLoc.dma cc0_scratch13.sem) 0)

/-- The invariant of the outer loop. -/
abbrev pairInv (X : Operands F) (qA qB : PosShare TreeShare) (O : CellTallies nD τ sig (HIx 1)) (k : ℕ) : sProp 𝕄 :=
  iprop(tablesAt d L (X.tables (wid L)) ∗ blocksAt d L (X.tileVal (wid L)) (64 * k) ∗ selAt d L
    ∗ (∃ f, rowB.view.loc (VT d L) ↦{fullShare} f) ∗ semVal (VT d L, SemLoc.dma cc0_scratch14.sem) 0 ∗ d2At d L X qB
    ∗ owing d L O ∗ MayWaits (VT d L) (default : HIx 1) O
    ∗ (if k < 64 then aheadA d L X qA (128 * wid L + 2 * k) else restA d L X qA))

theorem write_rowA (f w : rowA.view.ty.Contents (Elt F)) : rowA.view.write (Elt F) f w Finset.univ = w := View.write_whole_univ _ _ _
theorem write_rowB (f w : rowB.view.ty.Contents (Elt F)) : rowB.view.write (Elt F) f w Finset.univ = w := View.write_whole_univ _ _ _

/-- The second row of a pair, worked on. -/
theorem second_half (X : Operands F) (hX : X.Counted) (t : Fin k0_t1_loop.trips) {β : Type} {k : PUnit → TileProg F L β} {Q : β → sProp 𝕄}
    (hr : 2 * t.val + 1 < 128) :
    iprop((rowB.view.loc (VT d L) ↦{fullShare} X.row (128 * wid L + 2 * t.val + 1)) ∗ tablesAt d L (X.tables (wid L))
        ∗ blocksAt d L (X.tileVal (wid L)) (32 * (⟨2 * t.val + 1, hr⟩ : Fin 128).val) ∗ selAt d L : sProp 𝕄)
      ⊢ iprop(((rowB.view.loc (VT d L) ↦{fullShare} X.row (128 * wid L + 2 * t.val + 1)) -∗ tablesAt d L (X.tables (wid L))
          -∗ blocksAt d L (X.tileVal (wid L)) (32 * (⟨2 * t.val + 1, hr⟩ : Fin 128).val + 32) -∗ selAt d L
          -∗ wp frame (wpE (defs₀ (F := F)) 𝒱₀ (VT d L) none) Set.univ (k ⟨⟩) Q)
        -∗ wp frame (wpE (defs₀ (F := F)) 𝒱₀ (VT d L) none) Set.univ
            (half L rowB (Scalar.addi (Scalar.muli 2#32 (Scf.iv 0#32 1#32 t)) 1#32) (k0_off16 t) (k0_off18 t) (k0_off17 t) (k0_off16_inb t) (k0_off18_inb t) (k0_off17_inb t) >>= k) Q) := by
  have hw := wid_lt L
  have ht : t.val < 64 := t.isLt
  exact half_bind d L (X.tables (wid L)) (X.tileVal (wid L)) (M := rowB) (f := X.row (128 * wid L + 2 * t.val + 1)) (row := X.row (128 * wid L + 2 * t.val + 1)) rfl ⟨2 * t.val + 1, hr⟩
    (by rw [tables_T]; exact hX (128 * wid L + (2 * t.val + 1)) (by omega))
    (fun c j hj => tileVal_row X _ ⟨2 * t.val + 1, hr⟩ c j hj) (by rw [muli_two]; simp only [Scalar.addi]; exact (BitVec.ofNat_add _ _).symm)
    ((k0_off16_eq t).trans (vec_eq (by show 64 * t.val + 32 = 32 * (2 * t.val + 1); omega))) ((k0_off18_eq t).trans (vec_eq (by show 64 * t.val + 32 = 32 * (2 * t.val + 1); omega)))
    ((k0_off17_eq t).trans (vec_eq (by show 64 * t.val + 48 = 32 * (2 * t.val + 1) + 16; omega))) _ _ _

/-- The rows that trip `t` fetches: its second, and the first of the next. -/
abbrev srcB (t : Fin k0_t1_loop.trips) : Memref sig .scVector .hbm S8192 .f32 :=
  d2M.slice (Rect.unit (s := S33554432) (k0_off7 L t) S8192.size (k0_off7_inb L t)) (fun _ => rfl)
abbrev srcA (t : Fin k0_t1_loop.trips) (h : k0_cond1 t = 1#1) : Memref sig .scVector .hbm S8192 .f32 :=
  d2M.slice (Rect.unit (s := S33554432) (k0_off13 L t) S8192.size (k0_off13_inb L t h)) (fun _ => rfl)

theorem pair_wp (X : Operands F) (hX : X.Counted) (qA qB : PosShare TreeShare) (O : CellTallies nD τ sig (HIx 1)) (t : Fin k0_t1_loop.trips) :
    pairInv d L X qA qB O t.val
      ⊢ wp frame (wpE (defs₀ (F := F)) 𝒱₀ (VT d L) none) Set.univ (pairTrip L t) fun _ => pairInv d L X qA qB O (t.val + 1) := by
  have ht : t.val < 64 := t.isLt
  have hw := wid_lt L
  have e7 : k0_off7 L t = ![8192 * (128 * wid L + 2 * t.val + 1)] := (k0_off7_eq L t).trans (vec_eq (by unfold wid; omega))
  have e13 : k0_off13 L t = ![8192 * (128 * wid L + 2 * (t.val + 1))] := (k0_off13_eq L t).trans (vec_eq (by unfold wid; omega))
  unfold pairInv pairTrip
  rw [if_pos ht]
  iintro ⟨Htab, Hblk, Hsel, ⟨%fB, HB⟩, HvB, HdB, HO, #Hm, HA⟩
  have hvB : rowB.view.write (Elt F) fB ((srcB L t).view.read (Elt F) X.X2) Finset.univ = X.row (128 * wid L + 2 * t.val + 1) :=
    (write_rowB _ _).trans (row_of_off X e7 _ _)
  iapply (issue d L (src := srcB L t) (dst := rowB) (fs := X.X2) (Sd := Finset.univ) (fd := fB) h_S8192 (Finset.subset_univ _) hvB) $$ [HdB HB HvB]
  · isplitl [HdB]; · iexact HdB
    isplitl [HB] <;> iassumption
  iintro HflB
  iapply (await d L (dstw := rowA)) $$ [HA HO]
  · isplitl [HA]; · iexact HA
    isplitl [HO] <;> iassumption
  iintro ⟨⟨HA, HdA⟩, HvA, HO⟩
  have hr0 : 2 * t.val < 128 := by omega
  have hr1 : 2 * t.val + 1 < 128 := by omega
  iapply (half_bind d L (X.tables (wid L)) (X.tileVal (wid L)) (M := rowA) (f := X.row (128 * wid L + 2 * t.val)) (row := X.row (128 * wid L + 2 * t.val)) rfl ⟨2 * t.val, hr0⟩
    (by rw [tables_T]; exact hX _ (by omega))
    (fun c j hj => tileVal_row X _ ⟨2 * t.val, hr0⟩ c j hj) (muli_two t)
    ((k0_off10_eq t).trans (vec_eq (by show 64 * t.val = 32 * (2 * t.val); omega))) ((k0_off12_eq t).trans (vec_eq (by show 64 * t.val = 32 * (2 * t.val); omega)))
    ((k0_off11_eq t).trans (vec_eq (by show 64 * t.val + 16 = 32 * (2 * t.val) + 16; omega))) _ _ _) $$ [HA Htab Hblk Hsel]
  · isplitl [HA]; · iexact HA
    isplitl [Htab]; · iexact Htab
    isplitl [Hblk]
    · rw [show 64 * t.val = 32 * (2 * t.val) by omega]; iexact Hblk
    iexact Hsel
  iintro HA Htab Hblk Hsel
  have hcond := cond1_iff t
  have e64 : 32 * (⟨2 * t.val, hr0⟩ : Fin 128).val + 32 = 32 * (⟨2 * t.val + 1, hr1⟩ : Fin 128).val := by show 32 * (2 * t.val) + 32 = 32 * (2 * t.val + 1); omega
  rw [e64]
  have e66 : 64 * (t.val + 1) = 32 * (⟨2 * t.val + 1, hr1⟩ : Fin 128).val + 32 := by show 64 * (t.val + 1) = 32 * (2 * t.val + 1) + 32; omega
  rw [e66]
  by_cases hc : k0_cond1 t = 1#1
  · rw [dif_pos hc, if_pos (hcond.1 hc)]
    have hvA : rowA.view.write (Elt F) (X.row (128 * wid L + 2 * t.val)) ((srcA L t hc).view.read (Elt F) X.X2) Finset.univ = X.row (128 * wid L + 2 * (t.val + 1)) :=
      (write_rowA _ _).trans (row_of_off X e13 _ _)
    iapply (issue d L (src := srcA L t hc) (dst := rowA) (fs := X.X2) (Sd := Finset.univ) (fd := X.row (128 * wid L + 2 * t.val)) h_S8192 (Finset.subset_univ _) hvA) $$ [HdA HA HvA]
    · isplitl [HdA]; · iexact HdA
      isplitl [HA] <;> iassumption
    iintro HflA
    iapply (await d L (dstw := rowB)) $$ [HflB HO]
    · isplitl [HflB]; · iexact HflB
      isplitl [HO] <;> iassumption
    iintro ⟨⟨HB, HdB⟩, HvB, HO⟩
    iapply (second_half d L X hX t hr1) $$ [HB Htab Hblk Hsel]
    · isplitl [HB]; · iexact HB
      isplitl [Htab]; · iexact Htab
      isplitl [Hblk] <;> iassumption
    iintro HB Htab Hblk Hsel
    rw [Prog.pure_eq_ret, wp_ret]; imodintro
    isplitl [Htab]; · iexact Htab
    isplitl [Hblk]; · iexact Hblk
    isplitl [Hsel]; · iexact Hsel
    isplitl [HB]; · iexists _; iexact HB
    isplitl [HvB]; · iexact HvB
    isplitl [HdB]; · iexact HdB
    isplitl [HO]; · iexact HO
    isplitr; · iexact Hm
    iexact HflA
  · rw [dif_neg hc, if_neg (fun h => hc (hcond.2 h))]
    dsimp only
    iapply (await d L (dstw := rowB)) $$ [HflB HO]
    · isplitl [HflB]; · iexact HflB
      isplitl [HO] <;> iassumption
    iintro ⟨⟨HB, HdB⟩, HvB, HO⟩
    iapply (second_half d L X hX t hr1) $$ [HB Htab Hblk Hsel]
    · isplitl [HB]; · iexact HB
      isplitl [Htab]; · iexact Htab
      isplitl [Hblk] <;> iassumption
    iintro HB Htab Hblk Hsel
    rw [Prog.pure_eq_ret, wp_ret]; imodintro
    isplitl [Htab]; · iexact Htab
    isplitl [Hblk]; · iexact Hblk
    isplitl [Hsel]; · iexact Hsel
    isplitl [HB]; · iexists _; iexact HB
    isplitl [HvB]; · iexact HvB
    isplitl [HdB]; · iexact HdB
    isplitl [HO]; · iexact HO
    isplitr; · iexact Hm
    isplitl [HA]; · iexists _; iexact HA
    isplitl [HdA] <;> iassumption

/-- The outer loop at the head of a program, from the first row's copy in flight. -/
theorem pair_loop (X : Operands F) (hX : X.Counted) (qA qB : PosShare TreeShare) (O : CellTallies nD τ sig (HIx 1)) {ok}
    {body : Fin k0_t1_loop.trips → BitVec 32 → TileProg F L (BitVec 32)} (hbody : body = fun t _ => pairTrip L t)
    {β : Type} {k : BitVec 32 → TileProg F L β} {Q : β → sProp 𝕄} :
    pairInv d L X qA qB O 0
      ⊢ iprop((∀ w, pairInv d L X qA qB O 64 -∗ wp frame (wpE (defs₀ (F := F)) 𝒱₀ (VT d L) none) Set.univ (k w) Q)
        -∗ wp frame (wpE (defs₀ (F := F)) 𝒱₀ (VT d L) none) Set.univ (Scf.Loop.for k0_t1_loop ok 0#32 body >>= k) Q) := by
  subst hbody
  iintro H Hk
  iapply (Scf.wp_for_bind Idealize.ShloMosaic.frame (wpE (defs₀ (F := F)) 𝒱₀ (VT d L) none) Set.univ _ _ _ _ _ _ (fun k _ => pairInv d L X qA qB O k) ?hb) $$ [H]
  case hb =>
    intro t w
    exact pair_wp d L X hX qA qB O t
  · iexact H
  have e : Scf.trips k0_t1_loop.lb k0_t1_loop.ub k0_t1_loop.st = 64 := by decide
  rw [e]
  iintro %w H
  iapply Hk $$ %w H

end

end Cert.Proof
-- ==== Proof.Body.lean ====
/-
  A tile's whole task: its tables fetched, the first row's copy issued, the outer loop, and the three blocks stored.
  `outVal` is the value of the call's result; `tile_run`: the tile leaves it on its three parts of the result.
-/
module

public import proofs.«01_k».proof.Proof.Pair

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Cert.Proof.Select

variable {F : FTy → Type} [FloatOps F]

local notation "𝕄" => MT nD τ sig (HIx 1) (Elt F) ℕ UU ℕ

/-! ## The result, and its 96 parts -/

/-- The call's result, flat: the three coordinates one after the other, each the blocks of the 32 tiles in order. -/
def Operands.outVal (X : Operands F) : S393216.Idx → F .f32 := fun x =>
  X.tileVal ((x 0).val % 131072 / 4096) (Fin.ofNat 3 ((x 0).val / 131072)) ((x 0).val % 4096)

theorem hdiv : 96 ∣ S393216.size 0 := ⟨4096, rfl⟩

/-- The part of the result that tile `w` stores of coordinate `c`. -/
abbrev partIx (w : Fin 32) (c : Fin 3) : Fin 96 := ⟨32 * c.val + w.val, by omega⟩
abbrev outPart (n : Fin 96) : Finset S393216.Idx := (Rect.part (s := S393216) (a₀ := 0) hdiv n).set

theorem mem_outPart {n : Fin 96} {x : S393216.Idx} : x ∈ outPart n ↔ 4096 * n.val ≤ (x 0).val ∧ (x 0).val < 4096 * n.val + 4096 := by
  unfold outPart Rect.part Rect.block
  rw [Rect.mem_set_unit]
  have e : S393216.partIx 0 n.val 0 * S393216.partSize 0 96 0 = 4096 * n.val := Nat.mul_comm _ _
  constructor
  · intro h
    have := h 0
    rw [e] at this
    exact this
  · intro h a
    obtain rfl := Fin.eq_zero a
    rw [e]
    exact h

/-- A part of the result as the program slices it. -/
abbrev outSlice (off : Fin 1 → ℕ) (hin : ∀ a, off a + S4096.size a ≤ S393216.size a) : Memref sig .scVector .hbm S4096 .f32 :=
  outM.slice (Rect.unit (s := S393216) off S4096.size hin) (fun _ => rfl)

theorem outSlice_set {off : Fin 1 → ℕ} {n : Fin 96} (ho : off = ![4096 * n.val]) (hin) : (outSlice off hin).view.set = outPart n := by
  subst ho
  refine (View.set_slice_whole main_v8_scv _).trans ?_
  ext x
  rw [mem_outPart]
  refine Rect.mem_set_unit.trans ⟨fun h => h 0, fun h a => ?_⟩
  obtain rfl := Fin.eq_zero a
  exact h

theorem outVal_part (X : Operands F) (w : Fin 32) (c : Fin 3) {x : S393216.Idx} {q : ℕ} (hq : q < 4096) (hx : (x 0).val = 4096 * (partIx w c).val + q) :
    X.outVal x = X.tileVal w.val c q := by
  unfold Operands.outVal
  have hw := w.isLt
  have hc := c.isLt
  have hx : (x 0).val = 4096 * (32 * c.val + w.val) + q := hx
  have e1 : (x 0).val % 131072 / 4096 = w.val := by omega
  have e2 : (x 0).val / 131072 = c.val := by omega
  have e3 : (x 0).val % 4096 = q := by omega
  rw [e1, e2, e3]
  exact congrArg (fun z => X.tileVal w.val z q) (Fin.ext (Nat.mod_eq_of_lt hc))

section
variable (d : Dev nD) (L : grid0.Coords)

abbrev widF : Fin 32 := ⟨wid L, wid_lt L⟩

/-- A block stored: on its part the result holds its value. -/
theorem stored (X : Operands F) (c : Fin 3) {B : Memref sig .scVector .vmem S4096 .f32} {f : B.view.ty.Contents (Elt F)}
    (hB : Filled B (X.tileVal (wid L) c) 4096 f) {off : Fin 1 → ℕ} (ho : off = ![4096 * (partIx (widF L) c).val]) (hin)
    (fd : outM.view.ty.Contents (Elt F)) :
    ((outM.view.loc (VT d L) ↦[outPart (partIx (widF L) c)]{fullShare} (outSlice off hin).view.write (Elt F) fd (B.view.read (Elt F) f) Finset.univ) : sProp 𝕄)
      = (outM.view.loc (VT d L) ↦[outPart (partIx (widF L) c)]{fullShare} X.outVal) := by
  refine pointsTo_congr fun x hx => ?_
  obtain ⟨h0, h1⟩ := mem_outPart.1 hx
  have hq : (x 0).val - 4096 * (partIx (widF L) c).val < 4096 := by omega
  have hx' : x = (outSlice off hin).view.emb (blk ⟨_, hq⟩) := by
    subst ho
    funext a; obtain rfl := Fin.eq_zero a
    refine Fin.ext ?_
    show (x 0).val = 4096 * (partIx (widF L) c).val + 1 * ((x 0).val - 4096 * (partIx (widF L) c).val)
    omega
  have hv : X.outVal x = B.view.read (Elt F) f (blk ⟨_, hq⟩) :=
    (outVal_part X (widF L) c hq (by omega)).trans (hB ⟨_, hq⟩ hq).symm
  rw [hv]
  generalize (⟨_, hq⟩ : Fin 4096) = q at hx' ⊢
  rw [hx']
  exact View.write_emb_of_mem (v := (outSlice off hin).view) fd (B.view.read (Elt F) f) (Finset.mem_univ _)

/-! ## The program -/

/-- A copy of a part of an operand into a buffer of the tile, awaited at once. -/
def fetch (i : grid0.Coords) {s : Shape} (src : Memref sig .scVector .hbm s .f32) (dst : Memref sig .scVector .vmem s .f32) (sem : DmaSem sig)
    (hsrc : src.view.WordExact) (hdst : dst.view.WordExact) : TileProg F i PUnit := do
  Prog.lift (.enqueueDma src (.here dst) (.dma sem) hsrc hdst ⟨Or.inl rfl, trivial⟩)
  Prog.lift (.waitDma2 sem src dst hsrc hdst)

/-- A copy of a block of the tile into the result, awaited at once. -/
def putOut (i : grid0.Coords) (src : Memref sig .scVector .vmem S4096 .f32) (dst : Memref sig .scVector .hbm S4096 .f32) (sem : DmaSem sig)
    (hsrc : src.view.WordExact) (hdst : dst.view.WordExact) : TileProg F i PUnit := do
  Prog.lift (.enqueueDma src (.here dst) (.dma sem) hsrc hdst ⟨Or.inl rfl, trivial⟩)
  Prog.lift (.waitDma2 sem src dst hsrc hdst)

abbrev thrS (i : grid0.Coords) := thrM.slice (Rect.unit (s := S4096) (k0_off1 i) S128.size (k0_off1_inb i)) (fun _ => rfl)
abbrev cen0S (i : grid0.Coords) := cenM.slice (Rect.unit (s := S12288) (k0_off2 i) S128.size (k0_off2_inb i)) (fun _ => rfl)
abbrev cen1S (i : grid0.Coords) := cenM.slice (Rect.unit (s := S12288) (k0_off3 i 4096#32) S128.size (k0_off3_inb i 0)) (fun _ => rfl)
abbrev cen2S (i : grid0.Coords) := cenM.slice (Rect.unit (s := S12288) (k0_off3 i 8192#32) S128.size (k0_off3_inb i 1)) (fun _ => rfl)
abbrev pts0S (i : grid0.Coords) := ptsM.slice (Rect.unit (s := S196608) (k0_off4 i) S8192.size (k0_off4_inb i)) (fun _ => rfl)
abbrev pts1S (i : grid0.Coords) := ptsM.slice (Rect.unit (s := S196608) (k0_off5 i 8192#32) S8192.size (k0_off5_inb i 0)) (fun _ => rfl)
abbrev pts2S (i : grid0.Coords) := ptsM.slice (Rect.unit (s := S196608) (k0_off5 i 16384#32) S8192.size (k0_off5_inb i 1)) (fun _ => rfl)
abbrev firstS (i : grid0.Coords) := d2M.slice (Rect.unit (s := S33554432) (k0_off6 i) S8192.size (k0_off6_inb i)) (fun _ => rfl)

/-- The tile's task. -/
def tileProg (i : grid0.Coords) : TileProg F i PUnit := do
  fetch i (thrS i) thrV cc0_scoped0.sem (View.wordExact_bits rfl) (Memref.isWhole_whole _).wordExact
  fetch i (cen0S i) cxV cc0_scoped1.sem (View.wordExact_bits rfl) (Memref.isWhole_whole _).wordExact
  fetch i (cen1S i) cyV cc0_scoped2.sem (View.wordExact_bits rfl) (Memref.isWhole_whole _).wordExact
  fetch i (cen2S i) czV cc0_scoped3.sem (View.wordExact_bits rfl) (Memref.isWhole_whole _).wordExact
  fetch i (pts0S i) pxV cc0_scoped4.sem (View.wordExact_bits rfl) (Memref.isWhole_whole _).wordExact
  fetch i (pts1S i) pyV cc0_scoped5.sem (View.wordExact_bits rfl) (Memref.isWhole_whole _).wordExact
  fetch i (pts2S i) pzV cc0_scoped6.sem (View.wordExact_bits rfl) (Memref.isWhole_whole _).wordExact
  Prog.lift (.enqueueDma (firstS i) (.here rowA) (.dma cc0_scratch13.sem) (View.wordExact_bits rfl) (Memref.isWhole_whole _).wordExact ⟨Or.inl rfl, trivial⟩)
  let _w ← Scf.Loop.for k0_t1_loop k0_t1_ok 0#32 (fun t _ => pairTrip i t)
  putOut i bxV (outSlice (k0_off19 i) (k0_off19_inb i)) cc0_scoped7.sem (Memref.isWhole_whole _).wordExact (View.wordExact_bits rfl)
  putOut i byV (outSlice (k0_off20 i 131072#32) (k0_off20_inb i 0)) cc0_scoped8.sem (Memref.isWhole_whole _).wordExact (View.wordExact_bits rfl)
  putOut i bzV (outSlice (k0_off20 i 262144#32) (k0_off20_inb i 1)) cc0_scoped9.sem (Memref.isWhole_whole _).wordExact (View.wordExact_bits rfl)
  pure ⟨⟩

/-- The printed task applied to the tile's own buffers and semaphores. -/
abbrev scBody (i : grid0.Coords) :=
  cc0__sc_body (F := F) i d2M (Memref.isWhole_whole _) thrM (Memref.isWhole_whole _) cenM (Memref.isWhole_whole _) ptsM (Memref.isWhole_whole _) outM (Memref.isWhole_whole _)
    rowA (Memref.isWhole_whole _) rowB (Memref.isWhole_whole _) thrV (Memref.isWhole_whole _) cxV (Memref.isWhole_whole _) cyV (Memref.isWhole_whole _) czV (Memref.isWhole_whole _)
    pxV (Memref.isWhole_whole _) pyV (Memref.isWhole_whole _) pzV (Memref.isWhole_whole _) bxV (Memref.isWhole_whole _) byV (Memref.isWhole_whole _) bzV (Memref.isWhole_whole _)
    selV (Memref.isWhole_whole _) cc0_scratch13 cc0_scratch14 cc0_scoped0 cc0_scoped1 cc0_scoped2 cc0_scoped3 cc0_scoped4 cc0_scoped5 cc0_scoped6 cc0_scoped7 cc0_scoped8 cc0_scoped9

theorem body_eq (i : grid0.Coords) (v1 v2 v19 c3 : BitVec 32) :
    t1Body (F := F) i v1 v2 v19 c3 (iota .scVector S16 32 [0]) = fun t _ => pairTrip i t :=
  funext fun t => funext fun w => t1_eq i v1 v2 v19 c3 t w

set_option maxRecDepth 65536 in
set_option maxHeartbeats 400000 in
theorem tileProg_eq (i : grid0.Coords) : scBody (F := F) i = tileProg i := by
  unfold scBody
  rw [cc0__sc_body_eq_skeleton]
  unfold cc0__sc_body_skel
  rw [k0_part9_eq_skeleton, k0_part10_eq_skeleton]
  unfold k0_part9_skel k0_part10_skel tileProg fetch putOut
  dsimp only
  simp only [bind_assoc, pure_bind]
  iterate 15 refine bind_step rfl fun _ => ?_
  refine bind_step (congrArg (fun b => Scf.Loop.for k0_t1_loop k0_t1_ok 0#32 b) (body_eq i _ _ _ _)) fun _ => ?_
  iterate 6 refine bind_step rfl fun _ => ?_
  rfl

/-! ## The run -/

/-- Where the tile's parts lie in the operands. -/
theorem off4_eq : ∀ i : grid0.Coords, k0_off4 i = ![24576 * ((2 * (i 1).val + (i 0).val) / 4)] := by decide +kernel
theorem off5_eq0 : ∀ i : grid0.Coords, k0_off5 i 8192#32 = ![24576 * ((2 * (i 1).val + (i 0).val) / 4) + 8192] := by decide +kernel
theorem off5_eq1 : ∀ i : grid0.Coords, k0_off5 i 16384#32 = ![24576 * ((2 * (i 1).val + (i 0).val) / 4) + 16384] := by decide +kernel
theorem off3_eq0 : ∀ i : grid0.Coords, k0_off3 i 4096#32 = ![4096 + 128 * (2 * (i 1).val + (i 0).val)] := by decide +kernel
theorem off3_eq1 : ∀ i : grid0.Coords, k0_off3 i 8192#32 = ![8192 + 128 * (2 * (i 1).val + (i 0).val)] := by decide +kernel
theorem off20_eq0 : ∀ i : grid0.Coords, k0_off20 i 131072#32 = ![4096 * (32 * 1 + (2 * (i 1).val + (i 0).val))] := by decide +kernel
theorem off20_eq1 : ∀ i : grid0.Coords, k0_off20 i 262144#32 = ![4096 * (32 * 2 + (2 * (i 1).val + (i 0).val))] := by decide +kernel

/-- The tile's buffers hold anything; its semaphores are at zero. -/
abbrev anyAt {s : Shape} {e : EltTy} (M : Memref sig .scVector .vmem s e) : sProp 𝕄 := iprop(∃ f, M.view.loc (VT d L) ↦{fullShare} f)
abbrev zeroAt (s : DmaSem sig) : sProp 𝕄 := semVal (VT d L, SemLoc.dma s) 0

def bufsAt : sProp 𝕄 :=
  iprop(anyAt d L rowA ∗ anyAt d L rowB ∗ anyAt d L thrV ∗ anyAt d L cxV ∗ anyAt d L cyV ∗ anyAt d L czV ∗ anyAt d L pxV ∗ anyAt d L pyV
    ∗ anyAt d L pzV ∗ anyAt d L bxV ∗ anyAt d L byV ∗ anyAt d L bzV ∗ anyAt d L selV)
def semsAt : sProp 𝕄 :=
  iprop(zeroAt d L cc0_scratch13.sem ∗ zeroAt d L cc0_scratch14.sem ∗ zeroAt d L cc0_scoped0.sem ∗ zeroAt d L cc0_scoped1.sem ∗ zeroAt d L cc0_scoped2.sem
    ∗ zeroAt d L cc0_scoped3.sem ∗ zeroAt d L cc0_scoped4.sem ∗ zeroAt d L cc0_scoped5.sem ∗ zeroAt d L cc0_scoped6.sem ∗ zeroAt d L cc0_scoped7.sem
    ∗ zeroAt d L cc0_scoped8.sem ∗ zeroAt d L cc0_scoped9.sem)

/-- The operands, read at shares; the distances at two. -/
def insAt (X : Operands F) (qA qB q : PosShare TreeShare) : sProp 𝕄 :=
  iprop(d2At d L X qA ∗ d2At d L X qB ∗ (thrM.view.loc (VT d L) ↦{q} X.XT) ∗ (cenM.view.loc (VT d L) ↦{q} X.XC) ∗ (ptsM.view.loc (VT d L) ↦{q} X.XP))

/-- The tile's three parts of the result. -/
def outsAt (g : S393216.Idx → F .f32) : sProp 𝕄 :=
  iprop((outM.view.loc (VT d L) ↦[outPart (partIx (widF L) 0)]{fullShare} g) ∗ (outM.view.loc (VT d L) ↦[outPart (partIx (widF L) 1)]{fullShare} g)
    ∗ (outM.view.loc (VT d L) ↦[outPart (partIx (widF L) 2)]{fullShare} g))

/-- A fetch into a buffer of the tile. -/
theorem fetch_bind {s : Shape} {src : Memref sig .scVector .hbm s .f32} {dst : Memref sig .scVector .vmem s .f32} {sem : DmaSem sig} {hsrc hdst}
    {q : PosShare TreeShare} {fs : Buf (Elt F) (src.view.loc (VT d L))} (h0 : 0 < s.numel) {f' : Buf (Elt F) (dst.view.loc (VT d L))}
    (hf' : ∀ fd, dst.view.write (Elt F) fd (src.view.read (Elt F) fs) Finset.univ = f')
    {O : CellTallies nD τ sig (HIx 1)} {β : Type} {k : PUnit → TileProg F L β} {Q : β → sProp 𝕄} :
    iprop((src.view.loc (VT d L) ↦{q} fs) ∗ anyAt d L dst ∗ zeroAt d L sem ∗ owing d L O ∗ MayWaits (VT d L) (default : HIx 1) O : sProp 𝕄)
      ⊢ iprop(((src.view.loc (VT d L) ↦{q} fs) -∗ (dst.view.loc (VT d L) ↦{fullShare} f') -∗ zeroAt d L sem -∗ owing d L O
            -∗ wp frame (wpE (defs₀ (F := F)) 𝒱₀ (VT d L) none) Set.univ (k ⟨⟩) Q)
          -∗ wp frame (wpE (defs₀ (F := F)) 𝒱₀ (VT d L) none) Set.univ (fetch L src dst sem hsrc hdst >>= k) Q) := by
  unfold fetch
  rw [bind_assoc]
  iintro ⟨Hs, ⟨%fd, Hd⟩, Hv, HO, Hm⟩ Hk
  iapply (copy d L (src := src) (dst := dst) (fs := fs) (Sd := Finset.univ) (fd := fd) h0 (Finset.subset_univ _) (hf' fd)) $$ [Hs Hd Hv HO Hm]
  · isplitl [Hs]; · iexact Hs
    isplitl [Hd]; · iexact Hd
    isplitl [Hv]; · iexact Hv
    isplitl [HO] <;> iassumption
  iintro ⟨Hs, Hd, Hv, HO⟩
  iapply Hk $$ Hs Hd Hv HO

theorem h_S4096 : 0 < S4096.numel := by simp [Shape.numel]

/-- A filled block stored. -/
theorem put_out (X : Operands F) (c : Fin 3) {B : Memref sig .scVector .vmem S4096 .f32} {f : B.view.ty.Contents (Elt F)}
    (hB : Filled B (X.tileVal (wid L) c) 4096 f) {off : Fin 1 → ℕ} (ho : off = ![4096 * (partIx (widF L) c).val]) {hin} {sem : DmaSem sig} {hsrc hdst}
    {g : S393216.Idx → F .f32} {O : CellTallies nD τ sig (HIx 1)} {β : Type} {k : PUnit → TileProg F L β} {Q : β → sProp 𝕄} :
    iprop((B.view.loc (VT d L) ↦{fullShare} f) ∗ (outM.view.loc (VT d L) ↦[outPart (partIx (widF L) c)]{fullShare} g) ∗ zeroAt d L sem ∗ owing d L O
        ∗ MayWaits (VT d L) (default : HIx 1) O : sProp 𝕄)
      ⊢ iprop((anyAt d L B -∗ (outM.view.loc (VT d L) ↦[outPart (partIx (widF L) c)]{fullShare} X.outVal) -∗ zeroAt d L sem -∗ owing d L O
            -∗ wp frame (wpE (defs₀ (F := F)) 𝒱₀ (VT d L) none) Set.univ (k ⟨⟩) Q)
          -∗ wp frame (wpE (defs₀ (F := F)) 𝒱₀ (VT d L) none) Set.univ (putOut L B (outSlice off hin) sem hsrc hdst >>= k) Q) := by
  unfold putOut
  rw [bind_assoc, ← stored d L X c hB ho hin g]
  iintro ⟨Hs, Hd, Hv, HO, Hm⟩ Hk
  iapply (copy d L (src := B) (dst := outSlice off hin) (fs := f) (Sd := outPart (partIx (widF L) c)) (fd := g) h_S4096
    (outSlice_set ho hin).subset rfl) $$ [Hs Hd Hv HO Hm]
  · isplitl [Hs]; · iexact Hs
    isplitl [Hd]; · iexact Hd
    isplitl [Hv]; · iexact Hv
    isplitl [HO] <;> iassumption
  iintro ⟨Hs, Hd, Hv, HO⟩
  iapply Hk $$ [Hs] Hd Hv HO
  iexists f; iexact Hs

theorem tile_run (X : Operands F) (hX : X.Counted) (qA qB q : PosShare TreeShare) (g : S393216.Idx → F .f32) (O : CellTallies nD τ sig (HIx 1)) :
    iprop(insAt d L X qA qB q ∗ outsAt d L g ∗ bufsAt d L ∗ semsAt d L ∗ owing d L O ∗ MayWaits (VT d L) (default : HIx 1) O : sProp 𝕄)
      ⊢ wp frame (wpE (defs₀ (F := F)) 𝒱₀ (VT d L) none) Set.univ (scBody (F := F) L) fun _ =>
          iprop(insAt d L X qA qB q ∗ outsAt d L X.outVal ∗ bufsAt d L ∗ semsAt d L ∗ owing d L O) := by
  rw [tileProg_eq]
  unfold tileProg insAt outsAt bufsAt semsAt
  iintro ⟨⟨HdA, HdB, Ht, Hc, Hp⟩, ⟨Ho0, Ho1, Ho2⟩, ⟨HA, HB, HT, HC0, HC1, HC2, HP0, HP1, HP2, HB0, HB1, HB2, HS⟩,
    ⟨Hv13, Hv14, Hs0, Hs1, Hs2, Hs3, Hs4, Hs5, Hs6, Hs7, Hs8, Hs9⟩, HO, #Hm⟩
  iapply (fetch_bind d L (src := thrS L) (dst := thrV) (fs := X.XT) h_S128 (f' := (X.tables (wid L)).T)
    (fun fd => (View.write_whole_univ _ _ _).trans (read_part (N := 4096) (k := 128) thrM X.XT ((k0_off1_eq L).trans (vec_eq (by unfold wid; omega))) _ _))) $$ [Ht HT Hs0 HO]
  · isplitl [Ht]; · iexact Ht
    isplitl [HT]; · iexact HT
    isplitl [Hs0]; · iexact Hs0
    isplitl [HO] <;> iassumption
  iintro Ht HT Hs0 HO
  iapply (fetch_bind d L (src := cen0S L) (dst := cxV) (fs := X.XC) h_S128 (f' := (X.tables (wid L)).C 0)
    (fun fd => (View.write_whole_univ _ _ _).trans (read_part (N := 12288) (k := 128) cenM X.XC ((k0_off2_eq L).trans (vec_eq (by show _ = 4096 * 0 + 128 * wid L; unfold wid; omega))) _ _))) $$ [Hc HC0 Hs1 HO]
  · isplitl [Hc]; · iexact Hc
    isplitl [HC0]; · iexact HC0
    isplitl [Hs1]; · iexact Hs1
    isplitl [HO] <;> iassumption
  iintro Hc HC0 Hs1 HO
  iapply (fetch_bind d L (src := cen1S L) (dst := cyV) (fs := X.XC) h_S128 (f' := (X.tables (wid L)).C 1)
    (fun fd => (View.write_whole_univ _ _ _).trans (read_part (N := 12288) (k := 128) cenM X.XC (off3_eq0 L) _ _))) $$ [Hc HC1 Hs2 HO]
  · isplitl [Hc]; · iexact Hc
    isplitl [HC1]; · iexact HC1
    isplitl [Hs2]; · iexact Hs2
    isplitl [HO] <;> iassumption
  iintro Hc HC1 Hs2 HO
  iapply (fetch_bind d L (src := cen2S L) (dst := czV) (fs := X.XC) h_S128 (f' := (X.tables (wid L)).C 2)
    (fun fd => (View.write_whole_univ _ _ _).trans (read_part (N := 12288) (k := 128) cenM X.XC (off3_eq1 L) _ _))) $$ [Hc HC2 Hs3 HO]
  · isplitl [Hc]; · iexact Hc
    isplitl [HC2]; · iexact HC2
    isplitl [Hs3]; · iexact Hs3
    isplitl [HO] <;> iassumption
  iintro Hc HC2 Hs3 HO
  iapply (fetch_bind d L (src := pts0S L) (dst := pxV) (fs := X.XP) h_S8192 (f' := (X.tables (wid L)).P 0)
    (fun fd => (View.write_whole_univ _ _ _).trans (read_part (N := 196608) (k := 8192) ptsM X.XP (off4_eq L) _ _))) $$ [Hp HP0 Hs4 HO]
  · isplitl [Hp]; · iexact Hp
    isplitl [HP0]; · iexact HP0
    isplitl [Hs4]; · iexact Hs4
    isplitl [HO] <;> iassumption
  iintro Hp HP0 Hs4 HO
  iapply (fetch_bind d L (src := pts1S L) (dst := pyV) (fs := X.XP) h_S8192 (f' := (X.tables (wid L)).P 1)
    (fun fd => (View.write_whole_univ _ _ _).trans (read_part (N := 196608) (k := 8192) ptsM X.XP (off5_eq0 L) _ _))) $$ [Hp HP1 Hs5 HO]
  · isplitl [Hp]; · iexact Hp
    isplitl [HP1]; · iexact HP1
    isplitl [Hs5]; · iexact Hs5
    isplitl [HO] <;> iassumption
  iintro Hp HP1 Hs5 HO
  iapply (fetch_bind d L (src := pts2S L) (dst := pzV) (fs := X.XP) h_S8192 (f' := (X.tables (wid L)).P 2)
    (fun fd => (View.write_whole_univ _ _ _).trans (read_part (N := 196608) (k := 8192) ptsM X.XP (off5_eq1 L) _ _))) $$ [Hp HP2 Hs6 HO]
  · isplitl [Hp]; · iexact Hp
    isplitl [HP2]; · iexact HP2
    isplitl [Hs6]; · iexact Hs6
    isplitl [HO] <;> iassumption
  iintro Hp HP2 Hs6 HO
  icases HA with ⟨%fA, HA⟩
  iapply (issue d L (src := firstS L) (dst := rowA) (fs := X.X2) (Sd := Finset.univ) (fd := fA) h_S8192 (Finset.subset_univ _) (f' := X.row (128 * wid L))
    ((write_rowA _ _).trans (row_of_off X ((k0_off6_eq L).trans (vec_eq (by unfold wid; omega))) _ _))) $$ [HdA HA Hv13]
  · isplitl [HdA]; · iexact HdA
    isplitl [HA] <;> iassumption
  iintro Hfl
  iapply (pair_loop d L X hX qA qB O rfl) $$ [HT HC0 HC1 HC2 HP0 HP1 HP2 HB0 HB1 HB2 HS HB Hv14 HdB HO Hfl]
  · unfold pairInv
    rw [if_pos (by omega : 0 < 64)]
    isplitl [HT HC0 HC1 HC2 HP0 HP1 HP2]
    · unfold tablesAt
      isplitl [HT]; · iexact HT
      isplitl [HC0]; · iexact HC0
      isplitl [HC1]; · iexact HC1
      isplitl [HC2]; · iexact HC2
      isplitl [HP0]; · iexact HP0
      isplitl [HP1]; · iexact HP1
      iexact HP2
    isplitl [HB0 HB1 HB2]
    · unfold blocksAt
      icases HB0 with ⟨%f0, HB0⟩
      icases HB1 with ⟨%f1, HB1⟩
      icases HB2 with ⟨%f2, HB2⟩
      isplitl [HB0]
      · iexists f0; isplitr; · ipureintro; exact fun q h => absurd h (Nat.not_lt_zero _)
        iexact HB0
      isplitl [HB1]
      · iexists f1; isplitr; · ipureintro; exact fun q h => absurd h (Nat.not_lt_zero _)
        iexact HB1
      iexists f2; isplitr; · ipureintro; exact fun q h => absurd h (Nat.not_lt_zero _)
      iexact HB2
    isplitl [HS]; · unfold selAt; iexact HS
    isplitl [HB]; · iexact HB
    isplitl [Hv14]; · iexact Hv14
    isplitl [HdB]; · iexact HdB
    isplitl [HO]; · iexact HO
    isplitr; · iexact Hm
    iexact Hfl
  iintro %w H
  unfold pairInv
  rw [if_neg (by omega : ¬ 64 < 64)]
  unfold tablesAt blocksAt selAt
  icases H with ⟨⟨HT, HC0, HC1, HC2, HP0, HP1, HP2⟩, ⟨⟨%f0, %h0, HB0⟩, ⟨%f1, %h1, HB1⟩, ⟨%f2, %h2, HB2⟩⟩, HS, HB, Hv14, HdB, HO, -, ⟨HA, HdA, Hv13⟩⟩
  iapply (put_out d L X 0 (B := bxV) h0 ((k0_off19_eq L).trans (vec_eq (by show _ = 4096 * (32 * 0 + wid L); unfold wid; omega)))) $$ [HB0 Ho0 Hs7 HO]
  · isplitl [HB0]; · iexact HB0
    isplitl [Ho0]; · iexact Ho0
    isplitl [Hs7]; · iexact Hs7
    isplitl [HO] <;> iassumption
  iintro HB0 Ho0 Hs7 HO
  iapply (put_out d L X 1 (B := byV) h1 (off20_eq0 L)) $$ [HB1 Ho1 Hs8 HO]
  · isplitl [HB1]; · iexact HB1
    isplitl [Ho1]; · iexact Ho1
    isplitl [Hs8]; · iexact Hs8
    isplitl [HO] <;> iassumption
  iintro HB1 Ho1 Hs8 HO
  iapply (put_out d L X 2 (B := bzV) h2 (off20_eq1 L)) $$ [HB2 Ho2 Hs9 HO]
  · isplitl [HB2]; · iexact HB2
    isplitl [Ho2]; · iexact Ho2
    isplitl [Hs9]; · iexact Hs9
    isplitl [HO] <;> iassumption
  iintro HB2 Ho2 Hs9 HO
  rw [Prog.pure_eq_ret, wp_ret]; imodintro
  isplitl [HdA HdB Ht Hc Hp]
  · isplitl [HdA]; · iexact HdA
    isplitl [HdB]; · iexact HdB
    isplitl [Ht]; · iexact Ht
    isplitl [Hc] <;> iassumption
  isplitl [Ho0 Ho1 Ho2]
  · isplitl [Ho0]; · iexact Ho0
    isplitl [Ho1] <;> iassumption
  isplitl [HA HB HT HC0 HC1 HC2 HP0 HP1 HP2 HB0 HB1 HB2 HS]
  · isplitl [HA]; · iexact HA
    isplitl [HB]; · iexact HB
    isplitl [HT]; · iexists _; iexact HT
    isplitl [HC0]; · iexists _; iexact HC0
    isplitl [HC1]; · iexists _; iexact HC1
    isplitl [HC2]; · iexists _; iexact HC2
    isplitl [HP0]; · iexists _; iexact HP0
    isplitl [HP1]; · iexists _; iexact HP1
    isplitl [HP2]; · iexists _; iexact HP2
    isplitl [HB0]; · iexact HB0
    isplitl [HB1]; · iexact HB1
    isplitl [HB2]; · iexact HB2
    iexact HS
  isplitl [Hv13 Hv14 Hs0 Hs1 Hs2 Hs3 Hs4 Hs5 Hs6 Hs7 Hs8 Hs9]
  · isplitl [Hv13]; · iexact Hv13
    isplitl [Hv14]; · iexact Hv14
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hs9
  iexact HO

end

end Cert.Proof
-- ==== Proof.Deal.lean ====
/-
  How the call's memory is dealt: a tile's own buffers and semaphores out of those of its processor, the operands' read
  shares and the result's parts among the 32 tiles.
-/
module

public import proofs.«01_k».proof.Proof.Body

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (Flight MayWaits dealOf pointsTo_deal)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq seq after)

variable {F : FTy → Type} [FloatOps F]

local notation "𝕄" => MT nD τ sig (HIx 1) (Elt F) ℕ UU ℕ

/-! ## A tile's own buffers and semaphores -/

section
variable (d : Dev nD) (L : grid0.Coords)

/-- The buffers of a tile, and its semaphores, by number. -/
def scr : Fin 13 → Ref sig .scVector :=
  ![cc0_scratch0, cc0_scratch1, cc0_scratch2, cc0_scratch3, cc0_scratch4, cc0_scratch5, cc0_scratch6, cc0_scratch7, cc0_scratch8, cc0_scratch9,
    cc0_scratch10, cc0_scratch11, cc0_scratch12]
def cel : Fin 12 → DmaSem sig :=
  ![cc0_scratch13.sem, cc0_scratch14.sem, cc0_scoped0.sem, cc0_scoped1.sem, cc0_scoped2.sem, cc0_scoped3.sem, cc0_scoped4.sem, cc0_scoped5.sem,
    cc0_scoped6.sem, cc0_scoped7.sem, cc0_scoped8.sem, cc0_scoped9.sem]

theorem scr_inj : Function.Injective scr := by decide
theorem cel_inj : Function.Injective cel := by decide
theorem scr_owner (k : Fin 13) (c : Fin τ.nSC) (i : Fin τ.nSub) : ((Proc.scVector c i).devRef (scr k)).owner = .proc (.scVector c i) := by
  fin_cases k <;> rfl
theorem cel_scoped : ∀ k, (SemLoc.dma (cel k) : SemLoc sig).isScoped .scVector = true := by decide

abbrev scrRef (k : Fin 13) : DevRef τ sig := (Proc.scVector (cV L) (jV L)).devRef (scr k)
abbrev celRef (k : Fin 12) : GSem nD τ sig := (VT d L, SemLoc.dma (cel k))

theorem celRef_inj : Function.Injective (celRef d L) := fun a b h => by
  have e : (SemLoc.dma (cel a) : SemLoc sig) = SemLoc.dma (cel b) := congrArg (fun g : GSem nD τ sig => g.2) h
  injection e with e
  exact cel_inj e

omit [FloatOps F] in
theorem ownBufs_tile : (ownBufs (VT d L) : sProp 𝕄)
    = iprop(bufsAt d L ∗ bigSep (ownRefs (τ := τ) (.scVector (cV L) (jV L)) \ Finset.univ.image (scrRef L)) fun b => iprop(∃ f, ((d, b) : Loc nD τ sig) ↦{fullShare} f)) := by
  unfold ownBufs
  rw [SparseCore.bigSep_sdiff_split' (t := Finset.univ.image (scrRef L))
      (Finset.image_subset_iff.mpr fun k _ => SparseCore.Cfg.mem_ownRefs_of_owner (scr_owner k _ _)),
    SparseCore.bigSep_image_of_injOn (fun a _ b _ h => scr_inj (Proc.devRef_injective _ h)),
    show (Finset.univ : Finset (Fin 13)) = {0, 1, 2, 3, 4, 5, 6, 7, 8, 9, 10, 11, 12} by decide]
  iterate 12 rw [SparseCore.bigSep_insert' (by decide)]
  rw [bigSep_singleton]
  rfl

omit [FloatOps F] in
theorem ownSems_tile : (ownSems0 (VT d L) : sProp 𝕄)
    = iprop(semsAt d L ∗ bigSep (ownCells (VT d L) \ Finset.univ.image (celRef d L)) fun g => semVal g 0) := by
  unfold ownSems0
  rw [SparseCore.bigSep_sdiff_split' (t := Finset.univ.image (celRef d L))
      (Finset.image_subset_iff.mpr fun k _ => mem_ownCells.mpr ⟨rfl, cel_scoped k⟩),
    SparseCore.bigSep_image_of_injOn (fun a _ b _ h => celRef_inj d L h),
    show (Finset.univ : Finset (Fin 12)) = {0, 1, 2, 3, 4, 5, 6, 7, 8, 9, 10, 11} by decide]
  iterate 11 rw [SparseCore.bigSep_insert' (by decide)]
  rw [bigSep_singleton]
  rfl

end

/-! ## The operands and the result among the tiles -/

/-- The share of an operand that a tile reads. -/
def tileShare (c : Fin 2) (s : Fin 16) : PosShare TreeShare := dealOf (dealOf fullShare Finset.univ c) Finset.univ s

/-- What a tile is handed, and with the result's value what it hands back. -/
def tileRes (d : Dev nD) (c : Fin 2) (s : Fin 16) (X : Operands F) (g : S393216.Idx → F .f32) : sProp 𝕄 :=
  iprop(insAt d (coordsV c s) X (tileShare c s).left (tileShare c s).right (tileShare c s) ∗ outsAt d (coordsV c s) g)

instance tileRes_storable (d : Dev nD) (c : Fin 2) (s : Fin 16) (X : Operands F) (g : S393216.Idx → F .f32) :
    BI.Storable (upEmb : UEmb _ 𝕄) (tileRes d c s X g) := by
  unfold tileRes insAt outsAt; infer_instance

/-- All of the call's memory. -/
def callRes (d : Dev nD) (X : Operands F) (g : S393216.Idx → F .f32) : sProp 𝕄 :=
  iprop(((SparseCore.T d).loc main_v6 ↦{fullShare} X.X2) ∗ ((SparseCore.T d).loc main_v2 ↦{fullShare} X.XT) ∗ ((SparseCore.T d).loc main_v5 ↦{fullShare} X.XC)
    ∗ ((SparseCore.T d).loc main_v7 ↦{fullShare} X.XP) ∗ ((SparseCore.T d).loc main_v8 ↦{fullShare} g))

omit [FloatOps F] in
theorem dealt (ℓ : Loc nD τ sig) (f : Buf (Elt F) ℓ) :
    (ℓ ↦{fullShare} f : sProp 𝕄) = bigSep Finset.univ fun c : Fin 2 => bigSep Finset.univ fun s : Fin 16 => ℓ ↦{tileShare c s} f := by
  rw [pointsTo_deal (Finset.univ : Finset (Fin 2)) ⟨0, Finset.mem_univ _⟩ fullShare]
  exact bigSep_congr fun c _ => pointsTo_deal (Finset.univ : Finset (Fin 16)) ⟨0, Finset.mem_univ _⟩ _

omit [FloatOps F] in
theorem dealt_halves (ℓ : Loc nD τ sig) (f : Buf (Elt F) ℓ) :
    (ℓ ↦{fullShare} f : sProp 𝕄) = bigSep Finset.univ fun c : Fin 2 => bigSep Finset.univ fun s : Fin 16 =>
      iprop((ℓ ↦{(tileShare c s).left} f) ∗ ℓ ↦{(tileShare c s).right} f) :=
  (dealt ℓ f).trans (bigSep_congr fun c _ => bigSep_congr fun s _ =>
    BI.Entails.antisymm (pointsTo_share (PosShare.mem_left_op_right (tileShare c s))).1 (pointsTo_share (PosShare.mem_left_op_right (tileShare c s))).2)

/-- The part of the result that coordinate `k` of tile `(c, s)` is. -/
abbrev partOf (p : Fin 2 × Fin 16 × Fin 3) : Finset S393216.Idx := outPart (partIx (widF (coordsV p.1 p.2.1)) p.2.2)

theorem partOf_val (p : Fin 2 × Fin 16 × Fin 3) : (partIx (widF (coordsV p.1 p.2.1)) p.2.2).val = 32 * p.2.2.val + (2 * p.2.1.val + p.1.val) := rfl

theorem partOf_disjoint : ∀ p ∈ (Finset.univ : Finset (Fin 2 × Fin 16 × Fin 3)), ∀ p' ∈ (Finset.univ : Finset (Fin 2 × Fin 16 × Fin 3)), p ≠ p' →
    Disjoint (partOf p) (partOf p') := fun p _ p' _ h => Rect.part_disjoint hdiv fun e => h (by
  have e := congrArg Fin.val e
  rw [partOf_val, partOf_val] at e
  obtain ⟨c, s, k⟩ := p
  obtain ⟨c', s', k'⟩ := p'
  have := c.isLt; have := c'.isLt; have := s.isLt; have := s'.isLt; have := k.isLt; have := k'.isLt
  dsimp only at e
  refine Prod.ext (Fin.ext ?_) (Prod.ext (Fin.ext ?_) (Fin.ext ?_)) <;> dsimp only <;> omega)

theorem partOf_cover : (Finset.univ : Finset (Fin 2 × Fin 16 × Fin 3)).biUnion partOf = Finset.univ := by
  refine Finset.eq_univ_of_forall fun x => Finset.mem_biUnion.mpr ?_
  have hx : (x 0).val < 393216 := (x 0).isLt
  refine ⟨(⟨(x 0).val / 4096 % 2, by omega⟩, ⟨(x 0).val / 4096 % 32 / 2, by omega⟩, ⟨(x 0).val / 131072, by omega⟩), Finset.mem_univ _, ?_⟩
  refine mem_outPart.2 ?_
  rw [partOf_val]
  dsimp only
  omega

omit [FloatOps F] in
theorem parted (d : Dev nD) (g : S393216.Idx → F .f32) :
    (((SparseCore.T d).loc main_v8 ↦{fullShare} g) : sProp 𝕄)
      = bigSep Finset.univ fun c : Fin 2 => bigSep Finset.univ fun s : Fin 16 => outsAt d (coordsV c s) g := by
  have h := pointsTo_biUnion (Val := Elt F) (Ix := HIx 1) (Name := ℕ) (U := UU) (Lvl := ℕ) (q := fullShare) (ℓ := (SparseCore.T d : Thread nD τ).loc main_v8) (f := g) Finset.univ partOf partOf_disjoint
  rw [partOf_cover, BI.bigSep_univ_prod] at h
  refine h.trans (bigSep_congr fun c _ => (BI.bigSep_univ_prod _).trans (bigSep_congr fun s _ => ?_))
  rw [show (Finset.univ : Finset (Fin 3)) = {0, 1, 2} by decide, SparseCore.bigSep_insert' (by decide), SparseCore.bigSep_insert' (by decide), bigSep_singleton]
  rfl

omit [FloatOps F] in
theorem regroup (A B C D E G : sProp 𝕄) : iprop((A ∗ B) ∗ C ∗ D ∗ E ∗ G) = iprop((A ∗ B ∗ C ∗ D ∗ E) ∗ G) := by
  have h1 : iprop((A ∗ B) ∗ C ∗ D ∗ E ∗ G) ⊢ iprop((A ∗ B ∗ C ∗ D ∗ E) ∗ G) := by
    iintro ⟨⟨Ha, Hb⟩, Ht, Hc, Hp, Ho⟩
    isplitr [Ho]
    · isplitl [Ha]; · iexact Ha
      isplitl [Hb]; · iexact Hb
      isplitl [Ht]; · iexact Ht
      isplitl [Hc] <;> iassumption
    iexact Ho
  have h2 : iprop((A ∗ B ∗ C ∗ D ∗ E) ∗ G) ⊢ iprop((A ∗ B) ∗ C ∗ D ∗ E ∗ G) := by
    iintro ⟨⟨Ha, Hb, Ht, Hc, Hp⟩, Ho⟩
    isplitl [Ha Hb]
    · isplitl [Ha] <;> iassumption
    isplitl [Ht]; · iexact Ht
    isplitl [Hc]; · iexact Hc
    isplitl [Hp]; · iexact Hp
    iexact Ho
  exact BI.Entails.antisymm h1 h2

theorem callRes_eq (d : Dev nD) (X : Operands F) (g : S393216.Idx → F .f32) :
    callRes d X g = bigSep Finset.univ fun c : Fin 2 => bigSep Finset.univ fun s : Fin 16 => tileRes d c s X g := by
  refine (congrArg₂ BIBase.sep (dealt_halves ((SparseCore.T d).loc main_v6) X.X2) (congrArg₂ BIBase.sep (dealt ((SparseCore.T d).loc main_v2) X.XT)
    (congrArg₂ BIBase.sep (dealt ((SparseCore.T d).loc main_v5) X.XC) (congrArg₂ BIBase.sep (dealt ((SparseCore.T d).loc main_v7) X.XP) (parted d g))))).trans ?_
  unfold tileRes insAt
  simp only [bigSep_sep']
  exact regroup _ _ _ _ _ _

end Cert.Proof
-- ==== Proof.Launch.lean ====
/-
  The launch: a tile's obligation, the SparseCores' splits, the host code on the TensorCore and the program's run.
-/
module

public import proofs.«01_k».proof.Proof.Deal

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (Flight MayWaits dealOf pointsTo_deal)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq seq after)

variable {F : FTy → Type} [FloatOps F]

local notation "𝕄" => MT nD τ sig (HIx 1) (Elt F) ℕ UU ℕ

/-! ## The host code before the call -/

/-- The operations of the host code, in order. -/
abbrev hostOps : List (HloOp τ sig (Elt F)) :=
  [StableHlo.unary main_arg0 main_v0 ((transpose S8x3x8192 [0, 2, 1] · transposes_S8x8192x3_S8x3x8192_0_2_1) :
      (⟨S8x8192x3, .f32⟩ : BufTy).Contents (Elt F) → (⟨S8x3x8192, .f32⟩ : BufTy).Contents (Elt F)),
   StableHlo.reshape main_arg2 main_v1 (rfl : (.f32 : EltTy) = .f32) shapeCasts_S8x512x64x128_S4096x8192,
   StableHlo.reshape main_arg3 main_v2 (rfl : (.f32 : EltTy) = .f32) shapeCasts_S8x512x1_S4096,
   StableHlo.reshape main_arg1 main_v3 (rfl : (.f32 : EltTy) = .f32) shapeCasts_S8x512x3_S4096x3,
   StableHlo.unary main_v3 main_v4 ((transpose S3x4096 [1, 0] · transposes_S4096x3_S3x4096_1_0) :
      (⟨S4096x3, .f32⟩ : BufTy).Contents (Elt F) → (⟨S3x4096, .f32⟩ : BufTy).Contents (Elt F)),
   StableHlo.reshape main_v4 main_v5 (rfl : (.f32 : EltTy) = .f32) shapeCasts_S3x4096_S12288,
   StableHlo.reshape main_v1 main_v6 (rfl : (.f32 : EltTy) = .f32) shapeCasts_S4096x8192_S33554432,
   StableHlo.reshape main_v0 main_v7 (rfl : (.f32 : EltTy) = .f32) shapeCasts_S8x3x8192_S196608]

theorem main_eq (d : Dev nD) :
    main (F := F) d = (seq hostOps >>= fun _ => (K (F := F)).run d 0) := rfl

variable (m : (ℓ : Loc nD τ sig) → Buf (Elt F) ℓ) (ρ : Dev nD → PrngReg)

/-- The arrays as launched, and as the call finds them. -/
def V0 (d : Dev nD) : Valuation τ sig (Elt F) := fun b => m (d, b)
def V8 (d : Dev nD) : Valuation τ sig (Elt F) := after hostOps (V0 m d)

abbrev rf (b : Ref sig .tc) : DevRef τ sig := Proc.devRef .tc b

/-- The call's operands. -/
def opsOf (d : Dev nD) : Operands F where
  X2 := V8 m d (rf main_v6)
  XT := V8 m d (rf main_v2)
  XC := V8 m d (rf main_v5)
  XP := V8 m d (rf main_v7)

/-- Each row has exactly 32 distances at most its threshold. -/
def PreOK : Prop := ∀ d, (opsOf m d).Counted

/-- The contents of the result's array at the call. -/
abbrev outAt (d : Dev nD) : S393216.Idx → F .f32 := V8 m d (rf main_v8)

/-! ## What passes between the threads -/

section
variable (X : Dev nD → Operands F) (g : Dev nD → S393216.Idx → F .f32)

abbrev cIx (c : Fin ((K (F := F)).nCore 0)) : Fin 2 := c
abbrev sIx (s : Fin ((K (F := F)).nSub 0)) : Fin 16 := Fin.cast nSub_zero s

def P : (K (F := F)).Pay (nD := nD) (Val := Elt F) (Name := ℕ) (U := UU) where
  st := fun q d c => match q with | 0 => bigSep Finset.univ fun s : Fin 16 => tileRes d (cIx c) s (X d) (g d)
  dn := fun q d c => match q with | 0 => bigSep Finset.univ fun s : Fin 16 => tileRes d (cIx c) s (X d) (X d).outVal
  go := fun q d c s => match q with | 0 => tileRes d (cIx c) (sIx s) (X d) (g d)
  td := fun q d c s => match q with | 0 => tileRes d (cIx c) (sIx s) (X d) (X d).outVal
  x := fun _ _ => iprop(emp)

instance P_storable : (P X g).IsStorable where
  st q d c := match q with | 0 => (inferInstance : BI.Storable (upEmb : UEmb _ 𝕄) (bigSep Finset.univ fun s : Fin 16 => tileRes d (cIx c) s (X d) (g d)))
  dn q d c := match q with | 0 => (inferInstance : BI.Storable (upEmb : UEmb _ 𝕄) (bigSep Finset.univ fun s : Fin 16 => tileRes d (cIx c) s (X d) (X d).outVal))
  go q d c s := match q with | 0 => tileRes_storable d (cIx c) (sIx s) (X d) (g d)
  td q d c s := match q with | 0 => tileRes_storable d (cIx c) (sIx s) (X d) (X d).outVal

/-! ## A tile's obligation -/

theorem defs₀_vector (c : Fin τ.nSC) (s : Fin τ.nSub) :
    defs₀ (F := F) (.scVector c s) 0 () = SparseCore.onTile hcore0 hsub0 (fun c s => scBody (coordsV c s)) ⟨⟩ c s := rfl

theorem tile_body (d : Dev nD) (c : Fin 2) (s : Fin 16) (X : Operands F) (hX : X.Counted) (g : S393216.Idx → F .f32)
    (O : CellTallies nD τ sig (HIx 1)) (W : Waits sig (HIx 1)) (hO : ∀ g, O g none = 0) :
    iprop(levAts (K (F := F)).L (K (F := F)).lev ∗ emp ∗ tileRes d c s X g
        ∗ scopedBufs (VT d (coordsV c s)) ∗ scopedSems0 (VT d (coordsV c s)) ∗ owes (VT d (coordsV c s)) O W)
      ⊢ wp frame (wpE (defs₀ (F := F)) 𝒱₀ (VT d (coordsV c s)) none) Set.univ (scBody (coordsV c s))
          fun _ => iprop(tileRes d c s X X.outVal ∗ scopedBufs (VT d (coordsV c s)) ∗ scopedSems0 (VT d (coordsV c s))
            ∗ ∃ W', ⌜∀ p ∈ W', p ∈ W ∨ p.2 = none ∨ p.2 = some (0 : Fin 1)⌝ ∗ owes (VT d (coordsV c s)) O W') := by
  rw [(K (F := F)).scopedBufs_V facts d (cV (coordsV c s)) (jV (coordsV c s)),
    SparseCore.Cfg.scopedSems0_V (Val := Elt F) d (cV (coordsV c s)) (jV (coordsV c s)), ownSems_tile, ownBufs_tile]
  unfold tileRes
  iintro ⟨#Hlv, -, ⟨Hin, Hout⟩, ⟨HB, HBr⟩, ⟨HS, HSr⟩, HO⟩
  ihave Hmw := (show levAts (K (F := F)).L (K (F := F)).lev ⊢ Transfers.MayWaits (VT d (coordsV c s)) (default : HIx 1) O from
    (K (F := F)).mayWaits_none (thr := VT d (coordsV c s)) hO) $$ Hlv
  iapply (wp_wand_r Idealize.ShloMosaic.frame (wpE (defs₀ (F := F)) 𝒱₀ (VT d (coordsV c s)) none) Set.univ)
  isplitl [Hin Hout HB HS HO Hmw]
  · iapply (tile_run d (coordsV c s) X hX (tileShare c s).left (tileShare c s).right (tileShare c s) g O)
    isplitl [Hin]; · iexact Hin
    isplitl [Hout]; · iexact Hout
    isplitl [HB]; · iexact HB
    isplitl [HS]; · iexact HS
    isplitl [HO]
    · iexists W; iexact HO
    iexact Hmw
  iintro %_ ⟨Hin, Hout, HB, HS, ⟨%W', HO⟩⟩
  isplitl [Hin Hout]
  · isplitl [Hin] <;> iassumption
  isplitl [HB HBr]
  · isplitl [HB] <;> iassumption
  isplitl [HS HSr]
  · isplitl [HS] <;> iassumption
  iexists W'; isplitr
  · ipureintro; intro p _
    rcases p.2 with _ | q
    · exact .inr (.inl rfl)
    · exact .inr (.inr (congrArg some (Subsingleton.elim q 0)))
  iexact HO

theorem tileObl (hX : ∀ d, (X d).Counted) : (K (F := F)).TileObl (D (F := F)) 𝒱 (P X g) v₀ 0 := by
  intro d c i O W hO _ _
  simp only [show (P X g).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d ⟨_, hci.1⟩ ⟨_, hci.2⟩ (X d) (hX d) (g d) O W hO

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P X g) 0 := by
  intro d c
  show (bigSep Finset.univ fun s : Fin 16 => tileRes d (cIx c) s (X d) (g d)) ⊢ |={Set.univ}=> iprop(
      (bigSep Finset.univ fun i : Fin ((K (F := F)).nSub 0) => tileRes d (cIx c) (Fin.cast nSub_zero i) (X d) (g d))
      ∗ ((bigSep Finset.univ fun i : Fin ((K (F := F)).nSub 0) => tileRes d (cIx c) (Fin.cast nSub_zero i) (X d) (X d).outVal)
          -∗ bigSep Finset.univ fun s : Fin 16 => tileRes d (cIx c) s (X d) (X d).outVal))
  rw [bigSep_tasks (F := F) (fun s => tileRes d (cIx c) s (X d) (g d)),
    bigSep_tasks (F := F) (fun s => tileRes d (cIx c) s (X d) (X d).outVal)]
  iintro H; imodintro
  isplitl [H]; · iexact H
  iintro H; iexact H

theorem st_eq (d : Dev nD) (c : Fin 2) : (P X g).st 0 d c = bigSep Finset.univ fun s : Fin 16 => tileRes d c s (X d) (g d) := by rfl
theorem dn_eq (d : Dev nD) (c : Fin 2) : (P X g).dn 0 d c = bigSep Finset.univ fun s : Fin 16 => tileRes d c s (X d) (X d).outVal := by rfl

theorem st0_eq (d : Dev nD) : (bigSep Finset.univ fun c : Fin ((K (F := F)).nCore 0) => (P X g).st 0 d c) = callRes d (X d) (g d) := by
  rw [callRes_eq]
  exact bigSep_congr fun c _ => st_eq X g d c
theorem dn0_eq (d : Dev nD) : (bigSep Finset.univ fun c : Fin ((K (F := F)).nCore 0) => (P X g).dn 0 d c) = callRes d (X d) (X d).outVal := by
  rw [callRes_eq]
  exact bigSep_congr fun c _ => dn_eq X g d c

end

/-! ## The launch element of the ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P (opsOf m) (outAt m)).x q thr) := by
  have he : (bigSep Finset.univ fun thr : Thread nD τ => bigSep Finset.univ fun q : Fin 1 => (P (opsOf m) (outAt m)).x q thr) = iprop(emp) :=
    (bigSep_congr fun _ _ => bigSep_univ_of_subsingleton (0 : Fin 1)).trans (bigSep_emp_const _)
  unfold u₀
  iintro Hu
  ihave H := (ownU_pair (initOf (K (F := F)).hsCells (K (F := F)).hsToks) (1 : Counters)) $$ Hu
  icases H with ⟨HH, -⟩
  imodintro
  isplitl [HH]; · iexact HH
  isplitr
  · iapply (Entails.of_eq (bigSep_emp_const (Finset.univ : Finset (Dev nD))).symm); iempintro
  rw [he]; iempintro

/-! ## The host code and the call on the TensorCore -/

abbrev S13 : Finset (DevRef τ sig) :=
  {rf main_arg0, rf main_arg1, rf main_arg2, rf main_arg3, rf main_v0, rf main_v1, rf main_v3, rf main_v4, rf main_v6, rf main_v2, rf main_v5, rf main_v7, rf main_v8}

theorem unscoped_held (d : Dev nD) : (unscopedBufs d (fun b => m ((SparseCore.T d).loc b)) : sProp 𝕄) = held (SparseCore.T d) S13 (V0 m d) := by
  unfold unscopedBufs held S13
  rw [show (Finset.univ.filter fun b : Ref sig .tc => ¬ b.isScoped)
      = {main_arg0, main_arg1, main_arg2, main_arg3, main_v0, main_v1, main_v3, main_v4, main_v6, main_v2, main_v5, main_v7, main_v8} by decide]
  iterate 12 rw [SparseCore.bigSep_insert' (by decide)]
  rw [bigSep_singleton]
  iterate 12 rw [SparseCore.bigSep_insert' (by decide)]
  rw [bigSep_singleton]
  rfl

/-- What the program leaves: its arguments, and the result. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ ((SparseCore.T d).loc main_v8 ↦{fullShare} (opsOf m d).outVal))

theorem V8_arg0 (d : Dev nD) : V8 m d (rf main_arg0) = m ((SparseCore.T d).loc main_arg0) := by unfold V8 hostOps; after_results; rfl
theorem V8_arg1 (d : Dev nD) : V8 m d (rf main_arg1) = m ((SparseCore.T d).loc main_arg1) := by unfold V8 hostOps; after_results; rfl
theorem V8_arg2 (d : Dev nD) : V8 m d (rf main_arg2) = m ((SparseCore.T d).loc main_arg2) := by unfold V8 hostOps; after_results; rfl
theorem V8_arg3 (d : Dev nD) : V8 m d (rf main_arg3) = m ((SparseCore.T d).loc main_arg3) := by unfold V8 hostOps; after_results; rfl

/-- What the TensorCore holds: the arguments and the call's memory, apart from what the host code only passes through. -/
theorem held_call (d : Dev nD) (V : Valuation τ sig (Elt F)) : (held (SparseCore.T d) S13 V : sProp 𝕄)
    ⊢ iprop(((SparseCore.T d).loc main_arg0 ↦{fullShare} V (rf main_arg0)) ∗ ((SparseCore.T d).loc main_arg1 ↦{fullShare} V (rf main_arg1))
    ∗ ((SparseCore.T d).loc main_arg2 ↦{fullShare} V (rf main_arg2)) ∗ ((SparseCore.T d).loc main_arg3 ↦{fullShare} V (rf main_arg3))
    ∗ callRes d ⟨V (rf main_v6), V (rf main_v2), V (rf main_v5), V (rf main_v7)⟩ (V (rf main_v8))) := by
  unfold held S13
  iterate 12 rw [SparseCore.bigSep_insert' (by decide)]
  rw [bigSep_singleton]
  iintro ⟨H0, H1, H2, H3, -, -, -, -, H6, H⟩
  isplitl [H0]; · iexact H0
  isplitl [H1]; · iexact H1
  isplitl [H2]; · iexact H2
  isplitl [H3]; · iexact H3
  unfold callRes
  icases H with ⟨Ht, Hc, Hp, Ho⟩
  isplitl [H6]; · iexact H6
  isplitl [Ht]; · iexact Ht
  isplitl [Hc]; · iexact Hc
  isplitl [Hp]; · iexact Hp
  iexact Ho

theorem held_args (d : Dev nD) : (held (SparseCore.T d) S13 (V8 m d) : sProp 𝕄)
    ⊢ iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ callRes d (opsOf m d) (outAt m d)) := by
  have h := held_call d (V8 m d)
  rw [V8_arg0, V8_arg1, V8_arg2, V8_arg3] at h
  exact h

theorem hostOps_bufs : ∀ op ∈ hostOps (F := F), op.bufs ⊆ S13 := by
  simp only [List.forall_mem_cons, List.not_mem_nil, false_imp_iff, implies_true, and_true]
  exact ⟨(show ({rf main_arg0, rf main_v0} : Finset (DevRef τ sig)) ⊆ S13 by decide), (show ({rf main_arg2, rf main_v1} : Finset (DevRef τ sig)) ⊆ S13 by decide),
    (show ({rf main_arg3, rf main_v2} : Finset (DevRef τ sig)) ⊆ S13 by decide), (show ({rf main_arg1, rf main_v3} : Finset (DevRef τ sig)) ⊆ S13 by decide),
    (show ({rf main_v3, rf main_v4} : Finset (DevRef τ sig)) ⊆ S13 by decide), (show ({rf main_v4, rf main_v5} : Finset (DevRef τ sig)) ⊆ S13 by decide),
    (show ({rf main_v1, rf main_v6} : Finset (DevRef τ sig)) ⊆ S13 by decide), (show ({rf main_v0, rf main_v7} : Finset (DevRef τ sig)) ⊆ S13 by decide)⟩
theorem hostOps_fresh : ∀ op ∈ hostOps (F := F), op.fresh = ∅ := by
  simp only [List.forall_mem_cons, List.not_mem_nil, false_imp_iff, implies_true, and_true]
  exact ⟨rfl, rfl, rfl, rfl, rfl, rfl, rfl, rfl⟩

theorem hmain (κ : GSem nD τ sig → ℕ) (d : Dev nD) :
    iprop((K (F := F)).ctx EH (P (opsOf m) (outAt m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d S13 (fun _ => (K (F := F)).run d 0) hostOps hostOps_bufs hostOps_fresh (V0 m d)) $$ [Hb Hheld]
  · isplitl [Hb] <;> iassumption
  iintro ⟨Hb, Hheld⟩
  ihave Hh := (show (held d.tc S13 (after hostOps (V0 m d)) : sProp 𝕄) ⊢ _ from held_args m d) $$ Hheld
  icases Hh with ⟨H0, H1, H2, H3, Hcall⟩
  iapply ((K (F := F)).wp_run (D (F := F)) 𝒱 (EH := EH) (P := P (opsOf m) (outAt m)) κ d 0) $$ [Hst Hcall H0 H1 H2 H3 Hb Hts]
  isplitr; · iexact Hctx
  isplitl [Hst]; · iexact Hst
  isplitl [Hcall]
  · rw [st0_eq (opsOf m) (outAt m)]; iexact Hcall
  iintro ⟨Hst, Hdn⟩
  ihave Hdn' := (Entails.of_eq (dn0_eq (opsOf m) (outAt m) d)) $$ Hdn
  unfold callRes
  icases Hdn' with ⟨-, -, -, -, Hout⟩
  isplitl [Hst]; · iexact Hst
  isplitr [Hb Hts]
  · isplitl [H0]; · iexact H0
    isplitl [H1]; · iexact H1
    isplitl [H2]; · iexact H2
    isplitl [H3]; · iexact H3
    iexact Hout
  isplitl [Hb] <;> iassumption

/-- What a final state satisfies: the arguments as they were, the result the operands' value. -/
def fq (d : Dev nD) (s' : Phys nD τ sig (Elt F)) : Prop :=
  (s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_arg3) = m ((SparseCore.T d).loc main_arg3))
    ∧ s'.mem.mem ((SparseCore.T d).loc main_v8) = (opsOf m d).outVal

theorem agree (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hi, HSI⟩
  ihave H := (persistent_entails_right (SI_pointsTo_agree (st := s') (ℓ := ℓ) (I := Finset.univ) (q := fullShare) (f := f))) $$ [HSI Hi]
  · isplitl [HSI] <;> iassumption
  icases H with ⟨%h1, HSI, -⟩
  isplitr
  · ipureintro; exact funext fun i => h1 i (Finset.mem_univ i)
  iexact HSI

theorem hfin (d : Dev nD) (s' : Phys nD τ sig (Elt F)) : iprop(FIN m d ∗ SI s') ⊢ (⌜fq m d s'⌝ : sProp 𝕄) := by
  iintro ⟨⟨H0, H1, H2, H3, Ho⟩, HSI⟩
  ihave H := (agree _ _ s') $$ [H0 HSI]
  · isplitl [H0] <;> iassumption
  icases H with ⟨%e0, HSI⟩
  ihave H := (agree _ _ s') $$ [H1 HSI]
  · isplitl [H1] <;> iassumption
  icases H with ⟨%e1, HSI⟩
  ihave H := (agree _ _ s') $$ [H2 HSI]
  · isplitl [H2] <;> iassumption
  icases H with ⟨%e2, HSI⟩
  ihave H := (agree _ _ s') $$ [H3 HSI]
  · isplitl [H3] <;> iassumption
  icases H with ⟨%e3, HSI⟩
  ihave H := (agree _ _ s') $$ [Ho HSI]
  · isplitl [Ho] <;> iassumption
  icases H with ⟨%e4, -⟩
  ipureintro
  exact ⟨⟨e0, e1, e2, e3⟩, e4⟩

/-- What a final state of the program satisfies. -/
def QC : PUnit × MemSt nD τ sig (Elt F) → Prop := fun r => (∀ c : Dev nD,
  (r.2.mem ((SparseCore.T c).loc main_arg0) = m ((SparseCore.T c).loc main_arg0) ∧ r.2.mem ((SparseCore.T c).loc main_arg1) = m ((SparseCore.T c).loc main_arg1)
    ∧ r.2.mem ((SparseCore.T c).loc main_arg2) = m ((SparseCore.T c).loc main_arg2) ∧ r.2.mem ((SparseCore.T c).loc main_arg3) = m ((SparseCore.T c).loc main_arg3))
    ∧ r.2.mem ((SparseCore.T c).loc main_v8) = (opsOf m c).outVal) ∧ r.2.sem = fun _ => 0

/-- From a memory whose rows each have exactly 32 distances at most the threshold, every run of the program ends, leaves
    its arguments as they were and every semaphore at zero, and the result is the operands' value. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (opsOf m) (outAt m)) (A := ∅) facts v₀
    (fun q hq => match q with | 0 => nomatch hq)
    (fun q _ => match q with | 0 => tileObl (opsOf m) (outAt m) hpre)
    (fun q _ => match q with | 0 => SparseCore.Cfg.VecSplit.of_plain (vecSplit (opsOf m) (outAt m)))
    m ρ main (fun _ => iprop(emp)) (FIN m) (u₀ (F := F)) (sep_elim_left.trans (hu₀ m)) (hmain m ρ) (fq m) (hfin m) (QC m) (fun _ h hz => ⟨h, hz⟩)

end Cert.Proof
-- ==== Proof.Host.lean ====
/-
  The call's operands, and the precondition, read by the arguments' coordinates. Row `512 b + n` of the distances is
  sample `b`'s group `n`. `opsOf_*`: where an operand's flat position lies in its argument. `preOK_of_pre`: the
  precondition's count of distances at most the threshold is the count that the run asks for.
-/
module

public import proofs.«01_k».proof.Proof.Launch
public import proofs.«01_k».proof.Proof.Gen.Pre_separated
public import Idealize.ShloMosaic.Lib.ReduceAll
public import Idealize.ShloMosaic.Lib.IndicatorCount
public import Idealize.ShloMosaic.Lib.ValueIdx
public import Idealize.ShloMosaic.Lib.Pipeline.Value
public import Idealize.ShloMosaic.Lib.Routing.Count

@[expose] public section

noncomputable section

namespace Cert.Proof

open Cert.KernelIdeal Cert.KernelIdeal.Gen
open Idealize.ShloMosaic Idealize.ShloMosaic.ValueIdx Idealize.ShloMosaic.StableHlo

variable {F : FTy → Type} [FloatOps F]

/-! ## The arguments by their coordinates -/

/-- The distance of point `k` from the centroid of sample `b`'s group `n`. -/
def distOf {α : Type} (a : S8x512x64x128.Idx → α) (b : Fin 8) (n : Fin 512) (k : Fin 8192) : α :=
  a (ix4 b n ⟨k.val / 128, by omega⟩ ⟨k.val % 128, by omega⟩)

theorem distOf_cast {α : Type} (a : S8x512x64x128.Idx → α) (h : S8x512x64x128.ShapeCasts (⟨3, ![8, 512, 8192]⟩ : Shape)) (b : Fin 8) (n : Fin 512) (k : Fin 8192) :
    shapeCast (⟨3, ![8, 512, 8192]⟩ : Shape) a h (ix3 b n k) = distOf a b n k := by
  refine shapeCast_apply a h _ _ ?_
  rw [Shape.rowMajor_val_four, Shape.rowMajor_val_three]
  show ((b.val * 512 + n.val) * 64 + k.val / 128) * 128 + k.val % 128 = (b.val * 512 + n.val) * 8192 + k.val
  omega

variable (m : (ℓ : Loc nD τ sig) → Buf (Elt F) ℓ) (d : Dev nD)

abbrev points : S8x8192x3.Idx → F .f32 := m ((SparseCore.T d).loc main_arg0)
abbrev centroids : S8x512x3.Idx → F .f32 := m ((SparseCore.T d).loc main_arg1)
abbrev distances : S8x512x64x128.Idx → F .f32 := m ((SparseCore.T d).loc main_arg2)
abbrev thresholds : S8x512x1.Idx → F .f32 := m ((SparseCore.T d).loc main_arg3)

theorem X2_eq : (opsOf m d).X2 = shapeCast S33554432 (shapeCast S4096x8192 (distances m d) shapeCasts_S8x512x64x128_S4096x8192) shapeCasts_S4096x8192_S33554432 := by
  unfold opsOf V8 hostOps; after_results; rfl
theorem XT_eq : (opsOf m d).XT = shapeCast S4096 (thresholds m d) shapeCasts_S8x512x1_S4096 := by
  unfold opsOf V8 hostOps; after_results; rfl
theorem XC_eq : (opsOf m d).XC = shapeCast S12288 (transpose S3x4096 [1, 0] (shapeCast S4096x3 (centroids m d) shapeCasts_S8x512x3_S4096x3) transposes_S4096x3_S3x4096_1_0) shapeCasts_S3x4096_S12288 := by
  unfold opsOf V8 hostOps; after_results; rfl
theorem XP_eq : (opsOf m d).XP = shapeCast S196608 (transpose S8x3x8192 [0, 2, 1] (points m d) transposes_S8x8192x3_S8x3x8192_0_2_1) shapeCasts_S8x3x8192_S196608 := by
  unfold opsOf V8 hostOps; after_results; rfl

theorem opsOf_dist (b : Fin 8) (n : Fin 512) (k : Fin 8192) :
    (opsOf m d).X2 (at1 (8192 * (512 * b.val + n.val) + k.val)) = distOf (distances m d) b n k := by
  rw [X2_eq]
  refine (shapeCast_apply _ _ _ (ix2 ⟨512 * b.val + n.val, by omega⟩ k) ?_).trans ?_
  · rw [Shape.rowMajor_val_two, Shape.rowMajor_val_one]
    show (512 * b.val + n.val) * 8192 + k.val = (8192 * (512 * b.val + n.val) + k.val) % 33554432
    omega
  · refine shapeCast_apply _ _ _ _ ?_
    rw [Shape.rowMajor_val_four, Shape.rowMajor_val_two]
    show ((b.val * 512 + n.val) * 64 + k.val / 128) * 128 + k.val % 128 = (512 * b.val + n.val) * 8192 + k.val
    omega

theorem opsOf_thr (b : Fin 8) (n : Fin 512) : (opsOf m d).XT (at1 (512 * b.val + n.val)) = thresholds m d (ix3 b n 0) := by
  rw [XT_eq]
  refine shapeCast_apply _ _ _ _ ?_
  rw [Shape.rowMajor_val_three, Shape.rowMajor_val_one]
  show (b.val * 512 + n.val) * 1 + 0 = (512 * b.val + n.val) % 4096
  omega

theorem opsOf_cen (b : Fin 8) (n : Fin 512) (c : Fin 3) :
    (opsOf m d).XC (at1 (4096 * c.val + (512 * b.val + n.val))) = centroids m d (ix3 b n c) := by
  rw [XC_eq]
  refine (shapeCast_apply _ _ _ (ix2 c ⟨512 * b.val + n.val, by omega⟩) ?_).trans ?_
  · rw [Shape.rowMajor_val_two, Shape.rowMajor_val_one]
    show c.val * 4096 + (512 * b.val + n.val) = (4096 * c.val + (512 * b.val + n.val)) % 12288
    omega
  · refine (congrArg (shapeCast S4096x3 (centroids m d) shapeCasts_S8x512x3_S4096x3)
      (show _ = ix2 (⟨512 * b.val + n.val, by omega⟩ : Fin 4096) c by
        funext a; match a with
        | ⟨0, _⟩ => rfl
        | ⟨1, _⟩ => rfl)).trans ?_
    refine shapeCast_apply _ _ _ _ ?_
    rw [Shape.rowMajor_val_three, Shape.rowMajor_val_two]
    show (b.val * 512 + n.val) * 3 + c.val = (512 * b.val + n.val) * 3 + c.val
    omega

theorem opsOf_pts (b : Fin 8) (k : Fin 8192) (c : Fin 3) :
    (opsOf m d).XP (at1 (24576 * b.val + 8192 * c.val + k.val)) = points m d (ix3 b k c) := by
  rw [XP_eq]
  refine (shapeCast_apply _ _ _ (ix3 b c k) ?_).trans ?_
  · rw [Shape.rowMajor_val_three, Shape.rowMajor_val_one]
    show (b.val * 3 + c.val) * 8192 + k.val = (24576 * b.val + 8192 * c.val + k.val) % 196608
    omega
  · exact congrArg (points m d) (by
      funext a; match a with
      | ⟨0, _⟩ => rfl
      | ⟨1, _⟩ => rfl
      | ⟨2, _⟩ => rfl)

/-! ## The points near a centroid -/

/-- Point `k` lies within the threshold of sample `b`'s group `n`. -/
def Near (a2 : S8x512x64x128.Idx → F .f32) (a3 : S8x512x1.Idx → F .f32) (b : Fin 8) (n : Fin 512) (k : ℕ) : Prop :=
  ∃ h : k < 8192, FloatOps.cmpf .ole (distOf a2 b n ⟨k, h⟩) (a3 (ix3 b n 0)) = 1#1

open Classical in
instance (a2 : S8x512x64x128.Idx → F .f32) (a3 : S8x512x1.Idx → F .f32) (b : Fin 8) (n : Fin 512) : DecidablePred (Near a2 a3 b n) := fun _ => Classical.propDecidable _

theorem below_eq (b : Fin 8) (n : Fin 512) :
    Below ((opsOf m d).row (512 * b.val + n.val)) ((opsOf m d).XT (at1 (512 * b.val + n.val))) = Near (distances m d) (thresholds m d) b n := by
  funext k
  refine propext (exists_congr fun h => ?_)
  rw [opsOf_thr]
  exact iff_of_eq (congrArg (fun x => FloatOps.cmpf .ole x (thresholds m d (ix3 b n 0)) = 1#1) (opsOf_dist m d b n ⟨k, h⟩))

/-! ## The precondition -/

instance : Subsingleton Cert.Pre_separated.S_.Idx := ⟨fun a b => funext fun x => x.elim0⟩

theorem eq_of_cmpi {x y : BitVec 32} (h : IntOp.cmpi .eq x y = 1#1) : x = y := by
  by_contra hne
  unfold IntOp.cmpi at h
  simp only [beq_eq_false_iff_ne.2 hne] at h
  exact absurd h (by decide)

theorem card_of_pre (a0 : S8x8192x3.Idx → F .f32) (a1 : S8x512x3.Idx → F .f32) (a2 : S8x512x64x128.Idx → F .f32) (a3 : S8x512x1.Idx → F .f32)
    (h : Cert.Pre_separated.fn (F := F) a0 a1 a2 a3 = fun _ => 1#1) (b : Fin 8) (n : Fin 512) :
    (Finset.univ.filter fun k : Fin 8192 => FloatOps.cmpf .ole (distOf a2 b n k) (a3 (ix3 b n 0)) = 1#1).card = 32 := by
  have h1 := congrFun h ix0
  unfold Cert.Pre_separated.fn at h1
  have h2 := Host.reduce_andi_all _ _ _ _ _ h1 (ix2 b n)
  have h3 : Host.reduce IntOp.addi (extui 32 (cmpf .ole (shapeCast Cert.Pre_separated.S8x512x8192 a2 Cert.Pre_separated.Gen.shapeCasts_S8x512x64x128_S8x512x8192)
      (broadcastInDim Cert.Pre_separated.S8x512x8192 ![0, 1, 2] Cert.Pre_separated.Gen.bcast_S8x512x1_S8x512x8192_0_1_2 a3)) (by decide))
      (constantI Cert.Pre_separated.S_ 32 0#32) Cert.Pre_separated.Gen.reducesTo_S8x512x8192_S8x512_d2 Cert.Pre_separated.Gen.h_S_ (ix2 b n) = 32#32 := by
    exact eq_of_cmpi h2
  have hr : Cert.Pre_separated.S8x512x8192.Reduces [2] Cert.Pre_separated.S8x512 := by decide
  rw [Host.reduce_eq_fold_single _ _ _ _ hr] at h3
  have h5 : (Finset.univ : Finset (Fin 8192)).fold IntOp.addi (0#32) (fun k => (FloatOps.cmpf .ole (distOf a2 b n k) (a3 (ix3 b n 0))).setWidth 32) = 32#32 := by
    refine (Finset.fold_congr fun k _ => ?_).trans h3
    have hl : hr.lift (ix2 b n) k = ix3 b n k := by
      funext a
      refine Fin.ext ?_
      match a with
      | ⟨0, _⟩ => rfl
      | ⟨1, _⟩ => rfl
      | ⟨2, _⟩ => rfl
    show _ = (FloatOps.cmpf .ole (shapeCast Cert.Pre_separated.S8x512x8192 a2 _ (hr.lift (ix2 b n) k))
      (broadcastInDim Cert.Pre_separated.S8x512x8192 ![0, 1, 2] Cert.Pre_separated.Gen.bcast_S8x512x1_S8x512x8192_0_1_2 a3 (hr.lift (ix2 b n) k))).setWidth 32
    rw [hl, distOf_cast]
    refine congrArg (fun t => (FloatOps.cmpf .ole (distOf a2 b n k) t).setWidth 32) (congrArg a3 ?_)
    funext a
    match a with
    | ⟨0, _⟩ => rfl
    | ⟨1, _⟩ => rfl
    | ⟨2, _⟩ => rfl
  rw [IndicatorCount.fold_addi_setWidth_eq_card] at h5
  have h6 := congrArg BitVec.toNat h5
  rw [BitVec.toNat_ofNat, Nat.mod_eq_of_lt (lt_of_le_of_lt (Finset.card_le_univ _) (by rw [Fintype.card_fin]; decide))] at h6
  exact h6

theorem count_of_pre (a0 : S8x8192x3.Idx → F .f32) (a1 : S8x512x3.Idx → F .f32) (a2 : S8x512x64x128.Idx → F .f32) (a3 : S8x512x1.Idx → F .f32)
    (h : Cert.Pre_separated.fn (F := F) a0 a1 a2 a3 = fun _ => 1#1) (b : Fin 8) (n : Fin 512) : Nat.count (Near a2 a3 b n) 8192 = 32 := by
  rw [← Routing.card_filter_fin, ← card_of_pre _ _ _ _ h b n]
  refine congrArg Finset.card (Finset.filter_congr fun k _ => ?_)
  exact ⟨fun ⟨_, h⟩ => h, fun h => ⟨k.isLt, h⟩⟩

theorem preOK_of_pre (h : ∀ d, Cert.Pre_separated.fn (F := F) (points m d) (centroids m d) (distances m d) (thresholds m d) = fun _ => 1#1) :
    PreOK m := by
  intro d R hR
  obtain ⟨b, n, rfl⟩ : ∃ (b : Fin 8) (n : Fin 512), R = 512 * b.val + n.val := ⟨⟨R / 512, by omega⟩, ⟨R % 512, by omega⟩, by simp only; omega⟩
  refine Eq.trans ?_ (count_of_pre _ _ _ _ (h d) b n)
  congr 1
  exact below_eq m d b n

/-! ## The result -/

theorem pick_congr {p q : ℕ → Prop} [DecidablePred p] [DecidablePred q] (h : p = q) (j : ℕ) : Select.pick p j = Select.pick q j := by
  subst h
  congr 1

/-- The result at coordinate `c` of sample `b`'s group `n`'s `j`-th point: the `j`-th near point, less the centroid. -/
theorem outVal_eq (b : Fin 8) (n : Fin 512) (j : Fin 32) (c : Fin 3) (x : S393216.Idx)
    (hx : (x 0).val = 131072 * c.val + 32 * (512 * b.val + n.val) + j.val) :
    (opsOf m d).outVal x = FloatOps.subf
      (points m d (ix3 b (Fin.ofNat 8192 (Select.pick (Near (distances m d) (thresholds m d) b n) j.val)) c)) (centroids m d (ix3 b n c)) := by
  unfold Operands.outVal Operands.tileVal Tables.val
  have hw : (x 0).val % 131072 / 4096 = (512 * b.val + n.val) / 128 := by omega
  have hq : (x 0).val % 4096 / 32 = (512 * b.val + n.val) % 128 := by omega
  have hj : (x 0).val % 4096 % 32 = j.val := by omega
  have hc : Fin.ofNat 3 ((x 0).val / 131072) = c := Fin.ext (by show (x 0).val / 131072 % 3 = c.val; omega)
  have hR : 128 * ((512 * b.val + n.val) / 128) + (512 * b.val + n.val) % 128 = 512 * b.val + n.val := by omega
  rw [hw, hq, hj, hc, hR]
  unfold Operands.tables
  have hr : ((ent (Fin.ofNat 128 ((512 * b.val + n.val) % 128)) : S128.Idx) 0).val = (512 * b.val + n.val) % 128 := by
    show (512 * b.val + n.val) % 128 % 128 = _
    omega
  simp only [hr]
  rw [hR, pick_congr (below_eq m d b n), show 4096 * c.val + 128 * ((512 * b.val + n.val) / 128) + (512 * b.val + n.val) % 128 = 4096 * c.val + (512 * b.val + n.val) by omega,
    opsOf_cen, show (512 * b.val + n.val) / 128 / 4 = b.val by omega]
  exact congrArg (fun t => FloatOps.subf t (centroids m d (ix3 b n c))) (opsOf_pts m d b _ c)

end Cert.Proof
-- ==== Proof.Ranked.lean ====
/-
  Selection by sorting, as mathematics. Where exactly `k` of `n` entries have a property, and every entry that has it
  sorts before every entry that has not, the first `k` places of the sorted order hold the entries with the property
  (`top_below`). Their positions, sorted ascending (`sorted_words`), are the positions picked one by one in order
  (`strictMono_pick`).
-/
module

public import proofs.«01_k».proof.Proof.Select
public import Idealize.ShloMosaic.Lib.SortFacts
public import Idealize.ShloMosaic.Lib.Routing.Count
public import Mathlib.Order.Interval.Finset.Fin
public import Mathlib.Order.WellFounded

@[expose] public section

noncomputable section

namespace Cert.Proof.Select

open Idealize.ShloMosaic

/-- The first places of the sorted order, as many as entries have the property, hold entries that have it. -/
theorem top_below {n : ℕ} (before : Fin n → Fin n → Bool) (p : ℕ → Prop) [DecidablePred p]
    (asym : ∀ a b, before a b = true → before b a = false)
    (neg : ∀ a b c, before a b = false → before b c = false → before a c = false)
    (hp : ∀ a b : Fin n, p a.val → ¬ p b.val → before a b = true) (i : Fin n) (hi : i.val < Nat.count p n) :
    p (sortedFrom before i).val := by
  by_contra h
  have hall : ∀ j : Fin n, i ≤ j → ¬ p (sortedFrom before j).val := by
    intro j hij hj
    rcases eq_or_lt_of_le hij with rfl | hlt
    · exact h hj
    · have h1 := sortedFrom_noInversion before before asym (fun _ _ h => h) neg i j hlt
      rw [hp _ _ hj h] at h1
      exact absurd h1 (by decide)
  have hsub : (Finset.univ.filter fun x : Fin n => p x.val) ⊆ (Finset.Iio i).image (sortedFrom before) := by
    intro x hx
    obtain ⟨j, rfl⟩ := sortedFrom_surjective before x
    refine Finset.mem_image_of_mem _ (Finset.mem_Iio.2 ?_)
    by_contra hj
    exact hall j (not_lt.1 hj) (Finset.mem_filter.1 hx).2
  have hc := (Finset.card_le_card hsub).trans Finset.card_image_le
  rw [Routing.card_filter_fin n p, Fin.card_Iio] at hc
  omega

variable {p : ℕ → Prop} [DecidablePred p]

/-- An ascending list of `k` numbers that have the property, all below `n`, where `k` of the numbers below `n` have it. -/
theorem strictMono_pick {n k : ℕ} (w : Fin k → ℕ) (hw : StrictMono w) (hp : ∀ i, p (w i)) (hn : ∀ i, w i < n)
    (hk : Nat.count p n = k) (i : Fin k) : pick p i.val = w i := by
  have hlt : ∀ i, Nat.count p (w i) < k := fun i => by
    rw [← hk]; exact Nat.count_strict_mono (hp i) (hn i)
  let f : Fin k → Fin k := fun i => ⟨Nat.count p (w i), hlt i⟩
  have hf : StrictMono f := fun a b hab => Nat.count_strict_mono (hp a) (hw hab)
  have he : Nat.count p (w i) = i.val := congrArg Fin.val (le_antisymm (hf.apply_le (x := i)) (hf.le_apply (x := i)))
  rw [← he]
  exact pick_count (hp i)

/-- The order of words by their signed values. -/
abbrev wordBefore {k : ℕ} (v : Fin k → BitVec 32) (a b : Fin k) : Bool := IntOp.cmpi .slt (v a) (v b) == 1#1

theorem wordBefore_iff {k : ℕ} (v : Fin k → BitVec 32) (hv : ∀ i, (v i).toNat < 2 ^ 31) (a b : Fin k) :
    wordBefore v a b = true ↔ (v a).toNat < (v b).toNat := by
  have h : ∀ x : BitVec 32, x.toNat < 2 ^ 31 → x.toInt = (x.toNat : ℤ) := fun x hx => by
    rw [BitVec.toInt_eq_toNat_of_lt (by omega)]
  unfold wordBefore IntOp.cmpi
  simp only [beq_iff_eq]
  rw [show ((v a).slt (v b)) = decide ((v a).toNat < (v b).toNat) by
    rw [BitVec.slt, h _ (hv a), h _ (hv b)]; simp]
  by_cases hd : (v a).toNat < (v b).toNat <;> simp [hd]

/-- Distinct words, sorted, ascend. -/
theorem sorted_words {k : ℕ} (v : Fin k → BitVec 32) (hv : ∀ i, (v i).toNat < 2 ^ 31) (hinj : ∀ a b, (v a).toNat = (v b).toNat → a = b) :
    StrictMono fun i => (v (sortedFrom (wordBefore v) i)).toNat := by
  have hneg : ∀ a b, wordBefore v a b = false ↔ (v b).toNat ≤ (v a).toNat := fun a b => by
    rw [← not_lt, ← wordBefore_iff v hv, Bool.not_eq_true]
  intro i j hij
  have h1 := sortedFrom_noInversion (wordBefore v) (wordBefore v)
    (fun a b h => by rw [hneg]; exact ((wordBefore_iff v hv a b).1 h).le) (fun _ _ h => h)
    (fun a b c hab hbc => by rw [hneg] at *; omega) i j hij
  rw [hneg] at h1
  refine lt_of_le_of_ne h1 fun he => ?_
  exact absurd (sortedFrom_injective _ (hinj _ _ he)) (ne_of_lt hij)

end Cert.Proof.Select
-- ==== Proof.Ref.lean ====
/-
  The reference's value at an index, over the extended reals. `idx_word`: under the precondition the sorted indices of a
  group's 32 largest negated distances are its near points in order. `ref_value`: the reference's result at coordinate `c`
  of sample `b`'s group `n`'s `j`-th point is that near point's coordinate less the centroid's.
-/
module

public import proofs.«01_k».proof.Proof.Host
public import proofs.«01_k».proof.Proof.Ranked
public import proofs.«01_k».proof.Proof.Gen.ReferenceIdeal.Run

@[expose] public section

noncomputable section

namespace Cert.Proof.Reference

open Cert.ReferenceIdeal Cert.ReferenceIdeal.Gen
open Idealize.ShloMosaic Idealize.ShloMosaic.ValueIdx Idealize.ShloMosaic.StableHlo
open Cert.Proof (distOf distOf_cast Near count_of_pre)
open Cert.Proof.Select (pick top_below strictMono_pick sorted_words wordBefore)

/-! ## The 32 nearest points -/

/-- Point `k` is nearer to the centroid than point `k'`. -/
def nearer (a2 : S8x512x64x128.Idx → EReal) (b : Fin 8) (n : Fin 512) (k k' : Fin 8192) : Bool :=
  decide (distOf a2 b n k < distOf a2 b n k')

/-- The indices of the 32 largest negated distances, largest first. -/
abbrev topWords (a2 : FVec Ideal S8x512x64x128 .f32) : IVec S8x512x32 32 :=
  (Host.topK S8x512x32 2 (FloatOps.cmpfTotal .gt) (Host.negf (shapeCast S8x512x8192 a2 shapeCasts_S8x512x64x128_S8x512x8192)) sliceFits_S8x512x8192_S8x512x32).2

theorem sort2_snd {α β : Type} (s : Shape) (d : ℕ) (hd : d < s.rank) (cmp : α × β → α × β → BitVec 1) (x : s.Idx → α) (y : s.Idx → β) (j : s.Idx) :
    (Host.sort2 s d cmp x y).2 j = y (j.along ⟨d, hd⟩ (sortedFrom
      (fun k k' => cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

theorem along_two (b : Fin 8) (n : Fin 512) (i k : Fin 8192) :
    Shape.Idx.along (s := S8x512x8192) (ix3 b n i) (2 : Fin 3) k = ix3 b n k := by
  funext a
  match a with
  | ⟨0, _⟩ => rfl
  | ⟨1, _⟩ => rfl
  | ⟨2, _⟩ => rfl

theorem along_two' (b : Fin 8) (n : Fin 512) (i k : Fin 32) :
    Shape.Idx.along (s := S8x512x32) (ix3 b n i) (2 : Fin 3) k = ix3 b n k := by
  funext a
  match a with
  | ⟨0, _⟩ => rfl
  | ⟨1, _⟩ => rfl
  | ⟨2, _⟩ => rfl

/-- Each point's own index. -/
def posWords : IVec S8x512x8192 32 := fun i => if hd : 2 < S8x512x8192.rank then iotaInDim S8x512x8192 32 ⟨2, hd⟩ i else 0#32

theorem posWords_apply (b : Fin 8) (n : Fin 512) (k : Fin 8192) : posWords (ix3 b n k) = BitVec.ofNat 32 k.val := by
  unfold posWords
  rw [dif_pos (by decide)]
  rfl

theorem topWords_apply (a2 : FVec Ideal S8x512x64x128 .f32) (b : Fin 8) (n : Fin 512) (i : Fin 32) :
    topWords a2 (ix3 b n i) = BitVec.ofNat 32 (sortedFrom (nearer a2 b n) (⟨i.val, by omega⟩ : Fin 8192)).val := by
  have hix : (fun a : Fin S8x512x8192.rank => (⟨0 + ((ix3 b n i : S8x512x32.Idx) (a.cast sliceFits_S8x512x8192_S8x512x32.1.symm)).val,
      Nat.lt_of_lt_of_le (Nat.add_lt_add_left (Fin.isLt _) _) (sliceFits_S8x512x8192_S8x512x32.2 a)⟩ : Fin (S8x512x8192.size a)))
      = (ix3 b n (⟨i.val, by omega⟩ : Fin 8192) : S8x512x8192.Idx) := by
    funext a
    refine Fin.ext ?_
    match a with
    | ⟨0, _⟩ => exact Nat.zero_add _
    | ⟨1, _⟩ => exact Nat.zero_add _
    | ⟨2, _⟩ => exact Nat.zero_add _
  have hs : (fun k k' : Fin 8192 => (FloatOps.cmpfTotal .gt
        (Host.negf (F := Ideal) (φ := .f32) (shapeCast S8x512x8192 a2 shapeCasts_S8x512x64x128_S8x512x8192) (Shape.Idx.along (s := S8x512x8192) (ix3 b n (⟨i.val, by omega⟩ : Fin 8192)) (2 : Fin 3) k))
        (Host.negf (F := Ideal) (φ := .f32) (shapeCast S8x512x8192 a2 shapeCasts_S8x512x64x128_S8x512x8192) (Shape.Idx.along (s := S8x512x8192) (ix3 b n (⟨i.val, by omega⟩ : Fin 8192)) (2 : Fin 3) k')) == 1#1))
      = nearer a2 b n := by
    funext k k'
    rw [along_two, along_two]
    show (BitVec.ofBool (decide (-(shapeCast S8x512x8192 a2 shapeCasts_S8x512x64x128_S8x512x8192 (ix3 b n k') : EReal) < -(shapeCast S8x512x8192 a2 shapeCasts_S8x512x64x128_S8x512x8192 (ix3 b n k) : EReal))) == 1#1) = _
    rw [distOf_cast, distOf_cast]
    unfold nearer
    have : (-(distOf a2 b n k' : EReal) < -(distOf a2 b n k : EReal)) ↔ ((distOf a2 b n k : EReal) < distOf a2 b n k') := EReal.neg_lt_neg_iff
    by_cases h : (distOf a2 b n k : EReal) < distOf a2 b n k'
    · rw [decide_eq_true (this.2 h), decide_eq_true h]; rfl
    · rw [decide_eq_false (fun hh => h (this.1 hh)), decide_eq_false h]; rfl
  refine (congrArg (Host.sort2 S8x512x8192 2 (fun l r : EReal × BitVec 32 => FloatOps.cmpfTotal (F := Ideal) (φ := .f32) CmpDirection.gt l.1 r.1)
    (Host.negf (F := Ideal) (φ := .f32) (shapeCast S8x512x8192 a2 shapeCasts_S8x512x64x128_S8x512x8192))
    posWords).2 hix).trans ?_
  refine (sort2_snd S8x512x8192 2 (by decide) _ _ _ _).trans ?_
  refine (congrArg posWords (along_two b n _ _)).trans ?_
  refine (posWords_apply b n _).trans ?_
  exact congrArg (fun B => BitVec.ofNat 32 (sortedFrom B (⟨i.val, by omega⟩ : Fin 8192)).val) hs

theorem near_iff (a2 : FVec Ideal S8x512x64x128 .f32) (a3 : FVec Ideal S8x512x1 .f32) (b : Fin 8) (n : Fin 512) (k : Fin 8192) :
    Near (F := Ideal) a2 a3 b n k.val ↔ (distOf a2 b n k : EReal) ≤ a3 (ix3 b n 0) := by
  have h : ∀ x y : EReal, FloatOps.cmpf (F := Ideal) (φ := .f32) .ole x y = 1#1 ↔ x ≤ y := fun x y => by
    show BitVec.ofBool (decide (x ≤ y)) = 1#1 ↔ _
    by_cases hxy : x ≤ y
    · rw [decide_eq_true hxy]; exact ⟨fun _ => hxy, fun _ => rfl⟩
    · rw [decide_eq_false hxy]; exact ⟨fun h => absurd h (by decide), fun h => absurd h hxy⟩
  exact ⟨fun ⟨_, hk⟩ => (h _ _).1 hk, fun hk => ⟨k.isLt, (h _ _).2 hk⟩⟩

section
variable (a2 : FVec Ideal S8x512x64x128 .f32) (a3 : FVec Ideal S8x512x1 .f32) (b : Fin 8) (n : Fin 512)
  (hc : Nat.count (Near (F := Ideal) a2 a3 b n) 8192 = 32)
include hc

/-- The 32 nearest points are near. -/
theorem top_near (i : Fin 32) : Near (F := Ideal) a2 a3 b n (sortedFrom (nearer a2 b n) (⟨i.val, by omega⟩ : Fin 8192)).val := by
  refine top_below (nearer a2 b n) (Near (F := Ideal) a2 a3 b n) ?_ ?_ ?_ _ (by rw [hc]; exact i.isLt)
  · intro x y h
    exact decide_eq_false (not_lt.2 (of_decide_eq_true h).le)
  · intro x y z hxy hyz
    exact decide_eq_false (not_lt.2 ((not_lt.1 (of_decide_eq_false hyz)).trans (not_lt.1 (of_decide_eq_false hxy))))
  · intro x y hx hy
    rw [near_iff] at hx hy
    exact decide_eq_true (lt_of_le_of_lt hx (not_le.1 hy))

/-- The sorted indices are the near points, in order. -/
theorem idx_word (j : Fin 32) :
    Host.sort S8x512x32 2 comparator_i32_d2 (topWords a2) (ix3 b n j) = BitVec.ofNat 32 (pick (Near (F := Ideal) a2 a3 b n) j.val) := by
  let v : Fin 32 → BitVec 32 := fun i => topWords a2 (ix3 b n i)
  have hv : ∀ i, (v i).toNat = (sortedFrom (nearer a2 b n) (⟨i.val, by omega⟩ : Fin 8192)).val := fun i => by
    show (topWords a2 (ix3 b n i)).toNat = _
    rw [topWords_apply, BitVec.toNat_ofNat]
    have := (sortedFrom (nearer a2 b n) (⟨i.val, by omega⟩ : Fin 8192)).isLt
    exact Nat.mod_eq_of_lt (by omega)
  have hlt : ∀ i, (v i).toNat < 8192 := fun i => by rw [hv]; exact Fin.isLt _
  have hinj : ∀ x y, (v x).toNat = (v y).toNat → x = y := fun x y h => by
    rw [hv, hv] at h
    have := congrArg Fin.val (sortedFrom_injective _ (Fin.ext h))
    exact Fin.ext this
  have hmono := sorted_words v (fun i => by have := hlt i; omega) hinj
  have hp := strictMono_pick (p := Near (F := Ideal) a2 a3 b n) (n := 8192) _ hmono
    (fun i => by show Near (F := Ideal) a2 a3 b n (v _).toNat; rw [hv]; exact top_near a2 a3 b n hc _) (fun i => hlt _) hc j
  rw [hp]
  have he : Host.sort S8x512x32 2 comparator_i32_d2 (topWords a2) (ix3 b n j) = v (sortedFrom (wordBefore v) j) := by
    unfold Host.sort
    rw [dif_pos (by decide)]
    have hB : (fun k k' : Fin 32 => comparator_i32_d2 (topWords a2 (Shape.Idx.along (s := S8x512x32) (ix3 b n j) (2 : Fin 3) k))
        (topWords a2 (Shape.Idx.along (s := S8x512x32) (ix3 b n j) (2 : Fin 3) k')) == 1#1) = wordBefore v := by
      funext k k'
      rw [along_two', along_two']
      rfl
    refine (congrArg (topWords a2) (along_two' b n _ _)).trans ?_
    exact congrArg (fun B => v (sortedFrom B j)) hB
  rw [he]
  refine BitVec.eq_of_toNat_eq ?_
  rw [BitVec.toNat_ofNat]
  exact (Nat.mod_eq_of_lt (BitVec.isLt _)).symm

end

/-! ## The gathered points -/

section words

theorem toInt_small {v : BitVec 32} (h : v.toNat < 8192) : v.toInt = (v.toNat : ℤ) := BitVec.toInt_eq_toNat_of_lt (by omega)

theorem not_negative {v : BitVec 32} (h : v.toNat < 8192) : IntOp.cmpi .slt v 0#32 = 0#1 := by
  unfold IntOp.cmpi
  simp only [BitVec.slt, toInt_small h]
  rw [decide_eq_false (by simp)]
  rfl

theorem at_least_zero {v : BitVec 32} (h : v.toNat < 8192) : IntOp.cmpi .sge v 0#32 = 1#1 := by
  unfold IntOp.cmpi
  simp only [BitVec.sle, toInt_small h]
  rw [decide_eq_true (by simp)]
  rfl

theorem at_most_last {v : BitVec 32} (h : v.toNat < 8192) : IntOp.cmpi .sle v 8191#32 = 1#1 := by
  unfold IntOp.cmpi
  simp only [BitVec.sle, toInt_small h]
  rw [decide_eq_true (by rw [show (8191#32).toInt = 8191 by decide]; omega)]
  rfl

end words

variable (a0 : FVec Ideal S8x8192x3 .f32) (a1 : FVec Ideal S8x512x3 .f32) (a2 : FVec Ideal S8x512x64x128 .f32) (a3 : FVec Ideal S8x512x1 .f32)

/-- The sorted indices as the gather takes them. -/
def ixWords : IVec S8x16384x1 32 :=
  broadcastInDim S8x16384x1 ![0, 1] bcast_S8x16384_S8x16384x1_0_1 (shapeCast _ (Host.sort S8x512x32 2 comparator_i32_d2 (topWords a2)) shapeCasts_S8x512x32_S8x16384)

/-- Negative words taken from the end. -/
def wrapped (w : IVec S8x16384x1 32) : IVec S8x16384x1 32 :=
  select (cmpi .slt w (broadcastInDim S8x16384x1 ![] bcast_S_S8x16384x1 (constantI S_ 32 0#32))) (addi w (broadcastInDim S8x16384x1 ![] bcast_S_S8x16384x1 (constantI S_ 32 8192#32))) w

/-- Which words name a point. -/
def inRange (w : IVec S8x16384x1 32) : IVec S8x16384 1 :=
  Host.reduce IntOp.andi (andi (cmpi .sge w (broadcastInDim S8x16384x1 ![] bcast_S_S8x16384x1 (constantI S_ 32 0#32))) (cmpi .sle w (broadcastInDim S8x16384x1 ![0, 1, 2] bcast_S1x1x1_S8x16384x1_0_1_2 (broadcastInDim S1x1x1 ![2] bcast_S1_S1x1x1_2 (constantI S1 32 8191#32))))) (constantI S_ 1 1#1) reducesTo_S8x16384x1_S8x16384_d2 h_S_

/-- The gathered points. -/
def gathered : FVec Ideal S8x16384x3 .f32 :=
  select (broadcastInDim S8x16384x3 ![0, 1] bcast_S8x16384_S8x16384x3_0_1 (inRange (wrapped (ixWords a2)))) (Host.gather gather_S8x8192x3_S8x16384x1_S8x16384x3_2_1_0_0_1_2_113 a0 (wrapped (ixWords a2))) (broadcastInDim S8x16384x3 ![] bcast_S_S8x16384x3 (constant S_ .f32 0x7FC00000#32))

/-- The result. -/
def refOut : FVec Ideal S393216 .f32 :=
  shapeCast _ (transpose S3x131072 [1, 0] (shapeCast _ (subf (shapeCast _ (gathered a0 a2) shapeCasts_S8x16384x3_S8x512x32x3) (broadcastInDim S8x512x32x3 ![0, 1, 2, 3] bcast_S8x512x1x3_S8x512x32x3_0_1_2_3 (broadcastInDim S8x512x1x3 ![0, 1, 3] bcast_S8x512x3_S8x512x1x3_0_1_3 a1))) shapeCasts_S8x512x32x3_S131072x3) transposes_S131072x3_S3x131072_1_0) shapeCasts_S3x131072_S393216

theorem res_eq (m : (ℓ : Loc nD τ sig) → Buf (Elt Ideal) ℓ) (c : Dev nD) :
    Cert.ReferenceIdeal.Value.res_main_v12 (F := Ideal) m c = refOut (m ((c.tc : Thread nD τ).loc main_arg0)) (m ((c.tc : Thread nD τ).loc main_arg1)) (m ((c.tc : Thread nD τ).loc main_arg2)) := by
  unfold Cert.ReferenceIdeal.Value.res_main_v12 refOut gathered inRange wrapped ixWords
  rfl

/-- A batched gather of rows, read at an index. -/
theorem gather_apply (w : IVec S8x16384x1 32) (b : Fin 8) (q : Fin 16384) (c : Fin 3) :
    Host.gather gather_S8x8192x3_S8x16384x1_S8x16384x3_2_1_0_0_1_2_113 a0 w (ix3 b q c)
      = a0 (ix3 b ⟨min (w (ix3 b q 0)).toInt.toNat 8191, by omega⟩ c) := by
  unfold Host.gather
  refine congrArg a0 ?_
  generalize hD : gather_S8x8192x3_S8x16384x1_S8x16384x3_2_1_0_0_1_2_113 = D
  funext a
  refine Fin.ext ?_
  show D.start (ix3 b q c) w a + D.batchCoord (ix3 b q c) a + D.offCoord (ix3 b q c) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  subst hD
  have hb : (0 : Fin 3) ∈ gather_S8x8192x3_S8x16384x1_S8x16384x3_2_1_0_0_1_2_113.operandBatchingDims := List.mem_singleton.mpr rfl
  have hm : (1 : Fin 3) ∈ gather_S8x8192x3_S8x16384x1_S8x16384x3_2_1_0_0_1_2_113.startIndexMap := List.mem_singleton.mpr rfl
  have hn : (2 : Fin 3) ∉ gather_S8x8192x3_S8x16384x1_S8x16384x3_2_1_0_0_1_2_113.startIndexMap := fun h => absurd (List.mem_singleton.1 h) (by decide)
  have hk : (2 : Fin 3) ∈ gather_S8x8192x3_S8x16384x1_S8x16384x3_2_1_0_0_1_2_113.sKept :=
    (GatherDims.mem_sKept _ _).mpr ⟨fun h => absurd (List.mem_singleton.1 h) (by decide), fun h => absurd (List.mem_singleton.1 h) (by decide)⟩
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos hb]
    rfl
  · rw [GatherDims.batchCoord_eq_zero _ _ _ (fun h => absurd (List.mem_singleton.1 h) (by decide)),
      GatherDims.offCoord_eq_zero _ _ _ (fun h => ((GatherDims.mem_sKept _ _).mp h).1 (List.mem_singleton.mpr rfl))]
    simp only [Nat.add_zero]
    unfold GatherDims.start
    rw [dif_pos hm]
    have hsi : gather_S8x8192x3_S8x16384x1_S8x16384x3_2_1_0_0_1_2_113.siIdx (ix3 b q c) ⟨List.idxOf (1 : Fin 3) gather_S8x8192x3_S8x16384x1_S8x16384x3_2_1_0_0_1_2_113.startIndexMap,
        List.idxOf_lt_length_iff.2 (List.mem_singleton.mpr rfl)⟩ = ix3 b q 0 := by
      funext e; refine Fin.ext ?_
      match e with
      | ⟨0, _⟩ => rfl
      | ⟨1, _⟩ => rfl
      | ⟨2, _⟩ => rfl
    rw [hsi]
    rfl
  · rw [GatherDims.batchCoord_eq_zero _ _ _ (fun h => absurd (List.mem_singleton.1 h) (by decide))]
    unfold GatherDims.start GatherDims.offCoord
    rw [dif_neg hn, dif_pos hk]
    simp only [Nat.zero_add]
    rfl

section
variable (hc : ∀ (b : Fin 8) (n : Fin 512), Nat.count (Near (F := Ideal) a2 a3 b n) 8192 = 32)
include hc

theorem pick_lt (b : Fin 8) (n : Fin 512) (j : Fin 32) : pick (Near (F := Ideal) a2 a3 b n) j.val < 8192 :=
  (Cert.Proof.Select.pick_spec (p := Near (F := Ideal) a2 a3 b n) (N := 8192) (by rw [hc]; exact j.isLt)).1

theorem ixWords_apply (b : Fin 8) (n : Fin 512) (j : Fin 32) :
    ixWords a2 (ix3 b ⟨32 * n.val + j.val, by omega⟩ 0) = BitVec.ofNat 32 (pick (Near (F := Ideal) a2 a3 b n) j.val) := by
  rw [← idx_word a2 a3 b n (hc b n) j]
  unfold ixWords
  refine Eq.trans (b := shapeCast S8x16384 (Host.sort S8x512x32 2 comparator_i32_d2 (topWords a2)) shapeCasts_S8x512x32_S8x16384 (ix2 b ⟨32 * n.val + j.val, by omega⟩)) ?_ ?_
  · exact congrArg (shapeCast S8x16384 (Host.sort S8x512x32 2 comparator_i32_d2 (topWords a2)) shapeCasts_S8x512x32_S8x16384) (by
      funext a
      match a with
      | ⟨0, _⟩ => rfl
      | ⟨1, _⟩ => rfl)
  · refine shapeCast_apply _ _ _ _ ?_
    rw [Shape.rowMajor_val_three, Shape.rowMajor_val_two]
    show (b.val * 512 + n.val) * 32 + j.val = b.val * 16384 + (32 * n.val + j.val)
    omega

theorem ixWords_lt (i : S8x16384x1.Idx) : (ixWords a2 i).toNat < 8192 := by
  obtain ⟨b, n, j, rfl⟩ : ∃ (b : Fin 8) (n : Fin 512) (j : Fin 32), i = ix3 b ⟨32 * n.val + j.val, by omega⟩ 0 := by
    have h1 : (i 1).val < 16384 := (i 1).isLt
    have h2 : (i 2).val < 1 := (i 2).isLt
    refine ⟨i 0, ⟨(i 1).val / 32, by omega⟩, ⟨(i 1).val % 32, by omega⟩, ?_⟩
    funext a
    refine Fin.ext ?_
    match a with
    | ⟨0, _⟩ => rfl
    | ⟨1, _⟩ => show (i 1).val = 32 * ((i 1).val / 32) + (i 1).val % 32; omega
    | ⟨2, _⟩ => show (i 2).val = 0; omega
  rw [ixWords_apply a2 a3 hc, BitVec.toNat_ofNat]
  exact lt_of_le_of_lt (Nat.mod_le _ _) (pick_lt a2 a3 hc _ _ _)

theorem wrapped_eq : wrapped (ixWords a2) = ixWords a2 := by
  funext i
  show Scalar.select (IntOp.cmpi .slt (ixWords a2 i) 0#32) (IntOp.addi (ixWords a2 i) 8192#32) (ixWords a2 i) = _
  rw [not_negative (ixWords_lt a2 a3 hc i)]
  rfl

theorem inRange_eq (k : S8x16384.Idx) : inRange (ixWords a2) k = 1#1 := by
  unfold inRange
  refine Host.reduce_andi_one _ _ _ _ _ rfl fun i => ?_
  show IntOp.andi (IntOp.cmpi .sge (ixWords a2 i) 0#32) (IntOp.cmpi .sle (ixWords a2 i) 8191#32) = 1#1
  rw [at_least_zero (ixWords_lt a2 a3 hc i), at_most_last (ixWords_lt a2 a3 hc i)]
  rfl

theorem gathered_apply (b : Fin 8) (n : Fin 512) (j : Fin 32) (c : Fin 3) :
    gathered a0 a2 (ix3 b ⟨32 * n.val + j.val, by omega⟩ c) = a0 (ix3 b (Fin.ofNat 8192 (pick (Near (F := Ideal) a2 a3 b n) j.val)) c) := by
  unfold gathered
  rw [wrapped_eq a2 a3 hc]
  show Scalar.select (inRange (ixWords a2) _) (Host.gather gather_S8x8192x3_S8x16384x1_S8x16384x3_2_1_0_0_1_2_113 a0 (ixWords a2) (ix3 b ⟨32 * n.val + j.val, by omega⟩ c)) _ = _
  rw [inRange_eq a2 a3 hc]
  refine (gather_apply a0 (ixWords a2) b ⟨32 * n.val + j.val, by omega⟩ c).trans ?_
  refine congrArg (fun t => a0 (ix3 b t c)) (Fin.ext ?_)
  have hl := pick_lt a2 a3 hc b n j
  refine (congrArg (fun v : BitVec 32 => min v.toInt.toNat 8191) (ixWords_apply a2 a3 hc b n j)).trans ?_
  show min (BitVec.ofNat 32 (pick (Near (F := Ideal) a2 a3 b n) j.val)).toInt.toNat 8191 = pick (Near (F := Ideal) a2 a3 b n) j.val % 8192
  have ht : (BitVec.ofNat 32 (pick (Near (F := Ideal) a2 a3 b n) j.val)).toNat = pick (Near (F := Ideal) a2 a3 b n) j.val := by
    rw [BitVec.toNat_ofNat]; exact Nat.mod_eq_of_lt (by omega)
  rw [toInt_small (by rw [ht]; exact hl), ht, Int.toNat_natCast]
  omega

/-- The reference's result at coordinate `c` of sample `b`'s group `n`'s `j`-th point. -/
theorem ref_value (b : Fin 8) (n : Fin 512) (j : Fin 32) (c : Fin 3) (x : S393216.Idx)
    (hx : (x 0).val = 131072 * c.val + 32 * (512 * b.val + n.val) + j.val) :
    refOut a0 a1 a2 x = FloatOps.subf (F := Ideal) (φ := .f32) (a0 (ix3 b (Fin.ofNat 8192 (pick (Near (F := Ideal) a2 a3 b n) j.val)) c)) (a1 (ix3 b n c)) := by
  unfold refOut
  refine (shapeCast_apply _ _ _ (ix2 c ⟨32 * (512 * b.val + n.val) + j.val, by omega⟩) ?_).trans ?_
  · rw [Shape.rowMajor_val_two, Shape.rowMajor_val_one]
    show c.val * 131072 + (32 * (512 * b.val + n.val) + j.val) = (x 0).val
    omega
  refine (congrArg (shapeCast S131072x3 _ shapeCasts_S8x512x32x3_S131072x3)
    (show _ = ix2 (⟨32 * (512 * b.val + n.val) + j.val, by omega⟩ : Fin 131072) c by
      funext a; match a with
      | ⟨0, _⟩ => rfl
      | ⟨1, _⟩ => rfl)).trans ?_
  refine (shapeCast_apply _ _ _ (ix4 b n j c) ?_).trans ?_
  · rw [Shape.rowMajor_val_four, Shape.rowMajor_val_two]
    show ((b.val * 512 + n.val) * 32 + j.val) * 3 + c.val = (32 * (512 * b.val + n.val) + j.val) * 3 + c.val
    omega
  refine congrArg₂ (FloatOps.subf (F := Ideal) (φ := .f32)) ?_ ?_
  · refine (shapeCast_apply _ _ _ (ix3 b (⟨32 * n.val + j.val, by omega⟩ : Fin 16384) c) ?_).trans (gathered_apply a0 a2 a3 hc b n j c)
    rw [Shape.rowMajor_val_four, Shape.rowMajor_val_three]
    show (b.val * 16384 + (32 * n.val + j.val)) * 3 + c.val = ((b.val * 512 + n.val) * 32 + j.val) * 3 + c.val
    omega
  · refine congrArg a1 ?_
    funext a
    match a with
    | ⟨0, _⟩ => rfl
    | ⟨1, _⟩ => rfl
    | ⟨2, _⟩ => rfl

end

end Cert.Proof.Reference
-- ==== Proof.Farthest.lean ====
module

public import Mathlib.Data.EReal.Operations
public import Mathlib.Data.Fintype.Lattice
public import Mathlib.Data.Fintype.EquivFin
public import Mathlib.Order.WellFounded

@[expose] public section

/-!
# Farthest point sampling, as a sequence

The 8192 points of one cloud have the coordinates `x`, `y` and `z`.  Every point carries its squared distance
to the nearest point chosen so far; the next point chosen is the first one whose distance is the largest.
-/

noncomputable section

namespace Cert.Proof.Far

/-- The squared distance between the points `f` and `k`. -/
def gap (x y z : Fin 8192 → EReal) (f k : Fin 8192) : EReal :=
  (x k - x f) * (x k - x f) + (y k - y f) * (y k - y f) + (z k - z f) * (z k - z f)

/-- The distances once `f` is chosen too: each stays unless `f` is nearer. -/
def nearer (x y z : Fin 8192 → EReal) (d : Fin 8192 → EReal) (f k : Fin 8192) : EReal :=
  if gap x y z f k < d k then gap x y z f k else d k

/-- `f` is the first index whose value is the largest. -/
def IsFirstTop (d : Fin 8192 → EReal) (f : Fin 8192) : Prop := (∀ k, d k ≤ d f) ∧ ∀ k, k < f → d k < d f

theorem exists_firstTop (d : Fin 8192 → EReal) : ∃ f, IsFirstTop d f := by
  obtain ⟨g, hg⟩ := Finite.exists_max d
  let s : Set (Fin 8192) := {f | ∀ k, d k ≤ d f}
  have hs : s.Nonempty := ⟨g, hg⟩
  refine ⟨wellFounded_lt.min s hs, WellFounded.min_mem _ s hs, fun k hk => ?_⟩
  refine lt_of_not_ge fun h => ?_
  exact WellFounded.not_lt_min wellFounded_lt s (fun j => (WellFounded.min_mem wellFounded_lt s hs j).trans h) hk

/-- The first index whose value is the largest. -/
def firstTop (d : Fin 8192 → EReal) : Fin 8192 := (exists_firstTop d).choose

theorem firstTop_spec (d : Fin 8192 → EReal) : IsFirstTop d (firstTop d) := (exists_firstTop d).choose_spec

theorem IsFirstTop.eq {d : Fin 8192 → EReal} {f : Fin 8192} (h : IsFirstTop d f) : f = firstTop d := by
  have h' := firstTop_spec d
  rcases lt_trichotomy f (firstTop d) with l | e | l
  · exact absurd (h'.2 f l) (not_lt.mpr (h.1 _))
  · exact e
  · exact absurd (h.2 _ l) (not_lt.mpr (h'.1 _))

/-- The distances and the next point to choose, before the choice numbered `i`; `big` is the distance to begin
    with and `f₀` is the first point. -/
def chosen (x y z : Fin 8192 → EReal) (big : EReal) (f₀ : Fin 8192) : Nat → (Fin 8192 → EReal) × Fin 8192
  | 0 => (fun _ => big, f₀)
  | i + 1 =>
    let p := chosen x y z big f₀ i
    (nearer x y z p.1 p.2, firstTop (nearer x y z p.1 p.2))

end Cert.Proof.Far

end
-- ==== Proof.FarStep.lean ====
module

public import proofs.«01_k».proof.Proof.Farthest
public import proofs.«01_k».proof.Proof.Gen.FpsIdeal.Skeleton
public import Idealize.ShloMosaic.Lib.Pointwise

@[expose] public section

set_option maxRecDepth 16384

/-!
# One trip of the kernel's loop

`v0`, `v2` and `v4` hold the clouds' x, y and z rows.  Where the carried word of cloud `b` is the index `f`, the sum
of a row times the one-hot row of `f` is the row's entry at `f`; the distances become `nearer` and the carried word
`firstTop` of them.
-/

noncomputable section

namespace Cert.Proof.Far

open Idealize.ShloMosaic Cert.FpsIdeal Cert.FpsIdeal.Gen

/-- The word that the maximum starts from is the least extended real. -/
theorem negInf : Ideal.ofBits .f32 (0xFF800000#32) = (⊥ : EReal) := by
  simp [Ideal.ofBits, Ideal.ieee]

/-- An index, as a word read signed. -/
theorem toInt_index (k : Nat) (hk : k ≤ 8192) : (BitVec.ofNat 32 k).toInt = k := by
  rw [BitVec.toInt_eq_toNat_of_lt] <;> simp only [BitVec.toNat_ofNat] <;> omega

theorem index_inj {j k : Nat} (hj : j ≤ 8192) (hk : k ≤ 8192) (h : BitVec.ofNat 32 j = BitVec.ofNat 32 k) : j = k := by
  have := congrArg BitVec.toInt h
  rw [toInt_index j hj, toInt_index k hk] at this
  omega

theorem toInt_min (a b : BitVec 32) : (IntOp.minsi a b).toInt = min a.toInt b.toInt := by
  unfold IntOp.minsi
  rw [BitVec.slt_eq_decide]
  by_cases h : a.toInt < b.toInt
  · simp only [h, decide_true, if_true, min_eq_left h.le]
  · simp only [h, decide_false, Bool.false_eq_true, if_false, min_eq_right (not_lt.mp h)]

/-- The maximum of the distances is the distance at the first top. -/
theorem fold_max (d : Fin 8192 → EReal) :
    Finset.fold max (Ideal.ofBits .f32 (0xFF800000#32) : EReal) d Finset.univ = d (firstTop d) := by
  refine le_antisymm ((Finset.fold_max_le (s := Finset.univ) (d (firstTop d))).mpr ⟨?_, fun k _ => (firstTop_spec d).1 k⟩)
    ((Finset.le_fold_max (s := Finset.univ) (d (firstTop d))).mpr (.inr ⟨_, Finset.mem_univ _, le_rfl⟩))
  rw [negInf]
  exact bot_le

/-- The least index whose distance is the maximum is the first top. -/
theorem fold_min (d : Fin 8192 → EReal) :
    Finset.fold IntOp.minsi (2147483647#32)
      (fun k : Fin 8192 => if d k = d (firstTop d) then BitVec.ofNat 32 k.val else 8192#32) Finset.univ
      = BitVec.ofNat 32 (firstTop d).val := by
  have hf := (firstTop d).isLt
  apply BitVec.eq_of_toInt_eq
  rw [← Finset.fold_hom (op := IntOp.minsi) (op' := min) (m := BitVec.toInt) toInt_min, toInt_index _ hf.le]
  refine le_antisymm ((Finset.fold_min_le (s := Finset.univ) _).mpr (.inr ⟨firstTop d, Finset.mem_univ _, ?_⟩))
    ((Finset.le_fold_min (s := Finset.univ) _).mpr ⟨?_, fun k _ => ?_⟩)
  · rw [if_pos rfl, toInt_index _ hf.le]
  · have : (2147483647#32).toInt = 2147483647 := by decide
    omega
  · split
    · rename_i h
      rw [toInt_index _ k.isLt.le]
      by_contra hlt
      exact absurd ((firstTop_spec d).2 k (by rw [Fin.lt_def]; omega)) (by rw [h]; exact lt_irrefl _)
    · have : (8192#32).toInt = 8192 := by decide
      omega

/-- The 0/1 weight of the one-hot row. -/
theorem weight (k : Fin 8192) (f : Fin 8192) :
    (FloatOps.sitofp (F := Ideal) FTy.f32
      (BitVec.setWidth 32 (IntOp.cmpi CmpIPredicate.eq (BitVec.ofNat 32 k.val) (BitVec.ofNat 32 f.val))) : EReal)
      = if k = f then 1 else 0 := by
  have h : IntOp.cmpi CmpIPredicate.eq (BitVec.ofNat 32 k.val) (BitVec.ofNat 32 f.val) = if k = f then 1#1 else 0#1 := by
    by_cases e : k = f
    · simp [IntOp.cmpi, e]
    · have : BitVec.ofNat 32 k.val ≠ BitVec.ofNat 32 f.val :=
        fun h => e (Fin.ext (index_inj k.isLt.le f.isLt.le h))
      simp only [IntOp.cmpi, beq_eq_false_iff_ne.mpr this, if_neg e]
      rfl
  rw [h]
  by_cases e : k = f
  · rw [if_pos e, if_pos e]
    show (((BitVec.setWidth 32 1#1).toInt : ℝ) : EReal) = 1
    have : (BitVec.setWidth 32 1#1).toInt = 1 := by decide
    rw [this]; norm_num
  · rw [if_neg e, if_neg e]
    show (((BitVec.setWidth 32 0#1).toInt : ℝ) : EReal) = 0
    have : (BitVec.setWidth 32 0#1).toInt = 0 := by decide
    rw [this]; norm_num

/-- A row times the one-hot row of `f`, summed. -/
theorem sum_weight (v : Fin 8192 → EReal) (f : Fin 8192) (w : BitVec 32) (hw : w = BitVec.ofNat 32 f.val) :
    ∑ k : Fin 8192, v k * (FloatOps.sitofp (F := Ideal) FTy.f32
      (BitVec.setWidth 32 (IntOp.cmpi CmpIPredicate.eq (BitVec.ofNat 32 k.val) w)) : EReal) = v f := by
  subst hw
  rw [Finset.sum_eq_single f]
  · rw [weight, if_pos rfl, mul_one]
  · intro k _ h
    rw [weight, if_neg h, mul_zero]
  · intro h
    exact absurd (Finset.mem_univ f) h

/-- The column that the trip numbered `i` writes. -/
theorem column (i : Fin k0_t1_loop.trips) (j : Fin 512) (p q : EReal) :
    Scalar.select (IntOp.cmpi CmpIPredicate.eq (BitVec.ofNat 32 j.val) (Scf.iv 0#32 1#32 i.val)) p q
      = if j.val = i.val then p else q := by
  have hi : i.val < 512 := i.isLt
  have hj := j.isLt
  have e : Scf.iv 0#32 1#32 i.val = BitVec.ofNat 32 i.val := by
    unfold Scf.iv
    rw [BitVec.mul_one, BitVec.zero_add]
  rw [e]
  by_cases h : j.val = i.val
  · rw [if_pos h, h]
    simp [IntOp.cmpi, Scalar.select]
  · have h' : BitVec.ofNat 32 j.val ≠ BitVec.ofNat 32 i.val := fun g => h (index_inj (by omega) (by omega) g)
    rw [if_neg h]
    simp only [IntOp.cmpi, beq_eq_false_iff_ne.mpr h']
    rfl

section
variable (v0 v2 v4 : Vec Ideal S8x1x8192 .f32) (w : IVec S8x1 32) (b : Fin 8) (f : Fin 8192)
  (hw : w (ix2 b 0) = BitVec.ofNat 32 f.val)
include hw

theorem at_x : k0_pay8 (F := Ideal) v0 w (ix2 b 0) = v0 (ix3 b 0 f) := by
  pointwise [k0_pay8, k0_pay7, k0_pay1]
  exact sum_weight (fun k => v0 (ix3 b 0 k)) f _ hw

theorem at_y : k0_pay9 (F := Ideal) v2 w (ix2 b 0) = v2 (ix3 b 0 f) := by
  pointwise [k0_pay9, k0_pay7, k0_pay2]
  exact sum_weight (fun k => v2 (ix3 b 0 k)) f _ hw

theorem at_z : k0_pay10 (F := Ideal) v4 w (ix2 b 0) = v4 (ix3 b 0 f) := by
  pointwise [k0_pay10, k0_pay7, k0_pay3]
  exact sum_weight (fun k => v4 (ix3 b 0 k)) f _ hw

/-- The distances after the trip. -/
theorem distances (d : FVec Ideal S8x8192 .f32) (k : Fin 8192) :
    k0_pay15 (F := Ideal) v0 v2 v4 d w (ix2 b k)
      = nearer (fun k => v0 (ix3 b 0 k)) (fun k => v2 (ix3 b 0 k)) (fun k => v4 (ix3 b 0 k))
          (fun k => d (ix2 b k)) f k := by
  pointwise [k0_pay15, k0_pay1, k0_pay2, k0_pay3]
  rw [at_x v0 w b f hw, at_y v2 w b f hw, at_z v4 w b f hw]
  rfl

/-- The carried word after the trip. -/
theorem next (d : FVec Ideal S8x8192 .f32) :
    k0_pay16 (F := Ideal) v0 v2 v4 d w (ix2 b 0)
      = BitVec.ofNat 32 (firstTop (nearer (fun k => v0 (ix3 b 0 k)) (fun k => v2 (ix3 b 0 k))
          (fun k => v4 (ix3 b 0 k)) (fun k => d (ix2 b k)) f)).val := by
  pointwise [k0_pay16]
  simp only [distances v0 v2 v4 w b f hw d]
  generalize nearer (fun k => v0 (ix3 b 0 k)) (fun k => v2 (ix3 b 0 k)) (fun k => v4 (ix3 b 0 k))
          (fun k => d (ix2 b k)) f = e
  rw [show Finset.fold max (Ideal.ofBits FTy.f32 4286578688#32) (fun x => e x) Finset.univ = e (firstTop e) from fold_max e]
  exact fold_min e

theorem keep_x (i : Fin k0_t1_loop.trips) (a : FVec Ideal S8x512 .f32) (j : Fin 512) :
    k0_pay12 (F := Ideal) v0 i w a (ix2 b j) = if j.val = i.val then v0 (ix3 b 0 f) else a (ix2 b j) := by
  pointwise [k0_pay12, k0_pay11]
  rw [at_x v0 w b f hw]
  exact column i j _ _

theorem keep_y (i : Fin k0_t1_loop.trips) (a : FVec Ideal S8x512 .f32) (j : Fin 512) :
    k0_pay13 (F := Ideal) v2 i w a (ix2 b j) = if j.val = i.val then v2 (ix3 b 0 f) else a (ix2 b j) := by
  pointwise [k0_pay13, k0_pay11]
  rw [at_y v2 w b f hw]
  exact column i j _ _

theorem keep_z (i : Fin k0_t1_loop.trips) (a : FVec Ideal S8x512 .f32) (j : Fin 512) :
    k0_pay14 (F := Ideal) v4 i w a (ix2 b j) = if j.val = i.val then v4 (ix3 b 0 f) else a (ix2 b j) := by
  pointwise [k0_pay14, k0_pay11]
  rw [at_z v4 w b f hw]
  exact column i j _ _

end

end Cert.Proof.Far

end
-- ==== Proof.FarKernel.lean ====
module

public import proofs.«01_k».proof.Proof.FarStep
public import proofs.«01_k».proof.Proof.Gen.FpsIdeal.Value
public import Idealize.ShloMosaic.Lib.Pipeline.ValueKit
public import Idealize.ShloMosaic.Lib.Pipeline.ReadBack

@[expose] public section

set_option maxRecDepth 16384

/-!
# Farthest point sampling: the kernel

The call's loop carries the distances, the next point's number and the three coordinates of the chosen points.
Before trip `n` they are the sequence's (`loopOut_spec`), so that the call's three outputs hold the coordinates of
the 512 chosen points (`result_x`, `result_y`, `result_z`).
-/

noncomputable section

namespace Cert.Proof.Far

open Idealize.ShloMosaic Cert.FpsIdeal Cert.FpsIdeal.Gen
open Idealize.ShloMosaic.Pipeline (Dat Cfg Window)

/-- A property that holds at the start and that every trip carries one further holds after the last trip. -/
theorem foldl_trips {σ : Type} : ∀ (n : Nat) (g : Fin n → σ → σ) (init : σ) (P : Nat → σ → Prop) (_ : P 0 init)
    (_ : ∀ i s, P i.val s → P (i.val + 1) (g i s)), P n ((List.finRange n).foldl (fun s i => g i s) init)
  | 0, _, _, _, h0, _ => h0
  | n + 1, g, init, P, h0, hs => by
    rw [List.finRange_succ_last, List.foldl_append, List.foldl_map]
    exact hs (Fin.last n) _ (foldl_trips n (fun i => g i.castSucc) init P h0 fun i s h => hs i.castSucc s h)

variable (m : (ℓ : Loc nD τ sig) → Buf (Elt Ideal) ℓ)

/-- The argument: the points of the clouds. -/
abbrev points (c : Dev nD) : FVec Ideal S8x8192x3 .f32 := m ((c.tc : Thread nD τ).loc main_arg0)

/-- The first points of the clouds. -/
def firstPoint : Fin 8 → Fin 8192 := ![5316, 4114, 1207, 7361, 653, 7531, 2433, 2343]

/-- The point chosen at `n` in cloud `b`, with the distances before it. -/
def pickOf (a : FVec Ideal S8x8192x3 .f32) (b : Fin 8) (n : Nat) : (Fin 8192 → EReal) × Fin 8192 :=
  chosen (fun k => a (ix3 b k 0)) (fun k => a (ix3 b k 1)) (fun k => a (ix3 b k 2)) (Ideal.ofBits .f32 0x501502F9#32)
    (firstPoint b) n

theorem pickOf_succ (a : FVec Ideal S8x8192x3 .f32) (b : Fin 8) (n : Nat) :
    pickOf a b (n + 1)
      = (nearer (fun k => a (ix3 b k 0)) (fun k => a (ix3 b k 1)) (fun k => a (ix3 b k 2)) (pickOf a b n).1 (pickOf a b n).2,
          firstTop (nearer (fun k => a (ix3 b k 0)) (fun k => a (ix3 b k 1)) (fun k => a (ix3 b k 2))
            (pickOf a b n).1 (pickOf a b n).2)) := rfl

/-- Coordinate `e` of the chosen points. -/
def centroid (a : FVec Ideal S8x8192x3 .f32) (e : Fin 3) : FVec Ideal S8x512 .f32 :=
  fun i => a (ix3 (i 0) (pickOf a (i 0) (i 1).val).2 e)

/-- The loop's five carried values after its last trip. -/
def loopOut (v0 v2 v4 : Vec Ideal S8x1x8192 .f32) (v9 : Vec Ideal S8x1 .i32) :
    FVec Ideal S8x8192 .f32 × IVec S8x1 32 × FVec Ideal S8x512 .f32 × FVec Ideal S8x512 .f32 × FVec Ideal S8x512 .f32 :=
  Scf.fold (fun (i : Fin k0_t1_loop.trips) s =>
      (k0_pay15 v0 v2 v4 s.1 s.2.1, k0_pay16 v0 v2 v4 s.1 s.2.1, k0_pay12 v0 i s.2.1 s.2.2.1,
        k0_pay13 v2 i s.2.1 s.2.2.2.1, k0_pay14 v4 i s.2.1 s.2.2.2.2))
    (k0_pay4, k0_pay5 v9, k0_pay6, k0_pay6, k0_pay6)

/-- What holds of the carried values before trip `n`. -/
structure Trip (a : FVec Ideal S8x8192x3 .f32) (n : Nat)
    (s : FVec Ideal S8x8192 .f32 × IVec S8x1 32 × FVec Ideal S8x512 .f32 × FVec Ideal S8x512 .f32 × FVec Ideal S8x512 .f32) : Prop where
  dist : ∀ b k, s.1 (ix2 b k) = (pickOf a b n).1 k
  word : ∀ b, s.2.1 (ix2 b 0) = BitVec.ofNat 32 (pickOf a b n).2.val
  x : ∀ b (j : Fin 512), j.val < n → s.2.2.1 (ix2 b j) = a (ix3 b (pickOf a b j.val).2 0)
  y : ∀ b (j : Fin 512), j.val < n → s.2.2.2.1 (ix2 b j) = a (ix3 b (pickOf a b j.val).2 1)
  z : ∀ b (j : Fin 512), j.val < n → s.2.2.2.2 (ix2 b j) = a (ix3 b (pickOf a b j.val).2 2)

/-- What a kept array holds after one more trip. -/
theorem kept {n : Nat} (a : FVec Ideal S8x8192x3 .f32) (b : Fin 8) (e : Fin 3) (j : Fin 512) (h : j.val < n + 1) (old : EReal)
    (ho : j.val < n → old = a (ix3 b (pickOf a b j.val).2 e)) :
    (if j.val = n then a (ix3 b (pickOf a b n).2 e) else old) = a (ix3 b (pickOf a b j.val).2 e) := by
  by_cases g : j.val = n
  · rw [if_pos g, g]
  · rw [if_neg g]
    exact ho (by omega)

/-- The carried values after the loop. -/
theorem loopOut_spec (a : FVec Ideal S8x8192x3 .f32) (v0 v2 v4 : Vec Ideal S8x1x8192 .f32) (v9 : Vec Ideal S8x1 .i32)
    (h0 : ∀ b k, v0 (ix3 b 0 k) = a (ix3 b k 0)) (h2 : ∀ b k, v2 (ix3 b 0 k) = a (ix3 b k 1))
    (h4 : ∀ b k, v4 (ix3 b 0 k) = a (ix3 b k 2)) (h9 : ∀ b, v9 (ix2 b 0) = BitVec.ofNat 32 (firstPoint b).val) :
    Trip a 512 (loopOut v0 v2 v4 v9) := by
  unfold loopOut
  rw [Scf.fold_eq]
  refine foldl_trips 512 _ _ (Trip a) ⟨fun b k => ?_, fun b => ?_, fun b j h => absurd h (Nat.not_lt_zero _),
    fun b j h => absurd h (Nat.not_lt_zero _), fun b j h => absurd h (Nat.not_lt_zero _)⟩ fun i s hs => ?_
  · rfl
  · pointwise [k0_pay5]
    exact h9 b
  · obtain ⟨d, w, x, y, z⟩ := s
    have hx : ∀ b, (fun k => v0 (ix3 b 0 k)) = fun k => a (ix3 b k 0) := fun b => funext fun k => h0 b k
    have hy : ∀ b, (fun k => v2 (ix3 b 0 k)) = fun k => a (ix3 b k 1) := fun b => funext fun k => h2 b k
    have hz : ∀ b, (fun k => v4 (ix3 b 0 k)) = fun k => a (ix3 b k 2) := fun b => funext fun k => h4 b k
    have hd : ∀ b, (fun k => d (ix2 b k)) = (pickOf a b i.val).1 := fun b => funext fun k => hs.dist b k
    refine ⟨fun b k => ?_, fun b => ?_, fun b j h => ?_, fun b j h => ?_, fun b j h => ?_⟩
    · refine (distances v0 v2 v4 w b _ (hs.word b) d k).trans ?_
      rw [hx, hy, hz, hd, pickOf_succ]
    · have h := next v0 v2 v4 w b _ (hs.word b) d
      rw [hx, hy, hz, hd] at h
      rw [pickOf_succ]
      dsimp only
      exact h
    · refine (keep_x v0 w b _ (hs.word b) i x j).trans ?_
      rw [h0]
      exact kept a b 0 j h _ (hs.x b j)
    · refine (keep_y v2 w b _ (hs.word b) i y j).trans ?_
      rw [h2]
      exact kept a b 1 j h _ (hs.y b j)
    · refine (keep_z v4 w b _ (hs.word b) i z j).trans ?_
      rw [h4]
      exact kept a b 2 j h _ (hs.z b j)

/-- The host's transpose of the points, as the call finds it. -/
theorem rows_at_entry (c : Dev nD) : V m c main_v0 = transpose S8x3x8192 [0, 2, 1] (points m c) transposes_S8x8192x3_S8x3x8192_0_2_1 := by
  unfold V
  after_results

/-- The first points, as the call finds them. -/
theorem firsts_at_entry (c : Dev nD) (b : Fin 8) : V m c main_v1 (ix2 b 0) = BitVec.ofNat 32 (firstPoint b).val := by
  unfold V
  after_results
  pointwise
  exact (by decide +kernel : ∀ b : Fin 8, lit0 (S8.rowMajor (ix1 b)) = BitVec.ofNat 32 (firstPoint b).val) b

/-! The call has one grid point and its blocks are the whole arrays. -/

theorem rows_block (c : Dev nD) (t : Fin cfg0.N) (i : S8x3x8192.Idx) : iblk m c 0 t i = V m c main_v0 i := by
  have e : (win0_0.blk t).view.emb i = i := by
    funext a
    apply Fin.ext
    blk_simp
    rw [show win0_0.index t a = 0 from rfl, Nat.zero_mul, Nat.zero_add]
  unfold iblk
  blk_simp
  exact congrArg (V m c main_v0) e

theorem firsts_block (c : Dev nD) (t : Fin cfg0.N) (i : S8x1.Idx) : iblk m c 1 t i = V m c main_v1 i := by
  have e : (win0_1.blk t).view.emb i = i := by
    funext a
    apply Fin.ext
    blk_simp
    rw [show win0_1.index t a = 0 from rfl, Nat.zero_mul, Nat.zero_add]
  unfold iblk
  blk_simp
  exact congrArg (V m c main_v1) e

/-- The carried values after the last trip, from the call's blocks. -/
theorem loop_spec (c : Dev nD) (t : Fin cfg0.N) :
    Trip (points m c) 512
      (loopOut (View.ld (iblk m c 0 t) (Rect.unit ![0, 0, 0] ![8, 1, 8192] inb_S8x3x8192_S8x1x8192_0_0_0))
        (View.ld (iblk m c 0 t) (Rect.unit ![0, 1, 0] ![8, 1, 8192] inb_S8x3x8192_S8x1x8192_0_1_0))
        (View.ld (iblk m c 0 t) (Rect.unit ![0, 2, 0] ![8, 1, 8192] inb_S8x3x8192_S8x1x8192_0_2_0))
        (iblk m c 1 t)) := by
  refine loopOut_spec (points m c) _ _ _ _ (fun b k => ?_) (fun b k => ?_) (fun b k => ?_) fun b => ?_
  · pointwise
    rw [rows_block, rows_at_entry]
    pointwise
  · pointwise
    rw [rows_block, rows_at_entry]
    pointwise
  · pointwise
    rw [rows_block, rows_at_entry]
    pointwise
  · rw [firsts_block, firsts_at_entry]

/-- The first output: the chosen points' first coordinates. -/
theorem result_x (c : Dev nD) : (dats m 0 c).arrAt 2 cfg0.N = centroid (points m c) 0 := by
  refine (dats m 0 c).arrAt_eq_of_covers 2 _ (by decide +kernel) fun t hf y => ?_
  have e : ((View.whole main_v2_0).slice (win0_2.rect t)).emb y = y := by
    funext a
    apply Fin.ext
    blk_simp
    rw [show win0_2.index t a = 0 from rfl, Nat.zero_mul, Nat.zero_add]
  blk_simp
  rw [after0_2]
  unfold outsAt0
  frame_out
  simp only [read_unread_whole]
  refine (congrFun (congrArg (fun s => s.2.2.1) (show _ = loopOut _ _ _ _ from rfl)) y).trans ?_
  refine Eq.trans ?_ (congrArg (centroid (points m c) 0) e.symm)
  obtain ⟨b, j, rfl⟩ : ∃ (b : Fin 8) (j : Fin 512), y = ix2 b j := ⟨y 0, y 1, eq_ix2 y⟩
  exact (loop_spec m c t).x b j j.isLt

/-- The second output. -/
theorem result_y (c : Dev nD) : (dats m 0 c).arrAt 3 cfg0.N = centroid (points m c) 1 := by
  refine (dats m 0 c).arrAt_eq_of_covers 3 _ (by decide +kernel) fun t hf y => ?_
  have e : ((View.whole main_v2_1).slice (win0_3.rect t)).emb y = y := by
    funext a
    apply Fin.ext
    blk_simp
    rw [show win0_3.index t a = 0 from rfl, Nat.zero_mul, Nat.zero_add]
  blk_simp
  rw [after0_3]
  unfold outsAt0
  frame_out
  simp only [read_unread_whole]
  refine (congrFun (congrArg (fun s => s.2.2.2.1) (show _ = loopOut _ _ _ _ from rfl)) y).trans ?_
  refine Eq.trans ?_ (congrArg (centroid (points m c) 1) e.symm)
  obtain ⟨b, j, rfl⟩ : ∃ (b : Fin 8) (j : Fin 512), y = ix2 b j := ⟨y 0, y 1, eq_ix2 y⟩
  exact (loop_spec m c t).y b j j.isLt

/-- The third output. -/
theorem result_z (c : Dev nD) : (dats m 0 c).arrAt 4 cfg0.N = centroid (points m c) 2 := by
  refine (dats m 0 c).arrAt_eq_of_covers 4 _ (by decide +kernel) fun t hf y => ?_
  have e : ((View.whole main_v2_2).slice (win0_4.rect t)).emb y = y := by
    funext a
    apply Fin.ext
    blk_simp
    rw [show win0_4.index t a = 0 from rfl, Nat.zero_mul, Nat.zero_add]
  blk_simp
  rw [after0_4]
  unfold outsAt0
  frame_out
  simp only [read_unread_whole]
  refine (congrFun (congrArg (fun s => s.2.2.2.2) (show _ = loopOut _ _ _ _ from rfl)) y).trans ?_
  refine Eq.trans ?_ (congrArg (centroid (points m c) 2) e.symm)
  obtain ⟨b, j, rfl⟩ : ∃ (b : Fin 8) (j : Fin 512), y = ix2 b j := ⟨y 0, y 1, eq_ix2 y⟩
  exact (loop_spec m c t).z b j j.isLt

end Cert.Proof.Far

end
-- ==== Proof.FarPick.lean ====
module

public import proofs.«01_k».proof.Proof.Farthest
public import proofs.«01_k».proof.Proof.Ref
public import proofs.«01_k».proof.Proof.Gen.FpsReferenceIdeal.Run
public import Idealize.ShloMosaic.Lib.Pointwise
public import Idealize.ShloMosaic.Lib.SortFacts
public import Idealize.ShloMosaic.Lib.Routing.OpsSet
public import Idealize.ShloMosaic.Lib.Routing.OpsPair

@[expose] public section

set_option maxRecDepth 16384

/-!
# The reference's operations on point numbers

The sorting operation's first index is the first point whose distance is the largest; the gather takes the points
that its words name; the scatter writes one column of the chosen points.
-/

noncomputable section

namespace Cert.Proof.Far

open Idealize.ShloMosaic Cert.FpsReferenceIdeal Cert.FpsReferenceIdeal.Gen
open Idealize.ShloMosaic.StableHlo

/-! ## The first index of a sort -/

/-- A stable sort by value, largest first, begins with the first index whose value is the largest. -/
theorem stableSort_head (d : Fin 8192 → EReal) : ∀ l : List (Fin 8192), l.Pairwise (· < ·) → l ≠ [] →
    ∃ h t, stableSort (fun a b => decide (d b < d a)) l = h :: t ∧ h ∈ l ∧ (∀ k ∈ l, d k ≤ d h) ∧ ∀ k ∈ l, k < h → d k < d h
  | [], _, h => absurd rfl h
  | [a], _, _ => ⟨a, [], rfl, List.mem_singleton.2 rfl, fun k hk => by rw [List.mem_singleton.1 hk],
      fun k hk hlt => by rw [List.mem_singleton.1 hk] at hlt; exact absurd hlt (lt_irrefl _)⟩
  | a :: b :: l, hp, _ => by
    obtain ⟨ha, hl⟩ := List.pairwise_cons.1 hp
    obtain ⟨h, t, e, hm, htop, hfirst⟩ := stableSort_head d (b :: l) hl (List.cons_ne_nil _ _)
    have es : stableSort (fun a b => decide (d b < d a)) (a :: b :: l)
        = insertBefore (fun a b => decide (d b < d a)) a (stableSort (fun a b => decide (d b < d a)) (b :: l)) := rfl
    rw [es, e]
    unfold insertBefore
    by_cases g : d a < d h
    · refine ⟨h, _, if_pos (decide_eq_true g), List.mem_cons_of_mem _ hm, fun k hk => ?_, fun k hk hlt => ?_⟩
      · rcases List.mem_cons.1 hk with rfl | hk
        · exact g.le
        · exact htop k hk
      · rcases List.mem_cons.1 hk with rfl | hk
        · exact g
        · exact hfirst k hk hlt
    · refine ⟨a, _, if_neg (by rw [decide_eq_false g]; exact Bool.false_ne_true), List.mem_cons_self, fun k hk => ?_, fun k hk hlt => ?_⟩
      · rcases List.mem_cons.1 hk with rfl | hk
        · exact le_rfl
        · exact (htop k hk).trans (not_lt.1 g)
      · rcases List.mem_cons.1 hk with rfl | hk
        · exact absurd hlt (lt_irrefl _)
        · exact absurd (hlt.trans (ha k hk)) (lt_irrefl _)

theorem sortedFrom_first (d : Fin 8192 → EReal) : sortedFrom (fun a b => decide (d b < d a)) (0 : Fin 8192) = firstTop d := by
  obtain ⟨h, t, e, -, htop, hfirst⟩ := stableSort_head d (List.finRange 8192) (List.pairwise_lt_finRange 8192)
    (fun h => by have := congrArg List.length h; rw [List.length_finRange] at this; exact absurd this (by decide))
  have hh : sortedFrom (fun a b => decide (d b < d a)) (0 : Fin 8192) = h := by
    unfold sortedFrom
    rw [List.get_of_eq (show sortPositions 8192 (fun a b => decide (d b < d a)) = h :: t from e)]
    rfl
  rw [hh]
  exact IsFirstTop.eq ⟨fun k => htop k (List.mem_finRange k), fun k hk => hfirst k (List.mem_finRange k) hk⟩

theorem along_one (b : Fin 8) (i k : Fin 8192) : Shape.Idx.along (s := S8x8192) (ix2 b i) (1 : Fin 2) k = ix2 b k := by
  funext a
  match a with
  | ⟨0, _⟩ => rfl
  | ⟨1, _⟩ => rfl

/-- Each point's own number. -/
def numbers : IVec S8x8192 32 := fun i => if hd : 1 < S8x8192.rank then iotaInDim S8x8192 32 ⟨1, hd⟩ i else 0#32

theorem numbers_apply (b : Fin 8) (k : Fin 8192) : numbers (ix2 b k) = BitVec.ofNat 32 k.val := by
  unfold numbers
  rw [dif_pos (by decide)]
  rfl

/-- The sorting operation's first index in cloud `b`. -/
theorem first_index (x : FVec Ideal S8x8192 .f32) (b : Fin 8) :
    (Host.topK S8x1 1 (FloatOps.cmpfTotal .gt) x sliceFits_S8x8192_S8x1).2 (ix2 b 0)
      = BitVec.ofNat 32 (firstTop fun k => x (ix2 b k)).val := by
  have hix : (fun a : Fin S8x8192.rank => (⟨0 + ((ix2 b 0 : S8x1.Idx) (a.cast sliceFits_S8x8192_S8x1.1.symm)).val,
      Nat.lt_of_lt_of_le (Nat.add_lt_add_left (Fin.isLt _) _) (sliceFits_S8x8192_S8x1.2 a)⟩ : Fin (S8x8192.size a)))
      = (ix2 b (0 : Fin 8192) : S8x8192.Idx) := by
    funext a
    refine Fin.ext ?_
    match a with
    | ⟨0, _⟩ => exact Nat.zero_add _
    | ⟨1, _⟩ => exact Nat.zero_add _
  have hs : (fun k k' : Fin 8192 => (FloatOps.cmpfTotal (F := Ideal) (φ := .f32) .gt
        (x (Shape.Idx.along (s := S8x8192) (ix2 b (0 : Fin 8192)) (1 : Fin 2) k))
        (x (Shape.Idx.along (s := S8x8192) (ix2 b (0 : Fin 8192)) (1 : Fin 2) k')) == 1#1))
      = fun k k' => decide ((x (ix2 b k') : EReal) < x (ix2 b k)) := by
    funext k k'
    rw [along_one, along_one]
    show (BitVec.ofBool (decide ((x (ix2 b k') : EReal) < x (ix2 b k))) == 1#1) = _
    by_cases h : (x (ix2 b k') : EReal) < x (ix2 b k)
    · rw [decide_eq_true h]; rfl
    · rw [decide_eq_false h]; rfl
  refine (congrArg (Host.sort2 S8x8192 1 (fun l r : EReal × BitVec 32 => FloatOps.cmpfTotal (F := Ideal) (φ := .f32) CmpDirection.gt l.1 r.1)
    x numbers).2 hix).trans ?_
  refine (Reference.sort2_snd S8x8192 1 (by decide) _ _ _ _).trans ?_
  refine (congrArg numbers (along_one b _ _)).trans ?_
  refine (numbers_apply b _).trans ?_
  refine (congrArg (fun B => BitVec.ofNat 32 (sortedFrom B (0 : Fin 8192)).val) hs).trans ?_
  exact congrArg (fun f : Fin 8192 => BitVec.ofNat 32 f.val) (sortedFrom_first fun k => x (ix2 b k))

/-! ## The gather of points -/

/-- The gather that takes, in each of the 8 clouds, the points that `n` words name. -/
abbrev takeDims (n : Nat) (wf : GatherDims.WF S8x8192x3 ⟨3, ![8, n, 1]⟩ ⟨3, ![8, n, 3]⟩ [2] [1] [0] [1] [0] 2 ![1, 1, 3]) :
    GatherDims S8x8192x3 ⟨3, ![8, n, 1]⟩ ⟨3, ![8, n, 3]⟩ where
  offsetDims := [2]
  collapsedSliceDims := [1]
  operandBatchingDims := [0]
  startIndicesBatchingDims := [0]
  startIndexMap := [1]
  indexVectorDim := 2
  sliceSizes := ![1, 1, 3]
  wf := wf

theorem take_apply {n : Nat} (wf) (a : FVec Ideal S8x8192x3 .f32) (w : IVec ⟨3, ![8, n, 1]⟩ 32) (b : Fin 8) (q : Fin n) (e : Fin 3)
    (f : Fin 8192) (hw : w (ix3 b q 0) = BitVec.ofNat 32 f.val) :
    Host.gather (takeDims n wf) a w (ix3 b q e) = a (ix3 b f e) := by
  have hf : (BitVec.ofNat 32 f.val).toInt.toNat = f.val := by
    have hl : (BitVec.ofNat 32 f.val).toNat = f.val := by rw [BitVec.toNat_ofNat]; exact Nat.mod_eq_of_lt (by omega)
    rw [Reference.toInt_small (by rw [hl]; exact f.isLt), hl, Int.toNat_natCast]
  unfold Host.gather
  refine congrArg a ?_
  funext x
  refine Fin.ext ?_
  show (takeDims n wf).start (ix3 b q e) w x + (takeDims n wf).batchCoord (ix3 b q e) x + (takeDims n wf).offCoord (ix3 b q e) x = _
  have h012 : x = 0 ∨ x = 1 ∨ x = 2 := by
    match x with
    | ⟨0, _⟩ => exact Or.inl rfl
    | ⟨1, _⟩ => exact Or.inr (Or.inl rfl)
    | ⟨2, _⟩ => exact Or.inr (Or.inr rfl)
  have hb : (0 : Fin 3) ∈ (takeDims n wf).operandBatchingDims := List.mem_singleton.mpr rfl
  have hm : (1 : Fin 3) ∈ (takeDims n wf).startIndexMap := List.mem_singleton.mpr rfl
  have hn : (2 : Fin 3) ∉ (takeDims n wf).startIndexMap := fun h => absurd (List.mem_singleton.1 h) (by decide)
  have hk : (2 : Fin 3) ∈ (takeDims n wf).sKept :=
    (GatherDims.mem_sKept _ _).mpr ⟨fun h => absurd (List.mem_singleton.1 h) (by decide), fun h => absurd (List.mem_singleton.1 h) (by decide)⟩
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos hb]
    rfl
  · rw [GatherDims.batchCoord_eq_zero _ _ _ (fun h => absurd (List.mem_singleton.1 h) (by decide)),
      GatherDims.offCoord_eq_zero _ _ _ (fun h => ((GatherDims.mem_sKept _ _).mp h).1 (List.mem_singleton.mpr rfl))]
    simp only [Nat.add_zero]
    unfold GatherDims.start
    rw [dif_pos hm]
    have hsi : (takeDims n wf).siIdx (ix3 b q e) ⟨List.idxOf (1 : Fin 3) (takeDims n wf).startIndexMap,
        List.idxOf_lt_length_iff.2 (List.mem_singleton.mpr rfl)⟩ = ix3 b q 0 := by
      funext y; refine Fin.ext ?_
      match y with
      | ⟨0, _⟩ => rfl
      | ⟨1, _⟩ => rfl
      | ⟨2, _⟩ => rfl
    rw [hsi, hw, hf]
    show min f.val 8191 = f.val
    omega
  · rw [GatherDims.batchCoord_eq_zero _ _ _ (fun h => absurd (List.mem_singleton.1 h) (by decide))]
    unfold GatherDims.start GatherDims.offCoord
    rw [dif_neg hn, dif_pos hk]
    simp only [Nat.zero_add]
    rfl

/-! ## A word that names a point -/

theorem word_lt (f : Fin 8192) : (BitVec.ofNat 32 f.val).toNat < 8192 := by
  rw [BitVec.toNat_ofNat, Nat.mod_eq_of_lt (by omega)]
  exact f.isLt

/-- A word that names a point is not taken from the end. -/
theorem wrap_word (f : Fin 8192) (x : BitVec 32) :
    Scalar.select (IntOp.cmpi .slt (BitVec.ofNat 32 f.val) 0#32) x (BitVec.ofNat 32 f.val) = BitVec.ofNat 32 f.val := by
  rw [Reference.not_negative (word_lt f)]
  rfl

/-- A word that names a point is in range. -/
theorem in_range (f : Fin 8192) :
    IntOp.andi (IntOp.cmpi .sge (BitVec.ofNat 32 f.val) 0#32) (IntOp.cmpi .sle (BitVec.ofNat 32 f.val) 8191#32) = 1#1 := by
  rw [Reference.at_least_zero (word_lt f), Reference.at_most_last (word_lt f)]
  rfl

/-! ## The scatter of one column -/

theorem put_start (w : IVec S1 32) (k : Fin 8) :
    scatter_S8x512_S1_S8_0_1_1_0.start (ix1 k) w 0 = 0 ∧ scatter_S8x512_S1_S8_0_1_1_0.start (ix1 k) w 1 = (w (ix1 0)).toInt := by
  constructor
  · rfl
  · have h : (1 : Fin 2) ∈ scatter_S8x512_S1_S8_0_1_1_0.scatterDimsToOperandDims := List.mem_singleton.mpr rfl
    unfold ScatterDims.start
    rw [dif_pos h]
    refine congrArg (fun i => (w i).toInt) ?_
    funext y
    exact Fin.ext (by match y with | ⟨0, _⟩ => rfl)

theorem put_window (k : Fin 8) :
    scatter_S8x512_S1_S8_0_1_1_0.window (ix1 k) 0 = k.val ∧ scatter_S8x512_S1_S8_0_1_1_0.window (ix1 k) 1 = 0 := ⟨rfl, rfl⟩

/-- Update `k` goes to row `k` of the column that the word names. -/
theorem put_lands (w : IVec S1 32) (k b : Fin 8) (j : Fin 512) :
    scatter_S8x512_S1_S8_0_1_1_0.resultIdx? (ix1 k) w = some (ix2 b j) ↔ k = b ∧ (w (ix1 0)).toInt = (j.val : Int) := by
  rw [show (some (ix2 b j : S8x512.Idx)) = some (ValueIdx.ix2 b j) from rfl]
  refine (Routing.resultIdx?_ix2 scatter_S8x512_S1_S8_0_1_1_0 (ix1 k) w b j).trans ?_
  rw [(put_start w k).1, (put_start w k).2, (put_window k).1, (put_window k).2]
  constructor
  · rintro ⟨h, g⟩
    exact ⟨Fin.ext (by omega), by omega⟩
  · rintro ⟨rfl, g⟩
    exact ⟨by omega, by omega⟩

theorem put_apply (x : IVec S8x512 32) (w : IVec S1 32) (u : IVec S8 32) (n : Nat) (hn : n < 512) (hw : w (ix1 0) = BitVec.ofNat 32 n)
    (b : Fin 8) (j : Fin 512) :
    Host.scatter scatter_S8x512_S1_S8_0_1_1_0 (fun _ b => b) x w u (ix2 b j) = if j.val = n then u (ix1 b) else x (ix2 b j) := by
  have hi : (w (ix1 0)).toInt = (n : Int) := by
    have hl : (BitVec.ofNat 32 n).toNat = n := by rw [BitVec.toNat_ofNat]; exact Nat.mod_eq_of_lt (by omega)
    rw [hw, Reference.toInt_small (by omega), hl]
  have hk : ∀ k : S8.Idx, ∃ c : Fin 8, k = ix1 c := fun k => ⟨k 0, by funext a; match a with | ⟨0, _⟩ => rfl⟩
  by_cases h : j.val = n
  · rw [if_pos h]
    refine Routing.scatter_set_hit _ _ _ _ _ _ (fun k e => ?_) (ix1 b) ((put_lands w b b j).2 ⟨rfl, by omega⟩)
    obtain ⟨c, rfl⟩ := hk k
    rw [((put_lands w c b j).1 e).1]
  · rw [if_neg h]
    refine Routing.scatter_set_miss _ _ _ _ _ fun k e => ?_
    obtain ⟨c, rfl⟩ := hk k
    have := ((put_lands w c b j).1 e).2
    omega

end Cert.Proof.Far

end
-- ==== Proof.FarRef.lean ====
module

public import proofs.«01_k».proof.Proof.FarPick
public import proofs.«01_k».proof.Proof.FarKernel
public import proofs.«01_k».proof.Proof.Gen.FpsReferenceIdeal.Run
public import Idealize.ShloMosaic.Lib.Tactic.CleanTypes

@[expose] public section

set_option maxRecDepth 16384

/-!
# Farthest point sampling: the reference

One trip of the reference's loop keeps the chosen point, lowers the distances and chooses the next point, so that
before trip `n` its buffers are the sequence's at `n`; the gathers after the loop take the chosen points.
-/

noncomputable section

namespace Cert.Proof.Far

open Idealize.ShloMosaic Cert.FpsReferenceIdeal Cert.FpsReferenceIdeal.Gen Cert.FpsReferenceIdeal.Value
open Idealize.ShloMosaic.StableHlo

/-- What holds of the reference's carried buffers before trip `n`. -/
structure Round (a : FVec Ideal S8x8192x3 .f32) (n : Nat) (V : Valuation τ sig (Elt Ideal)) : Prop where
  arg : V (Proc.devRef .tc main_v2_0) = a
  count : ∀ i, (V (Proc.devRef .tc main_v2_2) : IVec S_ 32) i = BitVec.ofNat 32 n
  kept : ∀ b (j : Fin 512), j.val < n →
    (V (Proc.devRef .tc main_v2_3) : IVec S8x512 32) (ix2 b j) = BitVec.ofNat 32 (pickOf a b j.val).2.val
  dist : ∀ b k, (V (Proc.devRef .tc main_v2_4) : FVec Ideal S8x8192 .f32) (ix2 b k) = (pickOf a b n).1 k
  word : ∀ b, (V (Proc.devRef .tc main_v2_5) : IVec S8 32) (ix1 b) = BitVec.ofNat 32 (pickOf a b n).2.val

variable {a : FVec Ideal S8x8192x3 .f32} {n : Nat} {V : Valuation τ sig (Elt Ideal)}

/-- The word that the distance's gather takes. -/
theorem Round.taken (h : Round a n V) (b : Fin 8) :
    (res_main_while0b_call0_v4 V : IVec S8x1x1 32) (ix3 b 0 0) = BitVec.ofNat 32 (pickOf a b n).2.val := by
  unfold res_main_while0b_call0_v4 res_main_while0b_v18
  clean_types
  pointwise
  rw [h.word b]
  exact wrap_word _ _

/-- The coordinate differences from the chosen point. -/
theorem Round.diff (h : Round a n V) (b : Fin 8) (k : Fin 8192) (e : Fin 3) :
    (res_main_while0b_v21 V : FVec Ideal S8x8192x3 .f32) (ix3 b k e) = (a (ix3 b k e) : EReal) - a (ix3 b (pickOf a b n).2 e) := by
  unfold res_main_while0b_v21
  clean_types
  pointwise
  have hg : Host.gather gather_S8x8192x3_S8x1x1_S8x1x3_2_1_0_0_1_2_113 (V (Proc.devRef .tc main_v2_0) : FVec Ideal S8x8192x3 .f32)
      (res_main_while0b_call0_v4 V : IVec S8x1x1 32) (ix3 b 0 e) = a (ix3 b (pickOf a b n).2 e) := by
    rw [h.arg]
    exact take_apply (n := 1) gather_S8x8192x3_S8x1x1_S8x1x3_2_1_0_0_1_2_113.wf a _ b 0 e _ (h.taken b)
  rw [hg, Finset.univ_unique, Finset.fold_singleton, Fin.default_eq_zero, h.taken, in_range, h.arg]
  rfl

/-- The distances after the trip. -/
theorem Round.lowered (h : Round a n V) (b : Fin 8) (k : Fin 8192) :
    (res_main_while0b_v25 V : FVec Ideal S8x8192 .f32) (ix2 b k) = (pickOf a b (n + 1)).1 k := by
  rw [pickOf_succ]
  unfold res_main_while0b_v25 res_main_while0b_v23
  clean_types
  pointwise
  simp only [h.diff, Fin.sum_univ_three, h.dist]
  rfl

/-- The chosen points after the trip. -/
theorem Round.put (h : Round a n V) (hn : n < 512) (b : Fin 8) (j : Fin 512) :
    (step_main_v2_3 V : IVec S8x512 32) (ix2 b j)
      = if j.val = n then (V (Proc.devRef .tc main_v2_5) : IVec S8 32) (ix1 b) else (V (Proc.devRef .tc main_v2_3) : IVec S8x512 32) (ix2 b j) := by
  have hw : ∀ i, (broadcastInDim S1 ![] bcast_S_S1 (select (cmpi .slt (V (Proc.devRef .tc main_v2_2) : IVec S_ 32) (constantI S_ 32 0#32))
      (addi (V (Proc.devRef .tc main_v2_2) : IVec S_ 32) (constantI S_ 32 512#32)) (V (Proc.devRef .tc main_v2_2) : IVec S_ 32)) : IVec S1 32) i
        = BitVec.ofNat 32 n := fun i => by
    show Scalar.select (IntOp.cmpi .slt ((V (Proc.devRef .tc main_v2_2) : IVec S_ 32) _) 0#32) _ ((V (Proc.devRef .tc main_v2_2) : IVec S_ 32) _) = _
    rw [h.count]
    exact wrap_word ⟨n, by omega⟩ _
  unfold step_main_v2_3
  simp only [id]
  exact put_apply (V (Proc.devRef .tc main_v2_3)) _ (V (Proc.devRef .tc main_v2_5)) n hn (hw _) b j

/-- The next point after the trip. -/
theorem Round.chosen (h : Round a n V) (b : Fin 8) :
    (step_main_v2_5 V : IVec S8 32) (ix1 b) = BitVec.ofNat 32 (pickOf a b (n + 1)).2.val := by
  unfold step_main_v2_5
  simp only [id]
  refine (shapeCast_apply _ _ _ (ix2 b (0 : Fin 1)) ?_).trans ?_
  · rw [Shape.rowMajor_val_two, Shape.rowMajor_val_one]
    show b.val * 1 + 0 = b.val
    omega
  · refine (first_index _ b).trans ?_
    rw [funext (h.lowered b), pickOf_succ]

/-- One trip. -/
theorem Round.step (h : Round a n V) (hn : n < 512) : Round a (n + 1) (STEP V) where
  arg := (STEP_main_v2_0 V).trans h.arg
  count i := by
    rw [STEP_main_v2_2]
    unfold step_main_v2_2
    show IntOp.addi ((V (Proc.devRef .tc main_v2_2) : IVec S_ 32) i) 1#32 = _
    rw [h.count]
    unfold IntOp.addi
    exact (BitVec.ofNat_add n 1).symm
  kept b j hj := by
    rw [STEP_main_v2_3, h.put hn]
    by_cases g : j.val = n
    · rw [if_pos g, h.word, g]
    · rw [if_neg g]
      exact h.kept b j (by omega)
  dist b k := by
    rw [STEP_main_v2_4]
    exact h.lowered b k
  word b := by
    rw [STEP_main_v2_5]
    exact h.chosen b

/-- The loop's entry. -/
theorem round_entry (m : (ℓ : Loc nD τ sig) → Buf (Elt Ideal) ℓ) (c : Dev nD) :
    Round (m ((c.tc : Thread nD τ).loc main_arg0)) 0 (entryContents preI m c) where
  arg := by
    simp only [entryContents, afterL_cons, afterL_nil]
    after_reads_simp
    rfl
  count i := by
    simp only [entryContents, afterL_cons, afterL_nil]
    after_reads_simp
    rfl
  kept b j hj := absurd hj (Nat.not_lt_zero _)
  dist b k := by
    simp only [entryContents, afterL_cons, afterL_nil]
    after_reads_simp
    rfl
  word b := by
    simp only [entryContents, afterL_cons, afterL_nil]
    after_reads_simp
    exact (by decide +kernel : ∀ b : Fin 8, lit0 (S8.rowMajor (ix1 b)) = BitVec.ofNat 32 (firstPoint b).val) b

/-- The loop's buffers before each trip. -/
theorem round_iter (m : (ℓ : Loc nD τ sig) → Buf (Elt Ideal) ℓ) (c : Dev nD) : ∀ n, n ≤ 512 →
    Round (m ((c.tc : Thread nD τ).loc main_arg0)) n (STEP^[n] (entryContents preI m c))
  | 0, _ => round_entry m c
  | n + 1, hn => by
    rw [Function.iterate_succ_apply']
    exact (round_iter m c n (by omega)).step (by omega)

/-! ## The gathers after the loop -/

/-- The gather after the loop takes the chosen points. -/
theorem taken_after (h : Round a 512 V) (b : Fin 8) (j : Fin 512) (e : Fin 3) :
    Host.gather gather_S8x8192x3_S8x512x1_S8x512x3_2_1_0_0_1_2_113 a
        (select
          (cmpi .slt (broadcastInDim S8x512x1 ![0, 1] bcast_S8x512_S8x512x1_0_1 (V (Proc.devRef .tc main_v2_3) : IVec S8x512 32))
            (broadcastInDim S8x512x1 ![] bcast_S_S8x512x1 (constantI S_ 32 0#32)))
          (addi (broadcastInDim S8x512x1 ![0, 1] bcast_S8x512_S8x512x1_0_1 (V (Proc.devRef .tc main_v2_3) : IVec S8x512 32))
            (broadcastInDim S8x512x1 ![] bcast_S_S8x512x1 (constantI S_ 32 8192#32)))
          (broadcastInDim S8x512x1 ![0, 1] bcast_S8x512_S8x512x1_0_1 (V (Proc.devRef .tc main_v2_3) : IVec S8x512 32)))
        (ix3 b j e) = a (ix3 b (pickOf a b j.val).2 e) := by
  refine take_apply (n := 512) gather_S8x8192x3_S8x512x1_S8x512x3_2_1_0_0_1_2_113.wf a _ b j e _ ?_
  pointwise
  rw [h.kept b j j.isLt]
  exact wrap_word _ _

/-- Coordinate 0 of the chosen points, which the gather after the loop takes. -/
theorem out_x (h : Round a 512 V) (ha : V (Proc.devRef .tc main_arg0) = a) : out_main_v6 V = centroid a 0 := by
  funext i
  obtain ⟨b, j, rfl⟩ : ∃ (b : Fin 8) (j : Fin 512), i = ix2 b j := ⟨i 0, i 1, eq_ix2 i⟩
  unfold out_main_v6
  clean_types
  pointwise
  rw [ha, taken_after h, Finset.univ_unique, Finset.fold_singleton, h.kept b j j.isLt, wrap_word, in_range]
  rfl

/-- Coordinate 1 of the chosen points, which the gather after the loop takes. -/
theorem out_y (h : Round a 512 V) (ha : V (Proc.devRef .tc main_arg0) = a) : out_main_v8 V = centroid a 1 := by
  funext i
  obtain ⟨b, j, rfl⟩ : ∃ (b : Fin 8) (j : Fin 512), i = ix2 b j := ⟨i 0, i 1, eq_ix2 i⟩
  unfold out_main_v8
  clean_types
  pointwise
  rw [ha, taken_after h, Finset.univ_unique, Finset.fold_singleton, h.kept b j j.isLt, wrap_word, in_range]
  rfl

/-- Coordinate 2 of the chosen points, which the gather after the loop takes. -/
theorem out_z (h : Round a 512 V) (ha : V (Proc.devRef .tc main_arg0) = a) : out_main_v10 V = centroid a 2 := by
  funext i
  obtain ⟨b, j, rfl⟩ : ∃ (b : Fin 8) (j : Fin 512), i = ix2 b j := ⟨i 0, i 1, eq_ix2 i⟩
  unfold out_main_v10
  clean_types
  pointwise
  rw [ha, taken_after h, Finset.univ_unique, Finset.fold_singleton, h.kept b j j.isLt, wrap_word, in_range]
  rfl

/-- The reference's runs end with the coordinates of the chosen points. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6) = centroid (m ((c.tc : Thread nD τ).loc main_arg0)) 0
      ∧ r.2.mem ((c.tc : Thread nD τ).loc main_v8) = centroid (m ((c.tc : Thread nD τ).loc main_arg0)) 1
      ∧ r.2.mem ((c.tc : Thread nD τ).loc main_v10) = centroid (m ((c.tc : Thread nD τ).loc main_arg0)) 2
      ∧ r.2.mem ((c.tc : Thread nD τ).loc main_arg0) = m ((c.tc : Thread nD τ).loc main_arg0) :=
  (θ_run defs _ _).mono (fun _ h c => ⟨(h c).1.trans (out_x (round_iter m c 512 le_rfl) (iter_main_arg0 m c 512)),
    (h c).2.1.trans (out_y (round_iter m c 512 le_rfl) (iter_main_arg0 m c 512)),
    (h c).2.2.1.trans (out_z (round_iter m c 512 le_rfl) (iter_main_arg0 m c 512)), (h c).2.2.2⟩) (run m ρ)

end Cert.Proof.Far

end
-- ==== Proof.FarTwin.lean ====
module

public import proofs.«01_k».proof.Defs
public import proofs.«01_k».proof.Proof.Gen.Fps
public import proofs.«01_k».proof.Proof.Gen.FpsIdeal
public import proofs.«01_k».proof.Proof.Gen.FpsIdeal.Skeleton

@[expose] public section

set_option maxRecDepth 16384

/-!
# The farthest point call's two programs

The program read over the float words and the one read over the extended reals have one text, so that the run of
the second, which is over any float values, is a run of the first.
-/

noncomputable section

namespace Cert.Proof.Far

open Idealize.ShloMosaic

/-- The two programs' kernel is one table. -/
theorem table_eq : Cert.Fps.defs₀ (F := Bits) = Cert.FpsIdeal.defs₀ (F := Bits) := by
  unfold Cert.Fps.defs₀ Cert.FpsIdeal.defs₀
  refine congrArg Defs.onTc ?_
  funext l x
  match l, x with
  | 0, (t, s) => dsimp only; rfl
  | ⟨n + 1, h⟩, _ => exact absurd h (Nat.not_lt.2 (Nat.le_add_left _ _))

theorem defs_eq : Cert.Fps.defs (F := Bits) = Cert.FpsIdeal.defs (F := Bits) := congrArg (Pipeline.defs _) table_eq

end Cert.Proof.Far

end
-- ==== Proof.MlpState.lean ====
module

public import proofs.«01_k».proof.Proof.Gen.MlpIdeal.Frame
public import proofs.«01_k».proof.Proof.Gen.MlpIdeal.Skeleton
public import Idealize.ShloMosaic.Lib.Pipeline.Frame
public import Idealize.ShloMosaic.Lib.Tactic
public import Idealize.ShloMosaic.Lib.VecWindow

@[expose] public section

set_option maxRecDepth 16384

/-!
# The perceptron call: what one grid point does

The call's grid is four phases of 64 points; each point is handed a block of 2048 rows.  Eight scratch arrays carry
the state (`St`): the sums and the sums of squares of the three layers, and each group's greatest and least third
layer.  Phase one sums the first layer over the rows (`sumOne`; the first point starts the sums: `first`), phase two
the second (`sumTwo`), phase three the third, keeping the groups' extremes (`sumThree`); phase four writes the
tokens (`tok`).  `run_first`, `run_one`, `run_two`, `run_three` and `run_out` run the kernel at a point of each.
-/

noncomputable section

namespace Cert.Proof.Mlp

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The weights, as the kernel is handed them. -/
structure Par (F : FTy → Type) where
  W1 : Vec F S64x3 .f32
  b1 : Vec F S1x64 .f32
  g1 : Vec F S1x64 .f32
  e1 : Vec F S1x64 .f32
  W2 : Vec F S128x64 .f32
  b2 : Vec F S1x128 .f32
  g2 : Vec F S1x128 .f32
  e2 : Vec F S1x128 .f32
  W3 : Vec F S384x128 .f32
  b3 : Vec F S1x384 .f32
  g3 : Vec F S1x384 .f32
  e3 : Vec F S1x384 .f32

/-- The scratch arrays. -/
structure St (F : FTy → Type) where
  s1 : Vec F S1x64 .f32
  q1 : Vec F S1x64 .f32
  s2 : Vec F S1x128 .f32
  q2 : Vec F S1x128 .f32
  s3 : Vec F S1x384 .f32
  q3 : Vec F S1x384 .f32
  gx : Vec F S4096x384 .f32
  gm : Vec F S4096x384 .f32

/-- The number of rows, and the number added to a variance. -/
def rows : F .f32 := Scalar.ofBits .f32 0x48000000#32
def eps : F .f32 := Scalar.ofBits .f32 0x3727C5AC#32

/-- The second layer of a block, by the first layer's sums. -/
def layerTwo (P : Par F) (x : Vec F S3x2048 .f32) (σ : St F) : FVec F S2048x128 .f32 :=
  k0_pay18 rows eps x P.W1 P.b1 σ.s1 σ.q1 P.g1 P.e1 P.W2 P.b2

/-- The third layer of a block, by the sums of the first two. -/
def layerThree (P : Par F) (x : Vec F S3x2048 .f32) (σ : St F) : FVec F S2048x384 .f32 :=
  k0_pay19 rows eps (layerTwo P x σ) σ.s2 σ.q2 P.g2 P.e2 P.W3 P.b3

/-- The state after a point of the first phase. -/
def sumOne (P : Par F) (x : Vec F S3x2048 .f32) (σ : St F) : St F :=
  { σ with s1 := k0_pay8 x P.W1 P.b1 σ.s1, q1 := k0_pay9 x P.W1 P.b1 σ.q1 }

/-- The state with every sum at zero. -/
def zeroed (σ : St F) : St F :=
  { σ with s1 := k0_pay1, q1 := k0_pay2, s2 := k0_pay3, q2 := k0_pay4, s3 := k0_pay5, q3 := k0_pay6 }

/-- The state after a point of the second phase. -/
def sumTwo (P : Par F) (x : Vec F S3x2048 .f32) (σ : St F) : St F :=
  { σ with s2 := k0_pay10 (layerTwo P x σ) σ.s2, q2 := k0_pay11 (layerTwo P x σ) σ.q2 }

/-- The state after a point of the third phase whose groups start at row `off`. -/
def sumThree (P : Par F) (x : Vec F S3x2048 .f32) (off : Fin 2 → Nat) (σ : St F) : St F :=
  { σ with
    s3 := k0_pay20 rows eps (layerTwo P x σ) σ.s2 σ.q2 P.g2 P.e2 P.W3 P.b3 σ.s3
    q3 := k0_pay12 (layerThree P x σ) σ.q3
    gx := VecWindow.put (s := S4096x384) σ.gx off S64x384.size (k0_pay14 (layerThree P x σ))
    gm := VecWindow.put (s := S4096x384) σ.gm off S64x384.size (k0_pay15 (layerThree P x σ)) }

/-- The tokens of a block, by the state at the end of the third phase. -/
def tok (P : Par F) (off : Fin 2 → Nat) (inb : ∀ a, off a + S64x384.size a ≤ S4096x384.size a) (σ : St F) :
    FVec F S64x384 .f32 :=
  k0_pay16 σ.s3 σ.q3 (VecWindow.window (s := S4096x384) σ.gx off S64x384.size inb)
    (VecWindow.window (s := S4096x384) σ.gm off S64x384.size inb) P.g3 P.e3

/-- The kernel's questions about the grid point: is it the first, is it of the first phase, is it of the second. -/
def isFirst (i : grid0.Coords) : BitVec 1 :=
  Scalar.cmpi .ne (Scalar.extui (Scalar.andi (Scalar.cmpi .eq (BitVec.ofNat 32 (i 0).val) 0#32)
    (Scalar.cmpi .eq (BitVec.ofNat 32 (i 1).val) 0#32)) : BitVec 32) 0#32
def isOne (i : grid0.Coords) : BitVec 1 :=
  Scalar.cmpi .ne (Scalar.extui (Scalar.cmpi .eq (BitVec.ofNat 32 (i 0).val) 0#32) : BitVec 32) 0#32
def isTwo (i : grid0.Coords) : BitVec 1 :=
  Scalar.cmpi .ne (Scalar.extui (Scalar.cmpi .eq (BitVec.ofNat 32 (i 0).val) 1#32) : BitVec 32) 0#32

/-- The second phase's second layer is the third phase's. -/
theorem pay17_eq (P : Par F) (x : Vec F S3x2048 .f32) (σ : St F) :
    k0_pay17 (Scalar.ofBits .f32 0x48000000#32) (Scalar.ofBits .f32 0x3727C5AC#32) x P.W1 P.b1 σ.s1 σ.q1 P.g1 P.e1 P.W2 P.b2
      = layerTwo P x σ := rfl

/-- What a point is handed and hands back: the block of rows, the weights, the tokens' block, the state. -/
def held (c : Dev nD)
    (arg2 : Memref sig .tc .vmem S3x2048 .f32)
    (arg3 : Memref sig .tc .vmem S64x3 .f32)
    (arg4 : Memref sig .tc .vmem S1x64 .f32)
    (arg5 : Memref sig .tc .vmem S1x64 .f32)
    (arg6 : Memref sig .tc .vmem S1x64 .f32)
    (arg7 : Memref sig .tc .vmem S128x64 .f32)
    (arg8 : Memref sig .tc .vmem S1x128 .f32)
    (arg9 : Memref sig .tc .vmem S1x128 .f32)
    (arg10 : Memref sig .tc .vmem S1x128 .f32)
    (arg11 : Memref sig .tc .vmem S384x128 .f32)
    (arg12 : Memref sig .tc .vmem S1x384 .f32)
    (arg13 : Memref sig .tc .vmem S1x384 .f32)
    (arg14 : Memref sig .tc .vmem S1x384 .f32)
    (arg15 : Memref sig .tc .vmem S64x384 .f32)
    (arg16 : Memref sig .tc .vmem S1x64 .f32)
    (arg17 : Memref sig .tc .vmem S1x64 .f32)
    (arg18 : Memref sig .tc .vmem S1x128 .f32)
    (arg19 : Memref sig .tc .vmem S1x128 .f32)
    (arg20 : Memref sig .tc .vmem S1x384 .f32)
    (arg21 : Memref sig .tc .vmem S1x384 .f32)
    (arg22 : Memref sig .tc .vmem S4096x384 .f32)
    (arg23 : Memref sig .tc .vmem S4096x384 .f32)
    (x : Vec F S3x2048 .f32) (P : Par F) (Y : Vec F S64x384 .f32) (σ : St F) : sProp 𝕄 :=
  iprop(owns (c : Thread nD τ) arg2 fullShare x
    ∗ owns (c : Thread nD τ) arg3 fullShare P.W1
    ∗ owns (c : Thread nD τ) arg4 fullShare P.b1
    ∗ owns (c : Thread nD τ) arg5 fullShare P.g1
    ∗ owns (c : Thread nD τ) arg6 fullShare P.e1
    ∗ owns (c : Thread nD τ) arg7 fullShare P.W2
    ∗ owns (c : Thread nD τ) arg8 fullShare P.b2
    ∗ owns (c : Thread nD τ) arg9 fullShare P.g2
    ∗ owns (c : Thread nD τ) arg10 fullShare P.e2
    ∗ owns (c : Thread nD τ) arg11 fullShare P.W3
    ∗ owns (c : Thread nD τ) arg12 fullShare P.b3
    ∗ owns (c : Thread nD τ) arg13 fullShare P.g3
    ∗ owns (c : Thread nD τ) arg14 fullShare P.e3
    ∗ owns (c : Thread nD τ) arg15 fullShare Y
    ∗ owns (c : Thread nD τ) arg16 fullShare σ.s1
    ∗ owns (c : Thread nD τ) arg17 fullShare σ.q1
    ∗ owns (c : Thread nD τ) arg18 fullShare σ.s2
    ∗ owns (c : Thread nD τ) arg19 fullShare σ.q2
    ∗ owns (c : Thread nD τ) arg20 fullShare σ.s3
    ∗ owns (c : Thread nD τ) arg21 fullShare σ.q3
    ∗ owns (c : Thread nD τ) arg22 fullShare σ.gx
    ∗ owns (c : Thread nD τ) arg23 fullShare σ.gm)

end Cert.Proof.Mlp

end
-- ==== Proof.MlpOne.lean ====
module

public import proofs.«01_k».proof.Proof.Gen.MlpIdeal.Frame
public import proofs.«01_k».proof.Proof.Gen.MlpIdeal.Skeleton
public import Idealize.ShloMosaic.Lib.Pipeline.Frame
public import Idealize.ShloMosaic.Lib.Tactic
public import Idealize.ShloMosaic.Lib.VecWindow
public import proofs.«01_k».proof.Proof.MlpState

@[expose] public section

set_option maxRecDepth 16384

/-! # The perceptron call: a point of the first phase -/

noncomputable section

namespace Cert.Proof.Mlp

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The first point: the sums start at zero, and its rows are added. -/
theorem run_first (c : Dev nD) (i : grid0.Coords)
  (arg2 : Memref sig .tc .vmem S3x2048 .f32) (harg2 : arg2.IsWhole)
  (arg3 : Memref sig .tc .vmem S64x3 .f32) (harg3 : arg3.IsWhole)
  (arg4 : Memref sig .tc .vmem S1x64 .f32) (harg4 : arg4.IsWhole)
  (arg5 : Memref sig .tc .vmem S1x64 .f32) (harg5 : arg5.IsWhole)
  (arg6 : Memref sig .tc .vmem S1x64 .f32) (harg6 : arg6.IsWhole)
  (arg7 : Memref sig .tc .vmem S128x64 .f32) (harg7 : arg7.IsWhole)
  (arg8 : Memref sig .tc .vmem S1x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S384x128 .f32) (harg11 : arg11.IsWhole)
  (arg12 : Memref sig .tc .vmem S1x384 .f32) (harg12 : arg12.IsWhole)
  (arg13 : Memref sig .tc .vmem S1x384 .f32) (harg13 : arg13.IsWhole)
  (arg14 : Memref sig .tc .vmem S1x384 .f32) (harg14 : arg14.IsWhole)
  (arg15 : Memref sig .tc .vmem S64x384 .f32) (harg15 : arg15.IsWhole)
  (arg16 : Memref sig .tc .vmem S1x64 .f32) (harg16 : arg16.IsWhole)
  (arg17 : Memref sig .tc .vmem S1x64 .f32) (harg17 : arg17.IsWhole)
  (arg18 : Memref sig .tc .vmem S1x128 .f32) (harg18 : arg18.IsWhole)
  (arg19 : Memref sig .tc .vmem S1x128 .f32) (harg19 : arg19.IsWhole)
  (arg20 : Memref sig .tc .vmem S1x384 .f32) (harg20 : arg20.IsWhole)
  (arg21 : Memref sig .tc .vmem S1x384 .f32) (harg21 : arg21.IsWhole)
  (arg22 : Memref sig .tc .vmem S4096x384 .f32) (harg22 : arg22.IsWhole)
  (arg23 : Memref sig .tc .vmem S4096x384 .f32) (harg23 : arg23.IsWhole)
  (h1 : isFirst i = 1#1) (h2 : isOne i = 1#1) (h3 : ¬ isTwo i = 1#1) (h4 : ¬ k0_cond4 i = 1#1) (h5 : ¬ k0_cond5 i = 1#1)
  (x : Vec F S3x2048 .f32) (P : Par F) (Y : Vec F S64x384 .f32) (σ : St F) (E : Set ℕ) (K : PUnit → sProp 𝕄) :
    iprop(held c arg2 arg3 arg4 arg5 arg6 arg7 arg8 arg9 arg10 arg11 arg12 arg13 arg14 arg15 arg16 arg17 arg18 arg19 arg20 arg21 arg22 arg23 x P Y σ
      ∗ (held c arg2 arg3 arg4 arg5 arg6 arg7 arg8 arg9 arg10 arg11 arg12 arg13 arg14 arg15 arg16 arg17 arg18 arg19 arg20 arg21 arg22 arg23 x P Y (sumOne P x (zeroed σ)) -∗ K ⟨⟩))
      ⊢ wp frame (wpE (defs₀ (F := F)) Variants.none c none) E
        (cc0__mlp_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  unfold isFirst at h1; unfold isOne at h2; unfold isTwo at h3
  simp only [cc0__mlp_body_eq_skeleton]; unfold cc0__mlp_body_skel
  unfold held owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, ⟨%f23, %e23, H23⟩⟩, Hk⟩
  sl_exec (disch := first | sl_exact h1 | sl_exact h2 | sl_exact h3 | sl_exact h4 | sl_exact h5 | decide)
  sl_step
  iapply Hk
  isplitl [H2]
  · iexists _; isplitr; swap; · iexact H2
    ipureintro
    exact e2
  isplitl [H3]
  · iexists _; isplitr; swap; · iexact H3
    ipureintro
    exact e3
  isplitl [H4]
  · iexists _; isplitr; swap; · iexact H4
    ipureintro
    exact e4
  isplitl [H5]
  · iexists _; isplitr; swap; · iexact H5
    ipureintro
    exact e5
  isplitl [H6]
  · iexists _; isplitr; swap; · iexact H6
    ipureintro
    exact e6
  isplitl [H7]
  · iexists _; isplitr; swap; · iexact H7
    ipureintro
    exact e7
  isplitl [H8]
  · iexists _; isplitr; swap; · iexact H8
    ipureintro
    exact e8
  isplitl [H9]
  · iexists _; isplitr; swap; · iexact H9
    ipureintro
    exact e9
  isplitl [H10]
  · iexists _; isplitr; swap; · iexact H10
    ipureintro
    exact e10
  isplitl [H11]
  · iexists _; isplitr; swap; · iexact H11
    ipureintro
    exact e11
  isplitl [H12]
  · iexists _; isplitr; swap; · iexact H12
    ipureintro
    exact e12
  isplitl [H13]
  · iexists _; isplitr; swap; · iexact H13
    ipureintro
    exact e13
  isplitl [H14]
  · iexists _; isplitr; swap; · iexact H14
    ipureintro
    exact e14
  isplitl [H15]
  · iexists _; isplitr; swap; · iexact H15
    ipureintro
    exact e15
  isplitl [H16]
  · iexists _; isplitr; swap; · iexact H16
    ipureintro
    sl_unfold_run_names
    refine (View.read_writes_full _ _ _ _ _).trans ?_
    repeat (first | rw [View.readCov_full] | rw [View.readAt_full])
    try simp only [e2, e3, e4, e5, e6, e7, e8, e9, e10, e11, e12, e13, e14, e15, e16, e17, e18, e19, e20, e21, e22, e23]
    rfl
  isplitl [H17]
  · iexists _; isplitr; swap; · iexact H17
    ipureintro
    sl_unfold_run_names
    refine (View.read_writes_full _ _ _ _ _).trans ?_
    repeat (first | rw [View.readCov_full] | rw [View.readAt_full])
    try simp only [e2, e3, e4, e5, e6, e7, e8, e9, e10, e11, e12, e13, e14, e15, e16, e17, e18, e19, e20, e21, e22, e23]
    rfl
  isplitl [H18]
  · iexists _; isplitr; swap; · iexact H18
    ipureintro
    sl_unfold_run_names
    refine (View.read_writes_full _ _ _ _ _).trans ?_
    repeat (first | rw [View.readCov_full] | rw [View.readAt_full])
    try simp only [e2, e3, e4, e5, e6, e7, e8, e9, e10, e11, e12, e13, e14, e15, e16, e17, e18, e19, e20, e21, e22, e23]
    rfl
  isplitl [H19]
  · iexists _; isplitr; swap; · iexact H19
    ipureintro
    sl_unfold_run_names
    refine (View.read_writes_full _ _ _ _ _).trans ?_
    repeat (first | rw [View.readCov_full] | rw [View.readAt_full])
    try simp only [e2, e3, e4, e5, e6, e7, e8, e9, e10, e11, e12, e13, e14, e15, e16, e17, e18, e19, e20, e21, e22, e23]
    rfl
  isplitl [H20]
  · iexists _; isplitr; swap; · iexact H20
    ipureintro
    sl_unfold_run_names
    refine (View.read_writes_full _ _ _ _ _).trans ?_
    repeat (first | rw [View.readCov_full] | rw [View.readAt_full])
    try simp only [e2, e3, e4, e5, e6, e7, e8, e9, e10, e11, e12, e13, e14, e15, e16, e17, e18, e19, e20, e21, e22, e23]
    rfl
  isplitl [H21]
  · iexists _; isplitr; swap; · iexact H21
    ipureintro
    sl_unfold_run_names
    refine (View.read_writes_full _ _ _ _ _).trans ?_
    repeat (first | rw [View.readCov_full] | rw [View.readAt_full])
    try simp only [e2, e3, e4, e5, e6, e7, e8, e9, e10, e11, e12, e13, e14, e15, e16, e17, e18, e19, e20, e21, e22, e23]
    rfl
  isplitl [H22]
  · iexists _; isplitr; swap; · iexact H22
    ipureintro
    exact e22
  iexists _; isplitr; swap; · iexact H23
  ipureintro
  exact e23

/-- Another point of the first phase. -/
theorem run_one (c : Dev nD) (i : grid0.Coords)
  (arg2 : Memref sig .tc .vmem S3x2048 .f32) (harg2 : arg2.IsWhole)
  (arg3 : Memref sig .tc .vmem S64x3 .f32) (harg3 : arg3.IsWhole)
  (arg4 : Memref sig .tc .vmem S1x64 .f32) (harg4 : arg4.IsWhole)
  (arg5 : Memref sig .tc .vmem S1x64 .f32) (harg5 : arg5.IsWhole)
  (arg6 : Memref sig .tc .vmem S1x64 .f32) (harg6 : arg6.IsWhole)
  (arg7 : Memref sig .tc .vmem S128x64 .f32) (harg7 : arg7.IsWhole)
  (arg8 : Memref sig .tc .vmem S1x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S384x128 .f32) (harg11 : arg11.IsWhole)
  (arg12 : Memref sig .tc .vmem S1x384 .f32) (harg12 : arg12.IsWhole)
  (arg13 : Memref sig .tc .vmem S1x384 .f32) (harg13 : arg13.IsWhole)
  (arg14 : Memref sig .tc .vmem S1x384 .f32) (harg14 : arg14.IsWhole)
  (arg15 : Memref sig .tc .vmem S64x384 .f32) (harg15 : arg15.IsWhole)
  (arg16 : Memref sig .tc .vmem S1x64 .f32) (harg16 : arg16.IsWhole)
  (arg17 : Memref sig .tc .vmem S1x64 .f32) (harg17 : arg17.IsWhole)
  (arg18 : Memref sig .tc .vmem S1x128 .f32) (harg18 : arg18.IsWhole)
  (arg19 : Memref sig .tc .vmem S1x128 .f32) (harg19 : arg19.IsWhole)
  (arg20 : Memref sig .tc .vmem S1x384 .f32) (harg20 : arg20.IsWhole)
  (arg21 : Memref sig .tc .vmem S1x384 .f32) (harg21 : arg21.IsWhole)
  (arg22 : Memref sig .tc .vmem S4096x384 .f32) (harg22 : arg22.IsWhole)
  (arg23 : Memref sig .tc .vmem S4096x384 .f32) (harg23 : arg23.IsWhole)
  (h1 : ¬ isFirst i = 1#1) (h2 : isOne i = 1#1) (h3 : ¬ isTwo i = 1#1) (h4 : ¬ k0_cond4 i = 1#1) (h5 : ¬ k0_cond5 i = 1#1)
  (x : Vec F S3x2048 .f32) (P : Par F) (Y : Vec F S64x384 .f32) (σ : St F) (E : Set ℕ) (K : PUnit → sProp 𝕄) :
    iprop(held c arg2 arg3 arg4 arg5 arg6 arg7 arg8 arg9 arg10 arg11 arg12 arg13 arg14 arg15 arg16 arg17 arg18 arg19 arg20 arg21 arg22 arg23 x P Y σ
      ∗ (held c arg2 arg3 arg4 arg5 arg6 arg7 arg8 arg9 arg10 arg11 arg12 arg13 arg14 arg15 arg16 arg17 arg18 arg19 arg20 arg21 arg22 arg23 x P Y (sumOne P x σ) -∗ K ⟨⟩))
      ⊢ wp frame (wpE (defs₀ (F := F)) Variants.none c none) E
        (cc0__mlp_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  unfold isFirst at h1; unfold isOne at h2; unfold isTwo at h3
  simp only [cc0__mlp_body_eq_skeleton]; unfold cc0__mlp_body_skel
  unfold held owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, ⟨%f23, %e23, H23⟩⟩, Hk⟩
  sl_exec (disch := first | sl_exact h1 | sl_exact h2 | sl_exact h3 | sl_exact h4 | sl_exact h5 | decide)
  sl_step
  iapply Hk
  isplitl [H2]
  · iexists _; isplitr; swap; · iexact H2
    ipureintro
    exact e2
  isplitl [H3]
  · iexists _; isplitr; swap; · iexact H3
    ipureintro
    exact e3
  isplitl [H4]
  · iexists _; isplitr; swap; · iexact H4
    ipureintro
    exact e4
  isplitl [H5]
  · iexists _; isplitr; swap; · iexact H5
    ipureintro
    exact e5
  isplitl [H6]
  · iexists _; isplitr; swap; · iexact H6
    ipureintro
    exact e6
  isplitl [H7]
  · iexists _; isplitr; swap; · iexact H7
    ipureintro
    exact e7
  isplitl [H8]
  · iexists _; isplitr; swap; · iexact H8
    ipureintro
    exact e8
  isplitl [H9]
  · iexists _; isplitr; swap; · iexact H9
    ipureintro
    exact e9
  isplitl [H10]
  · iexists _; isplitr; swap; · iexact H10
    ipureintro
    exact e10
  isplitl [H11]
  · iexists _; isplitr; swap; · iexact H11
    ipureintro
    exact e11
  isplitl [H12]
  · iexists _; isplitr; swap; · iexact H12
    ipureintro
    exact e12
  isplitl [H13]
  · iexists _; isplitr; swap; · iexact H13
    ipureintro
    exact e13
  isplitl [H14]
  · iexists _; isplitr; swap; · iexact H14
    ipureintro
    exact e14
  isplitl [H15]
  · iexists _; isplitr; swap; · iexact H15
    ipureintro
    exact e15
  isplitl [H16]
  · iexists _; isplitr; swap; · iexact H16
    ipureintro
    sl_unfold_run_names
    refine (View.read_writes_full _ _ _ _ _).trans ?_
    repeat (first | rw [View.readCov_full] | rw [View.readAt_full])
    try simp only [e2, e3, e4, e5, e6, e7, e8, e9, e10, e11, e12, e13, e14, e15, e16, e17, e18, e19, e20, e21, e22, e23]
    rfl
  isplitl [H17]
  · iexists _; isplitr; swap; · iexact H17
    ipureintro
    sl_unfold_run_names
    refine (View.read_writes_full _ _ _ _ _).trans ?_
    repeat (first | rw [View.readCov_full] | rw [View.readAt_full])
    try simp only [e2, e3, e4, e5, e6, e7, e8, e9, e10, e11, e12, e13, e14, e15, e16, e17, e18, e19, e20, e21, e22, e23]
    rfl
  isplitl [H18]
  · iexists _; isplitr; swap; · iexact H18
    ipureintro
    exact e18
  isplitl [H19]
  · iexists _; isplitr; swap; · iexact H19
    ipureintro
    exact e19
  isplitl [H20]
  · iexists _; isplitr; swap; · iexact H20
    ipureintro
    exact e20
  isplitl [H21]
  · iexists _; isplitr; swap; · iexact H21
    ipureintro
    exact e21
  isplitl [H22]
  · iexists _; isplitr; swap; · iexact H22
    ipureintro
    exact e22
  iexists _; isplitr; swap; · iexact H23
  ipureintro
  exact e23

end Cert.Proof.Mlp

end
-- ==== Proof.MlpTwo.lean ====
module

public import proofs.«01_k».proof.Proof.Gen.MlpIdeal.Frame
public import proofs.«01_k».proof.Proof.Gen.MlpIdeal.Skeleton
public import Idealize.ShloMosaic.Lib.Pipeline.Frame
public import Idealize.ShloMosaic.Lib.Tactic
public import Idealize.ShloMosaic.Lib.VecWindow
public import proofs.«01_k».proof.Proof.MlpState

@[expose] public section

set_option maxRecDepth 16384

/-! # The perceptron call: a point of the second phase, and a point of the last -/

noncomputable section

namespace Cert.Proof.Mlp

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A point of the second phase. -/
theorem run_two (c : Dev nD) (i : grid0.Coords)
  (arg2 : Memref sig .tc .vmem S3x2048 .f32) (harg2 : arg2.IsWhole)
  (arg3 : Memref sig .tc .vmem S64x3 .f32) (harg3 : arg3.IsWhole)
  (arg4 : Memref sig .tc .vmem S1x64 .f32) (harg4 : arg4.IsWhole)
  (arg5 : Memref sig .tc .vmem S1x64 .f32) (harg5 : arg5.IsWhole)
  (arg6 : Memref sig .tc .vmem S1x64 .f32) (harg6 : arg6.IsWhole)
  (arg7 : Memref sig .tc .vmem S128x64 .f32) (harg7 : arg7.IsWhole)
  (arg8 : Memref sig .tc .vmem S1x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S384x128 .f32) (harg11 : arg11.IsWhole)
  (arg12 : Memref sig .tc .vmem S1x384 .f32) (harg12 : arg12.IsWhole)
  (arg13 : Memref sig .tc .vmem S1x384 .f32) (harg13 : arg13.IsWhole)
  (arg14 : Memref sig .tc .vmem S1x384 .f32) (harg14 : arg14.IsWhole)
  (arg15 : Memref sig .tc .vmem S64x384 .f32) (harg15 : arg15.IsWhole)
  (arg16 : Memref sig .tc .vmem S1x64 .f32) (harg16 : arg16.IsWhole)
  (arg17 : Memref sig .tc .vmem S1x64 .f32) (harg17 : arg17.IsWhole)
  (arg18 : Memref sig .tc .vmem S1x128 .f32) (harg18 : arg18.IsWhole)
  (arg19 : Memref sig .tc .vmem S1x128 .f32) (harg19 : arg19.IsWhole)
  (arg20 : Memref sig .tc .vmem S1x384 .f32) (harg20 : arg20.IsWhole)
  (arg21 : Memref sig .tc .vmem S1x384 .f32) (harg21 : arg21.IsWhole)
  (arg22 : Memref sig .tc .vmem S4096x384 .f32) (harg22 : arg22.IsWhole)
  (arg23 : Memref sig .tc .vmem S4096x384 .f32) (harg23 : arg23.IsWhole)
  (h1 : ¬ isFirst i = 1#1) (h2 : ¬ isOne i = 1#1) (h3 : isTwo i = 1#1) (h4 : ¬ k0_cond4 i = 1#1) (h5 : ¬ k0_cond5 i = 1#1)
  (x : Vec F S3x2048 .f32) (P : Par F) (Y : Vec F S64x384 .f32) (σ : St F) (E : Set ℕ) (K : PUnit → sProp 𝕄) :
    iprop(held c arg2 arg3 arg4 arg5 arg6 arg7 arg8 arg9 arg10 arg11 arg12 arg13 arg14 arg15 arg16 arg17 arg18 arg19 arg20 arg21 arg22 arg23 x P Y σ
      ∗ (held c arg2 arg3 arg4 arg5 arg6 arg7 arg8 arg9 arg10 arg11 arg12 arg13 arg14 arg15 arg16 arg17 arg18 arg19 arg20 arg21 arg22 arg23 x P Y (sumTwo P x σ) -∗ K ⟨⟩))
      ⊢ wp frame (wpE (defs₀ (F := F)) Variants.none c none) E
        (cc0__mlp_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  unfold isFirst at h1; unfold isOne at h2; unfold isTwo at h3
  simp only [cc0__mlp_body_eq_skeleton, k0_part1_eq_skeleton]; unfold cc0__mlp_body_skel
  unfold held owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, ⟨%f23, %e23, H23⟩⟩, Hk⟩
  sl_exec (disch := first | sl_exact h1 | sl_exact h2 | sl_exact h3 | sl_exact h4 | sl_exact h5 | decide)
  sl_open_parts
  sl_step
  iapply Hk
  isplitl [H2]
  · iexists _; isplitr; swap; · iexact H2
    ipureintro
    exact e2
  isplitl [H3]
  · iexists _; isplitr; swap; · iexact H3
    ipureintro
    exact e3
  isplitl [H4]
  · iexists _; isplitr; swap; · iexact H4
    ipureintro
    exact e4
  isplitl [H5]
  · iexists _; isplitr; swap; · iexact H5
    ipureintro
    exact e5
  isplitl [H6]
  · iexists _; isplitr; swap; · iexact H6
    ipureintro
    exact e6
  isplitl [H7]
  · iexists _; isplitr; swap; · iexact H7
    ipureintro
    exact e7
  isplitl [H8]
  · iexists _; isplitr; swap; · iexact H8
    ipureintro
    exact e8
  isplitl [H9]
  · iexists _; isplitr; swap; · iexact H9
    ipureintro
    exact e9
  isplitl [H10]
  · iexists _; isplitr; swap; · iexact H10
    ipureintro
    exact e10
  isplitl [H11]
  · iexists _; isplitr; swap; · iexact H11
    ipureintro
    exact e11
  isplitl [H12]
  · iexists _; isplitr; swap; · iexact H12
    ipureintro
    exact e12
  isplitl [H13]
  · iexists _; isplitr; swap; · iexact H13
    ipureintro
    exact e13
  isplitl [H14]
  · iexists _; isplitr; swap; · iexact H14
    ipureintro
    exact e14
  isplitl [H15]
  · iexists _; isplitr; swap; · iexact H15
    ipureintro
    exact e15
  isplitl [H16]
  · iexists _; isplitr; swap; · iexact H16
    ipureintro
    exact e16
  isplitl [H17]
  · iexists _; isplitr; swap; · iexact H17
    ipureintro
    exact e17
  isplitl [H18]
  · iexists _; isplitr; swap; · iexact H18
    ipureintro
    sl_unfold_run_names
    refine (View.read_writes_full _ _ _ _ _).trans ?_
    repeat (first | rw [View.readCov_full] | rw [View.readAt_full])
    try simp only [e2, e3, e4, e5, e6, e7, e8, e9, e10, e11, e12, e13, e14, e15, e16, e17, e18, e19, e20, e21, e22, e23]
    rfl
  isplitl [H19]
  · iexists _; isplitr; swap; · iexact H19
    ipureintro
    sl_unfold_run_names
    refine (View.read_writes_full _ _ _ _ _).trans ?_
    repeat (first | rw [View.readCov_full] | rw [View.readAt_full])
    try simp only [e2, e3, e4, e5, e6, e7, e8, e9, e10, e11, e12, e13, e14, e15, e16, e17, e18, e19, e20, e21, e22, e23]
    rfl
  isplitl [H20]
  · iexists _; isplitr; swap; · iexact H20
    ipureintro
    exact e20
  isplitl [H21]
  · iexists _; isplitr; swap; · iexact H21
    ipureintro
    exact e21
  isplitl [H22]
  · iexists _; isplitr; swap; · iexact H22
    ipureintro
    exact e22
  iexists _; isplitr; swap; · iexact H23
  ipureintro
  exact e23

/-- A point of the last phase. -/
theorem run_out (c : Dev nD) (i : grid0.Coords)
  (arg2 : Memref sig .tc .vmem S3x2048 .f32) (harg2 : arg2.IsWhole)
  (arg3 : Memref sig .tc .vmem S64x3 .f32) (harg3 : arg3.IsWhole)
  (arg4 : Memref sig .tc .vmem S1x64 .f32) (harg4 : arg4.IsWhole)
  (arg5 : Memref sig .tc .vmem S1x64 .f32) (harg5 : arg5.IsWhole)
  (arg6 : Memref sig .tc .vmem S1x64 .f32) (harg6 : arg6.IsWhole)
  (arg7 : Memref sig .tc .vmem S128x64 .f32) (harg7 : arg7.IsWhole)
  (arg8 : Memref sig .tc .vmem S1x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S384x128 .f32) (harg11 : arg11.IsWhole)
  (arg12 : Memref sig .tc .vmem S1x384 .f32) (harg12 : arg12.IsWhole)
  (arg13 : Memref sig .tc .vmem S1x384 .f32) (harg13 : arg13.IsWhole)
  (arg14 : Memref sig .tc .vmem S1x384 .f32) (harg14 : arg14.IsWhole)
  (arg15 : Memref sig .tc .vmem S64x384 .f32) (harg15 : arg15.IsWhole)
  (arg16 : Memref sig .tc .vmem S1x64 .f32) (harg16 : arg16.IsWhole)
  (arg17 : Memref sig .tc .vmem S1x64 .f32) (harg17 : arg17.IsWhole)
  (arg18 : Memref sig .tc .vmem S1x128 .f32) (harg18 : arg18.IsWhole)
  (arg19 : Memref sig .tc .vmem S1x128 .f32) (harg19 : arg19.IsWhole)
  (arg20 : Memref sig .tc .vmem S1x384 .f32) (harg20 : arg20.IsWhole)
  (arg21 : Memref sig .tc .vmem S1x384 .f32) (harg21 : arg21.IsWhole)
  (arg22 : Memref sig .tc .vmem S4096x384 .f32) (harg22 : arg22.IsWhole)
  (arg23 : Memref sig .tc .vmem S4096x384 .f32) (harg23 : arg23.IsWhole)
  (h1 : ¬ isFirst i = 1#1) (h2 : ¬ isOne i = 1#1) (h3 : ¬ isTwo i = 1#1) (h4 : ¬ k0_cond4 i = 1#1) (h5 : k0_cond5 i = 1#1)
  (x : Vec F S3x2048 .f32) (P : Par F) (Y : Vec F S64x384 .f32) (σ : St F) (E : Set ℕ) (K : PUnit → sProp 𝕄) :
    iprop(held c arg2 arg3 arg4 arg5 arg6 arg7 arg8 arg9 arg10 arg11 arg12 arg13 arg14 arg15 arg16 arg17 arg18 arg19 arg20 arg21 arg22 arg23 x P Y σ
      ∗ (held c arg2 arg3 arg4 arg5 arg6 arg7 arg8 arg9 arg10 arg11 arg12 arg13 arg14 arg15 arg16 arg17 arg18 arg19 arg20 arg21 arg22 arg23 x P (tok P (k0_off2 i) (k0_off2_inb i h5) σ) σ -∗ K ⟨⟩))
      ⊢ wp frame (wpE (defs₀ (F := F)) Variants.none c none) E
        (cc0__mlp_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  unfold isFirst at h1; unfold isOne at h2; unfold isTwo at h3
  simp only [cc0__mlp_body_eq_skeleton]; unfold cc0__mlp_body_skel
  unfold held owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, ⟨%f23, %e23, H23⟩⟩, Hk⟩
  sl_exec (disch := first | sl_exact h1 | sl_exact h2 | sl_exact h3 | sl_exact h4 | sl_exact h5 | decide)
  sl_step
  iapply Hk
  isplitl [H2]
  · iexists _; isplitr; swap; · iexact H2
    ipureintro
    exact e2
  isplitl [H3]
  · iexists _; isplitr; swap; · iexact H3
    ipureintro
    exact e3
  isplitl [H4]
  · iexists _; isplitr; swap; · iexact H4
    ipureintro
    exact e4
  isplitl [H5]
  · iexists _; isplitr; swap; · iexact H5
    ipureintro
    exact e5
  isplitl [H6]
  · iexists _; isplitr; swap; · iexact H6
    ipureintro
    exact e6
  isplitl [H7]
  · iexists _; isplitr; swap; · iexact H7
    ipureintro
    exact e7
  isplitl [H8]
  · iexists _; isplitr; swap; · iexact H8
    ipureintro
    exact e8
  isplitl [H9]
  · iexists _; isplitr; swap; · iexact H9
    ipureintro
    exact e9
  isplitl [H10]
  · iexists _; isplitr; swap; · iexact H10
    ipureintro
    exact e10
  isplitl [H11]
  · iexists _; isplitr; swap; · iexact H11
    ipureintro
    exact e11
  isplitl [H12]
  · iexists _; isplitr; swap; · iexact H12
    ipureintro
    exact e12
  isplitl [H13]
  · iexists _; isplitr; swap; · iexact H13
    ipureintro
    exact e13
  isplitl [H14]
  · iexists _; isplitr; swap; · iexact H14
    ipureintro
    exact e14
  isplitl [H15]
  · iexists _; isplitr; swap; · iexact H15
    ipureintro
    sl_unfold_run_names
    refine (View.read_writes_full _ _ _ _ _).trans ?_
    repeat (first | rw [View.readCov_full] | rw [View.readAt_full])
    rw [View.readAt_unit _ _ _ rfl (k0_off2_inb i h5), View.readAt_unit _ _ _ rfl (k0_off2_inb i h5)]
    simp only [e2, e3, e4, e5, e6, e7, e8, e9, e10, e11, e12, e13, e14, e15, e16, e17, e18, e19, e20, e21, e22, e23]
    rfl
  isplitl [H16]
  · iexists _; isplitr; swap; · iexact H16
    ipureintro
    exact e16
  isplitl [H17]
  · iexists _; isplitr; swap; · iexact H17
    ipureintro
    exact e17
  isplitl [H18]
  · iexists _; isplitr; swap; · iexact H18
    ipureintro
    exact e18
  isplitl [H19]
  · iexists _; isplitr; swap; · iexact H19
    ipureintro
    exact e19
  isplitl [H20]
  · iexists _; isplitr; swap; · iexact H20
    ipureintro
    exact e20
  isplitl [H21]
  · iexists _; isplitr; swap; · iexact H21
    ipureintro
    exact e21
  isplitl [H22]
  · iexists _; isplitr; swap; · iexact H22
    ipureintro
    exact e22
  iexists _; isplitr; swap; · iexact H23
  ipureintro
  exact e23

end Cert.Proof.Mlp

end
-- ==== Proof.MlpThree.lean ====
module

public import proofs.«01_k».proof.Proof.Gen.MlpIdeal.Frame
public import proofs.«01_k».proof.Proof.Gen.MlpIdeal.Skeleton
public import Idealize.ShloMosaic.Lib.Pipeline.Frame
public import Idealize.ShloMosaic.Lib.Tactic
public import Idealize.ShloMosaic.Lib.VecWindow
public import proofs.«01_k».proof.Proof.MlpState

@[expose] public section

set_option maxRecDepth 16384

/-! # The perceptron call: a point of the third phase -/

noncomputable section

namespace Cert.Proof.Mlp

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A point of the third phase. -/
theorem run_three (c : Dev nD) (i : grid0.Coords)
  (arg2 : Memref sig .tc .vmem S3x2048 .f32) (harg2 : arg2.IsWhole)
  (arg3 : Memref sig .tc .vmem S64x3 .f32) (harg3 : arg3.IsWhole)
  (arg4 : Memref sig .tc .vmem S1x64 .f32) (harg4 : arg4.IsWhole)
  (arg5 : Memref sig .tc .vmem S1x64 .f32) (harg5 : arg5.IsWhole)
  (arg6 : Memref sig .tc .vmem S1x64 .f32) (harg6 : arg6.IsWhole)
  (arg7 : Memref sig .tc .vmem S128x64 .f32) (harg7 : arg7.IsWhole)
  (arg8 : Memref sig .tc .vmem S1x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S384x128 .f32) (harg11 : arg11.IsWhole)
  (arg12 : Memref sig .tc .vmem S1x384 .f32) (harg12 : arg12.IsWhole)
  (arg13 : Memref sig .tc .vmem S1x384 .f32) (harg13 : arg13.IsWhole)
  (arg14 : Memref sig .tc .vmem S1x384 .f32) (harg14 : arg14.IsWhole)
  (arg15 : Memref sig .tc .vmem S64x384 .f32) (harg15 : arg15.IsWhole)
  (arg16 : Memref sig .tc .vmem S1x64 .f32) (harg16 : arg16.IsWhole)
  (arg17 : Memref sig .tc .vmem S1x64 .f32) (harg17 : arg17.IsWhole)
  (arg18 : Memref sig .tc .vmem S1x128 .f32) (harg18 : arg18.IsWhole)
  (arg19 : Memref sig .tc .vmem S1x128 .f32) (harg19 : arg19.IsWhole)
  (arg20 : Memref sig .tc .vmem S1x384 .f32) (harg20 : arg20.IsWhole)
  (arg21 : Memref sig .tc .vmem S1x384 .f32) (harg21 : arg21.IsWhole)
  (arg22 : Memref sig .tc .vmem S4096x384 .f32) (harg22 : arg22.IsWhole)
  (arg23 : Memref sig .tc .vmem S4096x384 .f32) (harg23 : arg23.IsWhole)
  (h1 : ¬ isFirst i = 1#1) (h2 : ¬ isOne i = 1#1) (h3 : ¬ isTwo i = 1#1) (h4 : k0_cond4 i = 1#1) (h5 : ¬ k0_cond5 i = 1#1)
  (x : Vec F S3x2048 .f32) (P : Par F) (Y : Vec F S64x384 .f32) (σ : St F) (E : Set ℕ) (K : PUnit → sProp 𝕄) :
    iprop(held c arg2 arg3 arg4 arg5 arg6 arg7 arg8 arg9 arg10 arg11 arg12 arg13 arg14 arg15 arg16 arg17 arg18 arg19 arg20 arg21 arg22 arg23 x P Y σ
      ∗ (held c arg2 arg3 arg4 arg5 arg6 arg7 arg8 arg9 arg10 arg11 arg12 arg13 arg14 arg15 arg16 arg17 arg18 arg19 arg20 arg21 arg22 arg23 x P Y (sumThree P x (k0_off1 i) σ) -∗ K ⟨⟩))
      ⊢ wp frame (wpE (defs₀ (F := F)) Variants.none c none) E
        (cc0__mlp_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  unfold isFirst at h1; unfold isOne at h2; unfold isTwo at h3
  simp only [cc0__mlp_body_eq_skeleton, k0_part2_eq_skeleton, k0_part3_eq_skeleton]; unfold cc0__mlp_body_skel
  unfold held owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, ⟨%f23, %e23, H23⟩⟩, Hk⟩
  sl_exec (disch := first | sl_exact h1 | sl_exact h2 | sl_exact h3 | sl_exact h4 | sl_exact h5 | decide)
  sl_open_parts
  sl_step
  iapply Hk
  isplitl [H2]
  · iexists _; isplitr; swap; · iexact H2
    ipureintro
    exact e2
  isplitl [H3]
  · iexists _; isplitr; swap; · iexact H3
    ipureintro
    exact e3
  isplitl [H4]
  · iexists _; isplitr; swap; · iexact H4
    ipureintro
    exact e4
  isplitl [H5]
  · iexists _; isplitr; swap; · iexact H5
    ipureintro
    exact e5
  isplitl [H6]
  · iexists _; isplitr; swap; · iexact H6
    ipureintro
    exact e6
  isplitl [H7]
  · iexists _; isplitr; swap; · iexact H7
    ipureintro
    exact e7
  isplitl [H8]
  · iexists _; isplitr; swap; · iexact H8
    ipureintro
    exact e8
  isplitl [H9]
  · iexists _; isplitr; swap; · iexact H9
    ipureintro
    exact e9
  isplitl [H10]
  · iexists _; isplitr; swap; · iexact H10
    ipureintro
    exact e10
  isplitl [H11]
  · iexists _; isplitr; swap; · iexact H11
    ipureintro
    exact e11
  isplitl [H12]
  · iexists _; isplitr; swap; · iexact H12
    ipureintro
    exact e12
  isplitl [H13]
  · iexists _; isplitr; swap; · iexact H13
    ipureintro
    exact e13
  isplitl [H14]
  · iexists _; isplitr; swap; · iexact H14
    ipureintro
    exact e14
  isplitl [H15]
  · iexists _; isplitr; swap; · iexact H15
    ipureintro
    exact e15
  isplitl [H16]
  · iexists _; isplitr; swap; · iexact H16
    ipureintro
    exact e16
  isplitl [H17]
  · iexists _; isplitr; swap; · iexact H17
    ipureintro
    exact e17
  isplitl [H18]
  · iexists _; isplitr; swap; · iexact H18
    ipureintro
    exact e18
  isplitl [H19]
  · iexists _; isplitr; swap; · iexact H19
    ipureintro
    exact e19
  isplitl [H20]
  · iexists _; isplitr; swap; · iexact H20
    ipureintro
    sl_unfold_run_names
    refine (View.read_writes_full _ _ _ _ _).trans ?_
    repeat (first | rw [View.readCov_full] | rw [View.readAt_full])
    try simp only [e2, e3, e4, e5, e6, e7, e8, e9, e10, e11, e12, e13, e14, e15, e16, e17, e18, e19, e20, e21, e22, e23]
    rfl
  isplitl [H21]
  · iexists _; isplitr; swap; · iexact H21
    ipureintro
    sl_unfold_run_names
    refine (View.read_writes_full _ _ _ _ _).trans ?_
    repeat (first | rw [View.readCov_full] | rw [View.readAt_full])
    try simp only [e2, e3, e4, e5, e6, e7, e8, e9, e10, e11, e12, e13, e14, e15, e16, e17, e18, e19, e20, e21, e22, e23]
    rfl
  isplitl [H22]
  · iexists _; isplitr; swap; · iexact H22
    ipureintro
    sl_unfold_run_names
    refine (View.read_writes_cons_put _ _ _ _ _ rfl).trans ?_
    rw [View.writes_nil]
    repeat (first | rw [View.readCov_full] | rw [View.readAt_full])
    simp only [e2, e3, e4, e5, e6, e7, e8, e9, e10, e11, e12, e13, e14, e15, e16, e17, e18, e19, e20, e21, e22, e23]
    rfl
  iexists _; isplitr; swap; · iexact H23
  ipureintro
  sl_unfold_run_names
  refine (View.read_writes_cons_put _ _ _ _ _ rfl).trans ?_
  rw [View.writes_nil]
  repeat (first | rw [View.readCov_full] | rw [View.readAt_full])
  simp only [e2, e3, e4, e5, e6, e7, e8, e9, e10, e11, e12, e13, e14, e15, e16, e17, e18, e19, e20, e21, e22, e23]
  rfl

end Cert.Proof.Mlp

end
-- ==== Proof.MlpPoint.lean ====
module

public import proofs.«01_k».proof.Proof.Gen.MlpIdeal.Frame
public import proofs.«01_k».proof.Proof.Gen.MlpIdeal.Skeleton
public import Idealize.ShloMosaic.Lib.Pipeline.Frame
public import Idealize.ShloMosaic.Lib.Tactic
public import Idealize.ShloMosaic.Lib.VecWindow
public import Idealize.ShloMosaic.Lib.Pipeline.ArrRel
public import proofs.«01_k».proof.Proof.MlpOne
public import proofs.«01_k».proof.Proof.MlpTwo
public import proofs.«01_k».proof.Proof.MlpThree

@[expose] public section

set_option maxRecDepth 16384

/-!
# The perceptron call: the run

The state after each grid point is a function of the arguments and of what the scratch arrays held at the start
(`stateAt`).  At a point of the last phase the tokens' block is left at the tokens that the state gives (`tokRel`); at
an earlier point nothing is said of it.  `run_main` is the whole run: afterwards each array is what these blocks make
of it.
-/

noncomputable section

namespace Cert.Proof.Mlp

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The weights on core `c`. -/
def par (c : Dev nD) : Par F where
  W1 := V m c main_arg1
  b1 := V m c main_v0
  g1 := V m c main_v1
  e1 := V m c main_v2
  W2 := V m c main_arg5
  b2 := V m c main_v3
  g2 := V m c main_v4
  e2 := V m c main_v5
  W3 := V m c main_arg9
  b3 := V m c main_v6
  g3 := V m c main_v7
  e3 := V m c main_v8

/-- The block of rows at a point. -/
def xblk (c : Dev nD) (t : Fin cfg0.N) : Vec F S3x2048 .f32 := iblk m c 0 t

/-- What a point makes of the state. -/
def stepAt (c : Dev nD) (t : Fin cfg0.N) (σ : St F) : St F :=
  if t.val = 0 then sumOne (par m c) (xblk m c t) (zeroed σ)
  else if t.val < 64 then sumOne (par m c) (xblk m c t) σ
  else if t.val < 128 then sumTwo (par m c) (xblk m c t) σ
  else if t.val < 192 then sumThree (par m c) (xblk m c t) (k0_off1 (grid0.coords t)) σ
  else σ

/-- The state before point `n`. -/
def stateAt (c : Dev nD) (σ₀ : St F) : Nat → St F
  | 0 => σ₀
  | n + 1 => if h : n < cfg0.N then stepAt m c ⟨n, h⟩ (stateAt c σ₀ n) else stateAt c σ₀ n

/-- What is said of the tokens' block after a point: at a point of the last phase, that it holds the tokens. -/
def tokRel (c : Dev nD) (t : Fin cfg0.N) (X : Vec F S64x384 .f32) : Prop :=
  ∀ h : k0_cond5 (grid0.coords t) = 1#1, ∃ σ₀ : St F,
    X = tok (par m c) (k0_off2 (grid0.coords t)) (k0_off2_inb (grid0.coords t) h) (stateAt m c σ₀ t.val)

/-- The phases, by the point's number. -/
theorem phases : ∀ t : Fin grid0.N,
    (t.val = 0 ∧ isFirst (grid0.coords t) = 1#1 ∧ isOne (grid0.coords t) = 1#1 ∧ ¬ isTwo (grid0.coords t) = 1#1
        ∧ ¬ k0_cond4 (grid0.coords t) = 1#1 ∧ ¬ k0_cond5 (grid0.coords t) = 1#1)
    ∨ (t.val ≠ 0 ∧ t.val < 64 ∧ ¬ isFirst (grid0.coords t) = 1#1 ∧ isOne (grid0.coords t) = 1#1 ∧ ¬ isTwo (grid0.coords t) = 1#1
        ∧ ¬ k0_cond4 (grid0.coords t) = 1#1 ∧ ¬ k0_cond5 (grid0.coords t) = 1#1)
    ∨ (¬ t.val < 64 ∧ t.val < 128 ∧ ¬ isFirst (grid0.coords t) = 1#1 ∧ ¬ isOne (grid0.coords t) = 1#1 ∧ isTwo (grid0.coords t) = 1#1
        ∧ ¬ k0_cond4 (grid0.coords t) = 1#1 ∧ ¬ k0_cond5 (grid0.coords t) = 1#1)
    ∨ (¬ t.val < 128 ∧ t.val < 192 ∧ ¬ isFirst (grid0.coords t) = 1#1 ∧ ¬ isOne (grid0.coords t) = 1#1 ∧ ¬ isTwo (grid0.coords t) = 1#1
        ∧ k0_cond4 (grid0.coords t) = 1#1 ∧ ¬ k0_cond5 (grid0.coords t) = 1#1)
    ∨ (¬ t.val < 192 ∧ ¬ isFirst (grid0.coords t) = 1#1 ∧ ¬ isOne (grid0.coords t) = 1#1 ∧ ¬ isTwo (grid0.coords t) = 1#1
        ∧ ¬ k0_cond4 (grid0.coords t) = 1#1 ∧ k0_cond5 (grid0.coords t) = 1#1) := by decide +kernel

/-- What a point is handed, at the arrays' places. -/
def heldAt (c : Dev nD) (t : Fin cfg0.N) (Y : Vec F S64x384 .f32) (σ : St F) : sProp 𝕄 :=
  held c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (win0_11.stage (cfg0.slots t 11)) (win0_12.stage (cfg0.slots t 12)) (win0_13.stage (cfg0.slots t 13)) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (xblk m c t) (par m c) Y σ

/-- The kernel at a point. -/
theorem run_point (c : Dev nD) (t : Fin cfg0.N) (Y : Vec F S64x384 .f32) (σ₀ : St F) (K : PUnit → sProp 𝕄) :
    iprop(heldAt m c t Y (stateAt m c σ₀ t.val)
      ∗ ((∃ X, ⌜tokRel m c t X⌝ ∗ heldAt m c t X (stateAt m c σ₀ (t.val + 1))) -∗ K ⟨⟩))
      ⊢ wp frame (wpE (defs₀ (F := F)) Variants.none c none) Set.univ (bodyAt0 t) K := by
  have e : stateAt m c σ₀ (t.val + 1) = stepAt m c t (stateAt m c σ₀ t.val) := by
    show (if h : t.val < cfg0.N then stepAt m c ⟨t.val, h⟩ (stateAt m c σ₀ t.val) else _) = _
    rw [dif_pos t.isLt]
  rw [e]; unfold heldAt bodyAt0 stepAt
  rcases phases t with ⟨ht, h1, h2, h3, h4, h5⟩ | ⟨h0, ht, h1, h2, h3, h4, h5⟩ | ⟨h0, ht, h1, h2, h3, h4, h5⟩
    | ⟨h0, ht, h1, h2, h3, h4, h5⟩ | ⟨ht, h1, h2, h3, h4, h5⟩
  · rw [if_pos ht]
    iintro ⟨H, Hk⟩
    iapply (run_first c (grid0.coords t) _ _ _ _ _ _ _ _ _ _ _ _ _ _ _ _ _ _ _ _ _ _ _ _ _ _ _ _ _ _ _ _ _ _ _ _ _ _ _ _ _ _ _ _ h1 h2 h3 h4 h5 (xblk m c t) (par m c) Y (stateAt m c σ₀ t.val) Set.univ K)
    isplitl [H]; · iexact H
    iintro H
    iapply Hk
    iexists Y
    isplitr
    · ipureintro; exact fun h => absurd h h5
    iexact H
  · rw [if_neg h0, if_pos ht]
    iintro ⟨H, Hk⟩
    iapply (run_one c (grid0.coords t) _ _ _ _ _ _ _ _ _ _ _ _ _ _ _ _ _ _ _ _ _ _ _ _ _ _ _ _ _ _ _ _ _ _ _ _ _ _ _ _ _ _ _ _ h1 h2 h3 h4 h5 (xblk m c t) (par m c) Y (stateAt m c σ₀ t.val) Set.univ K)
    isplitl [H]; · iexact H
    iintro H
    iapply Hk
    iexists Y
    isplitr
    · ipureintro; exact fun h => absurd h h5
    iexact H
  · rw [if_neg (by omega), if_neg h0, if_pos ht]
    iintro ⟨H, Hk⟩
    iapply (run_two c (grid0.coords t) _ _ _ _ _ _ _ _ _ _ _ _ _ _ _ _ _ _ _ _ _ _ _ _ _ _ _ _ _ _ _ _ _ _ _ _ _ _ _ _ _ _ _ _ h1 h2 h3 h4 h5 (xblk m c t) (par m c) Y (stateAt m c σ₀ t.val) Set.univ K)
    isplitl [H]; · iexact H
    iintro H
    iapply Hk
    iexists Y
    isplitr
    · ipureintro; exact fun h => absurd h h5
    iexact H
  · rw [if_neg (by omega), if_neg (by omega), if_neg h0, if_pos ht]
    iintro ⟨H, Hk⟩
    iapply (run_three c (grid0.coords t) _ _ _ _ _ _ _ _ _ _ _ _ _ _ _ _ _ _ _ _ _ _ _ _ _ _ _ _ _ _ _ _ _ _ _ _ _ _ _ _ _ _ _ _ h1 h2 h3 h4 h5 (xblk m c t) (par m c) Y (stateAt m c σ₀ t.val) Set.univ K)
    isplitl [H]; · iexact H
    iintro H
    iapply Hk
    iexists Y
    isplitr
    · ipureintro; exact fun h => absurd h h5
    iexact H
  · rw [if_neg (by omega), if_neg (by omega), if_neg (by omega), if_neg ht]
    iintro ⟨H, Hk⟩
    iapply (run_out c (grid0.coords t) _ _ _ _ _ _ _ _ _ _ _ _ _ _ _ _ _ _ _ _ _ _ _ _ _ _ _ _ _ _ _ _ _ _ _ _ _ _ _ _ _ _ _ _ h1 h2 h3 h4 h5 (xblk m c t) (par m c) Y (stateAt m c σ₀ t.val) Set.univ K)
    isplitl [H]; · iexact H
    iintro H
    iapply Hk
    iexists (tok (par m c) (k0_off2 (grid0.coords t)) (k0_off2_inb (grid0.coords t) h5) (stateAt m c σ₀ t.val))
    isplitr
    · ipureintro; exact fun h => ⟨σ₀, rfl⟩
    iexact H

end Cert.Proof.Mlp

end
-- ==== Proof.MlpRun.lean ====
module

public import proofs.«01_k».proof.Proof.Gen.MlpIdeal.Frame
public import proofs.«01_k».proof.Proof.Gen.MlpIdeal.Skeleton
public import Idealize.ShloMosaic.Lib.Pipeline.Frame
public import Idealize.ShloMosaic.Lib.Tactic
public import Idealize.ShloMosaic.Lib.Pipeline.ArrRel
public import proofs.«01_k».proof.Proof.MlpPoint

@[expose] public section

set_option maxRecDepth 16384

/-!
# The perceptron call: the run

The relational proof data of the call (`rdat`): each input's block is left as found, the tokens' block holds the
tokens after a point of the last phase, and between points the scratch arrays hold the state.
-/

noncomputable section

namespace Cert.Proof.Mlp

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Between points: the scratch arrays hold the state, for some start. -/
def stateHeld (c : Dev nD) (n : Nat) : sProp 𝕄 :=
  iprop(∃ σ₀ : St F, owns (c : Thread nD τ) (Memref.whole cc0_scratch0) fullShare (stateAt m c σ₀ n).s1
    ∗ owns (c : Thread nD τ) (Memref.whole cc0_scratch1) fullShare (stateAt m c σ₀ n).q1
    ∗ owns (c : Thread nD τ) (Memref.whole cc0_scratch2) fullShare (stateAt m c σ₀ n).s2
    ∗ owns (c : Thread nD τ) (Memref.whole cc0_scratch3) fullShare (stateAt m c σ₀ n).q2
    ∗ owns (c : Thread nD τ) (Memref.whole cc0_scratch4) fullShare (stateAt m c σ₀ n).s3
    ∗ owns (c : Thread nD τ) (Memref.whole cc0_scratch5) fullShare (stateAt m c σ₀ n).q3
    ∗ owns (c : Thread nD τ) (Memref.whole cc0_scratch6) fullShare (stateAt m c σ₀ n).gx
    ∗ owns (c : Thread nD τ) (Memref.whole cc0_scratch7) fullShare (stateAt m c σ₀ n).gm
    ∗ ∃ r, prngReg c r)

/-- What the call leaves in each window, by what it found there. -/
def left (c : Dev nD) : (w : Fin cfg0.W) → Fin cfg0.N → (Y X : (cfg0.win w).block.Idx → Elt F (cfg0.win w).elt) → Prop
  | 0 => fun _ Y X => X = Y
  | 1 => fun _ Y X => X = Y
  | 2 => fun _ Y X => X = Y
  | 3 => fun _ Y X => X = Y
  | 4 => fun _ Y X => X = Y
  | 5 => fun _ Y X => X = Y
  | 6 => fun _ Y X => X = Y
  | 7 => fun _ Y X => X = Y
  | 8 => fun _ Y X => X = Y
  | 9 => fun _ Y X => X = Y
  | 10 => fun _ Y X => X = Y
  | 11 => fun _ Y X => X = Y
  | 12 => fun _ Y X => X = Y
  | 13 => fun t _ X => tokRel m c t X

/-- The proof data. -/
def rdat (c : Dev nD) : RDat τ (Elt F) Unit ℕ (UR sig nD τ) ℕ cfg0 c where
  A w := V m c (Pipeline.arrRef spec0 w)
  after := left m c
  Φ t := stateHeld m c t.val
  q _ := fullShare
  owed _ := 0

/-- At the call's start the scratch arrays hold some state. -/
theorem start_held (c : Dev nD) :
    (Pipeline.ΦA (U := UR sig nD τ) (Val := Elt F) spec0 c : sProp 𝕄) ⊢ stateHeld m c 0 := by
  unfold Pipeline.ΦA stateHeld
  rw [scopedRest0_eq]
  simp only [owns_whole]
  iintro ⟨⟨⟨%f0, H0⟩, ⟨%f1, H1⟩, ⟨%f2, H2⟩, ⟨%f3, H3⟩, ⟨%f4, H4⟩, ⟨%f5, H5⟩, ⟨%f6, H6⟩, ⟨%f7, H7⟩⟩, Hg⟩
  iexists (⟨f0, f1, f2, f3, f4, f5, f6, f7⟩ : St F)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact Hg

/-- At its end they hold anything. -/
theorem end_held (c : Dev nD) (n : Nat) :
    stateHeld m c n ⊢ (Pipeline.ΦA (U := UR sig nD τ) (Val := Elt F) spec0 c : sProp 𝕄) := by
  unfold Pipeline.ΦA stateHeld
  rw [scopedRest0_eq]
  simp only [owns_whole]
  iintro ⟨%σ, H0, H1, H2, H3, H4, H5, H6, H7, Hg⟩
  isplitr [Hg]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    iexists _; iexact H7
  iexact Hg

theorem found0 (c : Dev nD) (t : Fin cfg0.N) (Y) (h : (rdat m c).Finds 0 t Y) : Y = (xblk m c t) := by
  obtain ⟨d, e⟩ := (rdat m c).finds_in_eq_fetched 0 rfl (fun _ _ _ => rfl) (fun _ _ _ h => h) t Y h
  rw [e]
  show iblk m c 0 t = (xblk m c t)
  rfl

theorem found1 (c : Dev nD) (t : Fin cfg0.N) (Y) (h : (rdat m c).Finds 1 t Y) : Y = (par m c).W1 := by
  obtain ⟨d, e⟩ := (rdat m c).finds_in_eq_fetched 1 rfl (fun _ _ _ => rfl) (fun _ _ _ h => h) t Y h
  rw [e]
  show iblk m c 1 t = (par m c).W1
  funext i
  show iblk m c 1 t i = V m c main_arg1 i
  have e : (win0_1.blk t).view.emb i = i := by
    funext a
    refine Fin.ext ?_
    have z : win0_1.index t a = 0 := by fin_cases a <;> rfl
    blk_simp
    rw [z, Nat.zero_mul, Nat.zero_add]
  unfold iblk
  blk_simp
  exact congrArg (V m c main_arg1) e

theorem found2 (c : Dev nD) (t : Fin cfg0.N) (Y) (h : (rdat m c).Finds 2 t Y) : Y = (par m c).b1 := by
  obtain ⟨d, e⟩ := (rdat m c).finds_in_eq_fetched 2 rfl (fun _ _ _ => rfl) (fun _ _ _ h => h) t Y h
  rw [e]
  show iblk m c 2 t = (par m c).b1
  funext i
  show iblk m c 2 t i = V m c main_v0 i
  have e : (win0_2.blk t).view.emb i = i := by
    funext a
    refine Fin.ext ?_
    have z : win0_2.index t a = 0 := by fin_cases a <;> rfl
    blk_simp
    rw [z, Nat.zero_mul, Nat.zero_add]
  unfold iblk
  blk_simp
  exact congrArg (V m c main_v0) e

theorem found3 (c : Dev nD) (t : Fin cfg0.N) (Y) (h : (rdat m c).Finds 3 t Y) : Y = (par m c).g1 := by
  obtain ⟨d, e⟩ := (rdat m c).finds_in_eq_fetched 3 rfl (fun _ _ _ => rfl) (fun _ _ _ h => h) t Y h
  rw [e]
  show iblk m c 3 t = (par m c).g1
  funext i
  show iblk m c 3 t i = V m c main_v1 i
  have e : (win0_3.blk t).view.emb i = i := by
    funext a
    refine Fin.ext ?_
    have z : win0_3.index t a = 0 := by fin_cases a <;> rfl
    blk_simp
    rw [z, Nat.zero_mul, Nat.zero_add]
  unfold iblk
  blk_simp
  exact congrArg (V m c main_v1) e

theorem found4 (c : Dev nD) (t : Fin cfg0.N) (Y) (h : (rdat m c).Finds 4 t Y) : Y = (par m c).e1 := by
  obtain ⟨d, e⟩ := (rdat m c).finds_in_eq_fetched 4 rfl (fun _ _ _ => rfl) (fun _ _ _ h => h) t Y h
  rw [e]
  show iblk m c 4 t = (par m c).e1
  funext i
  show iblk m c 4 t i = V m c main_v2 i
  have e : (win0_4.blk t).view.emb i = i := by
    funext a
    refine Fin.ext ?_
    have z : win0_4.index t a = 0 := by fin_cases a <;> rfl
    blk_simp
    rw [z, Nat.zero_mul, Nat.zero_add]
  unfold iblk
  blk_simp
  exact congrArg (V m c main_v2) e

theorem found5 (c : Dev nD) (t : Fin cfg0.N) (Y) (h : (rdat m c).Finds 5 t Y) : Y = (par m c).W2 := by
  obtain ⟨d, e⟩ := (rdat m c).finds_in_eq_fetched 5 rfl (fun _ _ _ => rfl) (fun _ _ _ h => h) t Y h
  rw [e]
  show iblk m c 5 t = (par m c).W2
  funext i
  show iblk m c 5 t i = V m c main_arg5 i
  have e : (win0_5.blk t).view.emb i = i := by
    funext a
    refine Fin.ext ?_
    have z : win0_5.index t a = 0 := by fin_cases a <;> rfl
    blk_simp
    rw [z, Nat.zero_mul, Nat.zero_add]
  unfold iblk
  blk_simp
  exact congrArg (V m c main_arg5) e

theorem found6 (c : Dev nD) (t : Fin cfg0.N) (Y) (h : (rdat m c).Finds 6 t Y) : Y = (par m c).b2 := by
  obtain ⟨d, e⟩ := (rdat m c).finds_in_eq_fetched 6 rfl (fun _ _ _ => rfl) (fun _ _ _ h => h) t Y h
  rw [e]
  show iblk m c 6 t = (par m c).b2
  funext i
  show iblk m c 6 t i = V m c main_v3 i
  have e : (win0_6.blk t).view.emb i = i := by
    funext a
    refine Fin.ext ?_
    have z : win0_6.index t a = 0 := by fin_cases a <;> rfl
    blk_simp
    rw [z, Nat.zero_mul, Nat.zero_add]
  unfold iblk
  blk_simp
  exact congrArg (V m c main_v3) e

theorem found7 (c : Dev nD) (t : Fin cfg0.N) (Y) (h : (rdat m c).Finds 7 t Y) : Y = (par m c).g2 := by
  obtain ⟨d, e⟩ := (rdat m c).finds_in_eq_fetched 7 rfl (fun _ _ _ => rfl) (fun _ _ _ h => h) t Y h
  rw [e]
  show iblk m c 7 t = (par m c).g2
  funext i
  show iblk m c 7 t i = V m c main_v4 i
  have e : (win0_7.blk t).view.emb i = i := by
    funext a
    refine Fin.ext ?_
    have z : win0_7.index t a = 0 := by fin_cases a <;> rfl
    blk_simp
    rw [z, Nat.zero_mul, Nat.zero_add]
  unfold iblk
  blk_simp
  exact congrArg (V m c main_v4) e

theorem found8 (c : Dev nD) (t : Fin cfg0.N) (Y) (h : (rdat m c).Finds 8 t Y) : Y = (par m c).e2 := by
  obtain ⟨d, e⟩ := (rdat m c).finds_in_eq_fetched 8 rfl (fun _ _ _ => rfl) (fun _ _ _ h => h) t Y h
  rw [e]
  show iblk m c 8 t = (par m c).e2
  funext i
  show iblk m c 8 t i = V m c main_v5 i
  have e : (win0_8.blk t).view.emb i = i := by
    funext a
    refine Fin.ext ?_
    have z : win0_8.index t a = 0 := by fin_cases a <;> rfl
    blk_simp
    rw [z, Nat.zero_mul, Nat.zero_add]
  unfold iblk
  blk_simp
  exact congrArg (V m c main_v5) e

theorem found9 (c : Dev nD) (t : Fin cfg0.N) (Y) (h : (rdat m c).Finds 9 t Y) : Y = (par m c).W3 := by
  obtain ⟨d, e⟩ := (rdat m c).finds_in_eq_fetched 9 rfl (fun _ _ _ => rfl) (fun _ _ _ h => h) t Y h
  rw [e]
  show iblk m c 9 t = (par m c).W3
  funext i
  show iblk m c 9 t i = V m c main_arg9 i
  have e : (win0_9.blk t).view.emb i = i := by
    funext a
    refine Fin.ext ?_
    have z : win0_9.index t a = 0 := by fin_cases a <;> rfl
    blk_simp
    rw [z, Nat.zero_mul, Nat.zero_add]
  unfold iblk
  blk_simp
  exact congrArg (V m c main_arg9) e

theorem found10 (c : Dev nD) (t : Fin cfg0.N) (Y) (h : (rdat m c).Finds 10 t Y) : Y = (par m c).b3 := by
  obtain ⟨d, e⟩ := (rdat m c).finds_in_eq_fetched 10 rfl (fun _ _ _ => rfl) (fun _ _ _ h => h) t Y h
  rw [e]
  show iblk m c 10 t = (par m c).b3
  funext i
  show iblk m c 10 t i = V m c main_v6 i
  have e : (win0_10.blk t).view.emb i = i := by
    funext a
    refine Fin.ext ?_
    have z : win0_10.index t a = 0 := by fin_cases a <;> rfl
    blk_simp
    rw [z, Nat.zero_mul, Nat.zero_add]
  unfold iblk
  blk_simp
  exact congrArg (V m c main_v6) e

theorem found11 (c : Dev nD) (t : Fin cfg0.N) (Y) (h : (rdat m c).Finds 11 t Y) : Y = (par m c).g3 := by
  obtain ⟨d, e⟩ := (rdat m c).finds_in_eq_fetched 11 rfl (fun _ _ _ => rfl) (fun _ _ _ h => h) t Y h
  rw [e]
  show iblk m c 11 t = (par m c).g3
  funext i
  show iblk m c 11 t i = V m c main_v7 i
  have e : (win0_11.blk t).view.emb i = i := by
    funext a
    refine Fin.ext ?_
    have z : win0_11.index t a = 0 := by fin_cases a <;> rfl
    blk_simp
    rw [z, Nat.zero_mul, Nat.zero_add]
  unfold iblk
  blk_simp
  exact congrArg (V m c main_v7) e

theorem found12 (c : Dev nD) (t : Fin cfg0.N) (Y) (h : (rdat m c).Finds 12 t Y) : Y = (par m c).e3 := by
  obtain ⟨d, e⟩ := (rdat m c).finds_in_eq_fetched 12 rfl (fun _ _ _ => rfl) (fun _ _ _ h => h) t Y h
  rw [e]
  show iblk m c 12 t = (par m c).e3
  funext i
  show iblk m c 12 t i = V m c main_v8 i
  have e : (win0_12.blk t).view.emb i = i := by
    funext a
    refine Fin.ext ?_
    have z : win0_12.index t a = 0 := by fin_cases a <;> rfl
    blk_simp
    rw [z, Nat.zero_mul, Nat.zero_add]
  unfold iblk
  blk_simp
  exact congrArg (V m c main_v8) e

/-- The body of the call at a point. -/
theorem sound_body (c : Dev nD) (t : Fin cfg0.N) (Y : (w : Fin cfg0.W) → (cfg0.win w).block.Idx → Elt F (cfg0.win w).elt)
    (hY : ∀ w, (rdat m c).Finds w t (Y w)) :
    iprop((rdat m c).Φ t.castSucc ∗ (rdat m c).owesAt () t.castSucc
        ∗ owns (c : Thread nD τ) ((cfg0.win 0).stage (cfg0.slots t 0)) fullShare (Y 0) ∗ owns (c : Thread nD τ) ((cfg0.win 1).stage (cfg0.slots t 1)) fullShare (Y 1) ∗ owns (c : Thread nD τ) ((cfg0.win 2).stage (cfg0.slots t 2)) fullShare (Y 2) ∗ owns (c : Thread nD τ) ((cfg0.win 3).stage (cfg0.slots t 3)) fullShare (Y 3) ∗ owns (c : Thread nD τ) ((cfg0.win 4).stage (cfg0.slots t 4)) fullShare (Y 4) ∗ owns (c : Thread nD τ) ((cfg0.win 5).stage (cfg0.slots t 5)) fullShare (Y 5) ∗ owns (c : Thread nD τ) ((cfg0.win 6).stage (cfg0.slots t 6)) fullShare (Y 6) ∗ owns (c : Thread nD τ) ((cfg0.win 7).stage (cfg0.slots t 7)) fullShare (Y 7) ∗ owns (c : Thread nD τ) ((cfg0.win 8).stage (cfg0.slots t 8)) fullShare (Y 8) ∗ owns (c : Thread nD τ) ((cfg0.win 9).stage (cfg0.slots t 9)) fullShare (Y 9) ∗ owns (c : Thread nD τ) ((cfg0.win 10).stage (cfg0.slots t 10)) fullShare (Y 10) ∗ owns (c : Thread nD τ) ((cfg0.win 11).stage (cfg0.slots t 11)) fullShare (Y 11) ∗ owns (c : Thread nD τ) ((cfg0.win 12).stage (cfg0.slots t 12)) fullShare (Y 12) ∗ owns (c : Thread nD τ) ((cfg0.win 13).stage (cfg0.slots t 13)) fullShare (Y 13))
      ⊢ wp frame (wpE (defs₀ (F := F)) Variants.none c none) Set.univ (bodyAt0 t) (fun _ =>
        iprop((rdat m c).Φ t.succ ∗ (rdat m c).owesAt () t.succ
          ∗ (∃ X, ⌜left m c 0 t (Y 0) X⌝ ∗ owns (c : Thread nD τ) ((cfg0.win 0).stage (cfg0.slots t 0)) fullShare X) ∗ (∃ X, ⌜left m c 1 t (Y 1) X⌝ ∗ owns (c : Thread nD τ) ((cfg0.win 1).stage (cfg0.slots t 1)) fullShare X) ∗ (∃ X, ⌜left m c 2 t (Y 2) X⌝ ∗ owns (c : Thread nD τ) ((cfg0.win 2).stage (cfg0.slots t 2)) fullShare X) ∗ (∃ X, ⌜left m c 3 t (Y 3) X⌝ ∗ owns (c : Thread nD τ) ((cfg0.win 3).stage (cfg0.slots t 3)) fullShare X) ∗ (∃ X, ⌜left m c 4 t (Y 4) X⌝ ∗ owns (c : Thread nD τ) ((cfg0.win 4).stage (cfg0.slots t 4)) fullShare X) ∗ (∃ X, ⌜left m c 5 t (Y 5) X⌝ ∗ owns (c : Thread nD τ) ((cfg0.win 5).stage (cfg0.slots t 5)) fullShare X) ∗ (∃ X, ⌜left m c 6 t (Y 6) X⌝ ∗ owns (c : Thread nD τ) ((cfg0.win 6).stage (cfg0.slots t 6)) fullShare X) ∗ (∃ X, ⌜left m c 7 t (Y 7) X⌝ ∗ owns (c : Thread nD τ) ((cfg0.win 7).stage (cfg0.slots t 7)) fullShare X) ∗ (∃ X, ⌜left m c 8 t (Y 8) X⌝ ∗ owns (c : Thread nD τ) ((cfg0.win 8).stage (cfg0.slots t 8)) fullShare X) ∗ (∃ X, ⌜left m c 9 t (Y 9) X⌝ ∗ owns (c : Thread nD τ) ((cfg0.win 9).stage (cfg0.slots t 9)) fullShare X) ∗ (∃ X, ⌜left m c 10 t (Y 10) X⌝ ∗ owns (c : Thread nD τ) ((cfg0.win 10).stage (cfg0.slots t 10)) fullShare X) ∗ (∃ X, ⌜left m c 11 t (Y 11) X⌝ ∗ owns (c : Thread nD τ) ((cfg0.win 11).stage (cfg0.slots t 11)) fullShare X) ∗ (∃ X, ⌜left m c 12 t (Y 12) X⌝ ∗ owns (c : Thread nD τ) ((cfg0.win 12).stage (cfg0.slots t 12)) fullShare X) ∗ (∃ X, ⌜left m c 13 t (Y 13) X⌝ ∗ owns (c : Thread nD τ) ((cfg0.win 13).stage (cfg0.slots t 13)) fullShare X))) := by
  have y0 := found0 m c t (Y 0) (hY 0)
  have y1 := found1 m c t (Y 1) (hY 1)
  have y2 := found2 m c t (Y 2) (hY 2)
  have y3 := found3 m c t (Y 3) (hY 3)
  have y4 := found4 m c t (Y 4) (hY 4)
  have y5 := found5 m c t (Y 5) (hY 5)
  have y6 := found6 m c t (Y 6) (hY 6)
  have y7 := found7 m c t (Y 7) (hY 7)
  have y8 := found8 m c t (Y 8) (hY 8)
  have y9 := found9 m c t (Y 9) (hY 9)
  have y10 := found10 m c t (Y 10) (hY 10)
  have y11 := found11 m c t (Y 11) (hY 11)
  have y12 := found12 m c t (Y 12) (hY 12)
  rw [show (rdat m c).Φ t.castSucc = stateHeld m c t.val from rfl, show (rdat m c).Φ t.succ = stateHeld m c (t.val + 1) from rfl,
    show (rdat m c).owesAt () t.succ = (rdat m c).owesAt () t.castSucc from rfl]
  rw [y0, y1, y2, y3, y4, y5, y6, y7, y8, y9, y10, y11, y12]
  unfold stateHeld
  iintro ⟨⟨%σ₀, S0, S1, S2, S3, S4, S5, S6, S7, Hg⟩, HO, H0, H1, H2, H3, H4, H5, H6, H7, H8, H9, H10, H11, H12, H13⟩
  iapply (run_point m c t (Y 13) σ₀ _)
  isplitr [Hg HO]
  · unfold heldAt held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  unfold heldAt held
  iintro ⟨%X, %hX, H0, H1, H2, H3, H4, H5, H6, H7, H8, H9, H10, H11, H12, H13, S0, S1, S2, S3, S4, S5, S6, S7⟩
  isplitl [Hg S0 S1 S2 S3 S4 S5 S6 S7]
  · iexists σ₀
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact Hg
  isplitl [HO]; · iexact HO
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  iexists X; isplitr; swap; · iexact H13
  ipureintro; exact hX

/-- The body table's row at a point. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    (rdat m c).BodyObligation (defs₀ (F := F)) Variants.none () Set.univ := fun t Y hY => by
  rw [bigSep_W0, bigSep_W0, defs₀_row]
  exact triple_restated (sound_body m c t Y hY) rfl .rfl fun _ => .rfl

set_option backward.isDefEq.respectTransparency.types false in
/-- The call runs to its end, and every array then holds what the points' blocks make of it; every counter is at zero. -/
theorem run_main :
    θ_run defs (onTc (τ := τ) (main (F := F))) (s₀ m ρ)
      (fun r => Pipeline.RDat.FramePost (cfgs 0) (rdat m) (V m) r ∧ r.2.sem = fun _ => 0) :=
  Pipeline.RDat.θ_run_frame_track (Q' := _) cfgs (0 : Fin 1) launch0 defs₀ Variants.none (rdat m) m ρ main
    (hbody := body_obligation m) (hshare := fun c => (rdat m c).share_full fun _ => rfl)
    (howed := fun _ _ => rfl) (V := V m) (hmain := hmain m Variants.none) (hA := fun _ _ => rfl)
    (hin := fun c => start_held m c) (hout := fun c => end_held m c _)

end Cert.Proof.Mlp

end
-- ==== Proof.MlpResult.lean ====
module

public import proofs.«01_k».proof.Proof.MlpRun
public import Idealize.ShloMosaic.Lib.Pipeline.ValueKit

@[expose] public section

set_option maxRecDepth 16384

/-!
# The perceptron call: what the run leaves

The arguments are as they were (`args_kept`).  The tokens' array is written at every point, block by block; a point of
the last phase writes last, so that the array ends as these points leave it (`result_of`).
-/

noncomputable section

namespace Cert.Proof.Mlp

open Cert.MlpIdeal Cert.MlpIdeal.Gen
open Idealize.ShloMosaic Idealize.ShloMosaic.TcCoe Idealize.ShloMosaic.Tactic
open Idealize.SL Idealize.SL.Sem
open Idealize.ShloMosaic.Pipeline (RDat Dat)

variable {F : FTy → Type} [FloatOps F]

variable (m : (ℓ : Loc nD τ sig) → Buf (Elt F) ℓ) (ρ : Dev nD → PrngReg)

/-- An input's array is never written. -/
theorem input (c : Dev nD) (w : Fin cfg0.W) (hw : (cfg0.win w).isOut = false) {r : PUnit × MemSt nD τ sig (Elt F)}
    (h : (rdat m c).ArrAt w cfg0.N (r.2.mem ((spec0 w).arr.view.loc (c.tc : Thread nD τ)))) :
    r.2.mem ((spec0 w).arr.view.loc (c.tc : Thread nD τ)) = V m c (Pipeline.arrRef spec0 w) := by
  rw [(rdat m c).ArrAt_in w hw] at h
  exact h

theorem args_kept {r : PUnit × MemSt nD τ sig (Elt F)} (h : RDat.FramePost (cfgs 0) (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  ⟨(input m c 0 rfl ((h c).1 0)).trans (V_main_arg0 m c),
    (input m c 1 rfl ((h c).1 1)).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    (input m c 5 rfl ((h c).1 5)).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    (input m c 9 rfl ((h c).1 9)).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c)⟩

/-- The run leaves the arguments as they were, and every counter at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
    ∧ r.2.sem = fun _ => 0) :=
  (θ_run defs _ _).mono (fun _ h => ⟨fun c => args_kept m h.1 c, h.2⟩) (run_main m ρ)

/-- A cell that a point from `k` on covers holds what those points agree on. -/
theorem late_cell {c : Dev nD} (d : Dat τ (Elt F) Unit ℕ (UR sig nD τ) ℕ cfg0 c) (w : Fin cfg0.W) (k : ℕ)
    (G : Buf (Elt F) ((cfg0.win w).arr.view.loc (c.tc : Thread nD τ)))
    (hG : ∀ t : Fin cfg0.N, k ≤ t.val → d.flushed w t = ((cfg0.win w).blk t).view.read (Elt F) G)
    (hf : ∀ t : Fin cfg0.N, (cfg0.win w).flush t = true)
    (i : ((cfg0.win w).arr.view.loc (c.tc : Thread nD τ)).2.ty.Idx) (t : Fin cfg0.N) (hk : k ≤ t.val) (hi : i ∈ ((cfg0.win w).blk t).view.set) :
    ∀ n, t.val < n → n ≤ cfg0.N → d.arrAt w n i = G i := by
  intro n
  induction n with
  | zero => exact fun h => absurd h (Nat.not_lt_zero _)
  | succ n ih =>
    intro ht hn
    have hn' : n < cfg0.N := hn
    rw [d.arrAt_succ_apply, dif_pos hn', if_pos (hf _), hG ⟨n, hn'⟩ (show k ≤ n by omega), View.write_read_eq_piecewise,
      View.setOn_univ]
    by_cases e : i ∈ ((cfg0.win w).blk ⟨n, hn'⟩).view.set
    · exact Finset.piecewise_eq_of_mem _ _ _ e
    · rw [Finset.piecewise_eq_of_notMem _ _ _ e]
      refine ih (lt_of_le_of_ne (Nat.lt_succ_iff.1 ht) fun e' => e ?_) hn'.le
      have : t = ⟨n, hn'⟩ := Fin.ext e'
      exact this ▸ hi

theorem late_phase (t : Fin grid0.N) (h : 192 ≤ t.val) : k0_cond5 (grid0.coords t) = 1#1 := by
  rcases phases t with ⟨ht, -⟩ | ⟨-, ht, -⟩ | ⟨-, ht, -⟩ | ⟨-, ht, -⟩ | ⟨-, -, -, -, -, h5⟩
  · omega
  · omega
  · omega
  · omega
  · exact h5

/-- Block of the tokens at a late point. -/
theorem index_out : ∀ t : Fin grid0.N, win0_13.index t (0 : Fin 2) = t.val % 64 ∧ win0_13.index t (1 : Fin 2) = 0 := by
  decide +kernel

/-- The tokens' array ends as the points of the last phase have it. -/
theorem result_of (G : Dev nD → Vec F S4096x384 .f32)
    (hG : ∀ (c : Dev nD) (σ₀ : St F) (t : Fin grid0.N) (h : k0_cond5 (grid0.coords t) = 1#1) (y : S64x384.Idx)
      (k : S4096x384.Idx), (k 0).val = t.val % 64 * 64 + (y 0).val → (k 1).val = (y 1).val → 192 ≤ t.val →
      tok (par m c) (k0_off2 (grid0.coords t)) (k0_off2_inb (grid0.coords t) h) (stateAt m c σ₀ t.val) y = G c k)
    {r : PUnit × MemSt nD τ sig (Elt F)} (h : RDat.FramePost (cfgs 0) (rdat m) (V m) r) (c : Dev nD) :
    r.2.mem ((c.tc : Thread nD τ).loc main_v9) = G c := by
  obtain ⟨after, hl, ha⟩ := RDat.FramePost.exists_exact h c
  refine (ha 13).trans (funext fun i => ?_)
  have hq : (i (0 : Fin 2)).val < 4096 := (i (0 : Fin 2)).isLt
  have ht : 192 + (i (0 : Fin 2)).val / 64 < cfg0.N := by show _ < 256; omega
  refine late_cell ((rdat m c).withAfter after) 13 192 (G c) ?_ flush0_13 i ⟨_, ht⟩ (Nat.le_add_right _ _) ?_ cfg0.N ht le_rfl
  · intro t hk
    obtain ⟨Y, -, hY⟩ := hl 13 t (flush0_13 t)
    have hY' : tokRel m c t (after 13 t) := hY
    obtain ⟨σ₀, e⟩ := hY' (late_phase t hk)
    funext y
    show after 13 t y = G c (((cfg0.win 13).blk t).view.emb y)
    rw [e]
    refine hG c σ₀ t (late_phase t hk) y _ ?_ ?_ hk
    · blk_simp; rw [(index_out t).1]
    · blk_simp; rw [(index_out t).2]; simp
  · generalize hu : (⟨_, ht⟩ : Fin cfg0.N) = u
    have hu' : u.val = 192 + (i (0 : Fin 2)).val / 64 := by rw [← hu]
    have e : i = ((cfg0.win 13).blk u).view.emb
        (ix2 ⟨(i (0 : Fin 2)).val % 64, Nat.mod_lt _ (by decide)⟩ (i (1 : Fin 2)) : S64x384.Idx) := by
      blk_ext
      · rw [(index_out _).1]
        show (i (0 : Fin 2)).val = u.val % 64 * 64 + (i (0 : Fin 2)).val % 64
        omega
      · rw [(index_out _).2]; simp [ix2]
    have k := View.emb_mem_set ((cfg0.win 13).blk u).view
      (ix2 ⟨(i (0 : Fin 2)).val % 64, Nat.mod_lt _ (by decide)⟩ (i (1 : Fin 2)) : S64x384.Idx)
    rw [← e] at k
    exact k

end Cert.Proof.Mlp

end
-- ==== Proof.MlpTwin.lean ====
module

public import proofs.«01_k».proof.Defs
public import proofs.«01_k».proof.Proof.Gen.Mlp
public import proofs.«01_k».proof.Proof.Gen.MlpIdeal
public import proofs.«01_k».proof.Proof.Gen.MlpIdeal.Skeleton

@[expose] public section

set_option maxRecDepth 16384

/-!
# The perceptron call's two programs

As for the farthest point call: one text, read over the float words and over the extended reals.
-/

noncomputable section

namespace Cert.Proof.Mlp

open Idealize.ShloMosaic

/-- The two programs' kernel is one table. -/
theorem table_eq : Cert.Mlp.defs₀ (F := Bits) = Cert.MlpIdeal.defs₀ (F := Bits) := by
  unfold Cert.Mlp.defs₀ Cert.MlpIdeal.defs₀
  refine congrArg Defs.onTc ?_
  funext l x
  match l, x with
  | 0, (t, s) => dsimp only; rfl
  | ⟨n + 1, h⟩, _ => exact absurd h (Nat.not_lt.2 (Nat.le_add_left _ _))

theorem defs_eq : Cert.Mlp.defs (F := Bits) = Cert.MlpIdeal.defs (F := Bits) := congrArg (Pipeline.defs _) table_eq

end Cert.Proof.Mlp

end
-- ==== Proof.MlpPay.lean ====
module

public import proofs.«01_k».proof.Proof.MlpState
public import Idealize.ShloMosaic.Lib.Pointwise

@[expose] public section

set_option maxRecDepth 16384

/-!
# The perceptron call: the kernel's values, element by element

Over the extended reals: what a layer, a sum and a token are at a row and a channel.
-/

noncomputable section

namespace Cert.Proof.Mlp

open Cert.MlpIdeal Cert.MlpIdeal.Gen
open Idealize.ShloMosaic

/-- The number of rows and the number added to a variance, as extended reals. -/
def rowsE : EReal := Ideal.ofBits .f32 0x48000000#32
def epsE : EReal := Ideal.ofBits .f32 0x3727C5AC#32

/-- The words of the two infinities. -/
theorem bot_word : Ideal.ofBits .f32 0xFF800000#32 = ⊥ := by simp [Ideal.ofBits, Ideal.ieee]
theorem top_word : Ideal.ofBits .f32 0x7F800000#32 = ⊤ := by simp [Ideal.ofBits, Ideal.ieee]

/-- A normalized number, by the sums of its channel and of their squares. -/
def normE (y s q g b : EReal) : EReal :=
  g * (y - Ideal.div s rowsE) * Ideal.rsqrt (Ideal.div q rowsE - Ideal.div s rowsE * Ideal.div s rowsE + epsE) + b

variable (x : FVec Ideal S3x2048 .f32) (W1 : FVec Ideal S64x3 .f32) (b1 s1 q1 g1 e1 : FVec Ideal S1x64 .f32)
  (W2 : FVec Ideal S128x64 .f32) (b2 s2 q2 g2 e2 : FVec Ideal S1x128 .f32)
  (W3 : FVec Ideal S384x128 .f32) (b3 s3 q3 g3 e3 : FVec Ideal S1x384 .f32)
  (y2 : FVec Ideal S2048x128 .f32) (y3 : FVec Ideal S2048x384 .f32)

theorem pay7_apply (r : Fin 2048) (o : Fin 64) :
    k0_pay7 x W1 b1 (ix2 r o) = (∑ k : Fin 3, x (ix2 k r) * W1 (ix2 o k)) + b1 (ix2 0 o) := by
  pointwise [k0_pay7]

theorem pay8_apply (o : Fin 64) :
    k0_pay8 x W1 b1 s1 (ix2 0 o) = s1 (ix2 0 o) + ∑ r : Fin 2048, k0_pay7 x W1 b1 (ix2 r o) := by
  pointwise [k0_pay8]

theorem pay9_apply (o : Fin 64) :
    k0_pay9 x W1 b1 q1 (ix2 0 o)
      = q1 (ix2 0 o) + ∑ r : Fin 2048, k0_pay7 x W1 b1 (ix2 r o) * k0_pay7 x W1 b1 (ix2 r o) := by
  pointwise [k0_pay9]

theorem pay10_apply (o : Fin 128) :
    k0_pay10 y2 s2 (ix2 0 o) = s2 (ix2 0 o) + ∑ r : Fin 2048, y2 (ix2 r o) := by
  pointwise [k0_pay10]

theorem pay11_apply (o : Fin 128) :
    k0_pay11 y2 q2 (ix2 0 o) = q2 (ix2 0 o) + ∑ r : Fin 2048, y2 (ix2 r o) * y2 (ix2 r o) := by
  pointwise [k0_pay11]

theorem pay12_apply (o : Fin 384) :
    k0_pay12 y3 q3 (ix2 0 o) = q3 (ix2 0 o) + ∑ r : Fin 2048, y3 (ix2 r o) * y3 (ix2 r o) := by
  pointwise [k0_pay12]

theorem pay18_apply (r : Fin 2048) (o : Fin 128) :
    k0_pay18 (F := Ideal) rows eps x W1 b1 s1 q1 g1 e1 W2 b2 (ix2 r o)
      = (∑ k : Fin 64, max (normE (k0_pay7 (F := Ideal) x W1 b1 (ix2 r k)) (s1 (ix2 0 k)) (q1 (ix2 0 k)) (g1 (ix2 0 k)) (e1 (ix2 0 k))) 0
          * W2 (ix2 o k)) + b2 (ix2 0 o) := by
  simp only [normE, pay7_apply, rowsE, epsE]
  pointwise [k0_pay18, rows, eps]

theorem pay19_apply (r : Fin 2048) (o : Fin 384) :
    k0_pay19 (F := Ideal) rows eps y2 s2 q2 g2 e2 W3 b3 (ix2 r o)
      = (∑ k : Fin 128, max (normE (y2 (ix2 r k)) (s2 (ix2 0 k)) (q2 (ix2 0 k)) (g2 (ix2 0 k)) (e2 (ix2 0 k))) 0
          * W3 (ix2 o k)) + b3 (ix2 0 o) := by
  simp only [normE, rowsE, epsE]
  pointwise [k0_pay19, rows, eps]

theorem pay20_apply (o : Fin 384) :
    k0_pay20 (F := Ideal) rows eps y2 s2 q2 g2 e2 W3 b3 s3 (ix2 0 o)
      = s3 (ix2 0 o) + ∑ r : Fin 2048, k0_pay19 (F := Ideal) rows eps y2 s2 q2 g2 e2 W3 b3 (ix2 r o) := by
  pointwise [k0_pay20]

theorem pay14_apply (b : Fin 64) (o : Fin 384) :
    k0_pay14 y3 (ix2 b o) = Finset.univ.fold max ⊥ fun n : Fin 32 => y3 (ix2 ⟨32 * b.val + n.val, by omega⟩ o) := by
  pointwise [k0_pay14, k0_pay13]
  rw [bot_word]
  simp only [Nat.mul_comm]

theorem pay15_apply (b : Fin 64) (o : Fin 384) :
    k0_pay15 y3 (ix2 b o) = Finset.univ.fold min ⊤ fun n : Fin 32 => y3 (ix2 ⟨32 * b.val + n.val, by omega⟩ o) := by
  pointwise [k0_pay15, k0_pay13]
  rw [top_word]
  simp only [Nat.mul_comm]

theorem pay16_apply (gx gm : FVec Ideal S64x384 .f32) (b : Fin 64) (o : Fin 384) :
    k0_pay16 (F := Ideal) s3 q3 gx gm g3 e3 (ix2 b o)
      = if 0 < g3 (ix2 0 o) then normE (gx (ix2 b o)) (s3 (ix2 0 o)) (q3 (ix2 0 o)) (g3 (ix2 0 o)) (e3 (ix2 0 o))
        else normE (gm (ix2 b o)) (s3 (ix2 0 o)) (q3 (ix2 0 o)) (g3 (ix2 0 o)) (e3 (ix2 0 o)) := by
  simp only [normE, rowsE, epsE]
  pointwise [k0_pay16]
  split <;> rfl

theorem pay1_apply (o : Fin 64) : k0_pay1 (F := Ideal) (ix2 0 o) = 0 := by pointwise [k0_pay1]
theorem pay2_apply (o : Fin 64) : k0_pay2 (F := Ideal) (ix2 0 o) = 0 := by pointwise [k0_pay2]
theorem pay3_apply (o : Fin 128) : k0_pay3 (F := Ideal) (ix2 0 o) = 0 := by pointwise [k0_pay3]
theorem pay4_apply (o : Fin 128) : k0_pay4 (F := Ideal) (ix2 0 o) = 0 := by pointwise [k0_pay4]
theorem pay5_apply (o : Fin 384) : k0_pay5 (F := Ideal) (ix2 0 o) = 0 := by pointwise [k0_pay5]
theorem pay6_apply (o : Fin 384) : k0_pay6 (F := Ideal) (ix2 0 o) = 0 := by pointwise [k0_pay6]

end Cert.Proof.Mlp

end
-- ==== Proof.MlpReal.lean ====
module

public import proofs.«01_k».proof.Proof.MlpPay

@[expose] public section

set_option maxRecDepth 16384

/-!
# The perceptron call: the tokens as real numbers

Three layers, each a matrix product with a bias, normalized over all rows; the first two are cut off below zero, the last
one's largest value over a group of 32 rows is the token.  The kernel computes the variance as the mean of the squares
minus the square of the mean, and takes the largest (or, for a weight that is not positive, the smallest) value of a
group before it normalizes: for real numbers that is the same (`normE_eq`, `token_eq`).
-/

noncomputable section

namespace Cert.Proof.Mlp

open Cert.MlpIdeal Cert.MlpIdeal.Gen
open Idealize.ShloMosaic

/-- The number added to a variance, as a real number. -/
def epsR : ℝ := (10995116 : ℝ) * (2 : ℝ) ^ (-40 : ℤ)

theorem epsR_pos : 0 < epsR := by unfold epsR; positivity

theorem epsE_eq : epsE = (epsR : EReal) := by
  unfold epsE epsR
  simp [Ideal.ofBits, Ideal.ieee, -EReal.coe_mul]

theorem rowsE_eq : rowsE = ((131072 : ℝ) : EReal) := by
  unfold rowsE
  simp [Ideal.ofBits, Ideal.ieee, -EReal.coe_mul]
  norm_num

/-- A sum of real numbers. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem div_coe (a : ℝ) {b : ℝ} (hb : b ≠ 0) : Ideal.div (a : EReal) (b : EReal) = ((a / b : ℝ) : EReal) := by
  unfold Ideal.div
  rw [if_neg (by simpa using hb), ← EReal.coe_inv, ← EReal.coe_mul, div_eq_mul_inv]

theorem rsqrt_coe {a : ℝ} (ha : 0 < a) : Ideal.rsqrt (a : EReal) = (((Real.sqrt a)⁻¹ : ℝ) : EReal) := by
  show (if a < 0 then (⊥ : EReal) else if a = 0 then ⊤ else ((Real.sqrt a)⁻¹ : ℝ)) = _
  rw [if_neg ha.not_gt, if_neg ha.ne']

theorem sqrt_coe {a : ℝ} (ha : 0 < a) : Ideal.sqrt (a : EReal) = ((Real.sqrt a : ℝ) : EReal) := by
  show (if a < 0 then (⊥ : EReal) else (Real.sqrt a : EReal)) = _
  rw [if_neg ha.not_gt]

/-- A channel's mean and variance over all rows. -/
def meanR (y : ℕ → ℝ) : ℝ := (∑ r ∈ Finset.range 131072, y r) / 131072
def varR (y : ℕ → ℝ) : ℝ := (∑ r ∈ Finset.range 131072, (y r - meanR y) * (y r - meanR y)) / 131072

/-- A number normalized in a channel. -/
def normR (y : ℕ → ℝ) (g b v : ℝ) : ℝ := g * (v - meanR y) / Real.sqrt (varR y + epsR) + b

theorem varR_nonneg (y : ℕ → ℝ) : 0 ≤ varR y :=
  div_nonneg (Finset.sum_nonneg fun _ _ => mul_self_nonneg _) (by norm_num)

theorem varR_eq (y : ℕ → ℝ) :
    (∑ r ∈ Finset.range 131072, y r * y r) / 131072 - meanR y * meanR y = varR y := by
  have h : ∑ r ∈ Finset.range 131072, (y r - meanR y) * (y r - meanR y)
      = (∑ r ∈ Finset.range 131072, y r * y r) - 2 * meanR y * (∑ r ∈ Finset.range 131072, y r) + 131072 * (meanR y * meanR y) := by
    rw [Finset.mul_sum, ← Finset.sum_sub_distrib]
    have e : (131072 : ℝ) * (meanR y * meanR y) = ∑ _r ∈ Finset.range 131072, meanR y * meanR y := by
      rw [Finset.sum_const, Finset.card_range, nsmul_eq_mul]; norm_num
    rw [e, ← Finset.sum_add_distrib]
    exact Finset.sum_congr rfl fun _ _ => by ring
  have hm : ∑ r ∈ Finset.range 131072, y r = 131072 * meanR y := by unfold meanR; ring
  unfold varR
  rw [h, hm]
  ring

theorem normE_eq (y : ℕ → ℝ) (g b v : ℝ) :
    normE (v : EReal) ((∑ r ∈ Finset.range 131072, y r : ℝ) : EReal) ((∑ r ∈ Finset.range 131072, y r * y r : ℝ) : EReal)
      (g : EReal) (b : EReal) = (normR y g b v : EReal) := by
  have hN : (131072 : ℝ) ≠ 0 := by norm_num
  have hv := varR_eq y
  unfold normE
  rw [rowsE_eq, epsE_eq, div_coe _ hN, div_coe _ hN]
  change (g : EReal) * ((v : EReal) - (meanR y : EReal)) * Ideal.rsqrt (_ - (meanR y : EReal) * (meanR y : EReal) + _) + _ = _
  rw [← EReal.coe_mul (meanR y), ← EReal.coe_sub (_ / _), hv, ← EReal.coe_add (varR y), rsqrt_coe (by have := varR_nonneg y; have := epsR_pos; linarith),
    ← EReal.coe_sub, ← EReal.coe_mul, ← EReal.coe_mul, ← EReal.coe_add]
  rfl

/-- The largest, and the smallest, of 32 numbers. -/
theorem fold_max_eq (f : Fin 32 → EReal) (n : Fin 32) (h : ∀ k, f k ≤ f n) : Finset.univ.fold max ⊥ f = f n :=
  le_antisymm (Finset.sup_le fun k _ => h k) (Finset.le_sup (f := f) (Finset.mem_univ n))

theorem fold_min_eq (f : Fin 32 → EReal) (n : Fin 32) (h : ∀ k, f n ≤ f k) : Finset.univ.fold min ⊤ f = f n :=
  le_antisymm (Finset.inf_le (f := f) (Finset.mem_univ n)) (Finset.le_inf fun k _ => h k)

/-- The token of 32 numbers of a channel: the largest normalized number. -/
def tokenR (y : ℕ → ℝ) (g b : ℝ) (a : Fin 32 → ℝ) : EReal :=
  Finset.univ.fold max ⊥ fun n => (normR y g b (a n) : EReal)

theorem normR_mono (y : ℕ → ℝ) {g : ℝ} (b : ℝ) (hg : 0 ≤ g) {u v : ℝ} (h : u ≤ v) : normR y g b u ≤ normR y g b v := by
  exact add_le_add (div_le_div_of_nonneg_right (mul_le_mul_of_nonneg_left (sub_le_sub_right h _) hg) (Real.sqrt_nonneg _)) le_rfl

theorem normR_anti (y : ℕ → ℝ) {g : ℝ} (b : ℝ) (hg : g ≤ 0) {u v : ℝ} (h : u ≤ v) : normR y g b v ≤ normR y g b u := by
  exact add_le_add (div_le_div_of_nonneg_right (mul_le_mul_of_nonpos_left (sub_le_sub_right h _) hg) (Real.sqrt_nonneg _)) le_rfl

theorem token_eq (y : ℕ → ℝ) (g b : ℝ) (a : Fin 32 → ℝ) (S Q : EReal)
    (hS : S = ((∑ r ∈ Finset.range 131072, y r : ℝ) : EReal)) (hQ : Q = ((∑ r ∈ Finset.range 131072, y r * y r : ℝ) : EReal)) :
    (if (0 : EReal) < (g : EReal) then normE (Finset.univ.fold max ⊥ fun n => (a n : EReal)) S Q (g : EReal) (b : EReal)
      else normE (Finset.univ.fold min ⊤ fun n => (a n : EReal)) S Q (g : EReal) (b : EReal)) = tokenR y g b a := by
  subst hS hQ
  obtain ⟨p, -, hp⟩ := Finset.exists_max_image Finset.univ a ⟨0, Finset.mem_univ _⟩
  obtain ⟨q, -, hq⟩ := Finset.exists_min_image Finset.univ a ⟨0, Finset.mem_univ _⟩
  rw [fold_max_eq (fun n => (a n : EReal)) p fun k => EReal.coe_le_coe_iff.2 (hp k (Finset.mem_univ _)),
    fold_min_eq (fun n => (a n : EReal)) q fun k => EReal.coe_le_coe_iff.2 (hq k (Finset.mem_univ _)), normE_eq, normE_eq]
  unfold tokenR
  split
  · rename_i h
    have hg : 0 ≤ g := le_of_lt (by exact_mod_cast h)
    exact (fold_max_eq (fun n => (normR y g b (a n) : EReal)) p
      fun k => EReal.coe_le_coe_iff.2 (normR_mono y b hg (hp k (Finset.mem_univ _)))).symm
  · rename_i h
    have hg : g ≤ 0 := le_of_not_gt fun h' => h (by exact_mod_cast h')
    exact (fold_max_eq (fun n => (normR y g b (a n) : EReal)) q
      fun k => EReal.coe_le_coe_iff.2 (normR_anti y b hg (hq k (Finset.mem_univ _)))).symm

/-- The weights as real numbers. -/
structure Wt where
  W1 : Fin 64 → Fin 3 → ℝ
  b1 : Fin 64 → ℝ
  g1 : Fin 64 → ℝ
  e1 : Fin 64 → ℝ
  W2 : Fin 128 → Fin 64 → ℝ
  b2 : Fin 128 → ℝ
  g2 : Fin 128 → ℝ
  e2 : Fin 128 → ℝ
  W3 : Fin 384 → Fin 128 → ℝ
  b3 : Fin 384 → ℝ
  g3 : Fin 384 → ℝ
  e3 : Fin 384 → ℝ

variable (w : Wt) (X : ℕ → Fin 3 → ℝ)

/-- The layers, channel by channel, each as a function of the row. -/
def one (o : Fin 64) (r : ℕ) : ℝ := (∑ k : Fin 3, X r k * w.W1 o k) + w.b1 o
def two (o : Fin 128) (r : ℕ) : ℝ :=
  (∑ k : Fin 64, max (normR (one w X k) (w.g1 k) (w.e1 k) (one w X k r)) 0 * w.W2 o k) + w.b2 o
def three (o : Fin 384) (r : ℕ) : ℝ :=
  (∑ k : Fin 128, max (normR (two w X k) (w.g2 k) (w.e2 k) (two w X k r)) 0 * w.W3 o k) + w.b3 o

/-- The token of a group. -/
def tokenOf (g : ℕ) (o : Fin 384) : EReal :=
  tokenR (three w X o) (w.g3 o) (w.e3 o) fun n => three w X o (32 * g + n.val)

end Cert.Proof.Mlp

end
-- ==== Proof.MlpSums.lean ====
module

public import proofs.«01_k».proof.Proof.MlpReal
public import proofs.«01_k».proof.Proof.MlpResult

@[expose] public section

set_option maxRecDepth 16384

/-!
# The perceptron call: the state as sums over the rows seen

For arguments that are real numbers, what the scratch arrays hold before a point: the sums of a layer and of its squares
over the blocks seen in that layer's phase, and the largest and the smallest number of each group (`Inv`).
-/

noncomputable section

namespace Cert.Proof.Mlp

open Cert.MlpIdeal Cert.MlpIdeal.Gen
open Idealize.ShloMosaic

/-- The weights the kernel is handed are these real numbers. -/
structure Holds (P : Par Ideal) (w : Wt) : Prop where
  W1 : ∀ o k, P.W1 (ix2 o k) = ((w.W1 o k : ℝ) : EReal)
  b1 : ∀ o, P.b1 (ix2 0 o) = ((w.b1 o : ℝ) : EReal)
  g1 : ∀ o, P.g1 (ix2 0 o) = ((w.g1 o : ℝ) : EReal)
  e1 : ∀ o, P.e1 (ix2 0 o) = ((w.e1 o : ℝ) : EReal)
  W2 : ∀ o k, P.W2 (ix2 o k) = ((w.W2 o k : ℝ) : EReal)
  b2 : ∀ o, P.b2 (ix2 0 o) = ((w.b2 o : ℝ) : EReal)
  g2 : ∀ o, P.g2 (ix2 0 o) = ((w.g2 o : ℝ) : EReal)
  e2 : ∀ o, P.e2 (ix2 0 o) = ((w.e2 o : ℝ) : EReal)
  W3 : ∀ o k, P.W3 (ix2 o k) = ((w.W3 o k : ℝ) : EReal)
  b3 : ∀ o, P.b3 (ix2 0 o) = ((w.b3 o : ℝ) : EReal)
  g3 : ∀ o, P.g3 (ix2 0 o) = ((w.g3 o : ℝ) : EReal)
  e3 : ∀ o, P.e3 (ix2 0 o) = ((w.e3 o : ℝ) : EReal)

variable {P : Par Ideal} {w : Wt} {X : ℕ → Fin 3 → ℝ} (hP : Holds P w)

theorem max_coe (a : ℝ) : max (a : EReal) 0 = ((max a 0 : ℝ) : EReal) := by
  rw [← EReal.coe_zero]
  exact (EReal.coe_strictMono.monotone.map_max).symm

/-- The sum over the first `n` blocks of rows. -/
def upTo (y : ℕ → ℝ) (n : ℕ) : ℝ := ∑ r ∈ Finset.range (2048 * n), y r

theorem upTo_zero (y : ℕ → ℝ) : upTo y 0 = 0 := by simp [upTo]

theorem upTo_all (y : ℕ → ℝ) : upTo y 64 = ∑ r ∈ Finset.range 131072, y r := by
  unfold upTo
  congr 2

theorem upTo_succ (y : ℕ → ℝ) (j : ℕ) :
    ((upTo y j : ℝ) : EReal) + ∑ r : Fin 2048, ((y (2048 * j + r.val) : ℝ) : EReal) = ((upTo y (j + 1) : ℝ) : EReal) := by
  rw [coe_sum, ← EReal.coe_add]
  congr 1
  unfold upTo
  rw [Nat.mul_succ, Finset.sum_range_add, Finset.sum_range (n := 2048) (f := fun r => y (2048 * j + r))]

/-- The block of rows number `j`. -/
def Block (X : ℕ → Fin 3 → ℝ) (j : ℕ) (x : FVec Ideal S3x2048 .f32) : Prop :=
  ∀ (k : Fin 3) (r : Fin 2048), x (ix2 k r) = ((X (2048 * j + r.val) k : ℝ) : EReal)

include hP

theorem one_apply {j : ℕ} {x : FVec Ideal S3x2048 .f32} (hx : Block X j x) (r : Fin 2048) (o : Fin 64) :
    k0_pay7 (F := Ideal) x P.W1 P.b1 (ix2 r o) = ((one w X o (2048 * j + r.val) : ℝ) : EReal) := by
  rw [pay7_apply, hP.b1, Finset.sum_congr rfl fun k _ => by rw [hx k r, hP.W1 o k, ← EReal.coe_mul], coe_sum, ← EReal.coe_add]
  rfl

/-- The first layer's sums are complete. -/
def FullOne (w : Wt) (X : ℕ → Fin 3 → ℝ) (σ : St Ideal) : Prop :=
  ∀ o : Fin 64, σ.s1 (ix2 0 o) = ((∑ r ∈ Finset.range 131072, one w X o r : ℝ) : EReal)
    ∧ σ.q1 (ix2 0 o) = ((∑ r ∈ Finset.range 131072, one w X o r * one w X o r : ℝ) : EReal)

/-- The second layer's sums are complete. -/
def FullTwo (w : Wt) (X : ℕ → Fin 3 → ℝ) (σ : St Ideal) : Prop :=
  ∀ o : Fin 128, σ.s2 (ix2 0 o) = ((∑ r ∈ Finset.range 131072, two w X o r : ℝ) : EReal)
    ∧ σ.q2 (ix2 0 o) = ((∑ r ∈ Finset.range 131072, two w X o r * two w X o r : ℝ) : EReal)

theorem two_apply {j : ℕ} {x : FVec Ideal S3x2048 .f32} (hx : Block X j x) {σ : St Ideal} (h1 : FullOne w X σ)
    (r : Fin 2048) (o : Fin 128) :
    layerTwo P x σ (ix2 r o) = ((two w X o (2048 * j + r.val) : ℝ) : EReal) := by
  unfold layerTwo
  rw [pay18_apply, hP.b2, Finset.sum_congr rfl fun k _ => by
    rw [one_apply hP hx r k, (h1 k).1, (h1 k).2, hP.g1 k, hP.e1 k, hP.W2 o k, normE_eq, max_coe, ← EReal.coe_mul], coe_sum,
    ← EReal.coe_add]
  rfl

theorem three_apply {j : ℕ} {x : FVec Ideal S3x2048 .f32} (hx : Block X j x) {σ : St Ideal} (h1 : FullOne w X σ)
    (h2 : FullTwo w X σ) (r : Fin 2048) (o : Fin 384) :
    layerThree P x σ (ix2 r o) = ((three w X o (2048 * j + r.val) : ℝ) : EReal) := by
  unfold layerThree
  rw [pay19_apply, hP.b3, Finset.sum_congr rfl fun k _ => by
    rw [two_apply hP hx h1 r k, (h2 k).1, (h2 k).2, hP.g2 k, hP.e2 k, hP.W3 o k, normE_eq, max_coe, ← EReal.coe_mul], coe_sum,
    ← EReal.coe_add]
  rfl

omit hP

/-- What the state holds before point `n`. -/
structure Inv (w : Wt) (X : ℕ → Fin 3 → ℝ) (n : ℕ) (σ : St Ideal) : Prop where
  s1 : ∀ o, σ.s1 (ix2 0 o) = ((upTo (one w X o) (min n 64) : ℝ) : EReal)
  q1 : ∀ o, σ.q1 (ix2 0 o) = ((upTo (fun r => one w X o r * one w X o r) (min n 64) : ℝ) : EReal)
  s2 : ∀ o, σ.s2 (ix2 0 o) = ((upTo (two w X o) (min (n - 64) 64) : ℝ) : EReal)
  q2 : ∀ o, σ.q2 (ix2 0 o) = ((upTo (fun r => two w X o r * two w X o r) (min (n - 64) 64) : ℝ) : EReal)
  s3 : ∀ o, σ.s3 (ix2 0 o) = ((upTo (three w X o) (min (n - 128) 64) : ℝ) : EReal)
  q3 : ∀ o, σ.q3 (ix2 0 o) = ((upTo (fun r => three w X o r * three w X o r) (min (n - 128) 64) : ℝ) : EReal)
  gx : ∀ (g : Fin 4096) o, g.val < 64 * min (n - 128) 64 →
    σ.gx (ix2 g o) = Finset.univ.fold max ⊥ fun i : Fin 32 => ((three w X o (32 * g.val + i.val) : ℝ) : EReal)
  gm : ∀ (g : Fin 4096) o, g.val < 64 * min (n - 128) 64 →
    σ.gm (ix2 g o) = Finset.univ.fold min ⊤ fun i : Fin 32 => ((three w X o (32 * g.val + i.val) : ℝ) : EReal)

theorem Inv.fullOne {n : ℕ} {σ : St Ideal} (h : Inv w X n σ) (hn : 64 ≤ n) : FullOne w X σ := fun o =>
  ⟨by rw [h.s1 o, Nat.min_eq_right hn, upTo_all], by rw [h.q1 o, Nat.min_eq_right hn, upTo_all]⟩

theorem Inv.fullTwo {n : ℕ} {σ : St Ideal} (h : Inv w X n σ) (hn : 128 ≤ n) : FullTwo w X σ := fun o =>
  ⟨by rw [h.s2 o, Nat.min_eq_right (by omega), upTo_all], by rw [h.q2 o, Nat.min_eq_right (by omega), upTo_all]⟩

/-- A block of 64 rows put in an array of 4096. -/
theorem put_at (y : FVec Ideal S4096x384 .f32) (off : Fin 2 → ℕ) {j : ℕ} (h0 : off 0 = 64 * j) (h1 : off 1 = 0)
    (v : FVec Ideal S64x384 .f32) (g : Fin 4096) (o : Fin 384) :
    VecWindow.put (s := S4096x384) y off S64x384.size v (ix2 g o)
      = if h : 64 * j ≤ g.val ∧ g.val < 64 * j + 64 then v (ix2 ⟨g.val - 64 * j, by omega⟩ o) else y (ix2 g o) := by
  unfold VecWindow.put
  have hc : (∀ a : Fin 2, off a ≤ (ix2 g o a).val ∧ (ix2 g o a).val < off a + S64x384.size a)
      ↔ (64 * j ≤ g.val ∧ g.val < 64 * j + 64) := by
    rw [Fin.forall_fin_two, h0, h1]
    constructor
    · exact fun h => h.1
    · exact fun h => ⟨h, Nat.zero_le _, by rw [Nat.zero_add]; exact o.isLt⟩
  by_cases h : 64 * j ≤ g.val ∧ g.val < 64 * j + 64
  · rw [dif_pos h, dif_pos (hc.2 h)]
    refine congrArg v (funext fun a => ?_)
    fin_cases a
    · exact Fin.ext (show g.val - off 0 = g.val - 64 * j by rw [h0])
    · exact Fin.ext (show o.val - off 1 = o.val by rw [h1, Nat.sub_zero])
  · rw [dif_neg h, dif_neg fun k => h (hc.1 k)]

include hP

theorem inv_first {x : FVec Ideal S3x2048 .f32} (hx : Block X 0 x) (σ : St Ideal) :
    Inv w X 1 (sumOne P x (zeroed σ)) where
  s1 o := by
    show k0_pay8 (F := Ideal) x P.W1 P.b1 (k0_pay1 (F := Ideal)) (ix2 0 o) = _
    rw [pay8_apply, pay1_apply, Finset.sum_congr rfl fun r _ => one_apply hP hx r o]
    have := upTo_succ (one w X o) 0
    rwa [upTo_zero, EReal.coe_zero] at this
  q1 o := by
    show k0_pay9 (F := Ideal) x P.W1 P.b1 (k0_pay2 (F := Ideal)) (ix2 0 o) = _
    rw [pay9_apply, pay2_apply, Finset.sum_congr rfl fun r _ => by rw [one_apply hP hx r o, ← EReal.coe_mul]]
    have := upTo_succ (fun r => one w X o r * one w X o r) 0
    rwa [upTo_zero, EReal.coe_zero] at this
  s2 o := (pay3_apply o).trans (by rw [show min (1 - 64) 64 = 0 from rfl, upTo_zero, EReal.coe_zero])
  q2 o := (pay4_apply o).trans (by rw [show min (1 - 64) 64 = 0 from rfl, upTo_zero, EReal.coe_zero])
  s3 o := (pay5_apply o).trans (by rw [show min (1 - 128) 64 = 0 from rfl, upTo_zero, EReal.coe_zero])
  q3 o := (pay6_apply o).trans (by rw [show min (1 - 128) 64 = 0 from rfl, upTo_zero, EReal.coe_zero])
  gx g o h := absurd h (by omega)
  gm g o h := absurd h (by omega)

theorem inv_one {n : ℕ} (hn : n < 64) {x : FVec Ideal S3x2048 .f32} (hx : Block X n x) {σ : St Ideal} (h : Inv w X n σ) :
    Inv w X (n + 1) (sumOne P x σ) where
  s1 o := by
    show k0_pay8 (F := Ideal) x P.W1 P.b1 σ.s1 (ix2 0 o) = _
    rw [pay8_apply, h.s1 o, Finset.sum_congr rfl fun r _ => one_apply hP hx r o, show min n 64 = n by omega,
      show min (n + 1) 64 = n + 1 by omega]
    exact upTo_succ (one w X o) n
  q1 o := by
    show k0_pay9 (F := Ideal) x P.W1 P.b1 σ.q1 (ix2 0 o) = _
    rw [pay9_apply, h.q1 o, Finset.sum_congr rfl fun r _ => by rw [one_apply hP hx r o, ← EReal.coe_mul],
      show min n 64 = n by omega, show min (n + 1) 64 = n + 1 by omega]
    exact upTo_succ (fun r => one w X o r * one w X o r) n
  s2 o := by
    have := h.s2 o
    rwa [show n - 64 = n + 1 - 64 by omega] at this
  q2 o := by
    have := h.q2 o
    rwa [show n - 64 = n + 1 - 64 by omega] at this
  s3 o := by
    have := h.s3 o
    rwa [show n - 128 = n + 1 - 128 by omega] at this
  q3 o := by
    have := h.q3 o
    rwa [show n - 128 = n + 1 - 128 by omega] at this
  gx g o k := absurd k (by omega)
  gm g o k := absurd k (by omega)

theorem inv_two {n : ℕ} (h64 : 64 ≤ n) (hn : n < 128) {x : FVec Ideal S3x2048 .f32} (hx : Block X (n - 64) x) {σ : St Ideal}
    (h : Inv w X n σ) : Inv w X (n + 1) (sumTwo P x σ) where
  s1 o := by
    have := h.s1 o
    rwa [show min n 64 = min (n + 1) 64 by omega] at this
  q1 o := by
    have := h.q1 o
    rwa [show min n 64 = min (n + 1) 64 by omega] at this
  s2 o := by
    show k0_pay10 (F := Ideal) (layerTwo P x σ) σ.s2 (ix2 0 o) = _
    rw [pay10_apply, h.s2 o, Finset.sum_congr rfl fun r _ => two_apply hP hx (h.fullOne h64) r o,
      show min (n - 64) 64 = n - 64 by omega, show min (n + 1 - 64) 64 = n - 64 + 1 by omega]
    exact upTo_succ (two w X o) (n - 64)
  q2 o := by
    show k0_pay11 (F := Ideal) (layerTwo P x σ) σ.q2 (ix2 0 o) = _
    rw [pay11_apply, h.q2 o, Finset.sum_congr rfl fun r _ => by rw [two_apply hP hx (h.fullOne h64) r o, ← EReal.coe_mul],
      show min (n - 64) 64 = n - 64 by omega, show min (n + 1 - 64) 64 = n - 64 + 1 by omega]
    exact upTo_succ (fun r => two w X o r * two w X o r) (n - 64)
  s3 o := by
    have := h.s3 o
    rwa [show n - 128 = n + 1 - 128 by omega] at this
  q3 o := by
    have := h.q3 o
    rwa [show n - 128 = n + 1 - 128 by omega] at this
  gx g o k := absurd k (by omega)
  gm g o k := absurd k (by omega)

theorem inv_three {n : ℕ} (h128 : 128 ≤ n) (hn : n < 192) {x : FVec Ideal S3x2048 .f32} (hx : Block X (n - 128) x)
    {off : Fin 2 → ℕ} (h0 : off 0 = 64 * (n - 128)) (h1 : off 1 = 0) {σ : St Ideal} (h : Inv w X n σ) :
    Inv w X (n + 1) (sumThree P x off σ) where
  s1 o := by
    have := h.s1 o
    rwa [show min n 64 = min (n + 1) 64 by omega] at this
  q1 o := by
    have := h.q1 o
    rwa [show min n 64 = min (n + 1) 64 by omega] at this
  s2 o := by
    have := h.s2 o
    rwa [show min (n - 64) 64 = min (n + 1 - 64) 64 by omega] at this
  q2 o := by
    have := h.q2 o
    rwa [show min (n - 64) 64 = min (n + 1 - 64) 64 by omega] at this
  s3 o := by
    show k0_pay20 (F := Ideal) rows eps (layerTwo P x σ) σ.s2 σ.q2 P.g2 P.e2 P.W3 P.b3 σ.s3 (ix2 0 o) = _
    rw [pay20_apply, h.s3 o, Finset.sum_congr rfl fun r _ =>
        show k0_pay19 (F := Ideal) rows eps (layerTwo P x σ) σ.s2 σ.q2 P.g2 P.e2 P.W3 P.b3 (ix2 r o) = _ from
          three_apply hP hx (h.fullOne (by omega)) (h.fullTwo h128) r o,
      show min (n - 128) 64 = n - 128 by omega, show min (n + 1 - 128) 64 = n - 128 + 1 by omega]
    exact upTo_succ (three w X o) (n - 128)
  q3 o := by
    show k0_pay12 (F := Ideal) (layerThree P x σ) σ.q3 (ix2 0 o) = _
    rw [pay12_apply, h.q3 o, Finset.sum_congr rfl fun r _ => by
        rw [three_apply hP hx (h.fullOne (by omega)) (h.fullTwo h128) r o, ← EReal.coe_mul],
      show min (n - 128) 64 = n - 128 by omega, show min (n + 1 - 128) 64 = n - 128 + 1 by omega]
    exact upTo_succ (fun r => three w X o r * three w X o r) (n - 128)
  gx g o k := by
    refine (put_at σ.gx off h0 h1 _ g o).trans ?_
    split
    · rename_i hg
      rw [pay14_apply]
      congr 1
      funext i
      rw [three_apply hP hx (h.fullOne (by omega)) (h.fullTwo h128)]
      congr 2
      show 2048 * (n - 128) + (32 * (g.val - 64 * (n - 128)) + i.val) = _
      omega
    · rename_i hg
      exact h.gx g o (by omega)
  gm g o k := by
    refine (put_at σ.gm off h0 h1 _ g o).trans ?_
    split
    · rename_i hg
      rw [pay15_apply]
      congr 1
      funext i
      rw [three_apply hP hx (h.fullOne (by omega)) (h.fullTwo h128)]
      congr 2
      show 2048 * (n - 128) + (32 * (g.val - 64 * (n - 128)) + i.val) = _
      omega
    · rename_i hg
      exact h.gm g o (by omega)

/-- The tokens of a block, from the state at the end of the third phase. -/
theorem tok_apply {off : Fin 2 → ℕ} (inb : ∀ a, off a + S64x384.size a ≤ S4096x384.size a) {j : ℕ} (h0 : off 0 = 64 * j)
    (h1 : off 1 = 0) {n : ℕ} (hn : 192 ≤ n) {σ : St Ideal} (h : Inv w X n σ) (b : Fin 64) (o : Fin 384) :
    tok P off inb σ (ix2 b o) = tokenOf w X (64 * j + b.val) o := by
  have hj : 64 * j + 64 ≤ 4096 := by have := inb 0; rw [h0] at this; exact this
  have e : (Rect.unit (s := S4096x384) off S64x384.size inb).emb (ix2 b o) = ix2 ⟨64 * j + b.val, by omega⟩ o := by
    funext a
    fin_cases a
    · exact Fin.ext (show off 0 + 1 * b.val = 64 * j + b.val by rw [h0, Nat.one_mul])
    · exact Fin.ext (show off 1 + 1 * o.val = o.val by rw [h1, Nat.one_mul, Nat.zero_add])
  unfold tok
  rw [pay16_apply]
  unfold VecWindow.window
  rw [e, h.gx _ o (by show 64 * j + b.val < _; omega), h.gm _ o (by show 64 * j + b.val < _; omega), hP.g3, hP.e3]
  refine token_eq (three w X o) (w.g3 o) (w.e3 o) (fun i => three w X o (32 * (64 * j + b.val) + i.val)) _ _ ?_ ?_
  · rw [h.s3 o, Nat.min_eq_right (by omega), upTo_all]
  · rw [h.q3 o, Nat.min_eq_right (by omega), upTo_all]

end Cert.Proof.Mlp

end
-- ==== Proof.MlpKernel.lean ====
module

public import proofs.«01_k».proof.Proof.MlpSums
public import Idealize.ShloMosaic.Lib.Claim

@[expose] public section

set_option maxRecDepth 16384

/-!
# The perceptron call: what it returns

For arguments that are real numbers, the array the call writes holds the tokens (`kernel_eq`).
-/

noncomputable section

namespace Cert.Proof.Mlp

open Cert.MlpIdeal Cert.MlpIdeal.Gen
open Idealize.ShloMosaic Idealize.ShloMosaic.TcCoe Idealize.ShloMosaic.Tactic
open Idealize.SL Idealize.SL.Sem
open Idealize.ShloMosaic.Pipeline (RDat Dat)

/-- The thirteen arguments are these real numbers. -/
structure RealArgs (w : Wt) (X : ℕ → Fin 3 → ℝ) (x : FVec Ideal S3x131072 .f32)
    (W1 : FVec Ideal S64x3 .f32) (b1 g1 e1 : FVec Ideal S64 .f32)
    (W2 : FVec Ideal S128x64 .f32) (b2 g2 e2 : FVec Ideal S128 .f32)
    (W3 : FVec Ideal S384x128 .f32) (b3 g3 e3 : FVec Ideal S384 .f32) : Prop where
  x : ∀ (k : Fin 3) (r : Fin 131072), x (ix2 k r) = ((X r.val k : ℝ) : EReal)
  W1 : ∀ o k, W1 (ix2 o k) = ((w.W1 o k : ℝ) : EReal)
  b1 : ∀ o, b1 (ix1 o) = ((w.b1 o : ℝ) : EReal)
  g1 : ∀ o, g1 (ix1 o) = ((w.g1 o : ℝ) : EReal)
  e1 : ∀ o, e1 (ix1 o) = ((w.e1 o : ℝ) : EReal)
  W2 : ∀ o k, W2 (ix2 o k) = ((w.W2 o k : ℝ) : EReal)
  b2 : ∀ o, b2 (ix1 o) = ((w.b2 o : ℝ) : EReal)
  g2 : ∀ o, g2 (ix1 o) = ((w.g2 o : ℝ) : EReal)
  e2 : ∀ o, e2 (ix1 o) = ((w.e2 o : ℝ) : EReal)
  W3 : ∀ o k, W3 (ix2 o k) = ((w.W3 o k : ℝ) : EReal)
  b3 : ∀ o, b3 (ix1 o) = ((w.b3 o : ℝ) : EReal)
  g3 : ∀ o, g3 (ix1 o) = ((w.g3 o : ℝ) : EReal)
  e3 : ∀ o, e3 (ix1 o) = ((w.e3 o : ℝ) : EReal)

variable (m : (ℓ : Loc nD τ sig) → Buf (Elt Ideal) ℓ)

/-- The arguments at launch are these real numbers. -/
abbrev RealLaunch (w : Wt) (X : ℕ → Fin 3 → ℝ) (c : Dev nD) : Prop :=
  RealArgs w X (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11))
    (m ((c.tc : Thread nD τ).loc main_arg12))

variable {m} {w : Wt} {X : ℕ → Fin 3 → ℝ} {c : Dev nD}

theorem holds_par (h : RealLaunch m w X c) : Holds (par m c) w where
  W1 o k := by
    show V m c main_arg1 (ix2 o k) = _
    rw [Gen.V_main_arg1]; exact h.W1 o k
  b1 o := by
    show V m c main_v0 (ix2 0 o) = _
    entry_read
    pointwise; exact h.b1 o
  g1 o := by
    show V m c main_v1 (ix2 0 o) = _
    entry_read
    pointwise; exact h.g1 o
  e1 o := by
    show V m c main_v2 (ix2 0 o) = _
    entry_read
    pointwise; exact h.e1 o
  W2 o k := by
    show V m c main_arg5 (ix2 o k) = _
    rw [Gen.V_main_arg5]; exact h.W2 o k
  b2 o := by
    show V m c main_v3 (ix2 0 o) = _
    entry_read
    pointwise; exact h.b2 o
  g2 o := by
    show V m c main_v4 (ix2 0 o) = _
    entry_read
    pointwise; exact h.g2 o
  e2 o := by
    show V m c main_v5 (ix2 0 o) = _
    entry_read
    pointwise; exact h.e2 o
  W3 o k := by
    show V m c main_arg9 (ix2 o k) = _
    rw [Gen.V_main_arg9]; exact h.W3 o k
  b3 o := by
    show V m c main_v6 (ix2 0 o) = _
    entry_read
    pointwise; exact h.b3 o
  g3 o := by
    show V m c main_v7 (ix2 0 o) = _
    entry_read
    pointwise; exact h.g3 o
  e3 o := by
    show V m c main_v8 (ix2 0 o) = _
    entry_read
    pointwise; exact h.e3 o

theorem in_index : ∀ t : Fin grid0.N, win0_0.index t 0 = 0 ∧ win0_0.index t 1 = t.val % 64 := by decide +kernel

theorem off1_val : ∀ t : Fin grid0.N, k0_off1 (grid0.coords t) 0 = 64 * (t.val % 64) ∧ k0_off1 (grid0.coords t) 1 = 0 := by
  decide +kernel

theorem off2_val : ∀ t : Fin grid0.N, k0_off2 (grid0.coords t) 0 = 64 * (t.val % 64) ∧ k0_off2 (grid0.coords t) 1 = 0 := by
  decide +kernel

theorem block_x (h : RealLaunch m w X c) (t : Fin cfg0.N) : Block X (t.val % 64) (xblk m c t) := fun k r => by
  have e : xblk m c t (ix2 k r) = m ((c.tc : Thread nD τ).loc main_arg0)
      (ix2 k ⟨2048 * (t.val % 64) + r.val, by have := r.isLt; omega⟩) := by
    have hi := in_index t
    unfold xblk
    blk_simp [iblk]
    rw [Gen.V_main_arg0]
    refine congrArg _ (funext fun a => ?_)
    fin_cases a
    · exact Fin.ext (show win0_0.index t 0 * 3 + 1 * k.val = k.val by rw [hi.1]; omega)
    · exact Fin.ext (show win0_0.index t 1 * 2048 + 1 * r.val = 2048 * (t.val % 64) + r.val by rw [hi.2]; omega)
  rw [e]
  exact h.x k _

theorem inv_at (h : RealLaunch m w X c) (σ₀ : St Ideal) :
    ∀ n, n < 256 → Inv w X (n + 1) (stateAt m c σ₀ (n + 1)) := by
  have hP := holds_par h
  intro n
  induction n with
  | zero =>
    intro _
    have hb := block_x h ⟨0, by decide⟩
    exact inv_first hP hb σ₀
  | succ n ih =>
    intro hn
    have hi := ih (by omega)
    have hb := block_x h ⟨n + 1, hn⟩
    have ho := off1_val ⟨n + 1, hn⟩
    show Inv w X (n + 1 + 1) (if k : n + 1 < cfg0.N then stepAt m c ⟨n + 1, k⟩ (stateAt m c σ₀ (n + 1)) else stateAt m c σ₀ (n + 1))
    generalize stateAt m c σ₀ (n + 1) = σ at hi ⊢
    rw [dif_pos (show n + 1 < cfg0.N from hn)]
    unfold stepAt
    simp only at hb ho ⊢
    rw [if_neg (Nat.succ_ne_zero n)]
    by_cases h1 : n + 1 < 64
    · rw [if_pos h1]
      rw [Nat.mod_eq_of_lt h1] at hb
      exact inv_one hP h1 hb hi
    rw [if_neg h1]
    by_cases h2 : n + 1 < 128
    · rw [if_pos h2]
      rw [show (n + 1) % 64 = n + 1 - 64 by omega] at hb
      exact inv_two hP (by omega) h2 hb hi
    rw [if_neg h2]
    by_cases h3 : n + 1 < 192
    · rw [if_pos h3]
      rw [show (n + 1) % 64 = n + 1 - 128 by omega] at hb ho
      exact inv_three hP (by omega) h3 hb ho.1 ho.2 hi
    · rw [if_neg h3]
      exact {
        s1 := fun o => by have := hi.s1 o; rwa [show min (n + 1) 64 = min (n + 1 + 1) 64 by omega] at this
        q1 := fun o => by have := hi.q1 o; rwa [show min (n + 1) 64 = min (n + 1 + 1) 64 by omega] at this
        s2 := fun o => by have := hi.s2 o; rwa [show min (n + 1 - 64) 64 = min (n + 1 + 1 - 64) 64 by omega] at this
        q2 := fun o => by have := hi.q2 o; rwa [show min (n + 1 - 64) 64 = min (n + 1 + 1 - 64) 64 by omega] at this
        s3 := fun o => by have := hi.s3 o; rwa [show min (n + 1 - 128) 64 = min (n + 1 + 1 - 128) 64 by omega] at this
        q3 := fun o => by have := hi.q3 o; rwa [show min (n + 1 - 128) 64 = min (n + 1 + 1 - 128) 64 by omega] at this
        gx := fun g o k => hi.gx g o (by omega)
        gm := fun g o k => hi.gm g o (by omega) }

/-- The array of the tokens. -/
def tokens (w : Wt) (X : ℕ → Fin 3 → ℝ) : Vec Ideal S4096x384 .f32 := fun k => tokenOf w X (k 0).val (k 1)

/-- The array that the call writes holds the tokens. -/
theorem kernel_eq (w : Dev nD → Wt) (X : Dev nD → ℕ → Fin 3 → ℝ) (h : ∀ c, RealLaunch m (w c) (X c) c)
    {r : PUnit × MemSt nD τ sig (Elt Ideal)} (hr : RDat.FramePost (cfgs 0) (rdat m) (V m) r) (c : Dev nD) :
    r.2.mem ((c.tc : Thread nD τ).loc main_v9) = tokens (w c) (X c) := by
  refine result_of m (fun c => tokens (w c) (X c)) (fun c σ₀ t hc y k e0 e1 ht => ?_) hr c
  have ho := off2_val t
  obtain ⟨n, hn⟩ := t
  simp only at e0 ht ho
  obtain ⟨n, rfl⟩ : ∃ j, n = j + 1 := ⟨n - 1, by omega⟩
  have hi := inv_at (h c) σ₀ n (by have : n + 1 < 256 := hn; omega)
  have hy : y = ix2 (y 0) (y 1) := eq_ix2 y
  have key := tok_apply (holds_par (h c)) (k0_off2_inb (grid0.coords ⟨n + 1, hn⟩) hc) ho.1 ho.2 ht hi (y 0) (y 1)
  refine ((congrArg _ hy).trans key).trans ?_
  show _ = tokenOf (w c) (X c) (k 0).val (k 1)
  rw [show k 1 = y 1 from Fin.ext e1, e0, Nat.mul_comm]

end Cert.Proof.Mlp

end
-- ==== Proof.MlpRef.lean ====
module

public import proofs.«01_k».proof.Proof.MlpKernel
public import proofs.«01_k».proof.Proof.Gen.MlpReferenceIdeal.Run

@[expose] public section

set_option maxRecDepth 16384

/-!
# The perceptron reference: what it returns
-/

noncomputable section

namespace Cert.Proof.MlpRef

open Cert.MlpReferenceIdeal Cert.MlpReferenceIdeal.Gen Cert.MlpReferenceIdeal.Value
open Idealize.ShloMosaic Idealize.ShloMosaic.TcCoe Idealize.ShloMosaic.Tactic
open Idealize.SL Idealize.SL.Sem

/-- The sum over the rows, group by group. -/
theorem sum_groups (f : ℕ → ℝ) : ∑ g : Fin 4096, ∑ n : Fin 32, f (32 * g.val + n.val) = ∑ r ∈ Finset.range 131072, f r := by
  have h : ∀ m : ℕ, ∑ r ∈ Finset.range (32 * m), f r = ∑ g ∈ Finset.range m, ∑ n : Fin 32, f (32 * g + n.val) := by
    intro m
    induction m with
    | zero => rfl
    | succ m ih =>
      rw [Nat.mul_succ, Finset.sum_range_add, ih, Finset.sum_range (n := 32), Finset.sum_range_succ _ m]
  rw [show 131072 = 32 * 4096 from rfl, h, Finset.sum_range]

/-- A sum over the first and the last axis. -/
theorem reduce_apply {d : ℕ} (hr : (⟨3, ![4096, d, 32]⟩ : Shape).ReducesTo [0, 2] ⟨1, ![d]⟩)
    (v : (⟨3, ![4096, d, 32]⟩ : Shape).Idx → EReal) (o : Fin d) :
    Ideal.hostReduceAdd hr v 0 (ix1 o) = ∑ g : Fin 4096, ∑ n : Fin 32, v (ix3 g o n) := by
  unfold Ideal.hostReduceAdd
  rw [zero_add, Finset.sum_filter, sum_idx3]
  have hd : ∀ (a : Fin 4096) (b : Fin d) (c : Fin 32), hr.drop (ix3 a b c) = ix1 o ↔ b = o := by
    intro a b c
    constructor
    · intro h
      have := congrArg Fin.val (congrFun h 0)
      exact Fin.ext this
    · rintro rfl
      funext x
      have hx : x = 0 := Subsingleton.elim _ _
      subst hx
      rfl
  refine Finset.sum_congr rfl fun a _ => ?_
  rw [Finset.sum_eq_single o]
  · exact Finset.sum_congr rfl fun c _ => if_pos ((hd a o c).2 rfl)
  · intro b _ hb
    exact Finset.sum_eq_zero fun c _ => if_neg fun h => hb ((hd a b c).1 h)
  · exact fun h => absurd (Finset.mem_univ o) h

/-- The sum of numbers that are real. -/
theorem reduce_real {d : ℕ} (hr : (⟨3, ![4096, d, 32]⟩ : Shape).ReducesTo [0, 2] ⟨1, ![d]⟩)
    (v : (⟨3, ![4096, d, 32]⟩ : Shape).Idx → EReal) (o : Fin d) (f : ℕ → ℝ)
    (hv : ∀ (g : Fin 4096) (n : Fin 32), v (ix3 g o n) = ((f (32 * g.val + n.val) : ℝ) : EReal)) :
    Ideal.hostReduceAdd hr v 0 (ix1 o) = ((∑ r ∈ Finset.range 131072, f r : ℝ) : EReal) := by
  rw [reduce_apply, ← sum_groups, ← Mlp.coe_sum]
  refine Finset.sum_congr rfl fun g _ => ?_
  rw [← Mlp.coe_sum]
  exact Finset.sum_congr rfl fun n _ => hv g n

/-- A layer's mean. -/
theorem mean_real {d : ℕ} (hr : (⟨3, ![4096, d, 32]⟩ : Shape).ReducesTo [0, 2] ⟨1, ![d]⟩)
    (v : (⟨3, ![4096, d, 32]⟩ : Shape).Idx → EReal) (o : Fin d) (f : ℕ → ℝ)
    (hv : ∀ (g : Fin 4096) (n : Fin 32), v (ix3 g o n) = ((f (32 * g.val + n.val) : ℝ) : EReal)) :
    Ideal.div (Ideal.hostReduceAdd hr v 0 (ix1 o)) (Ideal.ofBits FTy.f32 0x48000000#32) = ((Mlp.meanR f : ℝ) : EReal) := by
  rw [reduce_real hr v o f hv, show Ideal.ofBits FTy.f32 0x48000000#32 = ((131072 : ℝ) : EReal) from Mlp.rowsE_eq,
    Mlp.div_coe _ (by norm_num)]
  rfl

/-- A layer's variance. -/
theorem var_real {d : ℕ} (hr : (⟨3, ![4096, d, 32]⟩ : Shape).ReducesTo [0, 2] ⟨1, ![d]⟩)
    (v : (⟨3, ![4096, d, 32]⟩ : Shape).Idx → EReal) (o : Fin d) (f : ℕ → ℝ) {t z : EReal} (ht : t = ((131072 : ℝ) : EReal))
    (hv : ∀ (g : Fin 4096) (n : Fin 32), v (ix3 g o n) = ((f (32 * g.val + n.val) - Mlp.meanR f : ℝ) : EReal)) :
    (if 0 < t then Ideal.div (Ideal.hostReduceAdd hr (mulf (F := Ideal) (φ := .f32) v v) 0 (ix1 o)) t else z)
      = ((Mlp.varR f : ℝ) : EReal) := by
  rw [ht, if_pos (by rw [← EReal.coe_zero]; exact EReal.coe_lt_coe_iff.2 (by norm_num)),
    reduce_real hr _ o (fun r => (f r - Mlp.meanR f) * (f r - Mlp.meanR f)) fun g n => by
      show v (ix3 g o n) * v (ix3 g o n) = _
      rw [hv, ← EReal.coe_mul], Mlp.div_coe _ (by norm_num)]
  rfl

/-- The normalisation. -/
theorem norm_real (f : ℕ → ℝ) (y g b : ℝ) :
    Ideal.div ((g : EReal) * ((y : EReal) - ((Mlp.meanR f : ℝ) : EReal)))
        (Ideal.sqrt (((Mlp.varR f : ℝ) : EReal) + Ideal.ofBits FTy.f32 0x3727C5AC#32)) + (b : EReal)
      = ((Mlp.normR f g b y : ℝ) : EReal) := by
  have h : 0 < Mlp.varR f + Mlp.epsR := add_pos_of_nonneg_of_pos (Mlp.varR_nonneg f) Mlp.epsR_pos
  rw [show Ideal.ofBits FTy.f32 0x3727C5AC#32 = ((Mlp.epsR : ℝ) : EReal) from Mlp.epsE_eq, ← EReal.coe_add, Mlp.sqrt_coe h,
    ← EReal.coe_sub, ← EReal.coe_mul, Mlp.div_coe _ (Real.sqrt_pos.2 h).ne', ← EReal.coe_add]
  rfl

variable (V0 : Valuation τ sig (Elt Ideal))

/-- The reference's arguments are these real numbers. -/
abbrev RealV0 (w : Mlp.Wt) (X : ℕ → Fin 3 → ℝ) : Prop :=
  Mlp.RealArgs w X (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5))
    (V0 (Proc.devRef .tc main_arg6)) (V0 (Proc.devRef .tc main_arg7)) (V0 (Proc.devRef .tc main_arg8))
    (V0 (Proc.devRef .tc main_arg9)) (V0 (Proc.devRef .tc main_arg10)) (V0 (Proc.devRef .tc main_arg11))
    (V0 (Proc.devRef .tc main_arg12))

variable {V0} {w : Mlp.Wt} {X : ℕ → Fin 3 → ℝ} (h : RealV0 V0 w X)

/-- The number of rows, as the variance divides by it. -/
theorem count_eq (i : BitVec 32) (hi : i = 0#32) :
    (Ideal.ofBits FTy.f32 0x48000000#32 - (FloatOps.sitofp FTy.f32 i : Ideal FTy.f32) : EReal) = ((131072 : ℝ) : EReal) := by
  subst hi
  rw [show Ideal.ofBits FTy.f32 0x48000000#32 = ((131072 : ℝ) : EReal) from Mlp.rowsE_eq,
    show (FloatOps.sitofp FTy.f32 0#32 : Ideal FTy.f32) = ((0 : ℝ) : EReal) by
      show (((0#32 : BitVec 32).toInt : ℝ) : EReal) = _
      norm_num, ← EReal.coe_sub, sub_zero]

theorem count_one (i : S_.Idx) : res_main_call0_v8 V0 i = ((131072 : ℝ) : EReal) := by
  pointwise [res_main_call0_v8]
  exact count_eq _ rfl

theorem count_two (i : S_.Idx) : res_main_call2_v8 V0 i = ((131072 : ℝ) : EReal) := by
  pointwise [res_main_call2_v8]
  exact count_eq _ rfl

theorem count_three (i : S_.Idx) : res_main_call4_v8 V0 i = ((131072 : ℝ) : EReal) := by
  pointwise [res_main_call4_v8]
  exact count_eq _ rfl

include h

theorem one_ref (g : Fin 4096) (o : Fin 64) (n : Fin 32) :
    res_main_v6 V0 (ix3 g o n) = ((Mlp.one w X o (32 * g.val + n.val) : ℝ) : EReal) := by
  pointwise [res_main_v6]
  rw [h.b1 o, Finset.sum_congr rfl fun k _ => by rw [h.x k _, h.W1 o k, ← EReal.coe_mul], Mlp.coe_sum, ← EReal.coe_add,
    ← Nat.mul_comm g.val 32]
  rfl

theorem one_centred (g : Fin 4096) (o : Fin 64) (n : Fin 32) :
    res_main_call0_v5 V0 (ix3 g o n)
      = ((Mlp.one w X o (32 * g.val + n.val) - Mlp.meanR (Mlp.one w X o) : ℝ) : EReal) := by
  pointwise [res_main_call0_v5]
  rw [mean_real _ _ o (Mlp.one w X o) fun g n => one_ref h g o n, one_ref h, ← EReal.coe_sub]

theorem two_ref (g : Fin 4096) (o : Fin 128) (n : Fin 32) :
    res_main_v30 V0 (ix3 g o n) = ((Mlp.two w X o (32 * g.val + n.val) : ℝ) : EReal) := by
  pointwise [res_main_v30]
  rw [h.b2 o, Finset.sum_congr rfl fun k _ => by
    rw [mean_real _ _ k (Mlp.one w X k) fun g n => one_ref h g k n, one_ref h,
      var_real _ _ k (Mlp.one w X k) (count_one ix0) fun g n => one_centred h g k n, h.g1 k, h.e1 k, norm_real, Mlp.max_coe,
      h.W2 o k, ← EReal.coe_mul], Mlp.coe_sum, ← EReal.coe_add]
  rfl

theorem two_centred (g : Fin 4096) (o : Fin 128) (n : Fin 32) :
    res_main_call2_v5 V0 (ix3 g o n)
      = ((Mlp.two w X o (32 * g.val + n.val) - Mlp.meanR (Mlp.two w X o) : ℝ) : EReal) := by
  pointwise [res_main_call2_v5]
  rw [mean_real _ _ o (Mlp.two w X o) fun g n => two_ref h g o n, two_ref h, ← EReal.coe_sub]

theorem three_ref (g : Fin 4096) (o : Fin 384) (n : Fin 32) :
    res_main_v54 V0 (ix3 g o n) = ((Mlp.three w X o (32 * g.val + n.val) : ℝ) : EReal) := by
  pointwise [res_main_v54]
  rw [h.b3 o, Finset.sum_congr rfl fun k _ => by
    rw [mean_real _ _ k (Mlp.two w X k) fun g n => two_ref h g k n, two_ref h,
      var_real _ _ k (Mlp.two w X k) (count_two ix0) fun g n => two_centred h g k n, h.g2 k, h.e2 k, norm_real, Mlp.max_coe,
      h.W3 o k, ← EReal.coe_mul], Mlp.coe_sum, ← EReal.coe_add]
  rfl

theorem three_centred (g : Fin 4096) (o : Fin 384) (n : Fin 32) :
    res_main_call4_v5 V0 (ix3 g o n)
      = ((Mlp.three w X o (32 * g.val + n.val) - Mlp.meanR (Mlp.three w X o) : ℝ) : EReal) := by
  pointwise [res_main_call4_v5]
  rw [mean_real _ _ o (Mlp.three w X o) fun g n => three_ref h g o n, three_ref h, ← EReal.coe_sub]

/-- The reference's result is the tokens. -/
theorem tokens_ref : val2 V0 (Proc.devRef .tc main_v73) = Mlp.tokens w X := by
  rw [val2_main_v73]
  funext i
  obtain ⟨g, o, rfl⟩ : ∃ g o, i = ix2 g o := ⟨i 0, i 1, eq_ix2 i⟩
  pointwise
  show _ = Mlp.tokenR (Mlp.three w X o) (w.g3 o) (w.e3 o) fun n => Mlp.three w X o (32 * g.val + n.val)
  unfold Mlp.tokenR
  rw [Mlp.bot_word]
  refine congrArg (fun f => Finset.univ.fold max ⊥ f) (funext fun n => ?_)
  rw [mean_real _ _ o (Mlp.three w X o) fun g n => three_ref h g o n, three_ref h,
    var_real _ _ o (Mlp.three w X o) (count_three ix0) fun g n => three_centred h g o n, h.g3 o, h.e3 o, norm_real]

end Cert.Proof.MlpRef

end
-- ==== Proof.MlpFinite.lean ====
module

public import proofs.«01_k».proof.Proof.MlpKernel
public import proofs.«01_k».proof.Proof.Gen.Pre_finite
public import Idealize.ShloMosaic.Lib.ReduceAll
public import Idealize.ShloMosaic.Lib.Affine

@[expose] public section

set_option maxRecDepth 16384

/-!
# The perceptron call: what the precondition says

Arguments whose every number is below infinity in absolute value are real numbers (`real_of_finite`).
-/

noncomputable section

namespace Cert.Proof.Mlp

open Cert.Pre_finite Cert.Pre_finite.Gen
open Idealize.ShloMosaic

instance : Subsingleton Cert.Pre_finite.S_.Idx := ⟨fun a b => funext fun x => x.elim0⟩

theorem and_split {a b : IVec Cert.Pre_finite.S_ 1} (h : andi a b ix0 = 1#1) : a ix0 = 1#1 ∧ b ix0 = 1#1 :=
  IntOp.andi_eq_one.1 h

/-- An array whose every absolute value is below infinity holds real numbers. -/
theorem real_of_all {s : Shape} {axes : List (Fin s.rank)} (a : FVec Ideal s .f32)
    (hb : Cert.Pre_finite.S_.BroadcastsInDim s ![]) (hr : s.ReducesTo axes Cert.Pre_finite.S_)
    (h : Host.reduce IntOp.andi (cmpf .olt (Host.absf a) (broadcastInDim s ![] hb (constant Cert.Pre_finite.S_ .f32 0x7F800000#32)))
      (constantI Cert.Pre_finite.S_ 1 1#1) hr h_S_ ix0 = 1#1) (i : s.Idx) : a i = ((EReal.toReal (a i) : ℝ) : EReal) := by
  have k := Host.reduce_andi_all _ _ _ _ _ h i
  have k' : max (a i) (-(a i)) < (⊤ : EReal) := by
    rw [← top_word]
    by_contra hn
    have e : Ideal.cmp .olt (max (a i) (-(a i))) (Ideal.ofBits .f32 0x7F800000#32) = 1#1 := k
    simp [Ideal.cmp, hn] at e
  refine (EReal.coe_toReal ?_ ?_).symm
  · intro e
    rw [e] at k'
    exact absurd (lt_of_le_of_lt (le_max_left _ _) k') (lt_irrefl _)
  · intro e
    rw [e, EReal.neg_bot] at k'
    exact absurd (lt_of_le_of_lt (le_max_right _ _) k') (lt_irrefl _)

variable (a0 : FVec Ideal S3x131072 .f32) (a1 : FVec Ideal S64x3 .f32) (a2 a3 a4 : FVec Ideal S64 .f32)
  (a5 : FVec Ideal S128x64 .f32) (a6 a7 a8 : FVec Ideal S128 .f32) (a9 : FVec Ideal S384x128 .f32)
  (a10 a11 a12 : FVec Ideal S384 .f32)

/-- The real weights. -/
def weights : Wt where
  W1 o k := EReal.toReal (a1 (ix2 o k))
  b1 o := EReal.toReal (a2 (ix1 o))
  g1 o := EReal.toReal (a3 (ix1 o))
  e1 o := EReal.toReal (a4 (ix1 o))
  W2 o k := EReal.toReal (a5 (ix2 o k))
  b2 o := EReal.toReal (a6 (ix1 o))
  g2 o := EReal.toReal (a7 (ix1 o))
  e2 o := EReal.toReal (a8 (ix1 o))
  W3 o k := EReal.toReal (a9 (ix2 o k))
  b3 o := EReal.toReal (a10 (ix1 o))
  g3 o := EReal.toReal (a11 (ix1 o))
  e3 o := EReal.toReal (a12 (ix1 o))

/-- The real rows; zero past the last. -/
def rowsOf (r : ℕ) (k : Fin 3) : ℝ := if h : r < 131072 then EReal.toReal (a0 (ix2 k ⟨r, h⟩)) else 0

theorem real_of_finite (h : Cert.Pre_finite.fn (F := Ideal) a0 a1 a2 a3 a4 a5 a6 a7 a8 a9 a10 a11 a12 = fun _ => 1#1) :
    RealArgs (weights a1 a2 a3 a4 a5 a6 a7 a8 a9 a10 a11 a12) (rowsOf a0) a0 a1 a2 a3 a4 a5 a6 a7 a8 a9 a10 a11 a12 := by
  have h0 := congrFun h ix0
  unfold Cert.Pre_finite.fn fn_part1 fn_part2 fn_part3 at h0
  obtain ⟨h0, h12⟩ := and_split h0
  obtain ⟨h0, h11⟩ := and_split h0
  obtain ⟨h0, h10⟩ := and_split h0
  obtain ⟨h0, h9⟩ := and_split h0
  obtain ⟨h0, h8⟩ := and_split h0
  obtain ⟨h0, h7⟩ := and_split h0
  obtain ⟨h0, h6⟩ := and_split h0
  obtain ⟨h0, h5⟩ := and_split h0
  obtain ⟨h0, h4⟩ := and_split h0
  obtain ⟨h0, h3⟩ := and_split h0
  obtain ⟨h0, h2⟩ := and_split h0
  obtain ⟨h0, h1⟩ := and_split h0
  exact {
    x := fun k r => by
      refine (real_of_all a0 _ _ h0 (ix2 k r)).trans (congrArg _ ?_)
      unfold rowsOf
      rw [dif_pos r.isLt]
    W1 := fun o k => real_of_all a1 _ _ h1 (ix2 o k)
    b1 := fun o => real_of_all a2 _ _ h2 (ix1 o)
    g1 := fun o => real_of_all a3 _ _ h3 (ix1 o)
    e1 := fun o => real_of_all a4 _ _ h4 (ix1 o)
    W2 := fun o k => real_of_all a5 _ _ h5 (ix2 o k)
    b2 := fun o => real_of_all a6 _ _ h6 (ix1 o)
    g2 := fun o => real_of_all a7 _ _ h7 (ix1 o)
    e2 := fun o => real_of_all a8 _ _ h8 (ix1 o)
    W3 := fun o k => real_of_all a9 _ _ h9 (ix2 o k)
    b3 := fun o => real_of_all a10 _ _ h10 (ix1 o)
    g3 := fun o => real_of_all a11 _ _ h11 (ix1 o)
    e3 := fun o => real_of_all a12 _ _ h12 (ix1 o) }

end Cert.Proof.Mlp

end
-- ==== Proof.DistStep.lean ====
module

public import proofs.«01_k».proof.Proof.Gen.DistIdeal.Skeleton
public import Idealize.ShloMosaic.Lib.Pointwise

@[expose] public section

set_option maxRecDepth 16384

/-!
# The distance and threshold call: one block

For a block of 256 centroids and one cloud the kernel writes the squared distances (`written_apply`) and then halves
an interval 26 times, to find a threshold that 32 of a centroid's distances do not exceed. Whatever the arguments are,
at least 32 distances are at most the threshold that it writes (`enough_row`).
-/

noncomputable section

namespace Cert.Proof.Dist

open Idealize.ShloMosaic Cert.DistIdeal Cert.DistIdeal.Gen

/-- The squared distance of a centroid `c` and a point `p`, as the sum of their squared lengths less twice their
    product. -/
def sqDist (c p : Fin 3 → EReal) : EReal :=
  (∑ x, c x * c x) + (∑ x, p x * p x) - Ideal.ofBits .f32 0x40000000#32 * ∑ x, c x * p x

/-- How many of the distances `d` are at most `y`. -/
def count (d : Fin 8192 → EReal) (y : EReal) : EReal := ∑ k, if d k ≤ y then (1 : EReal) else 0

/-- The word of a comparison, as a number. -/
theorem unsigned_bool (p : Prop) [Decidable p] :
    (FloatOps.uitofp .f32 (BitVec.ofBool (decide p)) : Ideal .f32) = if p then (1 : EReal) else 0 := by
  by_cases h : p
  · rw [decide_eq_true h, if_pos h]; show (((1 : ℕ) : ℝ) : EReal) = 1; simp
  · rw [decide_eq_false h, if_neg h]; show (((0 : ℕ) : ℝ) : EReal) = 0; simp

theorem signed_bool (p : Prop) [Decidable p] :
    (FloatOps.sitofp .f32 (BitVec.setWidth 32 (BitVec.ofBool (decide p))) : Ideal .f32) = if p then (1 : EReal) else 0 := by
  by_cases h : p
  · rw [decide_eq_true h, if_pos h]; show (((1 : ℤ) : ℝ) : EReal) = 1; simp
  · rw [decide_eq_false h, if_neg h]; show (((0 : ℤ) : ℝ) : EReal) = 0; simp

/-- The word 32.0 is the sum of 32 ones. -/
theorem thirtytwo : Ideal.ofBits .f32 0x42000000#32 = ∑ _j : Fin 32, (1 : EReal) := by
  rw [show Ideal.ofBits .f32 0x42000000#32 = ((32 : ℝ) : EReal) from ?_]
  · rw [Finset.sum_const, Finset.card_univ, Fintype.card_fin, ← EReal.coe_one, ← EReal.coe_nsmul]
    simp
  · simp [Ideal.ofBits, Ideal.ieee, ← EReal.coe_mul]
    norm_num

theorem top_word : Ideal.ofBits .f32 0x7F800000#32 = (⊤ : EReal) := by simp [Ideal.ofBits, Ideal.ieee]

/-- A comparison's word is 1 when the comparison holds. -/
theorem of_word {p : Prop} [Decidable p] (h : BitVec.ofBool (decide p) = 1#1) : p := by
  by_contra hp
  rw [decide_eq_false hp] at h
  exact absurd h (by decide)

/-- If each of the 32 parts of the distances has one that is at most `y`, then at least 32 distances are. -/
theorem le_count (d : Fin 8192 → EReal) (y : EReal)
    (h : ∀ j : Fin 32, ∃ w : Fin 256, d ⟨j.val * 256 + w.val, by have := j.isLt; have := w.isLt; omega⟩ ≤ y) :
    Ideal.ofBits .f32 0x42000000#32 ≤ count d y := by
  rw [thirtytwo]
  choose f hf using h
  unfold count
  have hinj : Function.Injective fun j : Fin 32 =>
      (⟨j.val * 256 + (f j).val, by have := j.isLt; have := (f j).isLt; omega⟩ : Fin 8192) := fun a b hab => by
    have h1 := congrArg Fin.val hab
    simp only at h1
    have := (f a).isLt
    have := (f b).isLt
    exact Fin.ext (by omega)
  refine le_trans (le_of_eq ?_) (Finset.sum_le_sum_of_subset_of_nonneg
    (Finset.subset_univ (Finset.univ.map ⟨_, hinj⟩)) fun i _ _ => ?_)
  · rw [Finset.sum_map]
    refine Finset.sum_congr rfl fun j _ => ?_
    exact (if_pos (hf j)).symm
  · split
    · exact zero_le_one
    · exact le_refl _

variable (v0 : Vec Ideal S1x256x3 .f32) (v2 : Vec Ideal S1x3x8192 .f32)

/-- The distances of row `r` of the block. -/
def rowDist (r : Fin 256) (k : Fin 8192) : EReal := sqDist (fun e => v0 (ix3 0 r e)) fun e => v2 (ix3 0 e k)

theorem dist_apply (r : Fin 256) (k : Fin 8192) : k0_pay2 (F := Ideal) v0 v2 (ix2 r k) = rowDist v0 v2 r k := by
  pointwise [k0_pay2]
  rfl

/-- What the kernel stores of the distances. -/
theorem written_apply (r : Fin 256) (a : Fin 64) (b : Fin 128) :
    k0_pay3 (F := Ideal) v0 v2 (ix4 0 r a b)
      = rowDist v0 v2 r ⟨a.val * 128 + b.val, by have := a.isLt; have := b.isLt; omega⟩ := by
  pointwise [k0_pay3]
  exact dist_apply v0 v2 r _

/-- The interval's first upper end: the largest of the 32 parts' smallest distances. At least 32 distances are at
    most it. -/
theorem first_enough (r : Fin 256) :
    Ideal.ofBits .f32 0x42000000#32 ≤ count (rowDist v0 v2 r) (k0_pay5 (F := Ideal) v0 v2 (ix2 r 0)) := by
  refine le_count _ _ fun j => ?_
  pointwise [k0_pay5, k0_pay4]
  simp only [dist_apply]
  have hj := (Finset.fold_max_le _).1 (le_refl (Finset.fold max (Ideal.ofBits FTy.f32 4286578688#32)
    (fun x : Fin 32 => Finset.fold min (Ideal.ofBits FTy.f32 2139095040#32)
      (fun x_1 : Fin 256 => rowDist v0 v2 r ⟨x.val * 256 + x_1.val, by have := x.isLt; have := x_1.isLt; omega⟩)
      Finset.univ) Finset.univ))
  obtain h | ⟨w, _, h⟩ := (Finset.fold_min_le _).1 (hj.2 j (Finset.mem_univ j))
  · exact ⟨0, le_trans (le_trans le_top (le_of_eq top_word.symm)) h⟩
  · exact ⟨w, h⟩

theorem count_apply (r : Fin 256) (lo hi : FVec Ideal S256x1 .f32) :
    k0_pay9 (F := Ideal) v0 v2 lo hi (ix2 r 0) = count (rowDist v0 v2 r) (k0_pay8 (F := Ideal) lo hi (ix2 r 0)) := by
  pointwise [k0_pay9]
  simp only [dist_apply, signed_bool]
  rfl

/-- A choice between two values that both have a property has it. -/
theorem select_of {P : EReal → Prop} (w : BitVec 1) (a b : EReal) (ha : w = 1#1 → P a) (hb : P b) :
    P (Scalar.select w a b) := by
  unfold Scalar.select
  split
  · exact ha (by assumption)
  · exact hb

theorem t_enough (r : Fin 256) (lo hi t f : FVec Ideal S256x1 .f32)
    (h : Ideal.ofBits .f32 0x42000000#32 ≤ count (rowDist v0 v2 r) (t (ix2 r 0))) :
    Ideal.ofBits .f32 0x42000000#32 ≤ count (rowDist v0 v2 r) (k0_pay12 (F := Ideal) v0 v2 lo hi t f (ix2 r 0)) := by
  pointwise [k0_pay12, k0_pay11, k0_pay10]
  refine select_of (P := fun y => _ ≤ count _ y) _ _ _ (fun hw => ?_) h
  have h1 := (IntOp.andi_eq_one.mp hw).1
  rw [count_apply] at h1
  exact (of_word h1).ge

theorem hi_enough (r : Fin 256) (lo hi f : FVec Ideal S256x1 .f32)
    (h : Ideal.ofBits .f32 0x42000000#32 ≤ count (rowDist v0 v2 r) (hi (ix2 r 0))) :
    Ideal.ofBits .f32 0x42000000#32 ≤ count (rowDist v0 v2 r) (k0_pay16 (F := Ideal) v0 v2 lo hi f (ix2 r 0)) := by
  pointwise [k0_pay16, k0_pay15, k0_pay14, k0_pay11, k0_pay10]
  refine select_of (P := fun y => _ ≤ count _ y) _ _ _ (fun hw => ?_) h
  have h1 := (IntOp.andi_eq_one.mp hw).2
  rw [count_apply] at h1
  exact of_word h1

/-- The loop's four carried values after its last trip. -/
def loopOut : FVec Ideal S256x1 .f32 × FVec Ideal S256x1 .f32 × FVec Ideal S256x1 .f32 × FVec Ideal S256x1 .f32 :=
  Scf.fold (fun (_ : Fin k0_t1_loop.trips) s =>
      (k0_pay17 v0 v2 s.1 s.2.1 s.2.2.2, k0_pay16 v0 v2 s.1 s.2.1 s.2.2.2,
        k0_pay12 v0 v2 s.1 s.2.1 s.2.2.1 s.2.2.2, k0_pay13 v0 v2 s.1 s.2.1 s.2.2.2))
    (k0_pay6 v0 v2, k0_pay5 v0 v2, k0_pay5 v0 v2, k0_pay7)

/-- The thresholds that the kernel stores. -/
def threshold : FVec Ideal S1x256x1 .f32 :=
  k0_pay1 (loopOut v0 v2).2.1 (loopOut v0 v2).2.2.1 (loopOut v0 v2).2.2.2 k0_pay18

/-- A property that holds at the start and that every trip keeps holds after the last trip. -/
theorem foldl_keeps {σ : Type} (P : σ → Prop) : ∀ (n : Nat) (g : Fin n → σ → σ) (init : σ) (_ : P init)
    (_ : ∀ i s, P s → P (g i s)), P ((List.finRange n).foldl (fun s i => g i s) init)
  | 0, _, _, h0, _ => h0
  | n + 1, g, init, h0, hs => by
    rw [List.finRange_succ_last, List.foldl_append, List.foldl_map]
    exact hs (Fin.last n) _ (foldl_keeps P n (fun i => g i.castSucc) init h0 fun i s h => hs i.castSucc s h)

theorem enough_row (r : Fin 256) :
    Ideal.ofBits .f32 0x42000000#32 ≤ count (rowDist v0 v2 r) (threshold v0 v2 (ix3 0 r 0)) := by
  have h : Ideal.ofBits .f32 0x42000000#32 ≤ count (rowDist v0 v2 r) ((loopOut v0 v2).2.1 (ix2 r 0))
      ∧ Ideal.ofBits .f32 0x42000000#32 ≤ count (rowDist v0 v2 r) ((loopOut v0 v2).2.2.1 (ix2 r 0)) := by
    unfold loopOut
    rw [Scf.fold_eq]
    refine foldl_keeps (fun s : FVec Ideal S256x1 .f32 × FVec Ideal S256x1 .f32 × FVec Ideal S256x1 .f32 × FVec Ideal S256x1 .f32 =>
      Ideal.ofBits .f32 0x42000000#32 ≤ count (rowDist v0 v2 r) (s.2.1 (ix2 r 0))
      ∧ Ideal.ofBits .f32 0x42000000#32 ≤ count (rowDist v0 v2 r) (s.2.2.1 (ix2 r 0))) _ _ _ ?_ fun i s hs => ?_
    · exact ⟨first_enough v0 v2 r, first_enough v0 v2 r⟩
    · exact ⟨hi_enough v0 v2 r _ _ _ hs.1, t_enough v0 v2 r _ _ _ _ hs.2⟩
  unfold threshold
  pointwise [k0_pay1, k0_pay18]
  split
  · exact h.2
  · exact h.1

end Cert.Proof.Dist

end
-- ==== Proof.DistClose.lean ====
module

public import proofs.«01_k».proof.Proof.DistStep
public import Mathlib.Tactic.Linarith
public import Mathlib.Tactic.Ring
public import Mathlib.Tactic.FieldSimp

@[expose] public section

set_option maxRecDepth 16384

/-!
# The distance and threshold call: how near the threshold is

For distances that are real numbers. The interval's lower end has fewer than 32 distances at or below it, and each step
halves the interval until a step finds exactly 32 (`Found`). So the threshold of a row either keeps exactly 32
distances, or is the upper end of an interval as wide as the first divided by `2 ^ 26` (`close_row`).
-/

noncomputable section

namespace Cert.Proof.Dist

open Idealize.ShloMosaic Cert.DistIdeal Cert.DistIdeal.Gen

/-- The word 32.0. -/
abbrev k32 : EReal := Ideal.ofBits .f32 0x42000000#32

theorem half_word : Ideal.ofBits .f32 0x3F000000#32 = ((1 / 2 : ℝ) : EReal) := by
  simp [Ideal.ofBits, Ideal.ieee, -EReal.coe_mul]; norm_num

theorem tiny_word : Ideal.ofBits .f32 0x32800000#32 = ((1 / 2 ^ 26 : ℝ) : EReal) := by
  simp [Ideal.ofBits, Ideal.ieee, -EReal.coe_mul]; norm_num

theorem one_word : Ideal.ofBits .f32 0x3F800000#32 = ((1 : ℝ) : EReal) := by
  simp [Ideal.ofBits, Ideal.ieee, -EReal.coe_mul]; norm_num

theorem bot_word : Ideal.ofBits .f32 0xFF800000#32 = (⊥ : EReal) := by simp [Ideal.ofBits, Ideal.ieee]

theorem k32_pos : (0 : EReal) < k32 := by
  rw [show k32 = ((32 : ℝ) : EReal) from by simp [Ideal.ofBits, Ideal.ieee, -EReal.coe_mul]; norm_num]
  exact EReal.coe_pos.2 (by norm_num)

/-- More is at most a greater number. -/
theorem count_mono (d : Fin 8192 → EReal) {x y : EReal} (h : x ≤ y) : count d x ≤ count d y := by
  refine Finset.sum_le_sum fun k _ => ?_
  by_cases g : d k ≤ x
  · rw [if_pos g, if_pos (g.trans h)]
  · rw [if_neg g]
    split
    · exact zero_le_one
    · exact le_refl _

/-- Nothing is at most a number below all. -/
theorem count_none (d : Fin 8192 → EReal) (x : EReal) (h : ∀ k, x < d k) : count d x = 0 :=
  Finset.sum_eq_zero fun k _ => if_neg (not_le.2 (h k))

/-- A largest among finitely many is one of them. -/
theorem fold_max_is {n : ℕ} (i₀ : Fin n) (f : Fin n → EReal) :
    ∃ i, Finset.fold max (⊥ : EReal) f Finset.univ = f i := by
  obtain h | ⟨i, -, h⟩ := (Finset.le_fold_max _).1 (le_refl (Finset.fold max (⊥ : EReal) f Finset.univ))
  · refine ⟨i₀, le_antisymm (h.trans bot_le) ?_⟩
    exact ((Finset.fold_max_le _).1 (le_refl _)).2 i₀ (Finset.mem_univ _)
  · exact ⟨i, le_antisymm h (((Finset.fold_max_le _).1 (le_refl _)).2 i (Finset.mem_univ _))⟩

/-- A smallest among finitely many is one of them. -/
theorem fold_min_is {n : ℕ} (i₀ : Fin n) (f : Fin n → EReal) :
    ∃ i, Finset.fold min (⊤ : EReal) f Finset.univ = f i := by
  obtain h | ⟨i, -, h⟩ := (Finset.fold_min_le _).1 (le_refl (Finset.fold min (⊤ : EReal) f Finset.univ))
  · refine ⟨i₀, le_antisymm ?_ (le_top.trans h)⟩
    exact ((Finset.le_fold_min _).1 (le_refl _)).2 i₀ (Finset.mem_univ _)
  · exact ⟨i, le_antisymm (((Finset.le_fold_min _).1 (le_refl _)).2 i (Finset.mem_univ _)) h⟩

theorem le_fold_max_at {n : ℕ} (f : Fin n → EReal) (i : Fin n) : f i ≤ Finset.fold max (⊥ : EReal) f Finset.univ :=
  ((Finset.fold_max_le _).1 (le_refl _)).2 i (Finset.mem_univ _)

theorem fold_min_le_at {n : ℕ} (f : Fin n → EReal) (i : Fin n) : Finset.fold min (⊤ : EReal) f Finset.univ ≤ f i :=
  ((Finset.le_fold_min _).1 (le_refl _)).2 i (Finset.mem_univ _)

variable (v0 : Vec Ideal S1x256x3 .f32) (v2 : Vec Ideal S1x3x8192 .f32)

/-- The four carried values of one row. -/
abbrev Carry : Type := FVec Ideal S256x1 .f32 × FVec Ideal S256x1 .f32 × FVec Ideal S256x1 .f32 × FVec Ideal S256x1 .f32

/-- What holds of row `r` before trip `n`, when the first interval is from `l₀` to `h₀`: either no step has found exactly
    32 yet, the interval is halved `n` times and its lower end has fewer than 32 below it; or one has. -/
def Found (d : Fin 8192 → EReal) (r : Fin 256) (l₀ h₀ : ℝ) (n : ℕ) (s : Carry) : Prop :=
  (s.2.2.2 (ix2 r 0) = 0 ∧ ∃ l h : ℝ, s.1 (ix2 r 0) = (l : EReal) ∧ s.2.1 (ix2 r 0) = (h : EReal)
      ∧ h - l = (h₀ - l₀) / 2 ^ n ∧ count d (l : EReal) < k32)
    ∨ (s.2.2.2 (ix2 r 0) = 1 ∧ count d (s.2.2.1 (ix2 r 0)) = k32)

theorem mid_apply (r : Fin 256) (lo hi : FVec Ideal S256x1 .f32) (l h : ℝ) (hl : lo (ix2 r 0) = (l : EReal))
    (hh : hi (ix2 r 0) = (h : EReal)) : k0_pay8 (F := Ideal) lo hi (ix2 r 0) = (((l + h) / 2 : ℝ) : EReal) := by
  pointwise [k0_pay8]
  rw [hl, hh, half_word, ← EReal.coe_add, ← EReal.coe_mul]
  congr 1
  ring

theorem select_one {α : Type} (w : BitVec 1) (a b : α) (h : w = 1#1) : Scalar.select w a b = a := if_pos h
theorem select_zero {α : Type} (w : BitVec 1) (a b : α) (h : w = 0#1) : Scalar.select w a b = b := by
  rw [h]
  rfl

theorem word_true {p : Prop} [Decidable p] (h : p) : BitVec.ofBool (decide p) = 1#1 := by rw [decide_eq_true h]; rfl
theorem word_false {p : Prop} [Decidable p] (h : ¬ p) : BitVec.ofBool (decide p) = 0#1 := by rw [decide_eq_false h]; rfl

theorem and_zero (w : BitVec 1) : IntOp.andi w 0#1 = 0#1 := by revert w; decide

/-- One more trip. -/
theorem found_step (r : Fin 256) (l₀ h₀ : ℝ) (n : ℕ) (s : Carry) (H : Found (rowDist v0 v2 r) r l₀ h₀ n s) :
    Found (rowDist v0 v2 r) r l₀ h₀ (n + 1) (k0_pay17 v0 v2 s.1 s.2.1 s.2.2.2, k0_pay16 v0 v2 s.1 s.2.1 s.2.2.2,
        k0_pay12 v0 v2 s.1 s.2.1 s.2.2.1 s.2.2.2, k0_pay13 v0 v2 s.1 s.2.1 s.2.2.2) := by
  obtain ⟨lo, hi, t, f⟩ := s
  unfold Found at H ⊢
  dsimp only at H ⊢
  pointwise [k0_pay17, k0_pay16, k0_pay15, k0_pay14, k0_pay13, k0_pay12, k0_pay11, k0_pay10]
  rw [count_apply]
  obtain ⟨hf, l, h, hl, hh, hw, hc⟩ | ⟨hf, hc⟩ := H
  · rw [mid_apply r lo hi l h hl hh, hf, hl, hh]
    by_cases e : count (rowDist v0 v2 r) (((l + h) / 2 : ℝ) : EReal) = k32
    · refine Or.inr ?_
      rw [word_true e, word_true (rfl : (0 : EReal) = 0)]
      exact ⟨rfl, e⟩
    · refine Or.inl ?_
      rw [word_false e, word_true (rfl : (0 : EReal) = 0)]
      by_cases g : k32 ≤ count (rowDist v0 v2 r) (((l + h) / 2 : ℝ) : EReal)
      · rw [word_true g]
        refine ⟨rfl, l, (l + h) / 2, rfl, rfl, ?_, hc⟩
        rw [pow_succ, ← div_div, ← hw]
        ring
      · rw [word_false g]
        refine ⟨rfl, (l + h) / 2, h, rfl, rfl, ?_, not_le.1 g⟩
        rw [pow_succ, ← div_div, ← hw]
        ring
  · refine Or.inr ?_
    rw [hf, word_false (one_ne_zero : (1 : EReal) ≠ 0), and_zero]
    exact ⟨rfl, hc⟩

/-- The interval at the start: its upper end is one of the distances, its lower end is one less than the smallest. -/
theorem first_interval (r : Fin 256) : ∃ k₁ k₀ : Fin 8192, k0_pay5 (F := Ideal) v0 v2 (ix2 r 0) = rowDist v0 v2 r k₁
    ∧ k0_pay6 (F := Ideal) v0 v2 (ix2 r 0) = rowDist v0 v2 r k₀ - ((1 : ℝ) : EReal)
    ∧ ∀ k, rowDist v0 v2 r k₀ ≤ rowDist v0 v2 r k := by
  pointwise [k0_pay5, k0_pay6, k0_pay4]
  simp only [dist_apply, top_word, bot_word, one_word]
  generalize rowDist v0 v2 r = d
  obtain ⟨j₁, h₁⟩ := fold_max_is (0 : Fin 32) fun j =>
    Finset.fold min (⊤ : EReal) (fun w : Fin 256 => d ⟨j.val * 256 + w.val, by have := j.isLt; have := w.isLt; omega⟩) Finset.univ
  obtain ⟨w₁, g₁⟩ := fold_min_is (0 : Fin 256) fun w =>
    d ⟨j₁.val * 256 + w.val, by have := j₁.isLt; have := w.isLt; omega⟩
  obtain ⟨j₀, h₀⟩ := fold_min_is (0 : Fin 32) fun j =>
    Finset.fold min (⊤ : EReal) (fun w : Fin 256 => d ⟨j.val * 256 + w.val, by have := j.isLt; have := w.isLt; omega⟩) Finset.univ
  obtain ⟨w₀, g₀⟩ := fold_min_is (0 : Fin 256) fun w =>
    d ⟨j₀.val * 256 + w.val, by have := j₀.isLt; have := w.isLt; omega⟩
  refine ⟨_, _, h₁.trans g₁, congrArg (· - ((1 : ℝ) : EReal)) (h₀.trans g₀), fun k => ?_⟩
  rw [← g₀, ← h₀]
  have hk := k.isLt
  refine (fold_min_le_at _ (⟨k.val / 256, by omega⟩ : Fin 32)).trans
    ((fold_min_le_at _ (⟨k.val % 256, by omega⟩ : Fin 256)).trans (le_of_eq (congrArg d (Fin.ext ?_))))
  show k.val / 256 * 256 + k.val % 256 = k.val
  omega

/-- A property that counts the trips holds after the last one. -/
theorem foldl_counts {σ : Type} : ∀ (n : ℕ) (g : Fin n → σ → σ) (init : σ) (P : ℕ → σ → Prop) (_ : P 0 init)
    (_ : ∀ i s, P (Fin.val i) s → P (i.val + 1) (g i s)), P n ((List.finRange n).foldl (fun s i => g i s) init)
  | 0, _, _, _, h0, _ => h0
  | n + 1, g, init, P, h0, hs => by
    rw [List.finRange_succ_last, List.foldl_append, List.foldl_map]
    exact hs (Fin.last n) _ (foldl_counts n (fun i => g i.castSucc) init P h0 fun i s h => hs i.castSucc s h)

/-- A row's threshold keeps exactly 32 distances, or fewer than 32 are at most the threshold less `2 ^ -26` of the
    distances' range (and one). -/
theorem close_row (r : Fin 256) (x : Fin 8192 → ℝ) (hx : ∀ k, rowDist v0 v2 r k = (x k : EReal)) :
    count (rowDist v0 v2 r) (threshold v0 v2 (ix3 0 r 0)) = k32
      ∨ count (rowDist v0 v2 r) (threshold v0 v2 (ix3 0 r 0)
          - (Finset.fold max (⊥ : EReal) (rowDist v0 v2 r) Finset.univ
              - Finset.fold min (⊤ : EReal) (rowDist v0 v2 r) Finset.univ + ((1 : ℝ) : EReal)) * ((1 / 2 ^ 26 : ℝ) : EReal)) < k32 := by
  obtain ⟨k₁, k₀, hhi, hlo, hmin⟩ := first_interval v0 v2 r
  have hend : Found (rowDist v0 v2 r) r (x k₀ - 1) (x k₁) 26 (loopOut v0 v2) := by
    unfold loopOut
    rw [Scf.fold_eq]
    refine foldl_counts 26 _ _ (Found (rowDist v0 v2 r) r (x k₀ - 1) (x k₁)) ?_ fun i s hs => found_step v0 v2 r _ _ _ s hs
    refine Or.inl ⟨?_, x k₀ - 1, x k₁, ?_, ?_, ?_, ?_⟩
    · dsimp only
      pointwise [k0_pay7]
    · exact hlo.trans (by rw [hx, ← EReal.coe_sub])
    · exact hhi.trans (hx k₁)
    · rw [pow_zero, div_one]
    · rw [count_none]
      · exact k32_pos
      · intro k
        refine lt_of_lt_of_le ?_ (hmin k)
        rw [hx]
        exact EReal.coe_lt_coe_iff.2 (by linarith)
  have ht : threshold v0 v2 (ix3 0 r 0)
      = if (0 : EReal) < (loopOut v0 v2).2.2.2 (ix2 r 0) then (loopOut v0 v2).2.2.1 (ix2 r 0) else (loopOut v0 v2).2.1 (ix2 r 0) := by
    unfold threshold
    pointwise [k0_pay1, k0_pay18]
  obtain ⟨hf, l, h, -, hh, hw, hc⟩ | ⟨hf, hc⟩ := hend
  · refine Or.inr (lt_of_le_of_lt (count_mono _ ?_) hc)
    rw [ht, hf, if_neg (lt_irrefl _), hh]
    obtain ⟨k₂, h₂⟩ := fold_max_is (0 : Fin 8192) (rowDist v0 v2 r)
    obtain ⟨k₃, h₃⟩ := fold_min_is (0 : Fin 8192) (rowDist v0 v2 r)
    have e₁ : x k₁ ≤ x k₂ := EReal.coe_le_coe_iff.1 (by rw [← hx, ← hx, ← h₂]; exact le_fold_max_at _ k₁)
    have e₀ : x k₃ ≤ x k₀ := EReal.coe_le_coe_iff.1 (by rw [← hx, ← hx, ← h₃]; exact fold_min_le_at _ k₀)
    rw [h₂, h₃, hx, hx, ← EReal.coe_sub, ← EReal.coe_add, ← EReal.coe_mul, ← EReal.coe_sub]
    refine EReal.coe_le_coe_iff.2 ?_
    have : (x k₁ - (x k₀ - 1)) / 2 ^ 26 ≤ (x k₂ - x k₃ + 1) * (1 / 2 ^ 26) := by
      rw [div_eq_mul_one_div]
      exact mul_le_mul_of_nonneg_right (by linarith) (by positivity)
    linarith
  · refine Or.inl ?_
    rw [ht, hf, if_pos zero_lt_one]
    exact hc

end Cert.Proof.Dist

end
-- ==== Proof.DistKernel.lean ====
module

public import proofs.«01_k».proof.Proof.DistStep
public import proofs.«01_k».proof.Proof.Gen.DistIdeal.Value
public import Idealize.ShloMosaic.Lib.Claim
public import Idealize.ShloMosaic.Lib.Pipeline.ValueKit
public import Idealize.ShloMosaic.Lib.Pipeline.ReadBack

@[expose] public section

set_option maxRecDepth 16384

/-!
# The distance and threshold call: the kernel

Grid point `(b, j)` reads cloud `b` and its centroids from `256 * j` on, and writes their distances and thresholds.
The first array the call writes holds the distance of each centroid and each point (`result_d2`), the second the
thresholds of the blocks (`result_thr`).
-/

noncomputable section

namespace Cert.Proof.Dist

open Idealize.ShloMosaic Idealize.ShloMosaic.TcCoe Cert.DistIdeal Cert.DistIdeal.Gen
open Idealize.ShloMosaic.Pipeline (Dat Cfg Window)

/-- The distances of centroid `g` of cloud `b`. -/
def distOf (p : FVec Ideal S8x8192x3 .f32) (c : FVec Ideal S8x512x3 .f32) (b : Fin 8) (g : Fin 512) (k : Fin 8192) : EReal :=
  sqDist (fun e => c (ix3 b g e)) fun e => p (ix3 b k e)

/-- All distances, each centroid's in 64 rows of 128. -/
def distArr (p : FVec Ideal S8x8192x3 .f32) (c : FVec Ideal S8x512x3 .f32) : FVec Ideal S8x512x64x128 .f32 :=
  fun i => distOf p c (i 0) (i 1) ⟨(i 2).val * 128 + (i 3).val, by
    have h2 : (i 2).val < 64 := (i 2).isLt
    have h3 : (i 3).val < 128 := (i 3).isLt
    omega⟩

/-- The centroids of cloud `b` that block `j` holds. -/
def cenBlock (c : FVec Ideal S8x512x3 .f32) (b : Fin 8) (j : Fin 2) : Vec Ideal S1x256x3 .f32 :=
  fun i => c (ix3 b ⟨j.val * 256 + (i 1).val, by
    have h1 : (i 1).val < 256 := (i 1).isLt
    have := j.isLt
    omega⟩ (i 2))

/-- The points of cloud `b`, a row for each coordinate. -/
def ptsBlock (p : FVec Ideal S8x8192x3 .f32) (b : Fin 8) : Vec Ideal S1x3x8192 .f32 :=
  fun i => p (ix3 b (i 2) (i 1))

/-- All thresholds. -/
def thrArr (p : FVec Ideal S8x8192x3 .f32) (c : FVec Ideal S8x512x3 .f32) : FVec Ideal S8x512x1 .f32 :=
  fun i => threshold (cenBlock c (i 0) ⟨(i 1).val / 256, by have h1 : (i 1).val < 512 := (i 1).isLt; omega⟩)
    (ptsBlock p (i 0)) (ix3 0 ⟨(i 1).val % 256, Nat.mod_lt _ (by decide)⟩ 0)

theorem rowDist_block (p : FVec Ideal S8x8192x3 .f32) (c : FVec Ideal S8x512x3 .f32) (b : Fin 8) (j : Fin 2) (r : Fin 256) :
    rowDist (cenBlock c b j) (ptsBlock p b) r
      = distOf p c b ⟨j.val * 256 + r.val, by have := j.isLt; have := r.isLt; omega⟩ := rfl

/-- At least 32 of a centroid's distances are at most its threshold. -/
theorem enough_all (p : FVec Ideal S8x8192x3 .f32) (c : FVec Ideal S8x512x3 .f32) (b : Fin 8) (g : Fin 512) :
    Ideal.ofBits .f32 0x42000000#32 ≤ count (distOf p c b g) (thrArr p c (ix3 b g 0)) := by
  have h := enough_row (cenBlock c b ⟨g.val / 256, by have := g.isLt; omega⟩) (ptsBlock p b)
    ⟨g.val % 256, Nat.mod_lt _ (by decide)⟩
  rw [rowDist_block] at h
  have hg : (⟨g.val / 256 * 256 + g.val % 256, by have := g.isLt; omega⟩ : Fin 512) = g :=
    Fin.ext (by show g.val / 256 * 256 + g.val % 256 = g.val; omega)
  simp only [hg] at h
  exact h

variable (m : (ℓ : Loc nD τ sig) → Buf (Elt Ideal) ℓ)

/-- The arguments: the points and the centroids. -/
abbrev points (c : Dev nD) : FVec Ideal S8x8192x3 .f32 := m ((c.tc : Thread nD τ).loc main_arg0)
abbrev centroids (c : Dev nD) : FVec Ideal S8x512x3 .f32 := m ((c.tc : Thread nD τ).loc main_arg1)

/-- The cloud and the block of a grid point. -/
def cloud (t : Fin cfg0.N) : Fin 8 := ⟨t.val / 2, by have h : t.val < 16 := t.isLt; omega⟩
def half (t : Fin cfg0.N) : Fin 2 := ⟨t.val % 2, Nat.mod_lt _ (by decide)⟩

theorem at0 : ∀ t : Fin grid0.N, win0_0.index t 0 = t.val / 2 ∧ win0_0.index t 1 = t.val % 2 ∧ win0_0.index t 2 = 0 := by
  decide +kernel

theorem at1 : ∀ t : Fin grid0.N, win0_1.index t 0 = t.val / 2 ∧ win0_1.index t 1 = 0 ∧ win0_1.index t 2 = 0 := by
  decide +kernel

theorem at2 : ∀ t : Fin grid0.N, win0_2.index t 0 = t.val / 2 ∧ win0_2.index t 1 = t.val % 2 ∧ win0_2.index t 2 = 0
    ∧ win0_2.index t 3 = 0 := by decide +kernel

theorem at3 : ∀ t : Fin grid0.N, win0_3.index t 0 = t.val / 2 ∧ win0_3.index t 1 = t.val % 2 ∧ win0_3.index t 2 = 0 := by
  decide +kernel

/-- The block of centroids that a grid point reads. -/
theorem cen_read (c : Dev nD) (t : Fin cfg0.N) : iblk m c 0 t = cenBlock (centroids m c) (cloud t) (half t) := by
  have hi := at0 t
  funext i
  unfold cenBlock
  blk_simp [iblk]
  rw [Gen.V_main_arg1]
  refine congrArg _ (funext fun a => ?_)
  have h0 : (i 0).val < 1 := (i 0).isLt
  fin_cases a
  · exact Fin.ext (show win0_0.index t 0 * 1 + 1 * (i 0).val = t.val / 2 by rw [hi.1]; omega)
  · exact Fin.ext (show win0_0.index t 1 * 256 + 1 * (i 1).val = t.val % 2 * 256 + (i 1).val by rw [hi.2.1]; omega)
  · exact Fin.ext (show win0_0.index t 2 * 3 + 1 * (i 2).val = (i 2).val by rw [hi.2.2]; omega)

/-- The points that a grid point reads. -/
theorem pts_read (c : Dev nD) (t : Fin cfg0.N) : iblk m c 1 t = ptsBlock (points m c) (cloud t) := by
  have hi := at1 t
  funext i
  have h0 : (i 0).val < 1 := (i 0).isLt
  have e : (win0_1.blk t).view.emb i = ix3 (cloud t) (i 1) (i 2) := by
    funext a
    fin_cases a
    · exact Fin.ext (show win0_1.index t 0 * 1 + 1 * (i 0).val = t.val / 2 by rw [hi.1]; omega)
    · exact Fin.ext (show win0_1.index t 1 * 3 + 1 * (i 1).val = (i 1).val by rw [hi.2.1]; omega)
    · exact Fin.ext (show win0_1.index t 2 * 8192 + 1 * (i 2).val = (i 2).val by rw [hi.2.2]; omega)
  unfold iblk
  blk_simp
  refine (congrArg (V m c main_v0) e).trans ?_
  entry_read
  pointwise
  rfl

/-- The first array that the call writes. -/
theorem result_d2 (c : Dev nD) : (dats m 0 c).arrAt 2 cfg0.N = distArr (points m c) (centroids m c) := by
  refine (dats m 0 c).arrAt_eq_of_covers 2 _ (by decide +kernel) fun t hf y => ?_
  have hi := at2 t
  have hy0 : (y 0).val < 1 := (y 0).isLt
  have e : ((View.whole main_v1_0).slice (win0_2.rect t)).emb y = ix4 (cloud t)
      ⟨(half t).val * 256 + (y 1).val, by have := (half t).isLt; have h1 : (y 1).val < 256 := (y 1).isLt; omega⟩ (y 2) (y 3) := by
    funext a
    fin_cases a
    · exact Fin.ext (show win0_2.index t 0 * 1 + 1 * (y 0).val = t.val / 2 by rw [hi.1]; omega)
    · exact Fin.ext (show win0_2.index t 1 * 256 + 1 * (y 1).val = t.val % 2 * 256 + (y 1).val by rw [hi.2.1]; omega)
    · exact Fin.ext (show win0_2.index t 2 * 64 + 1 * (y 2).val = (y 2).val by rw [hi.2.2.1]; omega)
    · exact Fin.ext (show win0_2.index t 3 * 128 + 1 * (y 3).val = (y 3).val by rw [hi.2.2.2]; omega)
  blk_simp
  rw [after0_2]
  unfold outsAt0
  frame_out
  refine Eq.trans ?_ (congrArg (distArr (points m c) (centroids m c)) e.symm)
  rw [cen_read, pts_read]
  obtain ⟨r, a, b, rfl⟩ : ∃ (r : Fin 256) (a : Fin 64) (b : Fin 128), y = ix4 0 r a b :=
    ⟨y 1, y 2, y 3, funext fun i => by fin_cases i <;> first | rfl | exact Fin.ext (by show (y 0).val = 0; omega)⟩
  exact written_apply _ _ r a b

/-- The second array that the call writes. -/
theorem result_thr (c : Dev nD) : (dats m 0 c).arrAt 3 cfg0.N = thrArr (points m c) (centroids m c) := by
  refine (dats m 0 c).arrAt_eq_of_covers 3 _ (by decide +kernel) fun t hf y => ?_
  have hi := at3 t
  have hy0 : (y 0).val < 1 := (y 0).isLt
  have hy1 : (y 1).val < 256 := (y 1).isLt
  have hy2 : (y 2).val < 1 := (y 2).isLt
  have e : ((View.whole main_v1_1).slice (win0_3.rect t)).emb y = ix3 (cloud t)
      ⟨(half t).val * 256 + (y 1).val, by have := (half t).isLt; omega⟩ 0 := by
    funext a
    fin_cases a
    · exact Fin.ext (show win0_3.index t 0 * 1 + 1 * (y 0).val = t.val / 2 by rw [hi.1]; omega)
    · exact Fin.ext (show win0_3.index t 1 * 256 + 1 * (y 1).val = t.val % 2 * 256 + (y 1).val by rw [hi.2.1]; omega)
    · exact Fin.ext (show win0_3.index t 2 * 1 + 1 * (y 2).val = 0 by rw [hi.2.2]; omega)
  blk_simp
  rw [after0_3]
  unfold outsAt0
  frame_out
  refine (congrFun (show _ = threshold _ _ from rfl) y).trans ?_
  refine Eq.trans ?_ (congrArg (thrArr (points m c) (centroids m c)) e.symm)
  rw [cen_read, pts_read]
  obtain ⟨r, rfl⟩ : ∃ (r : Fin 256), y = ix3 0 r 0 :=
    ⟨y 1, funext fun i => by fin_cases i <;> first | rfl | exact Fin.ext (by show (y 0).val = 0; omega) | exact Fin.ext (by show (y 2).val = 0; omega)⟩
  have hr := r.isLt
  have hh := (half t).isLt
  show threshold (cenBlock _ _ _) _ (ix3 0 r 0) = threshold (cenBlock _ _ ⟨((half t).val * 256 + r.val) / 256, _⟩) _ (ix3 0 ⟨((half t).val * 256 + r.val) % 256, _⟩ 0)
  have e1 : (⟨((half t).val * 256 + r.val) / 256, by omega⟩ : Fin 2) = half t := Fin.ext (by show _ / 256 = (half t).val; omega)
  have e2 : (⟨((half t).val * 256 + r.val) % 256, by omega⟩ : Fin 256) = r := Fin.ext (by show _ % 256 = r.val; omega)
  rw [e1, e2]
  rfl

end Cert.Proof.Dist

end
-- ==== Proof.DistRef.lean ====
module

public import proofs.«01_k».proof.Proof.DistKernel
public import proofs.«01_k».proof.Proof.Gen.DistReferenceIdeal
public import proofs.«01_k».proof.Proof.Gen.DistReferenceIdeal.Run
public import proofs.«01_k».proof.Proof.Gen.Post_enough

@[expose] public section

set_option maxRecDepth 16384

/-!
# The distance and threshold call: reference and postcondition

The reference's first result holds the same distances (`reference_d2`). What the call writes passes the claim's test
(`enough_holds`).
-/

noncomputable section

namespace Cert.Proof.Dist

open Idealize.ShloMosaic Idealize.ShloMosaic.TcCoe Cert.DistReferenceIdeal Cert.DistReferenceIdeal.Gen
open Idealize.SL Idealize.SL.Sem

/-- The reference's runs end with the distances, and with the arguments as they were. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14)
          = distArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run (defs (F := Ideal)) _ _).mono (fun r h c => ⟨(h c).1.trans ?_, (h c).2.2⟩) (Cert.DistReferenceIdeal.Value.run m ρ)
  funext i
  obtain ⟨b, g, x, y, rfl⟩ : ∃ (b : Fin 8) (g : Fin 512) (x : Fin 64) (y : Fin 128), i = ix4 b g x y :=
    ⟨i 0, i 1, i 2, i 3, eq_ix4 i⟩
  pointwise
  rfl

/-- The claim's test of the call's two arrays. -/
theorem enough_holds (p : FVec Ideal S8x8192x3 .f32) (c : FVec Ideal S8x512x3 .f32) :
    Cert.Post_enough.fn (F := Ideal) p c (distArr p c) (thrArr p c) = fun _ => 1#1 := by
  funext i
  obtain ⟨b, g, rfl⟩ : ∃ (b : Fin 8) (g : Fin 512), i = ix2 b g := ⟨i 0, i 1, eq_ix2 i⟩
  have h := enough_all p c b g
  pointwise [Cert.Post_enough.fn]
  simp only [unsigned_bool]
  have e : ∀ k : Fin 8192, distArr p c (ix4 b g ⟨k.val / 128, by have := k.isLt; omega⟩ ⟨k.val % 128, Nat.mod_lt _ (by decide)⟩)
      = distOf p c b g k := fun k => by
    unfold distArr
    exact congrArg (distOf p c b g) (Fin.ext (by show k.val / 128 * 128 + k.val % 128 = k.val; omega))
  simp only [e]
  exact congrArg BitVec.ofBool (decide_eq_true h)

end Cert.Proof.Dist

end
-- ==== Proof.DistFinite.lean ====
module

public import proofs.«01_k».proof.Proof.DistClose
public import proofs.«01_k».proof.Proof.DistRef
public import proofs.«01_k».proof.Proof.Gen.Pre_finite_points
public import proofs.«01_k».proof.Proof.Gen.Post_close
public import Idealize.ShloMosaic.Lib.ReduceAll

@[expose] public section

set_option maxRecDepth 16384

/-!
# The distance and threshold call: finite arguments

For finite arguments all distances are real numbers (`dist_real`), and what the call writes passes the claim's second
test (`close_holds`).
-/

noncomputable section

namespace Cert.Proof.Dist

open Idealize.ShloMosaic Cert.DistIdeal Cert.DistIdeal.Gen

instance : Subsingleton Cert.Pre_finite_points.S_.Idx := ⟨fun a b => funext fun x => x.elim0⟩

/-- An array whose every absolute value is below infinity holds real numbers. -/
theorem real_of_below {s : Shape} {axes : List (Fin s.rank)} (a : FVec Ideal s .f32)
    (hb : Cert.Pre_finite_points.S_.BroadcastsInDim s ![]) (hr : s.ReducesTo axes Cert.Pre_finite_points.S_)
    (hs : 0 < Cert.Pre_finite_points.S_.numel)
    (h : Host.reduce IntOp.andi (cmpf .olt (Host.absf a) (broadcastInDim s ![] hb (constant Cert.Pre_finite_points.S_ .f32 0x7F800000#32)))
      (constantI Cert.Pre_finite_points.S_ 1 1#1) hr hs ix0 = 1#1) (i : s.Idx) : a i = ((EReal.toReal (a i) : ℝ) : EReal) := by
  have k : BitVec.ofBool (decide (max (a i) (-(a i)) < Ideal.ofBits .f32 0x7F800000#32)) = 1#1 :=
    Host.reduce_andi_all _ _ _ _ _ h i
  have k' : max (a i) (-(a i)) < (⊤ : EReal) := by
    rw [← top_word]
    exact of_word k
  have kb : -(a i) < (⊤ : EReal) := (le_max_right _ _).trans_lt k'
  refine (EReal.coe_toReal ((le_max_left _ _).trans_lt k').ne fun e => ?_).symm
  rw [e, EReal.neg_bot] at kb
  exact lt_irrefl _ kb

variable (p : FVec Ideal S8x8192x3 .f32) (c : FVec Ideal S8x512x3 .f32)

/-- The precondition, of the two arguments. -/
theorem real_args (h : Cert.Pre_finite_points.fn (F := Ideal) p c = fun _ => 1#1) :
    (∀ i, p i = ((EReal.toReal (p i) : ℝ) : EReal)) ∧ ∀ i, c i = ((EReal.toReal (c i) : ℝ) : EReal) := by
  have h0 := congrFun h ix0
  unfold Cert.Pre_finite_points.fn at h0
  have h1 := IntOp.andi_eq_one.1 h0
  exact ⟨real_of_below p _ _ _ h1.1, real_of_below c _ _ _ h1.2⟩

/-- The squared distance of two points with real coordinates. -/
theorem sqDist_real (a b : Fin 3 → ℝ) : sqDist (fun e => (a e : EReal)) (fun e => (b e : EReal))
    = (((∑ e, a e * a e) + (∑ e, b e * b e) - 2 * ∑ e, a e * b e : ℝ) : EReal) := by
  unfold sqDist
  rw [show Ideal.ofBits .f32 0x40000000#32 = ((2 : ℝ) : EReal) from by
    simp [Ideal.ofBits, Ideal.ieee, -EReal.coe_mul]; norm_num]
  simp only [Fin.sum_univ_three, EReal.coe_sub, EReal.coe_add, EReal.coe_mul]

/-- For finite arguments the distances are real numbers. -/
theorem dist_real (h : Cert.Pre_finite_points.fn (F := Ideal) p c = fun _ => 1#1) (b : Fin 8) (g : Fin 512) :
    ∃ x : Fin 8192 → ℝ, ∀ k, distOf p c b g k = (x k : EReal) := by
  obtain ⟨hp, hc⟩ := real_args p c h
  refine ⟨fun k => (∑ e, EReal.toReal (c (ix3 b g e)) * EReal.toReal (c (ix3 b g e)))
    + (∑ e, EReal.toReal (p (ix3 b k e)) * EReal.toReal (p (ix3 b k e)))
    - 2 * ∑ e, EReal.toReal (c (ix3 b g e)) * EReal.toReal (p (ix3 b k e)), fun k => ?_⟩
  refine Eq.trans ?_ (sqDist_real (fun e => EReal.toReal (c (ix3 b g e))) fun e => EReal.toReal (p (ix3 b k e)))
  unfold distOf
  exact congrArg₂ sqDist (funext fun e => hc _) (funext fun e => hp _)

/-- Each centroid's 8192 distances in one row. -/
abbrev rows (d : FVec Ideal S8x512x64x128 .f32) : FVec Ideal Post_close.S8x512x8192 .f32 :=
  shapeCast Post_close.S8x512x8192 d Post_close.Facts.shapeCasts_S8x512x64x128_S8x512x8192

/-- The test's width: `2 ^ -26` of the distances' range (and one). -/
def widths (d : FVec Ideal Post_close.S8x512x8192 .f32) : FVec Ideal Post_close.S8x512 .f32 :=
  mulf (addf
      (subf (Host.reduce FloatOps.maximumf d (constant Post_close.S_ .f32 0xFF800000#32)
          Post_close.Facts.reducesTo_S8x512x8192_S8x512_d2 Post_close.Facts.h_S_)
        (Host.reduce FloatOps.minimumf d (constant Post_close.S_ .f32 0x7F800000#32)
          Post_close.Facts.reducesTo_S8x512x8192_S8x512_d2 Post_close.Facts.h_S_))
      (broadcastInDim Post_close.S8x512 ![] Post_close.Facts.bcast_S_S8x512 (constant Post_close.S_ .f32 0x3F800000#32)))
    (broadcastInDim Post_close.S8x512 ![] Post_close.Facts.bcast_S_S8x512 (constant Post_close.S_ .f32 0x32800000#32))

/-- How many distances are at most `t`. -/
def counts (d : FVec Ideal Post_close.S8x512x8192 .f32) (t : FVec Ideal S8x512x1 .f32) : FVec Ideal Post_close.S8x512 .f32 :=
  Host.reduceAdd (uitofp .f32 (cmpf .ole d
      (broadcastInDim Post_close.S8x512x8192 ![0, 1, 2] Post_close.Facts.bcast_S8x512x1_S8x512x8192_0_1_2 t)))
    (constant Post_close.S_ .f32 0x00000000#32) Post_close.Facts.reducesTo_S8x512x8192_S8x512_d2 Post_close.Facts.h_S_

/-- Each threshold less the width. -/
abbrev lowered (t : FVec Ideal S8x512x1 .f32) (w : FVec Ideal Post_close.S8x512 .f32) : FVec Ideal S8x512x1 .f32 :=
  subf t (broadcastInDim S8x512x1 ![0, 1] Post_close.Facts.bcast_S8x512_S8x512x1_0_1 w)

theorem test_eq (d : FVec Ideal S8x512x64x128 .f32) (t : FVec Ideal S8x512x1 .f32) :
    Cert.Post_close.fn (F := Ideal) p c d t
      = Cert.Post_close.fn_part1 (counts (rows d) t) (counts (rows d) (lowered t (widths (rows d)))) := rfl

theorem either_apply (x y : FVec Ideal Post_close.S8x512 .f32) (b : Fin 8) (g : Fin 512) :
    Cert.Post_close.fn_part1 (F := Ideal) x y (ix2 b g)
      = IntOp.ori (BitVec.ofBool (decide (x (ix2 b g) = k32))) (BitVec.ofBool (decide (y (ix2 b g) < k32))) := by
  pointwise [Cert.Post_close.fn_part1]

theorem lowered_apply (t : FVec Ideal S8x512x1 .f32) (w : FVec Ideal Post_close.S8x512 .f32) (b : Fin 8) (g : Fin 512) :
    lowered t w (ix3 b g 0) = t (ix3 b g 0) - w (ix2 b g) := by pointwise

theorem counts_apply (d : FVec Ideal Post_close.S8x512x8192 .f32) (t : FVec Ideal S8x512x1 .f32) (b : Fin 8) (g : Fin 512) :
    counts d t (ix2 b g) = count (fun k => d (ix3 b g k)) (t (ix3 b g 0)) := by
  pointwise [counts]
  simp only [unsigned_bool]
  rfl

theorem scaled_apply (x y : FVec Ideal Post_close.S8x512 .f32) (i : Post_close.S8x512.Idx) :
    mulf (addf (subf x y) (broadcastInDim Post_close.S8x512 ![] Post_close.Facts.bcast_S_S8x512 (constant Post_close.S_ .f32 0x3F800000#32)))
      (broadcastInDim Post_close.S8x512 ![] Post_close.Facts.bcast_S_S8x512 (constant Post_close.S_ .f32 0x32800000#32)) i
      = (x i - y i + Ideal.ofBits .f32 0x3F800000#32) * Ideal.ofBits .f32 0x32800000#32 := by
  pointwise

theorem largest_apply (d : FVec Ideal Post_close.S8x512x8192 .f32) (b : Fin 8) (g : Fin 512) :
    Host.reduce FloatOps.maximumf d (constant Post_close.S_ .f32 0xFF800000#32)
        Post_close.Facts.reducesTo_S8x512x8192_S8x512_d2 Post_close.Facts.h_S_ (ix2 b g)
      = Finset.fold max (Ideal.ofBits .f32 0xFF800000#32) (fun k => d (ix3 b g k)) Finset.univ := by
  pointwise

theorem smallest_apply (d : FVec Ideal Post_close.S8x512x8192 .f32) (b : Fin 8) (g : Fin 512) :
    Host.reduce FloatOps.minimumf d (constant Post_close.S_ .f32 0x7F800000#32)
        Post_close.Facts.reducesTo_S8x512x8192_S8x512_d2 Post_close.Facts.h_S_ (ix2 b g)
      = Finset.fold min (Ideal.ofBits .f32 0x7F800000#32) (fun k => d (ix3 b g k)) Finset.univ := by
  pointwise

theorem widths_apply (d : FVec Ideal Post_close.S8x512x8192 .f32) (b : Fin 8) (g : Fin 512) : widths d (ix2 b g)
    = (Finset.fold max (⊥ : EReal) (fun k => d (ix3 b g k)) Finset.univ
        - Finset.fold min (⊤ : EReal) (fun k => d (ix3 b g k)) Finset.univ + ((1 : ℝ) : EReal)) * ((1 / 2 ^ 26 : ℝ) : EReal) := by
  unfold widths
  rw [scaled_apply, largest_apply, smallest_apply, tiny_word, one_word, top_word, bot_word]

theorem rows_apply (b : Fin 8) (g : Fin 512) (k : Fin 8192) : rows (distArr p c) (ix3 b g k) = distOf p c b g k := by
  pointwise
  unfold distArr
  exact congrArg (distOf p c b g) (Fin.ext (by show k.val / 128 * 128 + k.val % 128 = k.val; omega))

theorem or_left (w : BitVec 1) : IntOp.ori 1#1 w = 1#1 := by revert w; decide
theorem or_right (w : BitVec 1) : IntOp.ori w 1#1 = 1#1 := by revert w; decide

/-- The thresholds of a block. -/
theorem thr_apply (b : Fin 8) (g : Fin 512) : thrArr p c (ix3 b g 0)
    = threshold (cenBlock c b ⟨g.val / 256, by have := g.isLt; omega⟩) (ptsBlock p b)
      (ix3 0 ⟨g.val % 256, Nat.mod_lt _ (by decide)⟩ 0) := rfl

theorem dist_row (b : Fin 8) (g : Fin 512) :
    rowDist (cenBlock c b ⟨g.val / 256, by have := g.isLt; omega⟩) (ptsBlock p b) ⟨g.val % 256, Nat.mod_lt _ (by decide)⟩
      = distOf p c b g := by
  rw [rowDist_block]
  exact congrArg (distOf p c b) (Fin.ext (by show g.val / 256 * 256 + g.val % 256 = g.val; omega))

/-- The claim's second test of the call's two arrays. -/
theorem close_holds (hf : Cert.Pre_finite_points.fn (F := Ideal) p c = fun _ => 1#1) :
    Cert.Post_close.fn (F := Ideal) p c (distArr p c) (thrArr p c) = fun _ => 1#1 := by
  funext i
  obtain ⟨b, g, rfl⟩ : ∃ (b : Fin 8) (g : Fin 512), i = ix2 b g := ⟨i 0, i 1, eq_ix2 i⟩
  obtain ⟨x, hx⟩ := dist_real p c hf b g
  have hr : (fun k => rows (distArr p c) (ix3 b g k)) = distOf p c b g := funext fun k => rows_apply p c b g k
  have h := close_row (cenBlock c b ⟨g.val / 256, by have := g.isLt; omega⟩) (ptsBlock p b)
    ⟨g.val % 256, Nat.mod_lt _ (by decide)⟩ x fun k => (congrFun (dist_row p c b g) k).trans (hx k)
  rw [dist_row, ← thr_apply] at h
  rw [test_eq, either_apply, counts_apply, counts_apply, lowered_apply, widths_apply, hr]
  obtain h | h := h
  · rw [word_true h]
    exact or_left _
  · rw [word_true h]
    exact or_right _

end Cert.Proof.Dist

end
-- ==== Proof.DistTwin.lean ====
module

public import proofs.«01_k».proof.Defs
public import proofs.«01_k».proof.Proof.Gen.Dist
public import proofs.«01_k».proof.Proof.Gen.DistIdeal
public import proofs.«01_k».proof.Proof.Gen.DistIdeal.Skeleton

@[expose] public section

set_option maxRecDepth 16384

/-!
# The distance and threshold call's two programs

The program read over the float words and the one read over the extended reals have one text, so that the run of
the second, which is over any float values, is a run of the first.
-/

noncomputable section

namespace Cert.Proof.Dist

open Idealize.ShloMosaic

/-- The two programs' kernel is one table. -/
theorem table_eq : Cert.Dist.defs₀ (F := Bits) = Cert.DistIdeal.defs₀ (F := Bits) := by
  unfold Cert.Dist.defs₀ Cert.DistIdeal.defs₀
  refine congrArg Defs.onTc ?_
  funext l x
  match l, x with
  | 0, (t, s) => dsimp only; rfl
  | ⟨n + 1, h⟩, _ => exact absurd h (Nat.not_lt.2 (Nat.le_add_left _ _))

theorem defs_eq : Cert.Dist.defs (F := Bits) = Cert.DistIdeal.defs (F := Bits) := congrArg (Pipeline.defs _) table_eq

end Cert.Proof.Dist

end
-- ==== Proof.lean ====
/-
  The proof of `Cert.Claim`. Of the SparseCore call: the three frames, the idealization's (empty) list of rewrites and the value claim. The
  kernel's run with its value (`run_main`) is over any float values; the precondition gives what it asks for
  (`preOK_of_pre`). `value_eq`: kernel and reference give the same number at every index, by the coordinates `c`, `b`,
  `n`, `j` of a flat position (`outVal_eq`, `ref_value`). Of the farthest point call: the same, its value by `result_x`, `result_y`, `result_z` and
  `reference_run`. Of the perceptron call: its frames, and its value by `kernel_eq` and `tokens_ref`, for arguments that are real numbers
  (`real_of_finite`). Of the distance and threshold call: its frames, its distances by `result_d2` and `reference_run`, and of its thresholds
  that they pass the two tests (`enough_holds`; `close_holds`, for finite arguments).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_separated
public import proofs.«01_k».proof.Proof.Ref
public import proofs.«01_k».proof.Proof.FarKernel
public import proofs.«01_k».proof.Proof.FarRef
public import proofs.«01_k».proof.Proof.FarTwin
public import proofs.«01_k».proof.Proof.Gen.Fps
public import proofs.«01_k».proof.Proof.Gen.FpsIdeal
public import proofs.«01_k».proof.Proof.Gen.FpsIdeal.Skeleton
public import proofs.«01_k».proof.Proof.Gen.FpsIdeal.Value
public import proofs.«01_k».proof.Proof.Gen.FpsReferenceIdeal
public import proofs.«01_k».proof.Proof.Gen.FpsReferenceIdeal.Run
public import proofs.«01_k».proof.Proof.MlpResult
public import proofs.«01_k».proof.Proof.MlpTwin
public import proofs.«01_k».proof.Proof.MlpRef
public import proofs.«01_k».proof.Proof.MlpFinite
public import proofs.«01_k».proof.Proof.Gen.Mlp
public import proofs.«01_k».proof.Proof.Gen.MlpIdeal
public import proofs.«01_k».proof.Proof.Gen.MlpIdeal.Skeleton
public import proofs.«01_k».proof.Proof.Gen.MlpIdeal.Frame
public import proofs.«01_k».proof.Proof.Gen.MlpReferenceIdeal
public import proofs.«01_k».proof.Proof.Gen.MlpReferenceIdeal.Run
public import proofs.«01_k».proof.Proof.Gen.Pre_finite
public import proofs.«01_k».proof.Proof.DistFinite
public import proofs.«01_k».proof.Proof.DistKernel
public import proofs.«01_k».proof.Proof.DistRef
public import proofs.«01_k».proof.Proof.DistTwin
public import proofs.«01_k».proof.Proof.Gen.Dist
public import proofs.«01_k».proof.Proof.Gen.DistIdeal
public import proofs.«01_k».proof.Proof.Gen.DistIdeal.Skeleton
public import proofs.«01_k».proof.Proof.Gen.DistIdeal.Frame
public import proofs.«01_k».proof.Proof.Gen.DistIdeal.Value
public import proofs.«01_k».proof.Proof.Gen.DistReferenceIdeal
public import proofs.«01_k».proof.Proof.Gen.DistReferenceIdeal.Run
public import proofs.«01_k».proof.Proof.Gen.On_distances_only
public import proofs.«01_k».proof.Proof.Gen.Post_enough
public import proofs.«01_k».proof.Proof.Gen.Post_close
public import proofs.«01_k».proof.Proof.Gen.Pre_finite_points
public import Idealize.ShloMosaic.Adequacy
public import Idealize.ShloMosaic.Init

@[expose] public section

noncomputable section

namespace Cert.Proof

open Idealize.ShloMosaic Idealize.SL.Sem

theorem frame_kernel : Cert.quiescent_Kernel := fun m ρ hpre =>
  (θ_run Cert.KernelIdeal.defs _ _).mono
    (fun _ h => ⟨fun c => (h.1 c).1, h.2⟩)
    (run_main (F := Bits) m ρ (preOK_of_pre m hpre))

theorem frame_kernelIdeal : Cert.quiescent_KernelIdeal := fun m ρ hpre =>
  (θ_run Cert.KernelIdeal.defs _ _).mono
    (fun _ h => ⟨fun c => (h.1 c).1, h.2⟩)
    (run_main (F := Ideal) m ρ (preOK_of_pre m hpre))

theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From arrays that agree and satisfy the precondition, the reference's result is the kernel's. -/
theorem value_eq (m : (ℓ : Loc Cert.KernelIdeal.nD Cert.KernelIdeal.τ Cert.KernelIdeal.sig) → Buf (Elt Ideal) ℓ) (d : Dev Cert.KernelIdeal.nD)
    (hpre : Cert.Pre_separated.fn (F := Ideal) (points m d) (centroids m d) (distances m d) (thresholds m d) = fun _ => 1#1) :
    Reference.refOut (points m d) (centroids m d) (distances m d) = (opsOf m d).outVal := by
  funext x
  have hx : (x 0).val < 393216 := (x 0).isLt
  obtain ⟨c, b, n, j, h⟩ : ∃ (c : Fin 3) (b : Fin 8) (n : Fin 512) (j : Fin 32),
      (x 0).val = 131072 * c.val + 32 * (512 * b.val + n.val) + j.val :=
    ⟨⟨(x 0).val / 131072, by omega⟩, ⟨(x 0).val % 131072 / 16384, by omega⟩, ⟨(x 0).val % 16384 / 32, by omega⟩, ⟨(x 0).val % 32, by omega⟩,
      by simp only; omega⟩
  rw [outVal_eq m d b n j c x h]
  exact Reference.ref_value _ _ _ (thresholds m d) (count_of_pre _ _ _ _ hpre) b n j c x h

theorem algebraic : Cert.algebraic_KernelIdeal_ReferenceIdeal := by
  intro m g m' g' hpre hagree
  refine ⟨fun c => (opsOf m c).outVal, ?_, ?_⟩
  · exact (θ_run Cert.KernelIdeal.defs _ _).mono
      (fun _ h c => ⟨(h.1 c).2, (h.1 c).1⟩)
      (run_main (F := Ideal) m g (preOK_of_pre m hpre))
  · refine (θ_run Cert.ReferenceIdeal.defs _ _).mono (fun r h c => ⟨(h c).1.trans ?_, (h c).2⟩)
      (Cert.ReferenceIdeal.Value.run (F := Ideal) m' g')
    obtain ⟨e0, e1, e2, -⟩ := hagree c
    refine (Reference.res_eq m' c).trans ?_
    rw [e0, e1, e2]
    exact value_eq m c (hpre c)

/-! ## The farthest point call -/

theorem frame_fps : Cert.quiescent_Fps := fun m ρ _ => by
  rw [Far.defs_eq]
  exact Cert.FpsIdeal.Gen.frame (F := Bits) m ρ

theorem frame_fpsIdeal : Cert.quiescent_FpsIdeal := fun m ρ _ => Cert.FpsIdeal.Gen.frame m ρ

theorem frame_fpsReference : Cert.quiescent_FpsReferenceIdeal := fun m ρ _ =>
  (θ_run Cert.FpsReferenceIdeal.defs _ _).mono
    (fun r h => ⟨fun c => (h c).2.2.2, Idealize.ShloMosaic.sem_eq_zero_of_no_sems (by decide) r.2⟩)
    (Far.reference_run m ρ)

/-- The call and its reference both end with the coordinates of the chosen points. -/
theorem fps_algebraic : Cert.algebraic_FpsIdeal_FpsReferenceIdeal := by
  intro m g m' g' _ hagree
  refine ⟨fun c => Far.centroid (Far.points m c) 0, fun c => Far.centroid (Far.points m c) 1,
    fun c => Far.centroid (Far.points m c) 2, ?_, ?_⟩
  · exact (θ_run Cert.FpsIdeal.defs _ _).mono
      (fun _ h c => ⟨(h c).1.trans (Far.result_x m c), (h c).2.1.trans (Far.result_y m c),
        (h c).2.2.1.trans (Far.result_z m c), (h c).2.2.2⟩)
      (Cert.FpsIdeal.Value.run_blocks (F := Ideal) m g)
  · refine (θ_run Cert.FpsReferenceIdeal.defs _ _).mono (fun r h c => ?_) (Far.reference_run m' g')
    obtain ⟨h0, h1, h2, h3⟩ := h c
    have e : m' ((c.tc : Thread Cert.FpsReferenceIdeal.nD Cert.FpsReferenceIdeal.τ).loc Cert.FpsReferenceIdeal.main_arg0) = Far.points m c := hagree c
    exact ⟨h0.trans (congrArg (fun a => Far.centroid a 0) e), h1.trans (congrArg (fun a => Far.centroid a 1) e),
      h2.trans (congrArg (fun a => Far.centroid a 2) e), h3⟩

/-! ## The perceptron call -/

theorem frame_mlp : Cert.quiescent_Mlp := fun m ρ _ => by
  rw [Mlp.defs_eq]
  exact Mlp.frame (F := Bits) m ρ

theorem frame_mlpIdeal : Cert.quiescent_MlpIdeal := fun m ρ _ => Mlp.frame m ρ

theorem frame_mlpIdeal_finite : Cert.quiescent_MlpIdeal_pre_finite := fun m ρ _ => Mlp.frame m ρ

theorem frame_mlpReference : Cert.quiescent_MlpReferenceIdeal := fun m ρ _ =>
  (θ_run Cert.MlpReferenceIdeal.defs _ _).mono
    (fun r h => ⟨fun c => (h c).2, Idealize.ShloMosaic.sem_eq_zero_of_no_sems (by decide) r.2⟩)
    (Cert.MlpReferenceIdeal.Value.run (F := Ideal) m ρ)

theorem frame_mlpReference_finite : Cert.quiescent_MlpReferenceIdeal_pre_finite := fun m ρ _ => frame_mlpReference m ρ trivial

/-- The call and its reference both end with the tokens of the real numbers that the arguments hold. -/
theorem mlp_algebraic : Cert.algebraic_MlpIdeal_MlpReferenceIdeal_pre_finite := by
  intro m g m' g' hpre hagree
  obtain ⟨w, X, hr⟩ : ∃ (w : Dev Cert.MlpIdeal.nD → Mlp.Wt) (X : Dev Cert.MlpIdeal.nD → ℕ → Fin 3 → ℝ), ∀ c, Mlp.RealLaunch m (w c) (X c) c :=
    ⟨_, _, fun c => Mlp.real_of_finite _ _ _ _ _ _ _ _ _ _ _ _ _ (hpre c)⟩
  refine ⟨fun c => Mlp.tokens (w c) (X c), ?_, ?_⟩
  rotate_left
  · refine (θ_run Cert.MlpReferenceIdeal.defs _ _).mono (fun r h c => ⟨(h c).1.trans ?_, (h c).2⟩)
      (Cert.MlpReferenceIdeal.Value.run (F := Ideal) m' g')
    obtain ⟨e0, e1, e2, e3, e4, e5, e6, e7, e8, e9, e10, e11, e12⟩ := hagree c
    have k := hr c
    unfold Mlp.RealLaunch at k
    rw [← e0, ← e1, ← e2, ← e3, ← e4, ← e5, ← e6, ← e7, ← e8, ← e9, ← e10, ← e11, ← e12] at k
    exact (Cert.MlpReferenceIdeal.Value.val2_main_v73 _).symm.trans (MlpRef.tokens_ref k)
  · exact (θ_run Cert.MlpIdeal.defs _ _).mono
      (fun _ h c => ⟨Mlp.kernel_eq _ _ hr h.1 c, Mlp.args_kept m h.1 c⟩)
      (Mlp.run_main m g)

/-! ## The distance and threshold call -/

theorem frame_dist : Cert.quiescent_Dist := fun m ρ _ => by
  rw [Dist.defs_eq]
  exact Cert.DistIdeal.Gen.frame (F := Bits) m ρ

theorem frame_distIdeal : Cert.quiescent_DistIdeal := fun m ρ _ => Cert.DistIdeal.Gen.frame m ρ

theorem frame_distIdeal_finite : Cert.quiescent_DistIdeal_pre_finite_points := fun m ρ _ => Cert.DistIdeal.Gen.frame m ρ

theorem frame_distReference : Cert.quiescent_DistReferenceIdeal := fun m ρ _ =>
  (θ_run Cert.DistReferenceIdeal.defs _ _).mono
    (fun r h => ⟨fun c => (h c).2, Idealize.ShloMosaic.sem_eq_zero_of_no_sems (by decide) r.2⟩)
    (Dist.reference_run m ρ)

/-- The call and its reference both end with the distances. -/
theorem dist_algebraic : Cert.algebraic_DistIdeal_DistReferenceIdeal_on_distances_only := by
  intro m g m' g' _ hagree
  refine ⟨fun c => Dist.distArr (Dist.points m c) (Dist.centroids m c),
    fun c => Dist.thrArr (Dist.points m c) (Dist.centroids m c), ?_, ?_⟩
  · exact (θ_run Cert.DistIdeal.defs _ _).mono
      (fun _ h c => ⟨fun i _ => congrFun ((h c).1.trans (Dist.result_d2 m c)) i,
        fun i hi => absurd hi (by show ¬ (0#1 = 1#1); decide), (h c).2.2⟩)
      (Cert.DistIdeal.Value.run_blocks (F := Ideal) m g)
  · refine (θ_run Cert.DistReferenceIdeal.defs _ _).mono (fun r h c => ?_) (Dist.reference_run m' g')
    obtain ⟨h0, h1⟩ := h c
    obtain ⟨e0, e1⟩ := hagree c
    refine ⟨fun i _ => ?_, fun i hi => absurd hi (by show ¬ (0#1 = 1#1); decide), h1⟩
    rw [h0, e0, e1]

/-- The call's thresholds pass the first test. -/
theorem dist_enough : Cert.holds_DistIdeal_enough := fun m g _ =>
  (θ_run Cert.DistIdeal.defs _ _).mono
    (fun _ h c => ⟨(h c).2.2.1, (h c).2.2.2, by
      rw [(h c).1, (h c).2.1, Dist.result_d2, Dist.result_thr]
      exact Dist.enough_holds _ _⟩)
    (Cert.DistIdeal.Value.run_blocks (F := Ideal) m g)

/-- For finite arguments they pass the second one. -/
theorem dist_close : Cert.holds_DistIdeal_close_pre_finite_points := fun m g hpre =>
  (θ_run Cert.DistIdeal.defs _ _).mono
    (fun _ h c => ⟨(h c).2.2.1, (h c).2.2.2, by
      rw [(h c).1, (h c).2.1, Dist.result_d2, Dist.result_thr]
      exact Dist.close_holds _ _ (hpre c)⟩)
    (Cert.DistIdeal.Value.run_blocks (F := Ideal) m g)

theorem claim : Cert.Claim := ⟨Cert.Kernel.Gen.facts, Cert.KernelIdeal.Gen.facts, Cert.ReferenceIdeal.Gen.facts, Cert.Fps.Gen.facts,
  Cert.FpsIdeal.Gen.facts, Cert.FpsReferenceIdeal.Gen.facts, Cert.Mlp.Gen.facts, Cert.MlpIdeal.Gen.facts,
  Cert.MlpReferenceIdeal.Gen.facts, Cert.Dist.Gen.facts, Cert.DistIdeal.Gen.facts, Cert.DistReferenceIdeal.Gen.facts,
  Cert.Pre_separated.Gen.facts, Cert.Pre_finite.Gen.facts, Cert.Pre_finite_points.Gen.facts, Cert.Post_enough.Gen.facts,
  Cert.Post_close.Gen.facts, Cert.On_distances_only.Gen.facts,
  frame_kernel, frame_kernelIdeal, frame_reference, frame_fps, frame_fpsIdeal, frame_fpsReference, frame_mlp, frame_mlpIdeal,
  frame_mlpIdeal_finite, frame_mlpReference, frame_mlpReference_finite, frame_dist, frame_distIdeal, frame_distIdeal_finite, frame_distReference,
  trivial, algebraic, trivial, fps_algebraic, trivial, mlp_algebraic, trivial, dist_algebraic, dist_enough, dist_close⟩

end Cert.Proof

end
